-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite [hPre_finite : Cert.Pre_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite [hPre_finite : Cert.Pre_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Kernel8Ideal_pre_finite [hKernel8Ideal : Cert.Kernel8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Reference8Ideal_pre_finite [hReference8Ideal : Cert.Reference8Ideal.Facts] [hPre_finite : Cert.Pre_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)) (v4 : (c : Dev Cert.KernelIdeal.nD) → Buf (Elt Ideal) ((c.tc : Thread Cert.KernelIdeal.nD Cert.KernelIdeal.τ).loc Cert.KernelIdeal.main_v25_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_v25_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_v90) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v40) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v15)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite [hKernel8Ideal : Cert.Kernel8Ideal.Facts] [hReference8Ideal : Cert.Reference8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v18_1)) (v1 : (c : Dev Cert.Kernel8Ideal.nD) → Buf (Elt Ideal) ((c.tc : Thread Cert.Kernel8Ideal.nD Cert.Kernel8Ideal.τ).loc Cert.Kernel8Ideal.main_v18_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v18_1) = v0 c
          ∧ r.2.mem ((c.tc : Thread Cert.Kernel8Ideal.nD Cert.Kernel8Ideal.τ).loc Cert.Kernel8Ideal.main_v18_4) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v54) = v0 c
          ∧ r.2.mem ((c.tc : Thread Cert.Reference8Ideal.nD Cert.Reference8Ideal.τ).loc Cert.Reference8Ideal.main_v55) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v6_0)) (v1 : (c : Dev Cert.Kernel10Ideal.nD) → Buf (Elt Ideal) ((c.tc : Thread Cert.Kernel10Ideal.nD Cert.Kernel10Ideal.τ).loc Cert.Kernel10Ideal.main_v6_1)) (v2 : (c : Dev Cert.Kernel10Ideal.nD) → Buf (Elt Ideal) ((c.tc : Thread Cert.Kernel10Ideal.nD Cert.Kernel10Ideal.τ).loc Cert.Kernel10Ideal.main_v6_2)) (v3 : (c : Dev Cert.Kernel10Ideal.nD) → Buf (Elt Ideal) ((c.tc : Thread Cert.Kernel10Ideal.nD Cert.Kernel10Ideal.τ).loc Cert.Kernel10Ideal.main_v6_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6_0) = v0 c
          ∧ r.2.mem ((c.tc : Thread Cert.Kernel10Ideal.nD Cert.Kernel10Ideal.τ).loc Cert.Kernel10Ideal.main_v6_1) = v1 c
          ∧ r.2.mem ((c.tc : Thread Cert.Kernel10Ideal.nD Cert.Kernel10Ideal.τ).loc Cert.Kernel10Ideal.main_v6_2) = v2 c
          ∧ r.2.mem ((c.tc : Thread Cert.Kernel10Ideal.nD Cert.Kernel10Ideal.τ).loc Cert.Kernel10Ideal.main_v6_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_v19) = v2 c
          ∧ r.2.mem ((c.tc : Thread Cert.Reference10Ideal.nD Cert.Reference10Ideal.τ).loc Cert.Reference10Ideal.main_v33) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_v22) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v18_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v18_2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v178) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite (hKernel8Ideal := hKernel8Ideal) (hPre_finite := hPre_finite)
    ∧ quiescent_Reference8Ideal (hReference8Ideal := hReference8Ideal)
    ∧ quiescent_Reference8Ideal_pre_finite (hReference8Ideal := hReference8Ideal) (hPre_finite := hPre_finite)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite (hKernel8Ideal := hKernel8Ideal) (hReference8Ideal := hReference8Ideal) (hPre_finite := hPre_finite)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S4096x1536 : Shape := ⟨2, ![4096, 1536]⟩
abbrev S4096x5760 : Shape := ⟨2, ![4096, 5760]⟩
abbrev S4096x1024 : Shape := ⟨2, ![4096, 1024]⟩
abbrev S32x128x1024 : Shape := ⟨3, ![32, 128, 1024]⟩
abbrev S4096x2048 : Shape := ⟨2, ![4096, 2048]⟩
abbrev S8x128 : Shape := ⟨2, ![8, 128]⟩
abbrev S1024 : Shape := ⟨1, ![1024]⟩
abbrev S_ : Shape := ⟨0, ![]⟩

class Facts : Prop where
  slices_S4096x2048_S4096x1024_0_1024 : S4096x2048.Slices ![0, 1024] S4096x1024
  bitsLt_bf16_f32 : FTy.bits .bf16 < FTy.bits .f32
  bcast_S_S1024 : S_.BroadcastsInDim S1024 (![] : Fin 0 → Fin S1024.rank)
  reducesTo_S1024_S_d0 : S1024.ReducesTo [0] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x1536 .f32) (main_arg1 : FVec F S4096x5760 .bf16) (main_arg2 : FVec F S4096x1024 .f32) (main_arg3 : FVec F S32x128x1024 .f32) (main_arg4 : FVec F S4096x2048 .bf16) (main_arg5 : FVec F S8x128 .f32) (main_arg6 : FVec F S1024 .f32) (main_arg7 : FVec F S4096x5760 .bf16) : IVec S_ 1 :=
  let main_v0 : FVec F S4096x1024 .bf16 := (extractStridedSlice S4096x1024 ![0, 1024] · slices_S4096x2048_S4096x1024_0_1024) main_arg4
  let main_v1 : FVec F S4096x1024 .f32 := (extf .f32 · bitsLt_bf16_f32) main_v0
  let main_v2 : FVec F S1024 .f32 := Host.absf main_arg6
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S4096x1024 .f32 := Host.absf main_v1
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v5 main_v9
  main_v10
-- ==== Kernel.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩
abbrev S1x1024x1024 : Shape := ⟨3, ![1, 1024, 1024]⟩

abbrev nBuf : Space → Nat
  | .hbm => 41
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S1024x4x1024, .f32⟩
  | .hbm, ⟨7, _⟩ => ⟨S4x1024x1024, .f32⟩
  | .hbm, ⟨8, _⟩ => ⟨S4x1024x1024, .bf16⟩
  | .hbm, ⟨9, _⟩ => ⟨S4096x1024, .bf16⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x1024, .f32⟩
  | .hbm, ⟨32, _⟩ => ⟨S4096x1024, .bf16⟩
  | .hbm, ⟨33, _⟩ => ⟨S1x1024, .f32⟩
  | .hbm, ⟨34, _⟩ => ⟨S4096x4096, .bf16⟩
  | .hbm, ⟨35, _⟩ => ⟨S1x1024, .f32⟩
  | .hbm, ⟨36, _⟩ => ⟨S4096x1024, .bf16⟩
  | .hbm, ⟨37, _⟩ => ⟨S4096x4096, .bf16⟩
  | .hbm, ⟨38, _⟩ => ⟨S4096x1024, .f32⟩
  | .hbm, ⟨39, _⟩ => ⟨S1x1024, .f32⟩
  | .hbm, ⟨40, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S4096x1024, .bf16⟩
  | .local _ .vmem, ⟨6, _⟩ => ⟨S512x4096, .bf16⟩
  | .local _ .vmem, ⟨7, _⟩ => ⟨S512x4096, .bf16⟩
  | .local _ .vmem, ⟨8, _⟩ => ⟨S4x1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x4096, .bf16⟩
  | .local _ .vmem, ⟨15, _⟩ => ⟨S512x4096, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev main_v25_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v128 : BitVec 1 := Scalar.cmpi .eq arg0 c0_i32
  let v129 : BitVec 32 := Scalar.extui v128
  let c0_i32_69 : BitVec 32 := 0#32
  let v130 : BitVec 1 := Scalar.cmpi .ne v129 c0_i32_69
  v130

def k0_cond2 (i : grid0.Coords) : BitVec 1 :=
  let arg0 : BitVec 32 := BitVec.ofNat 32 (i 0).val
  let c0_i32 : BitVec 32 := 0#32
  let v128 : BitVec 1 := Scalar.cmpi .eq arg0 c0_i32
  let v_true : BitVec 1 := 1#1
  let v131 : BitVec 1 := Scalar.xori v128 v_true
  let v132 : BitVec 32 := Scalar.extui v131
  let c0_i32_70 : BitVec 32 := 0#32
  let v133 : BitVec 1 := Scalar.cmpi .ne v132 c0_i32_70
  v133

def k0_cond3 (i : grid0.Coords) : BitVec 1 :=
  let arg0 : BitVec 32 := BitVec.ofNat 32 (i 0).val
  let c0_i32_72 : BitVec 32 := 0#32
  let v136 : BitVec 1 := Scalar.cmpi .eq arg0 c0_i32_72
  let v137 : BitVec 32 := Scalar.extui v136
  let c0_i32_73 : BitVec 32 := 0#32
  let v138 : BitVec 1 := Scalar.cmpi .ne v137 c0_i32_73
  v138

def k0_cond4 (i : grid0.Coords) : BitVec 1 :=
  let arg0 : BitVec 32 := BitVec.ofNat 32 (i 0).val
  let c0_i32_72 : BitVec 32 := 0#32
  let v136 : BitVec 1 := Scalar.cmpi .eq arg0 c0_i32_72
  let true_74 : BitVec 1 := 1#1
  let v139 : BitVec 1 := Scalar.xori v136 true_74
  let v140 : BitVec 32 := Scalar.extui v139
  let c0_i32_75 : BitVec 32 := 0#32
  let v141 : BitVec 1 := Scalar.cmpi .ne v140 c0_i32_75
  v141

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 121
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .i1⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x4096, .f32⟩
  | .hbm, ⟨86, _⟩ => ⟨S4096x4096, .f32⟩
  | .hbm, ⟨87, _⟩ => ⟨S_, .f32⟩
  | .hbm, ⟨88, _⟩ => ⟨S4096x4096, .f32⟩
  | .hbm, ⟨89, _⟩ => ⟨S4096x4096, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S1024, .f32⟩
  | .hbm, ⟨99, _⟩ => ⟨S4096x1024, .f32⟩
  | .hbm, ⟨100, _⟩ => ⟨S_, .f32⟩
  | .hbm, ⟨101, _⟩ => ⟨S4096, .f32⟩
  | .hbm, ⟨102, _⟩ => ⟨S4096x1, .f32⟩
  | .hbm, ⟨103, _⟩ => ⟨S4096x1024, .f32⟩
  | .hbm, ⟨104, _⟩ => ⟨S4096x1024, .f32⟩
  | .hbm, ⟨105, _⟩ => ⟨S4096x1, .f32⟩
  | .hbm, ⟨106, _⟩ => ⟨S_, .f32⟩
  | .hbm, ⟨107, _⟩ => ⟨S4096x1, .f32⟩
  | .hbm, ⟨108, _⟩ => ⟨S4096x1, .f32⟩
  | .hbm, ⟨109, _⟩ => ⟨S_, .f32⟩
  | .hbm, ⟨110, _⟩ => ⟨S4096, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S4096x1024, .f32⟩
  | .hbm, ⟨116, _⟩ => ⟨S4096x1024, .bf16⟩
  | .hbm, ⟨117, _⟩ => ⟨S4096x4096, .bf16⟩
  | .hbm, ⟨118, _⟩ => ⟨S4096x1024, .f32⟩
  | .hbm, ⟨119, _⟩ => ⟨S1x1024, .f32⟩
  | .hbm, ⟨120, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_17 : Ref sig .tc := ⟨.hbm, 97, rfl⟩
abbrev main_v71 : Ref sig .tc := ⟨.hbm, 98, rfl⟩
abbrev main_v72 : Ref sig .tc := ⟨.hbm, 99, rfl⟩
abbrev main_cst_18 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_19 : Ref sig .tc := ⟨.hbm, 106, rfl⟩
abbrev main_v78 : Ref sig .tc := ⟨.hbm, 107, rfl⟩
abbrev main_v79 : Ref sig .tc := ⟨.hbm, 108, rfl⟩
abbrev main_cst_20 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x5760 : Shape := ⟨2, ![1024, 5760]⟩
abbrev S4096x5760 : Shape := ⟨2, ![4096, 5760]⟩
abbrev S1x1024 : Shape := ⟨2, ![1, 1024]⟩
abbrev S512x5760 : Shape := ⟨2, ![512, 5760]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5760, .f32⟩
  | .hbm, ⟨3, _⟩ => ⟨S4096x5760, .f32⟩
  | .hbm, ⟨4, _⟩ => ⟨S4096x1024, .f32⟩
  | .hbm, ⟨5, _⟩ => ⟨S4096x5760, .bf16⟩
  | .hbm, ⟨6, _⟩ => ⟨S1024x5760, .bf16⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S512x5760, .bf16⟩
  | .local _ .vmem, ⟨1, _⟩ => ⟨S512x5760, .bf16⟩
  | .local _ .vmem, ⟨2, _⟩ => ⟨S1024x5760, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_17 : BitVec 32 := 0#32
  let v38 : BitVec 1 := Scalar.cmpi .ne v37 c0_i32_17
  v38

def k0_cond2 (i : grid0.Coords) : BitVec 1 :=
  let arg0 : BitVec 32 := BitVec.ofNat 32 (i 0).val
  let c0_i32 : BitVec 32 := 0#32
  let v36 : BitVec 1 := Scalar.cmpi .eq arg0 c0_i32
  let v_true : BitVec 1 := 1#1
  let v39 : BitVec 1 := Scalar.xori v36 v_true
  let v40 : BitVec 32 := Scalar.extui v39
  let c0_i32_18 : BitVec 32 := 0#32
  let v41 : BitVec 1 := Scalar.cmpi .ne v40 c0_i32_18
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5760 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x1024 : Shape := ⟨2, ![4096, 1024]⟩
abbrev S1024 : Shape := ⟨1, ![1024]⟩
abbrev S1024x5760 : Shape := ⟨2, ![1024, 5760]⟩
abbrev S4096x5760 : Shape := ⟨2, ![4096, 5760]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5760, .f32⟩
  | .hbm, ⟨3, _⟩ => ⟨S4096x5760, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5760, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel3.lean ====
abbrev S4096x2048 : Shape := ⟨2, ![4096, 2048]⟩
abbrev S2048x1024 : Shape := ⟨2, ![2048, 1024]⟩
abbrev S1024 : Shape := ⟨1, ![1024]⟩
abbrev S4096x1024 : Shape := ⟨2, ![4096, 1024]⟩
abbrev S1x1024 : Shape := ⟨2, ![1, 1024]⟩
abbrev S1024x1024 : Shape := ⟨2, ![1024, 1024]⟩
abbrev S1024x2048 : Shape := ⟨2, ![1024, 2048]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S2048x1024, .bf16⟩
  | .hbm, ⟨8, _⟩ => ⟨S4096x1024, .bf16⟩
  | .hbm, ⟨9, _⟩ => ⟨S1x1024, .f32⟩
  | .hbm, ⟨10, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x2048, .bf16⟩
  | .local _ .vmem, ⟨10, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_20 : BitVec 32 := 0#32
  let v43 : BitVec 1 := Scalar.cmpi .eq arg0 c0_i32_20
  let v44 : BitVec 32 := Scalar.extui v43
  let c0_i32_21 : BitVec 32 := 0#32
  let v45 : BitVec 1 := Scalar.cmpi .ne v44 c0_i32_21
  v45

def k0_cond3 (i : grid0.Coords) : BitVec 1 :=
  let arg0 : BitVec 32 := BitVec.ofNat 32 (i 0).val
  let c0_i32_20 : BitVec 32 := 0#32
  let v43 : BitVec 1 := Scalar.cmpi .eq arg0 c0_i32_20
  let v_true : BitVec 1 := 1#1
  let v46 : BitVec 1 := Scalar.xori v43 v_true
  let v47 : BitVec 32 := Scalar.extui v46
  let c0_i32_22 : BitVec 32 := 0#32
  let v48 : BitVec 1 := Scalar.cmpi .ne v47 c0_i32_22
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4096x2048 : Shape := ⟨2, ![4096, 2048]⟩
abbrev S2048x1024 : Shape := ⟨2, ![2048, 1024]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x2048, .f32⟩
  | .hbm, ⟨51, _⟩ => ⟨S4096x1024, .bf16⟩
  | .hbm, ⟨52, _⟩ => ⟨S1x1024, .f32⟩
  | .hbm, ⟨53, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel4.lean ====
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩
abbrev S512x4096 : Shape := ⟨2, ![512, 4096]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x4096, .bf16⟩
  | .hbm, ⟨4, _⟩ => ⟨S4096x1024, .bf16⟩
  | .hbm, ⟨5, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S512x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 23
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x4096, .bf16⟩
  | .hbm, ⟨22, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4x1024 : Shape := ⟨3, ![1024, 4, 1024]⟩
abbrev S4x1024x1024 : Shape := ⟨3, ![4, 1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S4096x1024, .f32⟩
  | .hbm, ⟨22, _⟩ => ⟨S1024x4096, .f32⟩
  | .hbm, ⟨23, _⟩ => ⟨S1024x4x1024, .f32⟩
  | .hbm, ⟨24, _⟩ => ⟨S4x1024x1024, .f32⟩
  | .hbm, ⟨25, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel6.lean ====
abbrev S4096x2048 : Shape := ⟨2, ![4096, 2048]⟩
abbrev S2048x1024 : Shape := ⟨2, ![2048, 1024]⟩
abbrev S4096x1024 : Shape := ⟨2, ![4096, 1024]⟩
abbrev S4096x512 : Shape := ⟨2, ![4096, 512]⟩
abbrev S512x1024 : Shape := ⟨2, ![512, 1024]⟩
abbrev S512x4096 : Shape := ⟨2, ![512, 4096]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x2048, .bf16⟩
  | .hbm, ⟨4, _⟩ => ⟨S4096x1024, .bf16⟩
  | .hbm, ⟨5, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S512x4096, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S2048x1024, .f32⟩
  | .hbm, ⟨6, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x5760 : Shape := ⟨2, ![1024, 5760]⟩
abbrev S4096x5760 : Shape := ⟨2, ![4096, 5760]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x1152 : Shape := ⟨2, ![4096, 1152]⟩
abbrev S1024x1152 : Shape := ⟨2, ![1024, 1152]⟩
abbrev S1024x4096 : Shape := ⟨2, ![1024, 4096]⟩

abbrev nBuf : Space → Nat
  | .hbm => 23
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5760, .f32⟩
  | .hbm, ⟨3, _⟩ => ⟨S4096x5760, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x5760, .bf16⟩
  | .hbm, ⟨22, _⟩ => ⟨S1024x5760, .bf16⟩
  | .local _ .vmem, ⟨0, _⟩ => ⟨S4096x1024, .bf16⟩
  | .local _ .vmem, ⟨1, _⟩ => ⟨S4096x1152, .bf16⟩
  | .local _ .vmem, ⟨2, _⟩ => ⟨S4096x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S1024 : Shape := ⟨1, ![1024]⟩
abbrev S1024x5760 : Shape := ⟨2, ![1024, 5760]⟩
abbrev S4096x5760 : Shape := ⟨2, ![4096, 5760]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5760x1024 : Shape := ⟨2, ![5760, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5760, .f32⟩
  | .hbm, ⟨3, _⟩ => ⟨S4096x5760, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5760, .f32⟩
  | .hbm, ⟨21, _⟩ => ⟨S5760x1024, .f32⟩
  | .hbm, ⟨22, _⟩ => ⟨S1024x5760, .f32⟩
  | .hbm, ⟨23, _⟩ => ⟨S1024x5760, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel8.lean ====
abbrev S4096x1536 : Shape := ⟨2, ![4096, 1536]⟩
abbrev S4096x5760 : Shape := ⟨2, ![4096, 5760]⟩
abbrev S4096x1024 : Shape := ⟨2, ![4096, 1024]⟩
abbrev S32x128x1024 : Shape := ⟨3, ![32, 128, 1024]⟩
abbrev S4096x2048 : Shape := ⟨2, ![4096, 2048]⟩
abbrev S8x128 : Shape := ⟨2, ![8, 128]⟩
abbrev S1024 : Shape := ⟨1, ![1024]⟩
abbrev S1x1024 : Shape := ⟨2, ![1, 1024]⟩
abbrev S_ : Shape := ⟨0, ![]⟩
abbrev S128 : Shape := ⟨1, ![128]⟩
abbrev S128x1 : Shape := ⟨2, ![128, 1]⟩
abbrev S128x1024 : Shape := ⟨2, ![128, 1024]⟩
abbrev S1x128 : Shape := ⟨2, ![1, 128]⟩
abbrev S128x128 : Shape := ⟨2, ![128, 128]⟩
abbrev S4096x128 : Shape := ⟨2, ![4096, 128]⟩
abbrev S128x256 : Shape := ⟨2, ![128, 256]⟩
abbrev S1x128x1024 : Shape := ⟨3, ![1, 128, 1024]⟩
abbrev S128x1536 : Shape := ⟨2, ![128, 1536]⟩
abbrev S8x1024 : Shape := ⟨2, ![8, 1024]⟩
abbrev S128x512 : Shape := ⟨2, ![128, 512]⟩
abbrev S1x512 : Shape := ⟨2, ![1, 512]⟩
abbrev S256x128 : Shape := ⟨2, ![256, 128]⟩

abbrev nBuf : Space → Nat
  | .hbm => 48
  | .vmem => 30
  | .smem => 0
  | _ => 0

abbrev bufTy : (tb : Table) → Fin (tcTables nBuf tb) → BufTy
  | .hbm, ⟨0, _⟩ => ⟨S4096x1536, .f32⟩
  | .hbm, ⟨1, _⟩ => ⟨S4096x5760, .bf16⟩
  | .hbm, ⟨2, _⟩ => ⟨S4096x1024, .f32⟩
  | .hbm, ⟨3, _⟩ => ⟨S32x128x1024, .f32⟩
  | .hbm, ⟨4, _⟩ => ⟨S4096x2048, .bf16⟩
  | .hbm, ⟨5, _⟩ => ⟨S8x128, .f32⟩
  | .hbm, ⟨6, _⟩ => ⟨S1024, .f32⟩
  | .hbm, ⟨7, _⟩ => ⟨S4096x5760, .bf16⟩
  | .hbm, ⟨8, _⟩ => ⟨S1x1024, .f32⟩
  | .hbm, ⟨9, _⟩ => ⟨S1024, .i32⟩
  | .hbm, ⟨10, _⟩ => ⟨S_, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S128, .i32⟩
  | .hbm, ⟨29, _⟩ => ⟨S128x1, .i32⟩
  | .hbm, ⟨30, _⟩ => ⟨S1x1024, .i32⟩
  | .hbm, ⟨31, _⟩ => ⟨S128x1024, .i32⟩
  | .hbm, ⟨32, _⟩ => ⟨S128x1024, .i32⟩
  | .hbm, ⟨33, _⟩ => ⟨S128x1024, .i1⟩
  | .hbm, ⟨34, _⟩ => ⟨S128x1024, .bf16⟩
  | .hbm, ⟨35, _⟩ => ⟨S128, .i32⟩
  | .hbm, ⟨36, _⟩ => ⟨S128x1, .i32⟩
  | .hbm, ⟨37, _⟩ => ⟨S128, .i32⟩
  | .hbm, ⟨38, _⟩ => ⟨S1x128, .i32⟩
  | .hbm, ⟨39, _⟩ => ⟨S128x128, .i32⟩
  | .hbm, ⟨40, _⟩ => ⟨S128x128, .i32⟩
  | .hbm, ⟨41, _⟩ => ⟨S128x128, .i1⟩
  | .hbm, ⟨42, _⟩ => ⟨S128x128, .f32⟩
  | .hbm, ⟨43, _⟩ => ⟨S4096x1536, .f32⟩
  | .hbm, ⟨44, _⟩ => ⟨S4096x5760, .bf16⟩
  | .hbm, ⟨45, _⟩ => ⟨S4096x128, .bf16⟩
  | .hbm, ⟨46, _⟩ => ⟨S8x128, .f32⟩
  | .hbm, ⟨47, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x128, .bf16⟩
  | .local _ .vmem, ⟨7, _⟩ => ⟨S128x128, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | .local _ .vmem, ⟨12, _⟩ => ⟨S1x128x1024, .f32⟩
  | .local _ .vmem, ⟨13, _⟩ => ⟨S1x128x1024, .f32⟩
  | .local _ .vmem, ⟨14, _⟩ => ⟨S128x1024, .bf16⟩
  | .local _ .vmem, ⟨15, _⟩ => ⟨S128x1024, .bf16⟩
  | .local _ .vmem, ⟨16, _⟩ => ⟨S8x128, .f32⟩
  | .local _ .vmem, ⟨17, _⟩ => ⟨S128x1024, .bf16⟩
  | .local _ .vmem, ⟨18, _⟩ => ⟨S128x128, .f32⟩
  | .local _ .vmem, ⟨19, _⟩ => ⟨S1x1024, .f32⟩
  | .local _ .vmem, ⟨20, _⟩ => ⟨S128x1536, .f32⟩
  | .local _ .vmem, ⟨21, _⟩ => ⟨S128x1536, .f32⟩
  | .local _ .vmem, ⟨22, _⟩ => ⟨S128x1024, .bf16⟩
  | .local _ .vmem, ⟨23, _⟩ => ⟨S128x1024, .bf16⟩
  | .local _ .vmem, ⟨24, _⟩ => ⟨S128x128, .bf16⟩
  | .local _ .vmem, ⟨25, _⟩ => ⟨S128x128, .bf16⟩
  | .local _ .vmem, ⟨26, _⟩ => ⟨S8x128, .f32⟩
  | .local _ .vmem, ⟨27, _⟩ => ⟨S1x1024, .f32⟩
  | .local _ .vmem, ⟨28, _⟩ => ⟨S128x1024, .f32⟩
  | .local _ .vmem, ⟨29, _⟩ => ⟨S128x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18_0 : Ref sig .tc := ⟨.hbm, 43, rfl⟩
abbrev main_v18_1 : Ref sig .tc := ⟨.hbm, 44, rfl⟩
abbrev main_v18_2 : Ref sig .tc := ⟨.hbm, 45, rfl⟩
abbrev main_v18_3 : Ref sig .tc := ⟨.hbm, 46, rfl⟩
abbrev main_v18_4 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32_276 : BitVec 32 := 0#32
  let v1065 : BitVec 1 := Scalar.cmpi .eq arg0 c0_i32_276
  let v1066 : BitVec 32 := Scalar.extui v1065
  let c0_i32_277 : BitVec 32 := 0#32
  let v1067 : BitVec 1 := Scalar.cmpi .ne v1066 c0_i32_277
  v1067

def k0_cond3 (i : grid0.Coords) : BitVec 1 :=
  let arg0 : BitVec 32 := BitVec.ofNat 32 (i 0).val
  let c0_i32_276 : BitVec 32 := 0#32
  let v1065 : BitVec 1 := Scalar.cmpi .eq arg0 c0_i32_276
  let v_true : BitVec 1 := 1#1
  let v1068 : BitVec 1 := Scalar.xori v1065 v_true
  let v1069 : BitVec 32 := Scalar.extui v1068
  let c0_i32_278 : BitVec 32 := 0#32
  let v1070 : BitVec 1 := Scalar.cmpi .ne v1069 c0_i32_278
  v1070

def k0_cond4 (i : grid0.Coords) : BitVec 1 :=
  let arg0 : BitVec 32 := BitVec.ofNat 32 (i 0).val
  let c0_i32_280 : BitVec 32 := 0#32
  let v1073 : BitVec 1 := Scalar.cmpi .eq arg0 c0_i32_280
  let v1074 : BitVec 32 := Scalar.extui v1073
  let c0_i32_281 : BitVec 32 := 0#32
  let v1075 : BitVec 1 := Scalar.cmpi .ne v1074 c0_i32_281
  v1075

def k0_cond5 (i : grid0.Coords) : BitVec 1 :=
  let arg0 : BitVec 32 := BitVec.ofNat 32 (i 0).val
  let c0_i32_280 : BitVec 32 := 0#32
  let v1073 : BitVec 1 := Scalar.cmpi .eq arg0 c0_i32_280
  let true_282 : BitVec 1 := 1#1
  let v1076 : BitVec 1 := Scalar.xori v1073 true_282
  let v1077 : BitVec 32 := Scalar.extui v1076
  let c0_i32_283 : BitVec 32 := 0#32
  let v1078 : BitVec 1 := Scalar.cmpi .ne v1077 c0_i32_283
  v1078

def cc0_transform_0 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c0_i32_11 : BitVec 32 := 0#32
  let c0_i32_12 : BitVec 32 := 0#32
  ![v29.toNat, c0_i32_11.toNat]

def cc0_transform_1 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c4_i32 : BitVec 32 := 4#32
  let c0_i32_11 : BitVec 32 := 0#32
  ![v29.toNat, c4_i32.toNat]

def cc0_transform_2 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c5_i32 : BitVec 32 := 5#32
  let c0_i32_11 : BitVec 32 := 0#32
  ![v29.toNat, c5_i32.toNat]

def cc0_transform_3 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c44_i32 : BitVec 32 := 44#32
  let c0_i32_11 : BitVec 32 := 0#32
  ![v29.toNat, c44_i32.toNat]

def cc0_transform_4 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c3_i32 : BitVec 32 := 3#32
  let c0_i32_11 : BitVec 32 := 0#32
  ![v29.toNat, c3_i32.toNat]

def cc0_transform_5 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c0_i32_11 : BitVec 32 := 0#32
  let c0_i32_12 : BitVec 32 := 0#32
  ![v29.toNat, c0_i32_11.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c0_i32_11 : BitVec 32 := 0#32
  let c0_i32_12 : BitVec 32 := 0#32
  let c0_i32_13 : BitVec 32 := 0#32
  ![v29.toNat, c0_i32_11.toNat, c0_i32_12.toNat]

def cc0_transform_7 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c1_i32_11 : BitVec 32 := 1#32
  let c0_i32_12 : BitVec 32 := 0#32
  ![v29.toNat, c1_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c0_i32_11 : BitVec 32 := 0#32
  let c0_i32_12 : BitVec 32 := 0#32
  ![v29.toNat, c0_i32_11.toNat]

def cc0_transform_14 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c3_i32 : BitVec 32 := 3#32
  let c0_i32_11 : BitVec 32 := 0#32
  ![v29.toNat, c3_i32.toNat]

def cc0_transform_15 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c0_i32_11 : BitVec 32 := 0#32
  let c0_i32_12 : BitVec 32 := 0#32
  ![v29.toNat, c0_i32_11.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference8Ideal.lean ====
abbrev S4096x1536 : Shape := ⟨2, ![4096, 1536]⟩
abbrev S4096x5760 : Shape := ⟨2, ![4096, 5760]⟩
abbrev S4096x1024 : Shape := ⟨2, ![4096, 1024]⟩
abbrev S32x128x1024 : Shape := ⟨3, ![32, 128, 1024]⟩
abbrev S4096x2048 : Shape := ⟨2, ![4096, 2048]⟩
abbrev S8x128 : Shape := ⟨2, ![8, 128]⟩
abbrev S1024 : Shape := ⟨1, ![1024]⟩
abbrev S_ : Shape := ⟨0, ![]⟩
abbrev S4096x2x512 : Shape := ⟨3, ![4096, 2, 512]⟩
abbrev S2x512 : Shape := ⟨2, ![2, 512]⟩
abbrev S4096x2 : Shape := ⟨2, ![4096, 2]⟩
abbrev S4096x2x1 : Shape := ⟨3, ![4096, 2, 1]⟩
abbrev S1x2x512 : Shape := ⟨3, ![1, 2, 512]⟩
abbrev S4096x3072 : Shape := ⟨2, ![4096, 3072]⟩
abbrev S4096x1664 : Shape := ⟨2, ![4096, 1664]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x5760, .bf16⟩
  | .hbm, ⟨2, _⟩ => ⟨S4096x1024, .f32⟩
  | .hbm, ⟨3, _⟩ => ⟨S32x128x1024, .f32⟩
  | .hbm, ⟨4, _⟩ => ⟨S4096x2048, .bf16⟩
  | .hbm, ⟨5, _⟩ => ⟨S8x128, .f32⟩
  | .hbm, ⟨6, _⟩ => ⟨S1024, .f32⟩
  | .hbm, ⟨7, _⟩ => ⟨S4096x5760, .bf16⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x2x512, .f32⟩
  | .hbm, ⟨25, _⟩ => ⟨S2x512, .f32⟩
  | .hbm, ⟨26, _⟩ => ⟨S4096x2x512, .f32⟩
  | .hbm, ⟨27, _⟩ => ⟨S_, .f32⟩
  | .hbm, ⟨28, _⟩ => ⟨S4096x2, .f32⟩
  | .hbm, ⟨29, _⟩ => ⟨S4096x2x1, .f32⟩
  | .hbm, ⟨30, _⟩ => ⟨S_, .f32⟩
  | .hbm, ⟨31, _⟩ => ⟨S4096x2x1, .f32⟩
  | .hbm, ⟨32, _⟩ => ⟨S4096x2x1, .f32⟩
  | .hbm, ⟨33, _⟩ => ⟨S_, .f32⟩
  | .hbm, ⟨34, _⟩ => ⟨S4096x2x1, .f32⟩
  | .hbm, ⟨35, _⟩ => ⟨S4096x2x1, .f32⟩
  | .hbm, ⟨36, _⟩ => ⟨S4096x2x1, .f32⟩
  | .hbm, ⟨37, _⟩ => ⟨S4096x2x1, .f32⟩
  | .hbm, ⟨38, _⟩ => ⟨S_, .f32⟩
  | .hbm, ⟨39, _⟩ => ⟨S4096x2x1, .f32⟩
  | .hbm, ⟨40, _⟩ => ⟨S4096x2x1, .f32⟩
  | .hbm, ⟨41, _⟩ => ⟨S4096x2x512, .f32⟩
  | .hbm, ⟨42, _⟩ => ⟨S4096x2x512, .f32⟩
  | .hbm, ⟨43, _⟩ => ⟨S1x2x512, .f32⟩
  | .hbm, ⟨44, _⟩ => ⟨S4096x2x512, .f32⟩
  | .hbm, ⟨45, _⟩ => ⟨S4096x2x512, .f32⟩
  | .hbm, ⟨46, _⟩ => ⟨S4096x1024, .f32⟩
  | .hbm, ⟨47, _⟩ => ⟨S4096x1024, .bf16⟩
  | .hbm, ⟨48, _⟩ => ⟨S4096x1024, .f32⟩
  | .hbm, ⟨49, _⟩ => ⟨S4096x2x512, .f32⟩
  | .hbm, ⟨50, _⟩ => ⟨S4096x2x512, .f32⟩
  | .hbm, ⟨51, _⟩ => ⟨S_, .f32⟩
  | .hbm, ⟨52, _⟩ => ⟨S2x512, .f32⟩
  | .hbm, ⟨53, _⟩ => ⟨S1x2x512, .f32⟩
  | .hbm, ⟨54, _⟩ => ⟨S4096x2x512, .f32⟩
  | .hbm, ⟨55, _⟩ => ⟨S4096x2x512, .f32⟩
  | .hbm, ⟨56, _⟩ => ⟨S_, .f32⟩
  | .hbm, ⟨57, _⟩ => ⟨S2x512, .f32⟩
  | .hbm, ⟨58, _⟩ => ⟨S4096x2x512, .f32⟩
  | .hbm, ⟨59, _⟩ => ⟨S_, .f32⟩
  | .hbm, ⟨60, _⟩ => ⟨S4096x2, .f32⟩
  | .hbm, ⟨61, _⟩ => ⟨S4096x2x1, .f32⟩
  | .hbm, ⟨62, _⟩ => ⟨S4096x2x512, .f32⟩
  | .hbm, ⟨63, _⟩ => ⟨S4096x2x512, .f32⟩
  | .hbm, ⟨64, _⟩ => ⟨S4096x2x1, .f32⟩
  | .hbm, ⟨65, _⟩ => ⟨S_, .f32⟩
  | .hbm, ⟨66, _⟩ => ⟨S4096x2x1, .f32⟩
  | .hbm, ⟨67, _⟩ => ⟨S4096x2x1, .f32⟩
  | .hbm, ⟨68, _⟩ => ⟨S_, .f32⟩
  | .hbm, ⟨69, _⟩ => ⟨S4096x2, .f32⟩
  | .hbm, ⟨70, _⟩ => ⟨S4096x2x512, .f32⟩
  | .hbm, ⟨71, _⟩ => ⟨S4096x2x512, .f32⟩
  | .hbm, ⟨72, _⟩ => ⟨S4096x2x512, .f32⟩
  | .hbm, ⟨73, _⟩ => ⟨S4096x2x512, .f32⟩
  | .hbm, ⟨74, _⟩ => ⟨S4096x2x512, .f32⟩
  | .hbm, ⟨75, _⟩ => ⟨S1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x3072, .bf16⟩
  | .hbm, ⟨84, _⟩ => ⟨S4096x1024, .bf16⟩
  | .hbm, ⟨85, _⟩ => ⟨S4096x1664, .bf16⟩
  | .hbm, ⟨86, _⟩ => ⟨S4096x5760, .bf16⟩
  | .hbm, ⟨87, _⟩ => ⟨S1x1024, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v2_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v2_1 : Ref sig .tc := ⟨.hbm, 21, rfl⟩
abbrev main_v2_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩

abbrev nD : Nat := 1
abbrev τ : Topo := Topo.v7x

variable {F : FTy → Type} [FloatOps F]
-- ==== Kernel9.lean ====
abbrev S4096x2048 : Shape := ⟨2, ![4096, 2048]⟩
abbrev S2048x1024 : Shape := ⟨2, ![2048, 1024]⟩
abbrev S4096x1024 : Shape := ⟨2, ![4096, 1024]⟩
abbrev S1024 : Shape := ⟨1, ![1024]⟩
abbrev S1x1024 : Shape := ⟨2, ![1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S1024, .f32⟩
  | .hbm, ⟨4, _⟩ => ⟨S4096x2048, .bf16⟩
  | .hbm, ⟨5, _⟩ => ⟨S2048x1024, .bf16⟩
  | .hbm, ⟨6, _⟩ => ⟨S1x1024, .f32⟩
  | .hbm, ⟨7, _⟩ => ⟨S4096x1024, .bf16⟩
  | .hbm, ⟨8, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S4096x2048 : Shape := ⟨2, ![4096, 2048]⟩
abbrev S2048x1024 : Shape := ⟨2, ![2048, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 15
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S1x1024, .f32⟩
  | .hbm, ⟨9, _⟩ => ⟨S4096x1024, .bf16⟩
  | .hbm, ⟨10, _⟩ => ⟨S1x1024, .f32⟩
  | .hbm, ⟨11, _⟩ => ⟨S4096x4096, .bf16⟩
  | .hbm, ⟨12, _⟩ => ⟨S4096x1024, .bf16⟩
  | .hbm, ⟨13, _⟩ => ⟨S4096x1024, .bf16⟩
  | .hbm, ⟨14, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1024, .bf16⟩
  | .local _ .vmem, ⟨4, _⟩ => ⟨S4096x1024, .bf16⟩
  | .local _ .vmem, ⟨5, _⟩ => ⟨S1x1024, .f32⟩
  | .local _ .vmem, ⟨6, _⟩ => ⟨S512x4096, .bf16⟩
  | .local _ .vmem, ⟨7, _⟩ => ⟨S512x4096, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x4096, .bf16⟩
  | .hbm, ⟨28, _⟩ => ⟨S4096x1024, .bf16⟩
  | .hbm, ⟨29, _⟩ => ⟨S4096x1024, .bf16⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel11.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel11Ideal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference11Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S4x1536 : Shape := ⟨2, ![4, 1536]⟩

abbrev nBuf : Space → Nat
  | .hbm => 7
  | .vmem => 7
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S4x1536, .f32⟩
  | .hbm, ⟨5, _⟩ => ⟨S4x1536, .f32⟩
  | .hbm, ⟨6, _⟩ => ⟨S4x1536, .f32⟩
  | .local _ .vmem, ⟨0, _⟩ => ⟨S4x1536, .f32⟩
  | .local _ .vmem, ⟨1, _⟩ => ⟨S4x1536, .f32⟩
  | .local _ .vmem, ⟨2, _⟩ => ⟨S4x1536, .f32⟩
  | .local _ .vmem, ⟨3, _⟩ => ⟨S4x1536, .f32⟩
  | .local _ .vmem, ⟨4, _⟩ => ⟨S4x1536, .f32⟩
  | .local _ .vmem, ⟨5, _⟩ => ⟨S4x1536, .f32⟩
  | .local _ .vmem, ⟨6, _⟩ => ⟨S4x1536, .f32⟩
  | _, _ => ⟨S4x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel12Ideal.lean ====
abbrev S4x1536 : Shape := ⟨2, ![4, 1536]⟩

abbrev nBuf : Space → Nat
  | .hbm => 7
  | .vmem => 7
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S4x1536, .f32⟩
  | .hbm, ⟨5, _⟩ => ⟨S4x1536, .f32⟩
  | .hbm, ⟨6, _⟩ => ⟨S4x1536, .f32⟩
  | .local _ .vmem, ⟨0, _⟩ => ⟨S4x1536, .f32⟩
  | .local _ .vmem, ⟨1, _⟩ => ⟨S4x1536, .f32⟩
  | .local _ .vmem, ⟨2, _⟩ => ⟨S4x1536, .f32⟩
  | .local _ .vmem, ⟨3, _⟩ => ⟨S4x1536, .f32⟩
  | .local _ .vmem, ⟨4, _⟩ => ⟨S4x1536, .f32⟩
  | .local _ .vmem, ⟨5, _⟩ => ⟨S4x1536, .f32⟩
  | .local _ .vmem, ⟨6, _⟩ => ⟨S4x1536, .f32⟩
  | _, _ => ⟨S4x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S4x1536 : Shape := ⟨2, ![4, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S_, .f32⟩
  | .hbm, ⟨5, _⟩ => ⟨S4x1536, .f32⟩
  | .hbm, ⟨6, _⟩ => ⟨S4x1536, .f32⟩
  | .hbm, ⟨7, _⟩ => ⟨S_, .f32⟩
  | .hbm, ⟨8, _⟩ => ⟨S4x1536, .f32⟩
  | .hbm, ⟨9, _⟩ => ⟨S4x1536, .f32⟩
  | .hbm, ⟨10, _⟩ => ⟨S4x1536, .f32⟩
  | .hbm, ⟨11, _⟩ => ⟨S_, .f32⟩
  | .hbm, ⟨12, _⟩ => ⟨S4x1536, .f32⟩
  | .hbm, ⟨13, _⟩ => ⟨S4x1536, .f32⟩
  | .hbm, ⟨14, _⟩ => ⟨S4x1536, .f32⟩
  | .hbm, ⟨15, _⟩ => ⟨S_, .f32⟩
  | .hbm, ⟨16, _⟩ => ⟨S4x1536, .f32⟩
  | .hbm, ⟨17, _⟩ => ⟨S4x1536, .f32⟩
  | .hbm, ⟨18, _⟩ => ⟨S4x1536, .f32⟩
  | .hbm, ⟨19, _⟩ => ⟨S_, .f32⟩
  | .hbm, ⟨20, _⟩ => ⟨S4x1536, .f32⟩
  | .hbm, ⟨21, _⟩ => ⟨S4x1536, .f32⟩
  | .hbm, ⟨22, _⟩ => ⟨S_, .f32⟩
  | .hbm, ⟨23, _⟩ => ⟨S4x1536, .f32⟩
  | .hbm, ⟨24, _⟩ => ⟨S4x1536, .f32⟩
  | .hbm, ⟨25, _⟩ => ⟨S4x1536, .f32⟩
  | .hbm, ⟨26, _⟩ => ⟨S_, .f32⟩
  | .hbm, ⟨27, _⟩ => ⟨S4x1536, .f32⟩
  | .hbm, ⟨28, _⟩ => ⟨S4x1536, .f32⟩
  | .hbm, ⟨29, _⟩ => ⟨S4x1536, .f32⟩
  | .hbm, ⟨30, _⟩ => ⟨S_, .f32⟩
  | .hbm, ⟨31, _⟩ => ⟨S4x1536, .f32⟩
  | .hbm, ⟨32, _⟩ => ⟨S4x1536, .f32⟩
  | .hbm, ⟨33, _⟩ => ⟨S4x1536, .f32⟩
  | .hbm, ⟨34, _⟩ => ⟨S_, .f32⟩
  | .hbm, ⟨35, _⟩ => ⟨S4x1536, .f32⟩
  | .hbm, ⟨36, _⟩ => ⟨S4x1536, .f32⟩
  | _, _ => ⟨S4x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S4x3x256 : Shape := ⟨3, ![4, 3, 256]⟩
abbrev S12x256 : Shape := ⟨2, ![12, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x3x256, .f32⟩
  | .hbm, ⟨1, _⟩ => ⟨S4x3x256, .f32⟩
  | .hbm, ⟨2, _⟩ => ⟨S4x3x256, .f32⟩
  | .hbm, ⟨3, _⟩ => ⟨S4x3x256, .f32⟩
  | .hbm, ⟨4, _⟩ => ⟨S12x256, .f32⟩
  | .hbm, ⟨5, _⟩ => ⟨S12x256, .f32⟩
  | .hbm, ⟨6, _⟩ => ⟨S12x256, .f32⟩
  | .hbm, ⟨7, _⟩ => ⟨S12x256, .f32⟩
  | .hbm, ⟨8, _⟩ => ⟨S12x256, .f32⟩
  | .hbm, ⟨9, _⟩ => ⟨S12x256, .f32⟩
  | .hbm, ⟨10, _⟩ => ⟨S12x256, .f32⟩
  | .local _ .vmem, ⟨0, _⟩ => ⟨S12x256, .f32⟩
  | .local _ .vmem, ⟨1, _⟩ => ⟨S12x256, .f32⟩
  | .local _ .vmem, ⟨2, _⟩ => ⟨S12x256, .f32⟩
  | .local _ .vmem, ⟨3, _⟩ => ⟨S12x256, .f32⟩
  | .local _ .vmem, ⟨4, _⟩ => ⟨S12x256, .f32⟩
  | .local _ .vmem, ⟨5, _⟩ => ⟨S12x256, .f32⟩
  | .local _ .vmem, ⟨6, _⟩ => ⟨S12x256, .f32⟩
  | _, _ => ⟨S4x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel13Ideal.lean ====
abbrev S4x3x256 : Shape := ⟨3, ![4, 3, 256]⟩
abbrev S12x256 : Shape := ⟨2, ![12, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x3x256, .f32⟩
  | .hbm, ⟨1, _⟩ => ⟨S4x3x256, .f32⟩
  | .hbm, ⟨2, _⟩ => ⟨S4x3x256, .f32⟩
  | .hbm, ⟨3, _⟩ => ⟨S4x3x256, .f32⟩
  | .hbm, ⟨4, _⟩ => ⟨S12x256, .f32⟩
  | .hbm, ⟨5, _⟩ => ⟨S12x256, .f32⟩
  | .hbm, ⟨6, _⟩ => ⟨S12x256, .f32⟩
  | .hbm, ⟨7, _⟩ => ⟨S12x256, .f32⟩
  | .hbm, ⟨8, _⟩ => ⟨S12x256, .f32⟩
  | .hbm, ⟨9, _⟩ => ⟨S12x256, .f32⟩
  | .hbm, ⟨10, _⟩ => ⟨S12x256, .f32⟩
  | .local _ .vmem, ⟨0, _⟩ => ⟨S12x256, .f32⟩
  | .local _ .vmem, ⟨1, _⟩ => ⟨S12x256, .f32⟩
  | .local _ .vmem, ⟨2, _⟩ => ⟨S12x256, .f32⟩
  | .local _ .vmem, ⟨3, _⟩ => ⟨S12x256, .f32⟩
  | .local _ .vmem, ⟨4, _⟩ => ⟨S12x256, .f32⟩
  | .local _ .vmem, ⟨5, _⟩ => ⟨S12x256, .f32⟩
  | .local _ .vmem, ⟨6, _⟩ => ⟨S12x256, .f32⟩
  | _, _ => ⟨S4x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference13Ideal.lean ====
abbrev S4x3x256 : Shape := ⟨3, ![4, 3, 256]⟩
abbrev S_ : Shape := ⟨0, ![]⟩
abbrev S12x256 : Shape := ⟨2, ![12, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x3x256, .f32⟩
  | .hbm, ⟨1, _⟩ => ⟨S4x3x256, .f32⟩
  | .hbm, ⟨2, _⟩ => ⟨S4x3x256, .f32⟩
  | .hbm, ⟨3, _⟩ => ⟨S4x3x256, .f32⟩
  | .hbm, ⟨4, _⟩ => ⟨S_, .f32⟩
  | .hbm, ⟨5, _⟩ => ⟨S4x3x256, .f32⟩
  | .hbm, ⟨6, _⟩ => ⟨S4x3x256, .f32⟩
  | .hbm, ⟨7, _⟩ => ⟨S_, .f32⟩
  | .hbm, ⟨8, _⟩ => ⟨S4x3x256, .f32⟩
  | .hbm, ⟨9, _⟩ => ⟨S4x3x256, .f32⟩
  | .hbm, ⟨10, _⟩ => ⟨S4x3x256, .f32⟩
  | .hbm, ⟨11, _⟩ => ⟨S_, .f32⟩
  | .hbm, ⟨12, _⟩ => ⟨S4x3x256, .f32⟩
  | .hbm, ⟨13, _⟩ => ⟨S4x3x256, .f32⟩
  | .hbm, ⟨14, _⟩ => ⟨S4x3x256, .f32⟩
  | .hbm, ⟨15, _⟩ => ⟨S_, .f32⟩
  | .hbm, ⟨16, _⟩ => ⟨S4x3x256, .f32⟩
  | .hbm, ⟨17, _⟩ => ⟨S4x3x256, .f32⟩
  | .hbm, ⟨18, _⟩ => ⟨S4x3x256, .f32⟩
  | .hbm, ⟨19, _⟩ => ⟨S_, .f32⟩
  | .hbm, ⟨20, _⟩ => ⟨S4x3x256, .f32⟩
  | .hbm, ⟨21, _⟩ => ⟨S4x3x256, .f32⟩
  | .hbm, ⟨22, _⟩ => ⟨S_, .f32⟩
  | .hbm, ⟨23, _⟩ => ⟨S4x3x256, .f32⟩
  | .hbm, ⟨24, _⟩ => ⟨S4x3x256, .f32⟩
  | .hbm, ⟨25, _⟩ => ⟨S4x3x256, .f32⟩
  | .hbm, ⟨26, _⟩ => ⟨S_, .f32⟩
  | .hbm, ⟨27, _⟩ => ⟨S4x3x256, .f32⟩
  | .hbm, ⟨28, _⟩ => ⟨S4x3x256, .f32⟩
  | .hbm, ⟨29, _⟩ => ⟨S4x3x256, .f32⟩
  | .hbm, ⟨30, _⟩ => ⟨S_, .f32⟩
  | .hbm, ⟨31, _⟩ => ⟨S4x3x256, .f32⟩
  | .hbm, ⟨32, _⟩ => ⟨S4x3x256, .f32⟩
  | .hbm, ⟨33, _⟩ => ⟨S4x3x256, .f32⟩
  | .hbm, ⟨34, _⟩ => ⟨S_, .f32⟩
  | .hbm, ⟨35, _⟩ => ⟨S4x3x256, .f32⟩
  | .hbm, ⟨36, _⟩ => ⟨S4x3x256, .f32⟩
  | .hbm, ⟨37, _⟩ => ⟨S12x256, .f32⟩
  | .hbm, ⟨38, _⟩ => ⟨S12x256, .f32⟩
  | .hbm, ⟨39, _⟩ => ⟨S12x256, .f32⟩
  | _, _ => ⟨S4x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel14.lean ====
abbrev S4x4x384 : Shape := ⟨3, ![4, 4, 384]⟩
abbrev S16x384 : Shape := ⟨2, ![16, 384]⟩

abbrev nBuf : Space → Nat
  | .hbm => 11
  | .vmem => 7
  | .smem => 0
  | _ => 0

abbrev bufTy : (tb : Table) → Fin (tcTables nBuf tb) → BufTy
  | .hbm, ⟨0, _⟩ => ⟨S4x4x384, .f32⟩
  | .hbm, ⟨1, _⟩ => ⟨S4x4x384, .f32⟩
  | .hbm, ⟨2, _⟩ => ⟨S4x4x384, .f32⟩
  | .hbm, ⟨3, _⟩ => ⟨S4x4x384, .f32⟩
  | .hbm, ⟨4, _⟩ => ⟨S16x384, .f32⟩
  | .hbm, ⟨5, _⟩ => ⟨S16x384, .f32⟩
  | .hbm, ⟨6, _⟩ => ⟨S16x384, .f32⟩
  | .hbm, ⟨7, _⟩ => ⟨S16x384, .f32⟩
  | .hbm, ⟨8, _⟩ => ⟨S16x384, .f32⟩
  | .hbm, ⟨9, _⟩ => ⟨S16x384, .f32⟩
  | .hbm, ⟨10, _⟩ => ⟨S16x384, .f32⟩
  | .local _ .vmem, ⟨0, _⟩ => ⟨S16x384, .f32⟩
  | .local _ .vmem, ⟨1, _⟩ => ⟨S16x384, .f32⟩
  | .local _ .vmem, ⟨2, _⟩ => ⟨S16x384, .f32⟩
  | .local _ .vmem, ⟨3, _⟩ => ⟨S16x384, .f32⟩
  | .local _ .vmem, ⟨4, _⟩ => ⟨S16x384, .f32⟩
  | .local _ .vmem, ⟨5, _⟩ => ⟨S16x384, .f32⟩
  | .local _ .vmem, ⟨6, _⟩ => ⟨S16x384, .f32⟩
  | _, _ => ⟨S4x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel14Ideal.lean ====
abbrev S4x4x384 : Shape := ⟨3, ![4, 4, 384]⟩
abbrev S16x384 : Shape := ⟨2, ![16, 384]⟩

abbrev nBuf : Space → Nat
  | .hbm => 11
  | .vmem => 7
  | .smem => 0
  | _ => 0

abbrev bufTy : (tb : Table) → Fin (tcTables nBuf tb) → BufTy
  | .hbm, ⟨0, _⟩ => ⟨S4x4x384, .f32⟩
  | .hbm, ⟨1, _⟩ => ⟨S4x4x384, .f32⟩
  | .hbm, ⟨2, _⟩ => ⟨S4x4x384, .f32⟩
  | .hbm, ⟨3, _⟩ => ⟨S4x4x384, .f32⟩
  | .hbm, ⟨4, _⟩ => ⟨S16x384, .f32⟩
  | .hbm, ⟨5, _⟩ => ⟨S16x384, .f32⟩
  | .hbm, ⟨6, _⟩ => ⟨S16x384, .f32⟩
  | .hbm, ⟨7, _⟩ => ⟨S16x384, .f32⟩
  | .hbm, ⟨8, _⟩ => ⟨S16x384, .f32⟩
  | .hbm, ⟨9, _⟩ => ⟨S16x384, .f32⟩
  | .hbm, ⟨10, _⟩ => ⟨S16x384, .f32⟩
  | .local _ .vmem, ⟨0, _⟩ => ⟨S16x384, .f32⟩
  | .local _ .vmem, ⟨1, _⟩ => ⟨S16x384, .f32⟩
  | .local _ .vmem, ⟨2, _⟩ => ⟨S16x384, .f32⟩
  | .local _ .vmem, ⟨3, _⟩ => ⟨S16x384, .f32⟩
  | .local _ .vmem, ⟨4, _⟩ => ⟨S16x384, .f32⟩
  | .local _ .vmem, ⟨5, _⟩ => ⟨S16x384, .f32⟩
  | .local _ .vmem, ⟨6, _⟩ => ⟨S16x384, .f32⟩
  | _, _ => ⟨S4x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S4x4x384 : Shape := ⟨3, ![4, 4, 384]⟩
abbrev S_ : Shape := ⟨0, ![]⟩
abbrev S16x384 : Shape := ⟨2, ![16, 384]⟩

abbrev nBuf : Space → Nat
  | .hbm => 40
  | .vmem => 0
  | .smem => 0
  | _ => 0

abbrev bufTy : (tb : Table) → Fin (tcTables nBuf tb) → BufTy
  | .hbm, ⟨0, _⟩ => ⟨S4x4x384, .f32⟩
  | .hbm, ⟨1, _⟩ => ⟨S4x4x384, .f32⟩
  | .hbm, ⟨2, _⟩ => ⟨S4x4x384, .f32⟩
  | .hbm, ⟨3, _⟩ => ⟨S4x4x384, .f32⟩
  | .hbm, ⟨4, _⟩ => ⟨S_, .f32⟩
  | .hbm, ⟨5, _⟩ => ⟨S4x4x384, .f32⟩
  | .hbm, ⟨6, _⟩ => ⟨S4x4x384, .f32⟩
  | .hbm, ⟨7, _⟩ => ⟨S_, .f32⟩
  | .hbm, ⟨8, _⟩ => ⟨S4x4x384, .f32⟩
  | .hbm, ⟨9, _⟩ => ⟨S4x4x384, .f32⟩
  | .hbm, ⟨10, _⟩ => ⟨S4x4x384, .f32⟩
  | .hbm, ⟨11, _⟩ => ⟨S_, .f32⟩
  | .hbm, ⟨12, _⟩ => ⟨S4x4x384, .f32⟩
  | .hbm, ⟨13, _⟩ => ⟨S4x4x384, .f32⟩
  | .hbm, ⟨14, _⟩ => ⟨S4x4x384, .f32⟩
  | .hbm, ⟨15, _⟩ => ⟨S_, .f32⟩
  | .hbm, ⟨16, _⟩ => ⟨S4x4x384, .f32⟩
  | .hbm, ⟨17, _⟩ => ⟨S4x4x384, .f32⟩
  | .hbm, ⟨18, _⟩ => ⟨S4x4x384, .f32⟩
  | .hbm, ⟨19, _⟩ => ⟨S_, .f32⟩
  | .hbm, ⟨20, _⟩ => ⟨S4x4x384, .f32⟩
  | .hbm, ⟨21, _⟩ => ⟨S4x4x384, .f32⟩
  | .hbm, ⟨22, _⟩ => ⟨S_, .f32⟩
  | .hbm, ⟨23, _⟩ => ⟨S4x4x384, .f32⟩
  | .hbm, ⟨24, _⟩ => ⟨S4x4x384, .f32⟩
  | .hbm, ⟨25, _⟩ => ⟨S4x4x384, .f32⟩
  | .hbm, ⟨26, _⟩ => ⟨S_, .f32⟩
  | .hbm, ⟨27, _⟩ => ⟨S4x4x384, .f32⟩
  | .hbm, ⟨28, _⟩ => ⟨S4x4x384, .f32⟩
  | .hbm, ⟨29, _⟩ => ⟨S4x4x384, .f32⟩
  | .hbm, ⟨30, _⟩ => ⟨S_, .f32⟩
  | .hbm, ⟨31, _⟩ => ⟨S4x4x384, .f32⟩
  | .hbm, ⟨32, _⟩ => ⟨S4x4x384, .f32⟩
  | .hbm, ⟨33, _⟩ => ⟨S4x4x384, .f32⟩
  | .hbm, ⟨34, _⟩ => ⟨S_, .f32⟩
  | .hbm, ⟨35, _⟩ => ⟨S4x4x384, .f32⟩
  | .hbm, ⟨36, _⟩ => ⟨S4x4x384, .f32⟩
  | .hbm, ⟨37, _⟩ => ⟨S16x384, .f32⟩
  | .hbm, ⟨38, _⟩ => ⟨S16x384, .f32⟩
  | .hbm, ⟨39, _⟩ => ⟨S16x384, .f32⟩
  | _, _ => ⟨S4x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel15.lean ====
abbrev S4x16 : Shape := ⟨2, ![4, 16]⟩

abbrev nBuf : Space → Nat
  | .hbm => 7
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .local _ .vmem, ⟨0, _⟩ => ⟨S4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S4x16 : Shape := ⟨2, ![4, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S_, .f32⟩
  | .hbm, ⟨5, _⟩ => ⟨S4x16, .f32⟩
  | .hbm, ⟨6, _⟩ => ⟨S4x16, .f32⟩
  | .hbm, ⟨7, _⟩ => ⟨S_, .f32⟩
  | .hbm, ⟨8, _⟩ => ⟨S4x16, .f32⟩
  | .hbm, ⟨9, _⟩ => ⟨S4x16, .f32⟩
  | .hbm, ⟨10, _⟩ => ⟨S4x16, .f32⟩
  | .hbm, ⟨11, _⟩ => ⟨S_, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S_, .f32⟩
  | .hbm, ⟨16, _⟩ => ⟨S4x16, .f32⟩
  | .hbm, ⟨17, _⟩ => ⟨S4x16, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S_, .f32⟩
  | .hbm, ⟨23, _⟩ => ⟨S4x16, .f32⟩
  | .hbm, ⟨24, _⟩ => ⟨S4x16, .f32⟩
  | .hbm, ⟨25, _⟩ => ⟨S4x16, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S_, .f32⟩
  | .hbm, ⟨31, _⟩ => ⟨S4x16, .f32⟩
  | .hbm, ⟨32, _⟩ => ⟨S4x16, .f32⟩
  | .hbm, ⟨33, _⟩ => ⟨S4x16, .f32⟩
  | .hbm, ⟨34, _⟩ => ⟨S_, .f32⟩
  | .hbm, ⟨35, _⟩ => ⟨S4x16, .f32⟩
  | .hbm, ⟨36, _⟩ => ⟨S4x16, .f32⟩
  | _, _ => ⟨S4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S4096x1024 : Shape := ⟨2, ![4096, 1024]⟩
abbrev S8x128 : Shape := ⟨2, ![8, 128]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x128, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_8 : BitVec 32 := 0#32
  let v18 : BitVec 1 := Scalar.cmpi .ne v17 c0_i32_8
  v18

def k0_cond2 (i : grid0.Coords) : BitVec 1 :=
  let arg0 : BitVec 32 := BitVec.ofNat 32 (i 0).val
  let c0_i32 : BitVec 32 := 0#32
  let v16 : BitVec 1 := Scalar.cmpi .eq arg0 c0_i32
  let v_true : BitVec 1 := 1#1
  let v19 : BitVec 1 := Scalar.xori v16 v_true
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference16Ideal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x128, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_cst_8 : Ref sig .tc := ⟨.hbm, 28, rfl⟩
abbrev main_cst_9 : Ref sig .tc := ⟨.hbm, 29, rfl⟩
abbrev main_v17 : Ref sig .tc := ⟨.hbm, 30, rfl⟩
abbrev main_v18 : Ref sig .tc := ⟨.hbm, 31, rfl⟩
abbrev main_cst_10 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Kernel17.lean ====
abbrev S8x160x1024 : Shape := ⟨3, ![8, 160, 1024]⟩
abbrev S160x1024 : Shape := ⟨2, ![160, 1024]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x160x1024, .f32⟩
  | .hbm, ⟨1, _⟩ => ⟨S160x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | _, _ => ⟨S8x160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference17Ideal.lean ====
abbrev S8x160x1024 : Shape := ⟨3, ![8, 160, 1024]⟩
abbrev S_ : Shape := ⟨0, ![]⟩
abbrev S160x1024 : Shape := ⟨2, ![160, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x160x1024, .f32⟩
  | .hbm, ⟨1, _⟩ => ⟨S_, .f32⟩
  | .hbm, ⟨2, _⟩ => ⟨S160x1024, .f32⟩
  | _, _ => ⟨S8x160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S4096x1536 : Shape := ⟨2, ![4096, 1536]⟩
abbrev S4096x5760 : Shape := ⟨2, ![4096, 5760]⟩
abbrev S8x128 : Shape := ⟨2, ![8, 128]⟩
abbrev S1024 : Shape := ⟨1, ![1024]⟩
abbrev S4096x2048 : Shape := ⟨2, ![4096, 2048]⟩
abbrev S1x1024 : Shape := ⟨2, ![1, 1024]⟩
abbrev S_ : Shape := ⟨0, ![]⟩
abbrev S128 : Shape := ⟨1, ![128]⟩
abbrev S128x1 : Shape := ⟨2, ![128, 1]⟩
abbrev S128x1024 : Shape := ⟨2, ![128, 1024]⟩
abbrev S1x128 : Shape := ⟨2, ![1, 128]⟩
abbrev S128x128 : Shape := ⟨2, ![128, 128]⟩
abbrev S4096x1024 : Shape := ⟨2, ![4096, 1024]⟩
abbrev S32x128x1024 : Shape := ⟨3, ![32, 128, 1024]⟩
abbrev S128x256 : Shape := ⟨2, ![128, 256]⟩
abbrev S1x128x1024 : Shape := ⟨3, ![1, 128, 1024]⟩
abbrev S8x1024 : Shape := ⟨2, ![8, 1024]⟩
abbrev S256x128 : Shape := ⟨2, ![256, 128]⟩
abbrev S128x512 : Shape := ⟨2, ![128, 512]⟩
abbrev S1x512 : Shape := ⟨2, ![1, 512]⟩

abbrev nBuf : Space → Nat
  | .hbm => 43
  | .vmem => 22
  | .smem => 0
  | _ => 0

abbrev bufTy : (tb : Table) → Fin (tcTables nBuf tb) → BufTy
  | .hbm, ⟨0, _⟩ => ⟨S4096x1536, .f32⟩
  | .hbm, ⟨1, _⟩ => ⟨S4096x5760, .bf16⟩
  | .hbm, ⟨2, _⟩ => ⟨S8x128, .f32⟩
  | .hbm, ⟨3, _⟩ => ⟨S1024, .f32⟩
  | .hbm, ⟨4, _⟩ => ⟨S4096x2048, .bf16⟩
  | .hbm, ⟨5, _⟩ => ⟨S1x1024, .f32⟩
  | .hbm, ⟨6, _⟩ => ⟨S1024, .i32⟩
  | .hbm, ⟨7, _⟩ => ⟨S_, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S128, .i32⟩
  | .hbm, ⟨26, _⟩ => ⟨S128x1, .i32⟩
  | .hbm, ⟨27, _⟩ => ⟨S1x1024, .i32⟩
  | .hbm, ⟨28, _⟩ => ⟨S128x1024, .i32⟩
  | .hbm, ⟨29, _⟩ => ⟨S128x1024, .i32⟩
  | .hbm, ⟨30, _⟩ => ⟨S128x1024, .i1⟩
  | .hbm, ⟨31, _⟩ => ⟨S128x1024, .bf16⟩
  | .hbm, ⟨32, _⟩ => ⟨S128, .i32⟩
  | .hbm, ⟨33, _⟩ => ⟨S128x1, .i32⟩
  | .hbm, ⟨34, _⟩ => ⟨S128, .i32⟩
  | .hbm, ⟨35, _⟩ => ⟨S1x128, .i32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S128x128, .f32⟩
  | .hbm, ⟨40, _⟩ => ⟨S4096x2048, .bf16⟩
  | .hbm, ⟨41, _⟩ => ⟨S4096x1024, .f32⟩
  | .hbm, ⟨42, _⟩ => ⟨S32x128x1024, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x128, .bf16⟩
  | .local _ .vmem, ⟨7, _⟩ => ⟨S128x128, .bf16⟩
  | .local _ .vmem, ⟨8, _⟩ => ⟨S128x1024, .bf16⟩
  | .local _ .vmem, ⟨9, _⟩ => ⟨S128x1024, .bf16⟩
  | .local _ .vmem, ⟨10, _⟩ => ⟨S8x128, .f32⟩
  | .local _ .vmem, ⟨11, _⟩ => ⟨S128x1024, .bf16⟩
  | .local _ .vmem, ⟨12, _⟩ => ⟨S128x128, .f32⟩
  | .local _ .vmem, ⟨13, _⟩ => ⟨S1x1024, .f32⟩
  | .local _ .vmem, ⟨14, _⟩ => ⟨S128x1024, .bf16⟩
  | .local _ .vmem, ⟨15, _⟩ => ⟨S128x1024, .bf16⟩
  | .local _ .vmem, ⟨16, _⟩ => ⟨S128x1024, .f32⟩
  | .local _ .vmem, ⟨17, _⟩ => ⟨S128x1024, .f32⟩
  | .local _ .vmem, ⟨18, _⟩ => ⟨S1x128x1024, .f32⟩
  | .local _ .vmem, ⟨19, _⟩ => ⟨S1x128x1024, .f32⟩
  | .local _ .vmem, ⟨20, _⟩ => ⟨S128x1024, .f32⟩
  | .local _ .vmem, ⟨21, _⟩ => ⟨S128x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18_0 : Ref sig .tc := ⟨.hbm, 40, rfl⟩
abbrev main_v18_1 : Ref sig .tc := ⟨.hbm, 41, rfl⟩
abbrev main_v18_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference18Ideal.lean ====
abbrev S4096x1536 : Shape := ⟨2, ![4096, 1536]⟩
abbrev S4096x5760 : Shape := ⟨2, ![4096, 5760]⟩
abbrev S8x128 : Shape := ⟨2, ![8, 128]⟩
abbrev S1024 : Shape := ⟨1, ![1024]⟩
abbrev S4096x2048 : Shape := ⟨2, ![4096, 2048]⟩
abbrev S4096x1024 : Shape := ⟨2, ![4096, 1024]⟩
abbrev S32x128x16x64 : Shape := ⟨4, ![32, 128, 16, 64]⟩
abbrev S4096x256 : Shape := ⟨2, ![4096, 256]⟩
abbrev S32x128x2x128 : Shape := ⟨4, ![32, 128, 2, 128]⟩
abbrev S4096x16 : Shape := ⟨2, ![4096, 16]⟩
abbrev S1x16 : Shape := ⟨2, ![1, 16]⟩
abbrev S16 : Shape := ⟨1, ![16]⟩
abbrev S_ : Shape := ⟨0, ![]⟩
abbrev S32x128x16 : Shape := ⟨3, ![32, 128, 16]⟩
abbrev S1x1x16 : Shape := ⟨3, ![1, 1, 16]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128x1 : Shape := ⟨4, ![1, 128, 128, 1]⟩
abbrev S32x1x128x16 : Shape := ⟨4, ![32, 1, 128, 16]⟩
abbrev S32x128x128x16 : Shape := ⟨4, ![32, 128, 128, 16]⟩
abbrev S32x128x16x1 : Shape := ⟨4, ![32, 128, 16, 1]⟩
abbrev S32x1x16 : Shape := ⟨3, ![32, 1, 16]⟩
abbrev S32x128x2x512 : Shape := ⟨4, ![32, 128, 2, 512]⟩
abbrev S32x2x512x128 : Shape := ⟨4, ![32, 2, 512, 128]⟩
abbrev S2x16x128x16x64 : Shape := ⟨5, ![2, 16, 128, 16, 64]⟩
abbrev S32x16 : Shape := ⟨2, ![32, 16]⟩
abbrev S2x16x1x16x1 : Shape := ⟨5, ![2, 16, 1, 16, 1]⟩
abbrev S2x128x16x64 : Shape := ⟨4, ![2, 128, 16, 64]⟩
abbrev S2x1x1x16x1 : Shape := ⟨5, ![2, 1, 1, 16, 1]⟩
abbrev S2x1x16x1 : Shape := ⟨4, ![2, 1, 16, 1]⟩
abbrev S2x1x128x16x64 : Shape := ⟨5, ![2, 1, 128, 16, 64]⟩
abbrev S32x128x1024 : Shape := ⟨3, ![32, 128, 1024]⟩

abbrev nBuf : Space → Nat
  | .hbm => 204
  | .vmem => 0
  | .smem => 0
  | _ => 0

abbrev hbmTy0_0 (i : Nat) : BufTy := match i % 128 with
  | 0 => ⟨S4096x1536, .f32⟩
  | 1 => ⟨S4096x5760, .bf16⟩
  | 2 => ⟨S8x128, .f32⟩
  | 3 => ⟨S1024, .f32⟩
  | 4 => ⟨S4096x2048, .bf16⟩
  | 5 => ⟨S4096x1024, .f32⟩
  | 6 => ⟨S32x128x16x64, .f32⟩
  | 7 => ⟨S4096x256, .f32⟩
  | 8 => ⟨S32x128x2x128, .f32⟩
  | 9 => ⟨S4096x16, .bf16⟩
  | 10 => ⟨S4096x16, .f32⟩
  | 11 => ⟨S1x16, .f32⟩
  | 12 => ⟨S16, .f32⟩
  | 13 => ⟨S1x16, .f32⟩
  | 14 => ⟨S4096x16, .f32⟩
  | 15 => ⟨S4096x16, .f32⟩
  | 16 => ⟨S_, .f32⟩
  | 17 => ⟨S4096x16, .f32⟩
  | 18 => ⟨S4096x16, .f32⟩
  | 19 => ⟨S4096x16, .f32⟩
  | 20 => ⟨S4096x16, .f32⟩
  | 21 => ⟨S4096x16, .i1⟩
  | 22 => ⟨S4096x16, .f32⟩
  | 23 => ⟨S4096x16, .f32⟩
  | 24 => ⟨S4096x16, .f32⟩
  | 25 => ⟨S4096x16, .f32⟩
  | 26 => ⟨S4096x16, .f32⟩
  | 27 => ⟨S4096x16, .f32⟩
  | 28 => ⟨S4096x16, .f32⟩
  | 29 => ⟨S4096x16, .f32⟩
  | 30 => ⟨S32x128x16, .f32⟩
  | 31 => ⟨S1x16, .f32⟩
  | 32 => ⟨S16, .f32⟩
  | 33 => ⟨S16, .f32⟩
  | 34 => ⟨S16, .f32⟩
  | 35 => ⟨S1x1x16, .f32⟩
  | 36 => ⟨S32x128x16, .f32⟩
  | 37 => ⟨S32x128x16, .f32⟩
  | 38 => ⟨S128, .i32⟩
  | 39 => ⟨S128x1, .i32⟩
  | 40 => ⟨S1x128, .i32⟩
  | 41 => ⟨S128x128, .i32⟩
  | 42 => ⟨S128x128, .i32⟩
  | 43 => ⟨S128x128, .i1⟩
  | 44 => ⟨S1x128x128x1, .i1⟩
  | 45 => ⟨S32x1x128x16, .f32⟩
  | 46 => ⟨S_, .f32⟩
  | 47 => ⟨S_, .f32⟩
  | 48 => ⟨S32x128x128x16, .i1⟩
  | 49 => ⟨S32x128x128x16, .f32⟩
  | 50 => ⟨S32x128x128x16, .f32⟩
  | 51 => ⟨S32x128x128x16, .f32⟩
  | 52 => ⟨S_, .f32⟩
  | 53 => ⟨S32x128x16, .f32⟩
  | 54 => ⟨S32x128x16x1, .f32⟩
  | 55 => ⟨S32x128x16x64, .f32⟩
  | 56 => ⟨S32x128x16x64, .f32⟩
  | 57 => ⟨S32x1x16, .f32⟩
  | 58 => ⟨S32x128x16, .f32⟩
  | 59 => ⟨S32x128x16, .f32⟩
  | 60 => ⟨S32x128x16, .f32⟩
  | 61 => ⟨S32x128x16x1, .f32⟩
  | 62 => ⟨S32x128x16x64, .f32⟩
  | 63 => ⟨S32x128x16x64, .f32⟩
  | 64 => ⟨S32x128x2x512, .f32⟩
  | 65 => ⟨S32x2x512x128, .f32⟩
  | 66 => ⟨S32x128x2x512, .f32⟩
  | 67 => ⟨S2x16x128x16x64, .f32⟩
  | 68 => ⟨S32x1x16, .f32⟩
  | 69 => ⟨S32x16, .f32⟩
  | 70 => ⟨S32x16, .f32⟩
  | 71 => ⟨S2x16x1x16x1, .f32⟩
  | 72 => ⟨S_, .f32⟩
  | 73 => ⟨S2x128x16x64, .f32⟩
  | 74 => ⟨S2x1x1x16x1, .f32⟩
  | 75 => ⟨S2x1x16x1, .f32⟩
  | 76 => ⟨S2x128x16x64, .f32⟩
  | 77 => ⟨S2x128x16x64, .f32⟩
  | 78 => ⟨S2x1x128x16x64, .f32⟩
  | 79 => ⟨S2x128x16x64, .f32⟩
  | 80 => ⟨S2x128x16x64, .f32⟩
  | 81 => ⟨S2x1x1x16x1, .f32⟩
  | 82 => ⟨S2x1x16x1, .f32⟩
  | 83 => ⟨S2x128x16x64, .f32⟩
  | 84 => ⟨S2x128x16x64, .f32⟩
  | 85 => ⟨S2x1x128x16x64, .f32⟩
  | 86 => ⟨S2x128x16x64, .f32⟩
  | 87 => ⟨S2x128x16x64, .f32⟩
  | 88 => ⟨S2x1x1x16x1, .f32⟩
  | 89 => ⟨S2x1x16x1, .f32⟩
  | 90 => ⟨S2x128x16x64, .f32⟩
  | 91 => ⟨S2x128x16x64, .f32⟩
  | 92 => ⟨S2x1x128x16x64, .f32⟩
  | 93 => ⟨S2x128x16x64, .f32⟩
  | 94 => ⟨S2x128x16x64, .f32⟩
  | 95 => ⟨S2x1x1x16x1, .f32⟩
  | 96 => ⟨S2x1x16x1, .f32⟩
  | 97 => ⟨S2x128x16x64, .f32⟩
  | 98 => ⟨S2x128x16x64, .f32⟩
  | 99 => ⟨S2x1x128x16x64, .f32⟩
  | 100 => ⟨S2x128x16x64, .f32⟩
  | 101 => ⟨S2x128x16x64, .f32⟩
  | 102 => ⟨S2x1x1x16x1, .f32⟩
  | 103 => ⟨S2x1x16x1, .f32⟩
  | 104 => ⟨S2x128x16x64, .f32⟩
  | 105 => ⟨S2x128x16x64, .f32⟩
  | 106 => ⟨S2x1x128x16x64, .f32⟩
  | 107 => ⟨S2x128x16x64, .f32⟩
  | 108 => ⟨S2x128x16x64, .f32⟩
  | 109 => ⟨S2x1x1x16x1, .f32⟩
  | 110 => ⟨S2x1x16x1, .f32⟩
  | 111 => ⟨S2x128x16x64, .f32⟩
  | 112 => ⟨S2x128x16x64, .f32⟩
  | 113 => ⟨S2x1x128x16x64, .f32⟩
  | 114 => ⟨S2x128x16x64, .f32⟩
  | 115 => ⟨S2x128x16x64, .f32⟩
  | 116 => ⟨S2x1x1x16x1, .f32⟩
  | 117 => ⟨S2x1x16x1, .f32⟩
  | 118 => ⟨S2x128x16x64, .f32⟩
  | 119 => ⟨S2x128x16x64, .f32⟩
  | 120 => ⟨S2x1x128x16x64, .f32⟩
  | 121 => ⟨S2x128x16x64, .f32⟩
  | 122 => ⟨S2x128x16x64, .f32⟩
  | 123 => ⟨S2x1x1x16x1, .f32⟩
  | 124 => ⟨S2x1x16x1, .f32⟩
  | 125 => ⟨S2x128x16x64, .f32⟩
  | 126 => ⟨S2x128x16x64, .f32⟩
  | 127 => ⟨S2x1x128x16x64, .f32⟩
  | _ => ⟨S4096x1536, .f32⟩

abbrev hbmTy0_1 (i : Nat) : BufTy := match i % 128 with
  | 0 => ⟨S2x128x16x64, .f32⟩
  | 1 => ⟨S2x128x16x64, .f32⟩
  | 2 => ⟨S2x1x1x16x1, .f32⟩
  | 3 => ⟨S2x1x16x1, .f32⟩
  | 4 => ⟨S2x128x16x64, .f32⟩
  | 5 => ⟨S2x128x16x64, .f32⟩
  | 6 => ⟨S2x1x128x16x64, .f32⟩
  | 7 => ⟨S2x128x16x64, .f32⟩
  | 8 => ⟨S2x128x16x64, .f32⟩
  | 9 => ⟨S2x1x1x16x1, .f32⟩
  | 10 => ⟨S2x1x16x1, .f32⟩
  | 11 => ⟨S2x128x16x64, .f32⟩
  | 12 => ⟨S2x128x16x64, .f32⟩
  | 13 => ⟨S2x1x128x16x64, .f32⟩
  | 14 => ⟨S2x128x16x64, .f32⟩
  | 15 => ⟨S2x128x16x64, .f32⟩
  | 16 => ⟨S2x1x1x16x1, .f32⟩
  | 17 => ⟨S2x1x16x1, .f32⟩
  | 18 => ⟨S2x128x16x64, .f32⟩
  | 19 => ⟨S2x128x16x64, .f32⟩
  | 20 => ⟨S2x1x128x16x64, .f32⟩
  | 21 => ⟨S2x128x16x64, .f32⟩
  | 22 => ⟨S2x128x16x64, .f32⟩
  | 23 => ⟨S2x1x1x16x1, .f32⟩
  | 24 => ⟨S2x1x16x1, .f32⟩
  | 25 => ⟨S2x128x16x64, .f32⟩
  | 26 => ⟨S2x128x16x64, .f32⟩
  | 27 => ⟨S2x1x128x16x64, .f32⟩
  | 28 => ⟨S2x128x16x64, .f32⟩
  | 29 => ⟨S2x128x16x64, .f32⟩
  | 30 => ⟨S2x1x1x16x1, .f32⟩
  | 31 => ⟨S2x1x16x1, .f32⟩
  | 32 => ⟨S2x128x16x64, .f32⟩
  | 33 => ⟨S2x128x16x64, .f32⟩
  | 34 => ⟨S2x1x128x16x64, .f32⟩
  | 35 => ⟨S2x128x16x64, .f32⟩
  | 36 => ⟨S2x128x16x64, .f32⟩
  | 37 => ⟨S2x1x1x16x1, .f32⟩
  | 38 => ⟨S2x1x16x1, .f32⟩
  | 39 => ⟨S2x128x16x64, .f32⟩
  | 40 => ⟨S2x128x16x64, .f32⟩
  | 41 => ⟨S2x1x128x16x64, .f32⟩
  | 42 => ⟨S2x128x16x64, .f32⟩
  | 43 => ⟨S2x128x16x64, .f32⟩
  | 44 => ⟨S2x1x1x16x1, .f32⟩
  | 45 => ⟨S2x1x16x1, .f32⟩
  | 46 => ⟨S2x128x16x64, .f32⟩
  | 47 => ⟨S2x128x16x64, .f32⟩
  | 48 => ⟨S2x1x128x16x64, .f32⟩
  | 49 => ⟨S2x128x16x64, .f32⟩
  | 50 => ⟨S2x128x16x64, .f32⟩
  | 51 => ⟨S2x1x1x16x1, .f32⟩
  | 52 => ⟨S2x1x16x1, .f32⟩
  | 53 => ⟨S2x128x16x64, .f32⟩
  | 54 => ⟨S2x128x16x64, .f32⟩
  | 55 => ⟨S2x1x128x16x64, .f32⟩
  | 56 => ⟨S2x128x16x64, .f32⟩
  | 57 => ⟨S2x128x16x64, .f32⟩
  | 58 => ⟨S2x1x128x16x64, .f32⟩
  | 59 => ⟨S2x1x128x16x64, .f32⟩
  | 60 => ⟨S2x1x128x16x64, .f32⟩
  | 61 => ⟨S2x1x128x16x64, .f32⟩
  | 62 => ⟨S2x1x128x16x64, .f32⟩
  | 63 => ⟨S2x1x128x16x64, .f32⟩
  | 64 => ⟨S2x1x128x16x64, .f32⟩
  | 65 => ⟨S2x1x128x16x64, .f32⟩
  | 66 => ⟨S2x1x128x16x64, .f32⟩
  | 67 => ⟨S2x1x128x16x64, .f32⟩
  | 68 => ⟨S2x1x128x16x64, .f32⟩
  | 69 => ⟨S2x1x128x16x64, .f32⟩
  | 70 => ⟨S2x1x128x16x64, .f32⟩
  | 71 => ⟨S2x1x128x16x64, .f32⟩
  | 72 => ⟨S2x1x128x16x64, .f32⟩
  | 73 => ⟨S2x1x128x16x64, .f32⟩
  | 74 => ⟨S2x16x128x16x64, .f32⟩
  | 75 => ⟨S32x128x1024, .f32⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_v28 : Ref sig .tc := ⟨.hbm, 51, rfl⟩
abbrev main_cst_0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_1 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩

abbrev nD : Nat := 1
abbrev τ : Topo := Topo.v7x

variable {F : FTy → Type} [FloatOps F]
-- ==== Proof.Rms.lean ====
/- Facts about extended reals that the value proofs share: the constants the programs spell as words, a real scalar
   moved through a sum, and the backward pass of the root-mean-square normalisation in its two spellings. -/
module

public import Idealize.ShloMosaic.Lib.Pointwise
public import Idealize.ShloMosaic.Lib.ValueIdx

@[expose] public section

noncomputable section

open Idealize.ShloMosaic

namespace Cert.Alg

/-- The word of `1024.0`. -/
theorem c1024_eq : Ideal.ofBits FTy.f32 1149239296#32 = ((1024 : ℝ) : EReal) := by
  simp [Ideal.ofBits, Ideal.ieee, -EReal.coe_mul]; norm_num

/-- The word of `512.0`. -/
theorem c512_eq : Ideal.ofBits FTy.f32 1140850688#32 = ((512 : ℝ) : EReal) := by
  simp [Ideal.ofBits, Ideal.ieee, -EReal.coe_mul]; norm_num

/-- The word of `2.0`. -/
theorem c2_eq : Ideal.ofBits FTy.f32 1073741824#32 = ((2 : ℝ) : EReal) := by
  simp [Ideal.ofBits, Ideal.ieee, -EReal.coe_mul]; norm_num

/-- The word of `-0.5`. -/
theorem chalf_eq : Ideal.ofBits FTy.f32 3204448256#32 = ((-(1 / 2) : ℝ) : EReal) := by
  simp [Ideal.ofBits, Ideal.ieee, -EReal.coe_mul]; norm_num

/-- The word of the normalisation's small constant is a positive real. -/
theorem ceps_eq : ∃ e : ℝ, 0 < e ∧ Ideal.ofBits FTy.f32 897988541#32 = (e : EReal) := by
  refine ⟨8796093 / 2 ^ 43, by positivity, ?_⟩
  simp [Ideal.ofBits, Ideal.ieee, -EReal.coe_mul]; norm_num

/-- The sum of reals, read as extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A nonnegative real moves through a finite sum of extended reals. -/
theorem coe_mul_sum {ι : Type*} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- Two equal real multiples add up to the doubled multiple. -/
theorem coe_mul_add_self (c : ℝ) (T : EReal) : (c : EReal) * T + (c : EReal) * T = ((2 * c : ℝ) : EReal) * T := by
  rcases lt_trichotomy c 0 with h | h | h
  · induction T with
    | bot => rw [EReal.coe_mul_bot_of_neg h, EReal.coe_mul_bot_of_neg (by linarith)]; rfl
    | top => rw [EReal.coe_mul_top_of_neg h, EReal.coe_mul_top_of_neg (by linarith)]; rfl
    | coe t => norm_cast; ring
  · subst h; simp
  · induction T with
    | bot => rw [EReal.coe_mul_bot_of_pos h, EReal.coe_mul_bot_of_pos (by linarith)]; rfl
    | top => rw [EReal.coe_mul_top_of_pos h, EReal.coe_mul_top_of_pos (by linarith)]; rfl
    | coe t => norm_cast; ring

/-- A sum of squares of extended reals below infinity has real terms. -/
theorem real_of_sum_sq {ι : Type*} [Fintype ι] (x : ι → EReal) (h : ∑ k, x k * x k ≠ ⊤) :
    ∃ y : ι → ℝ, x = fun k => (y k : EReal) := by
  have hn : ∀ k, 0 ≤ x k * x k := fun k => by
    rcases le_total 0 (x k) with h | h
    · exact mul_nonneg h h
    · exact EReal.mul_nonneg_iff.mpr (.inr ⟨h, h⟩)
  refine ⟨fun k => (x k).toReal, funext fun k => ?_⟩
  have hk : x k * x k ≠ ⊤ := fun e => h (top_le_iff.mp
    (e ▸ Finset.single_le_sum (f := fun k => x k * x k) (fun i _ => hn i) (Finset.mem_univ k)))
  refine (EReal.coe_toReal ?_ ?_).symm
  · intro e; rw [e] at hk; exact hk rfl
  · intro e; rw [e] at hk; exact hk rfl

/-- The reciprocal root of the mean square of a row, as both programs write it: `N` the width, `e` the small constant. -/
def rinv {ι : Type*} [Fintype ι] (N e : EReal) (x : ι → EReal) : EReal :=
  Ideal.rsqrt (Ideal.div (∑ k, x k * x k) N + e)

/-- The gradient of the normalisation at `x` of a row gradient `g`, in the closed form the kernel computes. -/
def rmsK {ι : Type*} [Fintype ι] (N e : EReal) (x g : ι → EReal) (j : ι) : EReal :=
  rinv N e x * (g j - x j * rinv N e x * Ideal.div (∑ k, x k * rinv N e x * g k) N)

/-- The factor that the derivative of the reciprocal root contributes. -/
def rmsF {ι : Type*} [Fintype ι] (N e h : EReal) (x g : ι → EReal) : EReal :=
  Ideal.div ((∑ k, x k * g k) * (h * Ideal.div (rinv N e x) (Ideal.div (∑ k, x k * x k) N + e))) N

/-- The two spellings of the normalisation's gradient are equal, whatever the row and the row gradient hold. -/
theorem rmsK_eq {ι : Type*} [Fintype ι] (N e h : EReal) (n ε : ℝ) (hn : 0 < n) (hε : 0 < ε) (hN : N = (n : EReal))
    (he : e = (ε : EReal)) (hh : h = ((-(1 / 2) : ℝ) : EReal)) (x g : ι → EReal) (j : ι) :
    rmsK N e x g j = g j * rinv N e x + (x j * rmsF N e h x g + rmsF N e h x g * x j) := by
  have hni : (0 : ℝ) < 1 / n := by positivity
  subst hN he hh
  by_cases hS : ∑ k, x k * x k = ⊤
  · have hr : rinv (n : EReal) (ε : EReal) x = 0 := by
      unfold rinv
      rw [hS, Ideal.div_coe hn.ne', EReal.top_mul_coe_of_pos hni]; simp
    have hf : rmsF (n : EReal) (ε : EReal) ((-(1 / 2) : ℝ) : EReal) x g = 0 := by
      unfold rmsF
      rw [hr, hS, Ideal.div_coe hn.ne' ⊤, EReal.top_mul_coe_of_pos hni, EReal.top_add_coe]
      simp [Ideal.div, hn.ne']
    rw [hf]; unfold rmsK; rw [hr]; simp
  · obtain ⟨y, rfl⟩ := real_of_sum_sq x hS
    set s : ℝ := ∑ k, y k * y k with hs
    have hs0 : 0 ≤ s := Finset.sum_nonneg fun k _ => mul_self_nonneg (y k)
    have hSe : ∑ k, (y k : EReal) * (y k : EReal) = (s : EReal) := by
      rw [hs, coe_sum]; exact Finset.sum_congr rfl fun k _ => (EReal.coe_mul _ _).symm
    set v : ℝ := s * (1 / n) + ε with hv
    have hv0 : 0 < v := by positivity
    have hve : Ideal.div (∑ k, (y k : EReal) * (y k : EReal)) (n : EReal) + (ε : EReal) = (v : EReal) := by
      rw [hSe, Ideal.div_coe hn.ne', hv]; norm_cast
    set ρ : ℝ := (Real.sqrt v)⁻¹ with hρ
    have hρ0 : 0 < ρ := by positivity
    have hρρ : ρ * ρ = 1 / v := by
      rw [hρ, ← mul_inv, Real.mul_self_sqrt hv0.le, one_div]
    have hr : rinv (n : EReal) (ε : EReal) (fun k => (y k : EReal)) = (ρ : EReal) := by
      unfold rinv
      rw [hve, Ideal.rsqrt_coe, if_neg (not_lt.mpr hv0.le), if_neg hv0.ne']
    set T : EReal := ∑ k, (y k : EReal) * g k with hT
    have hf : rmsF (n : EReal) (ε : EReal) ((-(1 / 2) : ℝ) : EReal) (fun k => (y k : EReal)) g
        = ((-(1 / 2) * (ρ * (1 / v)) * (1 / n) : ℝ) : EReal) * T := by
      unfold rmsF
      rw [hr, hve, Ideal.div_coe hv0.ne', Ideal.div_coe hn.ne']
      rw [← hT]
      push_cast
      ac_rfl
    have hsum : ∑ k, (y k : EReal) * (ρ : EReal) * g k = (ρ : EReal) * T := by
      rw [hT, coe_mul_sum _ _ hρ0.le]
      exact Finset.sum_congr rfl fun k _ => by ac_rfl
    rw [hf]; unfold rmsK; rw [hr, hsum, Ideal.div_coe hn.ne']
    rw [sub_eq_add_neg, EReal.left_distrib_of_nonneg_of_ne_top (by exact_mod_cast hρ0.le) (EReal.coe_ne_top ρ)]
    congr 1
    · exact mul_comm _ _
    · have e1 : (ρ : EReal) * -((y j : EReal) * (ρ : EReal) * ((ρ : EReal) * T * ((1 / n : ℝ) : EReal)))
          = ((-(ρ * (y j * ρ * (ρ * (1 / n)))) : ℝ) : EReal) * T := by
        rw [EReal.coe_neg, mul_neg, EReal.neg_mul]
        push_cast
        congr 1
        ac_rfl
      have e2 : (y j : EReal) * (((-(1 / 2) * (ρ * (1 / v)) * (1 / n) : ℝ) : EReal) * T)
          = ((y j * (-(1 / 2) * (ρ * (1 / v)) * (1 / n)) : ℝ) : EReal) * T := by
        rw [← mul_assoc, ← EReal.coe_mul]
      rw [mul_comm (((-(1 / 2) * (ρ * (1 / v)) * (1 / n) : ℝ) : EReal) * T) (y j : EReal), e2, coe_mul_add_self]
      refine e1.trans ?_
      congr 2
      have : ρ * (y j * ρ * (ρ * (1 / n))) = (ρ * ρ) * ρ * y j * (1 / n) := by ring
      rw [this, hρρ]; ring

/-- The width of a row, and the small constant of the normalisation, as words. -/
abbrev cN : EReal := Ideal.ofBits FTy.f32 1149239296#32
abbrev cE : EReal := Ideal.ofBits FTy.f32 897988541#32

/-- The row normalisation's gradient as the reference spells it, closed. -/
theorem rms_ref (x g : Fin 1024 → EReal) (j : Fin 1024) :
    g j * rinv cN cE x + (x j * rmsF cN cE (Ideal.ofBits FTy.f32 3204448256#32) x g + rmsF cN cE (Ideal.ofBits FTy.f32 3204448256#32) x g * x j) = rmsK cN cE x g j := by
  obtain ⟨ε, hε, he⟩ := ceps_eq
  exact (rmsK_eq cN cE _ 1024 ε (by norm_num) hε c1024_eq he chalf_eq x g j).symm

/-- A place of tile `s` of `a` tiles of `b`. -/
theorem tile_lt {a b : ℕ} (s : Fin a) (p : Fin b) : b * s.val + p.val < a * b :=
  calc b * s.val + p.val < b * s.val + b := Nat.add_lt_add_left p.isLt _
    _ = (s.val + 1) * b := by rw [Nat.add_mul, Nat.one_mul, Nat.mul_comm]
    _ ≤ a * b := Nat.mul_le_mul_right b s.isLt

/-- A sum over `a` tiles of `b`, tile by tile. -/
theorem sum_split {N a b : ℕ} (h : N = a * b) (g : Fin N → EReal) :
    ∑ i, g i = ∑ s : Fin a, ∑ p : Fin b, g ⟨b * s.val + p.val, h ▸ tile_lt s p⟩ := by
  subst h
  rw [← finProdFinEquiv.sum_comp g, Fintype.sum_prod_type]
  exact Finset.sum_congr rfl fun s _ => Finset.sum_congr rfl fun p _ => congrArg g (Fin.ext (Nat.add_comm _ _))

/-- A sum of products, the factors exchanged. -/
theorem sum_swap {n : ℕ} {f g h : Fin n → EReal} (e : ∀ k, f k = h k) : ∑ k, f k * g k = ∑ k, g k * h k :=
  Finset.sum_congr rfl fun k _ => by rw [e k, mul_comm]

/-- A running sum: what the first step leaves, then what each further step adds. -/
theorem running {N : ℕ} (f : (n : ℕ) → n < N → EReal) (T : ℕ → EReal) (h0 : ∀ h, f 0 h = T 0)
    (hs : ∀ n h, f (n + 1) h = f n (Nat.lt_of_succ_lt h) + T (n + 1)) : ∀ n h, f n h = ∑ s ∈ Finset.range (n + 1), T s
  | 0, h => by rw [h0, Finset.sum_range_one]
  | n + 1, h => by rw [hs, running f T h0 hs n, Finset.sum_range_succ T (n + 1)]

end Cert.Alg
end
-- ==== Proof.Pay.lean ====
/- The body of the multilayer perceptron's backward kernel, read at an index: each stored payload as a formula in the
   blocks its loads read. -/
module

public import proofs.«01_k».proof.Proof.Gen.KernelIdeal.Skeleton
public import proofs.«01_k».proof.Proof.Rms

@[expose] public section

noncomputable section

open Idealize.ShloMosaic Cert.Alg

namespace Cert.KernelIdeal.Value
open Cert.KernelIdeal Cert.KernelIdeal.Gen

variable (v0 : Vec Ideal S512x1024 .f32) (v1 : Vec Ideal S512x1024 .bf16) (v4 : Vec Ideal S1x1024 .f32)

/-- The gradient at the second product's output, on a block of rows. -/
theorem pay6_apply (p : Fin 512) (q : Fin 1024) :
    (k0_pay6 v0 v1 v4 (ix2 p q) : EReal) = rmsK cN cE (fun k => v1 (ix2 p k)) (fun k => v0 (ix2 p k) * v4 (ix2 0 k)) q := by
  unfold_payloads
  pointwise
  rfl

/-- One column block of the hidden gradient: rows of `d` against rows of `w`, times the rectifier's derivative at `f`. -/
def dfB (d : Vec Ideal S512x1024 .bf16) (w : Vec Ideal S1024x1024 .bf16) (f : Vec Ideal S512x1024 .bf16) (p : Fin 512) (q : Fin 1024) : EReal :=
  (∑ k : Fin 1024, (d (ix2 p k) : EReal) * (w (ix2 q k) : EReal)) * (Ideal.ofBits FTy.f32 1073741824#32 * max (f (ix2 p q) : EReal) 0)

variable (d : Vec Ideal S512x1024 .bf16) (w0 w1 w2 w3 : Vec Ideal S1024x1024 .bf16) (f0 f1 f2 f3 : Vec Ideal S512x1024 .bf16)
  (u0 u1 u2 u3 : Vec Ideal S1x1024x1024 .bf16)

theorem pay9_apply (p : Fin 512) (q : Fin 1024) :
    (k0_pay9 (k0_pay7 v0 v1 v4 w0) (k0_pay8 f0) (ix2 p q) : EReal) = dfB (k0_pay6 v0 v1 v4) w0 f0 p q := by
  unfold k0_pay9 k0_pay7 k0_pay8 dfB
  pointwise

theorem pay10_apply (p : Fin 512) (q : Fin 1024) :
    (k0_pay10 d w1 f1 (ix2 p q) : EReal) = dfB d w1 f1 p q := by
  unfold k0_pay10 dfB
  pointwise

theorem pay15_apply (p : Fin 512) (q : Fin 1024) :
    (k0_pay15 (k0_pay12 d w2) (k0_pay13 f2) k0_pay14 (ix2 p q) : EReal) = dfB d w2 f2 p q := by
  unfold k0_pay15 k0_pay12 k0_pay13 k0_pay14 dfB
  pointwise

theorem pay16_apply (p : Fin 512) (q : Fin 1024) :
    (k0_pay16 d w3 f3 (ix2 p q) : EReal) = dfB d w3 f3 p q := by
  unfold k0_pay16 dfB
  pointwise

/-- The gradient at the normalised input: the four column blocks of the hidden gradient against the four blocks of `w_up`. -/
theorem pay17_apply (p : Fin 512) (q : Fin 1024) :
    (k0_pay17 (k0_pay6 v0 v1 v4)
        (k0_pay11 (k0_pay6 v0 v1 v4) (k0_pay7 v0 v1 v4 w0) (k0_pay8 f0) u0 w1 f1 u1)
        (k0_pay12 (k0_pay6 v0 v1 v4) w2) (k0_pay13 f2) k0_pay14 u2 w3 f3 u3 (ix2 p q) : EReal)
      = ((∑ j : Fin 1024, dfB (k0_pay6 v0 v1 v4) w0 f0 p j * (u0 (ix3 0 q j) : EReal)
          + ∑ j : Fin 1024, dfB (k0_pay6 v0 v1 v4) w1 f1 p j * (u1 (ix3 0 q j) : EReal))
          + ∑ j : Fin 1024, dfB (k0_pay6 v0 v1 v4) w2 f2 p j * (u2 (ix3 0 q j) : EReal))
          + ∑ j : Fin 1024, dfB (k0_pay6 v0 v1 v4) w3 f3 p j * (u3 (ix3 0 q j) : EReal) := by
  unfold k0_pay17 k0_pay11
  pointwise
  simp only [pay9_apply, pay10_apply, pay15_apply, pay16_apply]

/-- The gradient at the normalised input as the body computes it from its blocks. -/
def dhP (x0 : Vec Ideal S512x1024 .bf16) (x1 : Vec Ideal S1x1024 .f32) (x2 : Vec Ideal S512x1024 .f32) (x3 : Vec Ideal S4096x1024 .bf16)
    (x4 : Vec Ideal S512x4096 .bf16) (x5 : Vec Ideal S4x1024x1024 .bf16) : FVec Ideal S512x1024 .f32 :=
  k0_pay17 (k0_pay6 x2 x0 x1)
    (k0_pay11 (k0_pay6 x2 x0 x1) (k0_pay7 x2 x0 x1 (View.ld x3 (Rect.unit ![0, 0] S1024x1024.size inb_S4096x1024_S1024x1024_0_0)))
      (k0_pay8 (View.ld x4 (Rect.unit ![0, 0] S512x1024.size inb_S512x4096_S512x1024_0_0)))
      (View.ld x5 (Rect.unit ![0, 0, 0] S1x1024x1024.size inb_S4x1024x1024_S1x1024x1024_0_0_0))
      (View.ld x3 (Rect.unit ![1024, 0] S1024x1024.size inb_S4096x1024_S1024x1024_1024_0))
      (View.ld x4 (Rect.unit ![0, 1024] S512x1024.size inb_S512x4096_S512x1024_0_1024))
      (View.ld x5 (Rect.unit ![1, 0, 0] S1x1024x1024.size inb_S4x1024x1024_S1x1024x1024_1_0_0)))
    (k0_pay12 (k0_pay6 x2 x0 x1) (View.ld x3 (Rect.unit ![2048, 0] S1024x1024.size inb_S4096x1024_S1024x1024_2048_0)))
    (k0_pay13 (View.ld x4 (Rect.unit ![0, 2048] S512x1024.size inb_S512x4096_S512x1024_0_2048))) k0_pay14
    (View.ld x5 (Rect.unit ![2, 0, 0] S1x1024x1024.size inb_S4x1024x1024_S1x1024x1024_2_0_0))
    (View.ld x3 (Rect.unit ![3072, 0] S1024x1024.size inb_S4096x1024_S1024x1024_3072_0))
    (View.ld x4 (Rect.unit ![0, 3072] S512x1024.size inb_S512x4096_S512x1024_0_3072))
    (View.ld x5 (Rect.unit ![3, 0, 0] S1x1024x1024.size inb_S4x1024x1024_S1x1024x1024_3_0_0))

/-- The hidden gradient over all its columns. -/
def dfK (x0 : Vec Ideal S512x1024 .bf16) (x1 : Vec Ideal S1x1024 .f32) (x2 : Vec Ideal S512x1024 .f32) (x3 : Vec Ideal S4096x1024 .bf16)
    (x4 : Vec Ideal S512x4096 .bf16) (i : S512x4096.Idx) : EReal :=
  (∑ k : Fin 1024, (k0_pay6 x2 x0 x1 (ix2 (i 0) k) : EReal) * (x3 (ix2 (i 1) k) : EReal))
    * (Ideal.ofBits FTy.f32 1073741824#32 * max (x4 (ix2 (i 0) (i 1)) : EReal) 0)

/-- A sum over four blocks of 1024 is a sum over 4096. -/
theorem sum_blocks (f : Fin 4096 → EReal) :
    ((∑ j : Fin 1024, f ⟨j.val, by omega⟩ + ∑ j : Fin 1024, f ⟨1024 + j.val, by omega⟩)
      + ∑ j : Fin 1024, f ⟨2048 + j.val, by omega⟩) + ∑ j : Fin 1024, f ⟨3072 + j.val, by omega⟩ = ∑ j, f j := by
  have h := Fin.sum_univ_add (a := 3072) (b := 1024) f
  have h2 := Fin.sum_univ_add (a := 2048) (b := 1024) fun i : Fin 3072 => f (Fin.castAdd 1024 i)
  have h3 := Fin.sum_univ_add (a := 1024) (b := 1024) fun i : Fin 2048 => f (Fin.castAdd 1024 (Fin.castAdd 1024 i))
  exact (h.trans (congrArg (· + _) (h2.trans (congrArg (· + _) h3)))).symm

theorem dhP_apply (x0 : Vec Ideal S512x1024 .bf16) (x1 : Vec Ideal S1x1024 .f32) (x2 : Vec Ideal S512x1024 .f32) (x3 : Vec Ideal S4096x1024 .bf16)
    (x4 : Vec Ideal S512x4096 .bf16) (x5 : Vec Ideal S4x1024x1024 .bf16) (p : Fin 512) (q : Fin 1024) :
    (dhP x0 x1 x2 x3 x4 x5 (ix2 p q) : EReal)
      = ∑ j : Fin 4096, dfK x0 x1 x2 x3 x4 (ix2 p j) * (x5 (ix3 ⟨j.val / 1024, by omega⟩ q ⟨j.val % 1024, by omega⟩) : EReal) := by
  unfold dhP
  rw [pay17_apply, ← sum_blocks]
  refine congrArg₂ (· + ·) (congrArg₂ (· + ·) (congrArg₂ (· + ·) ?_ ?_) ?_) ?_
  all_goals
    refine Finset.sum_congr rfl fun j _ => ?_
    unfold dfB dfK
    pointwise
    refine congrArg (_ * ·) (congrArg x5 (congrArg₂ (fun a b => ix3 a q b) (Fin.ext ?_) (Fin.ext ?_)))
  all_goals first
    | (show (0 : ℕ) = j.val / 1024; omega)
    | (show (1 : ℕ) = (1024 + j.val) / 1024; omega)
    | (show (2 : ℕ) = (2048 + j.val) / 1024; omega)
    | (show (3 : ℕ) = (3072 + j.val) / 1024; omega)
    | (show j.val = j.val % 1024; omega)
    | (show j.val = (1024 + j.val) % 1024; omega)
    | (show j.val = (2048 + j.val) % 1024; omega)
    | (show j.val = (3072 + j.val) % 1024; omega)

/-- The four stored column blocks are the hidden gradient's. -/
theorem df_pieces (x0 : Vec Ideal S512x1024 .bf16) (x1 : Vec Ideal S1x1024 .f32) (x2 : Vec Ideal S512x1024 .f32) (x3 : Vec Ideal S4096x1024 .bf16)
    (x4 : Vec Ideal S512x4096 .bf16) :
    (∀ (x : S512x1024.Idx),
      k0_pay16 (k0_pay6 x2 x0 x1) (View.ld x3 (Rect.unit ![3072, 0] ![1024, 1024] inb_S4096x1024_S1024x1024_3072_0)) (View.ld x4 (Rect.unit ![0, 3072] ![512, 1024] inb_S512x4096_S512x1024_0_3072)) x = dfK x0 x1 x2 x3 x4 ((Rect.unit (s := S512x4096) (![0, 3072] : Fin 2 → Nat) (![512, 1024] : Fin 2 → Nat) inb_S512x4096_S512x1024_0_3072).emb x)) ∧
    (∀ (x : S512x1024.Idx),
      k0_pay15 (k0_pay12 (k0_pay6 x2 x0 x1) (View.ld x3 (Rect.unit ![2048, 0] ![1024, 1024] inb_S4096x1024_S1024x1024_2048_0))) (k0_pay13 (View.ld x4 (Rect.unit ![0, 2048] ![512, 1024] inb_S512x4096_S512x1024_0_2048))) k0_pay14 x = dfK x0 x1 x2 x3 x4 ((Rect.unit (s := S512x4096) (![0, 2048] : Fin 2 → Nat) (![512, 1024] : Fin 2 → Nat) inb_S512x4096_S512x1024_0_2048).emb x)) ∧
    (∀ (x : S512x1024.Idx),
      k0_pay10 (k0_pay6 x2 x0 x1) (View.ld x3 (Rect.unit ![1024, 0] ![1024, 1024] inb_S4096x1024_S1024x1024_1024_0)) (View.ld x4 (Rect.unit ![0, 1024] ![512, 1024] inb_S512x4096_S512x1024_0_1024)) x = dfK x0 x1 x2 x3 x4 ((Rect.unit (s := S512x4096) (![0, 1024] : Fin 2 → Nat) (![512, 1024] : Fin 2 → Nat) inb_S512x4096_S512x1024_0_1024).emb x)) ∧
    (∀ (x : S512x1024.Idx),
      k0_pay9 (k0_pay7 x2 x0 x1 (View.ld x3 (Rect.unit ![0, 0] ![1024, 1024] inb_S4096x1024_S1024x1024_0_0))) (k0_pay8 (View.ld x4 (Rect.unit ![0, 0] ![512, 1024] inb_S512x4096_S512x1024_0_0))) x = dfK x0 x1 x2 x3 x4 ((Rect.unit (s := S512x4096) (![0, 0] : Fin 2 → Nat) (![512, 1024] : Fin 2 → Nat) inb_S512x4096_S512x1024_0_0).emb x)) := by
  refine ⟨fun x => ?_, fun x => ?_, fun x => ?_, fun x => ?_⟩
  · obtain ⟨p, q, rfl⟩ : ∃ (p : Fin 512) (q : Fin 1024), x = ix2 p q := ⟨x 0, x 1, eq_ix2 x⟩
    have e : (Rect.unit (s := S512x4096) (![0, 3072] : Fin 2 → Nat) (![512, 1024] : Fin 2 → Nat) inb_S512x4096_S512x1024_0_3072).emb (ix2 p q)
        = ix2 p (⟨3072 + q.val, by omega⟩ : Fin 4096) := by
      funext a
      apply Fin.ext
      match a with
      | ⟨0, _⟩ => show 0 + 1 * p.val = p.val; omega
      | ⟨1, _⟩ => show 3072 + 1 * q.val = 3072 + q.val; omega
    refine (pay16_apply _ _ _ p q).trans ?_
    rw [e]
    unfold dfB dfK
    pointwise
  · obtain ⟨p, q, rfl⟩ : ∃ (p : Fin 512) (q : Fin 1024), x = ix2 p q := ⟨x 0, x 1, eq_ix2 x⟩
    have e : (Rect.unit (s := S512x4096) (![0, 2048] : Fin 2 → Nat) (![512, 1024] : Fin 2 → Nat) inb_S512x4096_S512x1024_0_2048).emb (ix2 p q)
        = ix2 p (⟨2048 + q.val, by omega⟩ : Fin 4096) := by
      funext a
      apply Fin.ext
      match a with
      | ⟨0, _⟩ => show 0 + 1 * p.val = p.val; omega
      | ⟨1, _⟩ => show 2048 + 1 * q.val = 2048 + q.val; omega
    refine (pay15_apply _ _ _ p q).trans ?_
    rw [e]
    unfold dfB dfK
    pointwise
  · obtain ⟨p, q, rfl⟩ : ∃ (p : Fin 512) (q : Fin 1024), x = ix2 p q := ⟨x 0, x 1, eq_ix2 x⟩
    have e : (Rect.unit (s := S512x4096) (![0, 1024] : Fin 2 → Nat) (![512, 1024] : Fin 2 → Nat) inb_S512x4096_S512x1024_0_1024).emb (ix2 p q)
        = ix2 p (⟨1024 + q.val, by omega⟩ : Fin 4096) := by
      funext a
      apply Fin.ext
      match a with
      | ⟨0, _⟩ => show 0 + 1 * p.val = p.val; omega
      | ⟨1, _⟩ => show 1024 + 1 * q.val = 1024 + q.val; omega
    refine (pay10_apply _ _ _ p q).trans ?_
    rw [e]
    unfold dfB dfK
    pointwise
  · obtain ⟨p, q, rfl⟩ : ∃ (p : Fin 512) (q : Fin 1024), x = ix2 p q := ⟨x 0, x 1, eq_ix2 x⟩
    have e : (Rect.unit (s := S512x4096) (![0, 0] : Fin 2 → Nat) (![512, 1024] : Fin 2 → Nat) inb_S512x4096_S512x1024_0_0).emb (ix2 p q)
        = ix2 p (⟨0 + q.val, by omega⟩ : Fin 4096) := by
      funext a
      apply Fin.ext
      match a with
      | ⟨0, _⟩ => show 0 + 1 * p.val = p.val; omega
      | ⟨1, _⟩ => show 0 + 1 * q.val = 0 + q.val; omega
    refine (pay9_apply _ _ _ _ _ p q).trans ?_
    rw [e]
    unfold dfB dfK
    pointwise

variable (dh : FVec Ideal S512x1024 .f32) (x : Vec Ideal S512x1024 .f32) (g : Vec Ideal S1x1024 .f32)

/-- The gradient at `x` on a block of rows. -/
theorem pay22_apply (p : Fin 512) (q : Fin 1024) :
    (k0_pay22 v0 dh x (k0_pay18 g) (k0_pay19 x) (ix2 p q) : EReal)
      = v0 (ix2 p q) + rmsK cN cE (fun k => x (ix2 p k)) (fun k => dh (ix2 p k) * g (ix2 0 k)) q := by
  unfold_payloads
  pointwise
  rfl

/-- A block's share of the gradient of the second normalisation's gain. -/
theorem pay23_apply (q : Fin 1024) :
    (k0_pay23 (k0_pay5 v0 v1) (ix2 0 q) : EReal)
      = ∑ p : Fin 512, v0 (ix2 p q) * ((v1 (ix2 p q) : EReal) * rinv cN cE (fun k => v1 (ix2 p k))) := by
  unfold_payloads
  pointwise
  rfl

theorem pay24_apply (acc : Vec Ideal S1x1024 .f32) (q : Fin 1024) :
    (k0_pay24 (k0_pay5 v0 v1) acc (ix2 0 q) : EReal) = acc (ix2 0 q) + k0_pay23 (k0_pay5 v0 v1) (ix2 0 q) := by
  unfold k0_pay24
  pointwise

/-- A block's share of the gradient of the first normalisation's gain. -/
theorem pay25_apply (q : Fin 1024) :
    (k0_pay25 dh x (k0_pay19 x) (ix2 0 q) : EReal)
      = ∑ p : Fin 512, dh (ix2 p q) * (x (ix2 p q) * rinv cN cE (fun k => x (ix2 p k))) := by
  unfold_payloads
  pointwise
  rfl

theorem pay1_apply (acc : Vec Ideal S1x1024 .f32) (s : FVec Ideal S1x1024 .f32) (q : Fin 1024) :
    (k0_pay1 s acc (ix2 0 q) : EReal) = acc (ix2 0 q) + s (ix2 0 q) := by
  unfold k0_pay1
  pointwise

end Cert.KernelIdeal.Value
end
-- ==== Proof.Case.lean ====
module

public import proofs.«01_k».proof.Proof.Gen.KernelIdeal.Value
public import proofs.«01_k».proof.Proof.Pay
public import Idealize.ShloMosaic.Lib.Tactic

@[expose] public section

noncomputable section

open Idealize.ShloMosaic Idealize.ShloMosaic.TcCoe Idealize.SL.Sem Cert.Alg

namespace Cert.KernelIdeal.Value
open Cert.KernelIdeal Cert.KernelIdeal.Gen

theorem hz : (![0, 0] : Fin 2 → Nat) = fun _ => 0 := funext fun a => by fin_cases a <;> rfl

variable {F : FTy → Type} [FloatOps F]

/-- Case A leaves the gradient at the second product's output of its blocks in output window 8's buffer. -/
theorem out8_A (c : Dev nD) (i : grid0.Coords) (arg1 : Memref sig .tc .vmem S512x1024 .bf16) (harg1 : arg1.IsWhole) (arg2 : Memref sig .tc .vmem S1x1024 .f32) (harg2 : arg2.IsWhole) (arg3 : Memref sig .tc .vmem S512x1024 .f32) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S4x1024x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x4096 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : cond0_0 i) (hc1 : ¬cond0_1 i) (hc2 : cond0_2 i) (hc3 : ¬cond0_3 i)
    (x0 : Vec Ideal S512x1024 .bf16) (x1 : Vec Ideal S1x1024 .f32) (x2 : Vec Ideal S512x1024 .f32) (x3 : Vec Ideal S4096x1024 .bf16) (x4 : Vec Ideal S512x4096 .bf16) (x5 : Vec Ideal S4x1024x1024 .bf16) (x6 : Vec Ideal S512x1024 .f32) (x7 : Vec Ideal S1x1024 .f32) :
    out0_A_8 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 = k0_pay6 x2 x0 x1 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S1x1024) hz]

/-- Case A leaves the hidden gradient of its blocks in output window 9's buffer. -/
theorem out9_A (c : Dev nD) (i : grid0.Coords) (arg1 : Memref sig .tc .vmem S512x1024 .bf16) (harg1 : arg1.IsWhole) (arg2 : Memref sig .tc .vmem S1x1024 .f32) (harg2 : arg2.IsWhole) (arg3 : Memref sig .tc .vmem S512x1024 .f32) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S4x1024x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x4096 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : cond0_0 i) (hc1 : ¬cond0_1 i) (hc2 : cond0_2 i) (hc3 : ¬cond0_3 i)
    (x0 : Vec Ideal S512x1024 .bf16) (x1 : Vec Ideal S1x1024 .f32) (x2 : Vec Ideal S512x1024 .f32) (x3 : Vec Ideal S4096x1024 .bf16) (x4 : Vec Ideal S512x4096 .bf16) (x5 : Vec Ideal S4x1024x1024 .bf16) (x6 : Vec Ideal S512x1024 .f32) (x7 : Vec Ideal S1x1024 .f32) :
    out0_A_9 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 = dfK x0 x1 x2 x3 x4 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7)]
  refine funext fun y => View.canon_apply_of_pieces (dfK x0 x1 x2 x3 x4) _ ?_ y (cover0_A_9 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S1x1024) hz]
  simp only [List.forall_mem_cons, List.not_mem_nil, IsEmpty.forall_iff, implies_true, and_true]
  exact df_pieces x0 x1 x2 x3 x4

/-- Case A leaves the gradient at `x` of its blocks in output window 10's buffer. -/
theorem out10_A (c : Dev nD) (i : grid0.Coords) (arg1 : Memref sig .tc .vmem S512x1024 .bf16) (harg1 : arg1.IsWhole) (arg2 : Memref sig .tc .vmem S1x1024 .f32) (harg2 : arg2.IsWhole) (arg3 : Memref sig .tc .vmem S512x1024 .f32) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S4x1024x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x4096 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : cond0_0 i) (hc1 : ¬cond0_1 i) (hc2 : cond0_2 i) (hc3 : ¬cond0_3 i)
    (x0 : Vec Ideal S512x1024 .bf16) (x1 : Vec Ideal S1x1024 .f32) (x2 : Vec Ideal S512x1024 .f32) (x3 : Vec Ideal S4096x1024 .bf16) (x4 : Vec Ideal S512x4096 .bf16) (x5 : Vec Ideal S4x1024x1024 .bf16) (x6 : Vec Ideal S512x1024 .f32) (x7 : Vec Ideal S1x1024 .f32) :
    out0_A_10 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 = k0_pay22 x2 (dhP x0 x1 x2 x3 x4 x5) x6 (k0_pay18 x7) (k0_pay19 x6) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S1x1024) hz]
  rfl

/-- Case A leaves the second gain's gradient of its blocks in output window 11's buffer. -/
theorem out11_A (c : Dev nD) (i : grid0.Coords) (arg1 : Memref sig .tc .vmem S512x1024 .bf16) (harg1 : arg1.IsWhole) (arg2 : Memref sig .tc .vmem S1x1024 .f32) (harg2 : arg2.IsWhole) (arg3 : Memref sig .tc .vmem S512x1024 .f32) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S4x1024x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x4096 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : cond0_0 i) (hc1 : ¬cond0_1 i) (hc2 : cond0_2 i) (hc3 : ¬cond0_3 i)
    (x0 : Vec Ideal S512x1024 .bf16) (x1 : Vec Ideal S1x1024 .f32) (x2 : Vec Ideal S512x1024 .f32) (x3 : Vec Ideal S4096x1024 .bf16) (x4 : Vec Ideal S512x4096 .bf16) (x5 : Vec Ideal S4x1024x1024 .bf16) (x6 : Vec Ideal S512x1024 .f32) (x7 : Vec Ideal S1x1024 .f32) :
    out0_A_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 = k0_pay23 (k0_pay5 x2 x0) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S1x1024) hz]

/-- Case A leaves the first gain's gradient of its blocks in output window 12's buffer. -/
theorem out12_A (c : Dev nD) (i : grid0.Coords) (arg1 : Memref sig .tc .vmem S512x1024 .bf16) (harg1 : arg1.IsWhole) (arg2 : Memref sig .tc .vmem S1x1024 .f32) (harg2 : arg2.IsWhole) (arg3 : Memref sig .tc .vmem S512x1024 .f32) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S4x1024x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x4096 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : cond0_0 i) (hc1 : ¬cond0_1 i) (hc2 : cond0_2 i) (hc3 : ¬cond0_3 i)
    (x0 : Vec Ideal S512x1024 .bf16) (x1 : Vec Ideal S1x1024 .f32) (x2 : Vec Ideal S512x1024 .f32) (x3 : Vec Ideal S4096x1024 .bf16) (x4 : Vec Ideal S512x4096 .bf16) (x5 : Vec Ideal S4x1024x1024 .bf16) (x6 : Vec Ideal S512x1024 .f32) (x7 : Vec Ideal S1x1024 .f32) :
    out0_A_12 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 = k0_pay25 (dhP x0 x1 x2 x3 x4 x5) x6 (k0_pay19 x6) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S1x1024) hz]
  rfl

/-- Case B leaves the gradient at the second product's output of its blocks in output window 8's buffer. -/
theorem out8_B (c : Dev nD) (i : grid0.Coords) (arg1 : Memref sig .tc .vmem S512x1024 .bf16) (harg1 : arg1.IsWhole) (arg2 : Memref sig .tc .vmem S1x1024 .f32) (harg2 : arg2.IsWhole) (arg3 : Memref sig .tc .vmem S512x1024 .f32) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S4x1024x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x4096 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : ¬cond0_0 i) (hc1 : cond0_1 i) (hc2 : ¬cond0_2 i) (hc3 : cond0_3 i)
    (x0 : Vec Ideal S512x1024 .bf16) (x1 : Vec Ideal S1x1024 .f32) (x2 : Vec Ideal S512x1024 .f32) (x3 : Vec Ideal S4096x1024 .bf16) (x4 : Vec Ideal S512x4096 .bf16) (x5 : Vec Ideal S4x1024x1024 .bf16) (x6 : Vec Ideal S512x1024 .f32) (x7 : Vec Ideal S1x1024 .f32) (xo11 : Vec Ideal S1x1024 .f32) (xo12 : Vec Ideal S1x1024 .f32) :
    out0_B_8 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo11 xo12 = k0_pay6 x2 x0 x1 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo11 xo12)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S1x1024) hz]

/-- Case B leaves the hidden gradient of its blocks in output window 9's buffer. -/
theorem out9_B (c : Dev nD) (i : grid0.Coords) (arg1 : Memref sig .tc .vmem S512x1024 .bf16) (harg1 : arg1.IsWhole) (arg2 : Memref sig .tc .vmem S1x1024 .f32) (harg2 : arg2.IsWhole) (arg3 : Memref sig .tc .vmem S512x1024 .f32) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S4x1024x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x4096 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : ¬cond0_0 i) (hc1 : cond0_1 i) (hc2 : ¬cond0_2 i) (hc3 : cond0_3 i)
    (x0 : Vec Ideal S512x1024 .bf16) (x1 : Vec Ideal S1x1024 .f32) (x2 : Vec Ideal S512x1024 .f32) (x3 : Vec Ideal S4096x1024 .bf16) (x4 : Vec Ideal S512x4096 .bf16) (x5 : Vec Ideal S4x1024x1024 .bf16) (x6 : Vec Ideal S512x1024 .f32) (x7 : Vec Ideal S1x1024 .f32) (xo11 : Vec Ideal S1x1024 .f32) (xo12 : Vec Ideal S1x1024 .f32) :
    out0_B_9 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo11 xo12 = dfK x0 x1 x2 x3 x4 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo11 xo12)]
  refine funext fun y => View.canon_apply_of_pieces (dfK x0 x1 x2 x3 x4) _ ?_ y (cover0_B_9 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo11 xo12 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S1x1024) hz]
  simp only [List.forall_mem_cons, List.not_mem_nil, IsEmpty.forall_iff, implies_true, and_true]
  exact df_pieces x0 x1 x2 x3 x4

/-- Case B leaves the gradient at `x` of its blocks in output window 10's buffer. -/
theorem out10_B (c : Dev nD) (i : grid0.Coords) (arg1 : Memref sig .tc .vmem S512x1024 .bf16) (harg1 : arg1.IsWhole) (arg2 : Memref sig .tc .vmem S1x1024 .f32) (harg2 : arg2.IsWhole) (arg3 : Memref sig .tc .vmem S512x1024 .f32) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S4x1024x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x4096 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : ¬cond0_0 i) (hc1 : cond0_1 i) (hc2 : ¬cond0_2 i) (hc3 : cond0_3 i)
    (x0 : Vec Ideal S512x1024 .bf16) (x1 : Vec Ideal S1x1024 .f32) (x2 : Vec Ideal S512x1024 .f32) (x3 : Vec Ideal S4096x1024 .bf16) (x4 : Vec Ideal S512x4096 .bf16) (x5 : Vec Ideal S4x1024x1024 .bf16) (x6 : Vec Ideal S512x1024 .f32) (x7 : Vec Ideal S1x1024 .f32) (xo11 : Vec Ideal S1x1024 .f32) (xo12 : Vec Ideal S1x1024 .f32) :
    out0_B_10 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo11 xo12 = k0_pay22 x2 (dhP x0 x1 x2 x3 x4 x5) x6 (k0_pay18 x7) (k0_pay19 x6) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo11 xo12)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S1x1024) hz]
  rfl

/-- Case B leaves the second gain's gradient of its blocks in output window 11's buffer. -/
theorem out11_B (c : Dev nD) (i : grid0.Coords) (arg1 : Memref sig .tc .vmem S512x1024 .bf16) (harg1 : arg1.IsWhole) (arg2 : Memref sig .tc .vmem S1x1024 .f32) (harg2 : arg2.IsWhole) (arg3 : Memref sig .tc .vmem S512x1024 .f32) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S4x1024x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x4096 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : ¬cond0_0 i) (hc1 : cond0_1 i) (hc2 : ¬cond0_2 i) (hc3 : cond0_3 i)
    (x0 : Vec Ideal S512x1024 .bf16) (x1 : Vec Ideal S1x1024 .f32) (x2 : Vec Ideal S512x1024 .f32) (x3 : Vec Ideal S4096x1024 .bf16) (x4 : Vec Ideal S512x4096 .bf16) (x5 : Vec Ideal S4x1024x1024 .bf16) (x6 : Vec Ideal S512x1024 .f32) (x7 : Vec Ideal S1x1024 .f32) (xo11 : Vec Ideal S1x1024 .f32) (xo12 : Vec Ideal S1x1024 .f32) :
    out0_B_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo11 xo12 = k0_pay24 (k0_pay5 x2 x0) xo11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo11 xo12)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S1x1024) hz]

/-- Case B leaves the first gain's gradient of its blocks in output window 12's buffer. -/
theorem out12_B (c : Dev nD) (i : grid0.Coords) (arg1 : Memref sig .tc .vmem S512x1024 .bf16) (harg1 : arg1.IsWhole) (arg2 : Memref sig .tc .vmem S1x1024 .f32) (harg2 : arg2.IsWhole) (arg3 : Memref sig .tc .vmem S512x1024 .f32) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S4x1024x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x4096 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : ¬cond0_0 i) (hc1 : cond0_1 i) (hc2 : ¬cond0_2 i) (hc3 : cond0_3 i)
    (x0 : Vec Ideal S512x1024 .bf16) (x1 : Vec Ideal S1x1024 .f32) (x2 : Vec Ideal S512x1024 .f32) (x3 : Vec Ideal S4096x1024 .bf16) (x4 : Vec Ideal S512x4096 .bf16) (x5 : Vec Ideal S4x1024x1024 .bf16) (x6 : Vec Ideal S512x1024 .f32) (x7 : Vec Ideal S1x1024 .f32) (xo11 : Vec Ideal S1x1024 .f32) (xo12 : Vec Ideal S1x1024 .f32) :
    out0_B_12 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo11 xo12 = k0_pay1 (k0_pay25 (dhP x0 x1 x2 x3 x4 x5) x6 (k0_pay19 x6)) xo12 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo11 xo12)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S1x1024) hz]
  rfl

end Cert.KernelIdeal.Value
end
-- ==== Proof.Ref.lean ====
/- The reference of the multilayer perceptron's backward pass, read at an index in terms of its two saved activations. -/
module

public import proofs.«01_k».proof.Proof.Gen.ReferenceIdeal.Read
public import proofs.«01_k».proof.Proof.Rms

@[expose] public section

noncomputable section

open Idealize.ShloMosaic Cert.Alg

namespace Cert.ReferenceIdeal.Read
open Cert.ReferenceIdeal Cert.ReferenceIdeal.Gen

variable (x0 : (⟨S4096x1024, .f32⟩ : BufTy).Contents (Elt Ideal)) (x1 : (⟨S1024, .f32⟩ : BufTy).Contents (Elt Ideal)) (x2 : (⟨S1024x4096, .f32⟩ : BufTy).Contents (Elt Ideal)) (x3 : (⟨S4096x1024, .f32⟩ : BufTy).Contents (Elt Ideal)) (x4 : (⟨S1024, .f32⟩ : BufTy).Contents (Elt Ideal)) (x5 : (⟨S4096x1024, .f32⟩ : BufTy).Contents (Elt Ideal))

/-- The gradient at the second product's output: the normalisation's gradient of `ct * g_post`, row by row. -/
theorem do_apply (i : Fin 4096) (q : Fin 1024) :
    val_main_v60 (F := Ideal) x0 x1 x2 x3 x4 x5 (ix2 i q)
      = rmsK cN cE (fun k => val_main_v24 x0 x1 x2 x3 (ix2 i k)) (fun k => x5 (ix2 i k) * x4 (ix1 k)) q := by
  pointwise [val_main_v25, val_main_cst_6, val_main_v26, val_main_v27, val_main_cst_7, val_main_v28, val_main_v29, val_main_cst_8, val_main_v30, val_main_v31, val_main_v32, val_main_v33, val_main_cst_9, val_main_v34, val_main_v35, val_main_v36, val_main_v37, val_main_v38, val_main_v39, val_main_v40, val_main_v41, val_main_cst_10, val_main_v42, val_main_v43, val_main_v44, val_main_v45, val_main_cst_11, val_main_v46, val_main_v47, val_main_cst_12, val_main_v48, val_main_v49, val_main_v50, val_main_v51, val_main_v52, val_main_cst_13, val_main_v53, val_main_v54, val_main_cst_14, val_main_v55, val_main_v56, val_main_v57, val_main_v58, val_main_v59, val_main_v60]
  rw [← rms_ref]
  unfold rmsF rinv
  simp [cN, cE, add_assoc]

/-- The gradient at the hidden activation: the product with `w_down`, times the derivative of the squared rectifier. -/
theorem df_apply (i j : Fin 4096) :
    val_main_v64 (F := Ideal) x0 x1 x2 x3 x4 x5 (ix2 i j)
      = (∑ k, val_main_v60 (F := Ideal) x0 x1 x2 x3 x4 x5 (ix2 i k) * x3 (ix2 j k)) * (Ideal.ofBits FTy.f32 1073741824#32 * max (val_main_v16 x0 x1 x2 (ix2 i j)) 0) := by
  pointwise [val_main_call0_cst, val_main_call0_v0, val_main_v17, val_main_cst_3, val_main_v18, val_main_v19, val_main_cst_4, val_main_v20, val_main_v21, val_main_cst_5, val_main_v22, val_main_v23, val_main_v61, val_main_v62, val_main_cst_15, val_main_v63, val_main_v64]
  simp
  exact fun h => .inr (.inr h)

/-- The gradient at the normalised input: the product of the hidden gradient with `w_up`. -/
theorem dh_apply (i : Fin 4096) (q : Fin 1024) :
    val_main_v65 (F := Ideal) x0 x1 x2 x3 x4 x5 (ix2 i q)
      = ∑ j, val_main_v64 (F := Ideal) x0 x1 x2 x3 x4 x5 (ix2 i j) * x2 (ix2 q j) := by
  pointwise [val_main_v65]

/-- The gradient at `x`: the cotangent itself and the normalisation's gradient. -/
theorem dx_apply (i : Fin 4096) (q : Fin 1024) :
    val_main_v88 (F := Ideal) x0 x1 x2 x3 x4 x5 (ix2 i q)
      = x5 (ix2 i q) + rmsK cN cE (fun k => x0 (ix2 i k)) (fun k => val_main_v65 x0 x1 x2 x3 x4 x5 (ix2 i k) * x1 (ix1 k)) q := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v69, val_main_v70, val_main_v72, val_main_cst_18, val_main_v73, val_main_v74, val_main_v75, val_main_v76, val_main_v77, val_main_cst_19, val_main_v78, val_main_v79, val_main_cst_20, val_main_v80, val_main_v81, val_main_v82, val_main_v83, val_main_v84, val_main_v85, val_main_v88]
  rw [← rms_ref]
  unfold rmsF rinv
  simp [cN, cE, add_assoc]

/-- The gradient of `g_post`: a sum over the rows. -/
theorem dgq_apply (q : Fin 1024) :
    val_main_v89 (F := Ideal) x0 x1 x2 x3 x5 (ix2 0 q)
      = ∑ i, x5 (ix2 i q) * (val_main_v24 x0 x1 x2 x3 (ix2 i q) * rinv cN cE (fun k => val_main_v24 x0 x1 x2 x3 (ix2 i k))) := by
  pointwise [val_main_v25, val_main_cst_6, val_main_v26, val_main_v27, val_main_cst_7, val_main_v28, val_main_v29, val_main_cst_8, val_main_v30, val_main_v31, val_main_v32, val_main_v33, val_main_cst_9, val_main_v34, val_main_v35, val_main_v36, val_main_v37, val_main_v38, val_main_v39, val_main_v40, val_main_v41, val_main_cst_10, val_main_v42, val_main_v43, val_main_v44, val_main_v45, val_main_cst_11, val_main_v46, val_main_v89]
  unfold rinv
  simp [cN, cE, mul_comm]

/-- The gradient of `g_pre`: a sum over the rows. -/
theorem dgp_apply (q : Fin 1024) :
    val_main_v90 (F := Ideal) x0 x1 x2 x3 x4 x5 (ix2 0 q)
      = ∑ i, val_main_v65 x0 x1 x2 x3 x4 x5 (ix2 i q) * (x0 (ix2 i q) * rinv cN cE (fun k => x0 (ix2 i k))) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v66, val_main_cst_16, val_main_v67, val_main_v68, val_main_v69, val_main_v70, val_main_cst_17, val_main_v71, val_main_v90]
  unfold rinv
  simp [cN, cE, mul_comm]

end Cert.ReferenceIdeal.Read
end
-- ==== Proof.Host.lean ====
module

public import proofs.«01_k».proof.Proof.Gen.KernelIdeal.Value
public import proofs.«01_k».proof.Proof.Gen.ReferenceIdeal.Read
public import proofs.«01_k».proof.Proof.Case
public import proofs.«01_k».proof.Proof.Ref
public import Idealize.ShloMosaic.Lib.Tactic

@[expose] public section

noncomputable section

open Idealize.ShloMosaic Idealize.ShloMosaic.TcCoe Idealize.SL.Sem Cert.Alg

namespace Cert.KernelIdeal.Value
open Cert.KernelIdeal Cert.KernelIdeal.Gen
open Cert.ReferenceIdeal.Read (val_main_v16 val_main_v24 val_main_v60 val_main_v64 val_main_v65 val_main_v88 val_main_v89 val_main_v90)

variable (m : (ℓ : Loc nD τ sig) → Buf (Elt Ideal) ℓ)

/-- The launch's array of the residual stream. -/
abbrev A0 (c : Dev nD) : Vec Ideal S4096x1024 .f32 := m ((c : Thread nD τ).loc main_arg0)
/-- The launch's first norm weights. -/
abbrev A1 (c : Dev nD) : Vec Ideal S1024 .f32 := m ((c : Thread nD τ).loc main_arg1)
/-- The launch's first product's weights. -/
abbrev A2 (c : Dev nD) : Vec Ideal S1024x4096 .f32 := m ((c : Thread nD τ).loc main_arg2)
/-- The launch's second product's weights. -/
abbrev A3 (c : Dev nD) : Vec Ideal S4096x1024 .f32 := m ((c : Thread nD τ).loc main_arg3)
/-- The launch's second norm weights. -/
abbrev A4 (c : Dev nD) : Vec Ideal S1024 .f32 := m ((c : Thread nD τ).loc main_arg4)
/-- The launch's gradient of the result. -/
abbrev A5 (c : Dev nD) : Vec Ideal S4096x1024 .f32 := m ((c : Thread nD τ).loc main_arg5)

/-- The second product's output as the call takes it is the reference's. -/
theorem V_o (c : Dev nD) : (V m c main_v21 : S4096x1024.Idx → EReal) = val_main_v24 (F := Ideal) (A0 m c) (A1 m c) (A2 m c) (A3 m c) := by
  dsimp only [V, hostOps0, hostOps0_1, hostOps0_2, List.flatten_cons, List.flatten_nil, List.append_nil, List.cons_append, List.nil_append]
  after_results
  rfl

/-- The first product's output as the call takes it is the reference's. -/
theorem V_f (c : Dev nD) : (V m c main_v23 : S4096x4096.Idx → EReal) = val_main_v16 (F := Ideal) (A0 m c) (A1 m c) (A2 m c) := by
  dsimp only [V, hostOps0, hostOps0_1, hostOps0_2, List.flatten_cons, List.flatten_nil, List.append_nil, List.cons_append, List.nil_append]
  after_results
  rfl

/-- The second norm's weights as the call takes them. -/
theorem V_gq (c : Dev nD) (q : Fin 1024) : (V m c main_v22 (ix2 0 q) : EReal) = A4 m c (ix1 q) := by
  dsimp only [V, hostOps0, hostOps0_1, hostOps0_2, List.flatten_cons, List.flatten_nil, List.append_nil, List.cons_append, List.nil_append]
  after_results
  pointwise

/-- The first norm's weights as the call takes them. -/
theorem V_gp (c : Dev nD) (q : Fin 1024) : (V m c main_v24 (ix2 0 q) : EReal) = A1 m c (ix1 q) := by
  dsimp only [V, hostOps0, hostOps0_1, hostOps0_2, List.flatten_cons, List.flatten_nil, List.append_nil, List.cons_append, List.nil_append]
  after_results
  pointwise

/-- The second product's weights as the call takes them. -/
theorem V_wd (c : Dev nD) : (V m c main_v3 : S4096x1024.Idx → EReal) = A3 m c := by
  dsimp only [V, hostOps0, hostOps0_1, hostOps0_2, List.flatten_cons, List.flatten_nil, List.append_nil, List.cons_append, List.nil_append]
  after_results
  rfl

/-- The first product's weights as the call takes them: four blocks of columns. -/
theorem V_wu (c : Dev nD) (b : Fin 4) (q j : Fin 1024) :
    (V m c main_v2 (ix3 b q j) : EReal) = A2 m c (ix2 q ⟨b.val * 1024 + j.val, by omega⟩) := by
  dsimp only [V, hostOps0, hostOps0_1, hostOps0_2, List.flatten_cons, List.flatten_nil, List.append_nil, List.cons_append, List.nil_append]
  after_results
  pointwise

end Cert.KernelIdeal.Value

end
-- ==== Proof.Blk.lean ====
module

public import proofs.«01_k».proof.Proof.Host

@[expose] public section

noncomputable section

open Idealize.ShloMosaic Idealize.ShloMosaic.TcCoe Idealize.SL.Sem Cert.Alg

namespace Cert.KernelIdeal.Value
open Cert.KernelIdeal Cert.KernelIdeal.Gen
open Cert.ReferenceIdeal.Read (val_main_v16 val_main_v24 val_main_v60 val_main_v64 val_main_v65 val_main_v86 val_main_v87 val_main_v88 val_main_v89 val_main_v90)

variable (m : (ℓ : Loc nD τ sig) → Buf (Elt Ideal) ℓ)

/-- Row `p` of tile `t`. -/
abbrev row (t : Fin cfg0.N) (p : Fin 512) : Fin 4096 := ⟨512 * t.val + p.val, by have := t.isLt; have h : cfg0.N = 8 := N_0; omega⟩

/-- The output tile's entries. -/
theorem b0 (c : Dev nD) (t : Fin cfg0.N) (p : Fin 512) (q : Fin 1024) :
    (iblk m c 0 t (ix2 p q) : EReal) = val_main_v24 (F := Ideal) (A0 m c) (A1 m c) (A2 m c) (A3 m c) (ix2 (row t p) q) := by
  unfold iblk
  rw [View.read_apply]
  show (V m c main_v21 _ : EReal) = _
  rw [V_o]
  congr 1
  funext a
  apply Fin.ext
  have hi : win0_0.index t 0 = t.val ∧ win0_0.index t 1 = 0 := (by decide +kernel : ∀ t : Fin grid0.N, win0_0.index t 0 = t.val ∧ win0_0.index t 1 = 0) t
  match a with
  | ⟨0, _⟩ => show win0_0.index t 0 * 512 + 1 * p.val = 512 * t.val + p.val; rw [hi.1]; omega
  | ⟨1, _⟩ => show win0_0.index t 1 * 1024 + 1 * q.val = q.val; rw [hi.2]; omega

/-- The second norm's weights. -/
theorem b1 (c : Dev nD) (t : Fin cfg0.N) (q : Fin 1024) : (iblk m c 1 t (ix2 0 q) : EReal) = A4 m c (ix1 q) := by
  unfold iblk
  rw [View.read_apply]
  refine Eq.trans ?_ (V_gq m c q)
  show (V m c main_v22 _ : EReal) = _
  congr 1
  funext a
  apply Fin.ext
  have hi : win0_1.index t 0 = 0 ∧ win0_1.index t 1 = 0 := (by decide +kernel : ∀ t : Fin grid0.N, win0_1.index t 0 = 0 ∧ win0_1.index t 1 = 0) t
  match a with
  | ⟨0, _⟩ => show win0_1.index t 0 * 1 + 1 * 0 = 0; rw [hi.1]
  | ⟨1, _⟩ => show win0_1.index t 1 * 1024 + 1 * q.val = q.val; rw [hi.2]; omega

/-- The result gradient's tile. -/
theorem b2 (c : Dev nD) (t : Fin cfg0.N) (p : Fin 512) (q : Fin 1024) :
    (iblk m c 2 t (ix2 p q) : EReal) = A5 m c (ix2 (row t p) q) := by
  unfold iblk
  rw [View.read_apply]
  show (V m c main_arg5 _ : EReal) = _
  rw [V_main_arg5]
  congr 1
  funext a
  apply Fin.ext
  have hi : win0_2.index t 0 = t.val ∧ win0_2.index t 1 = 0 := (by decide +kernel : ∀ t : Fin grid0.N, win0_2.index t 0 = t.val ∧ win0_2.index t 1 = 0) t
  match a with
  | ⟨0, _⟩ => show win0_2.index t 0 * 512 + 1 * p.val = 512 * t.val + p.val; rw [hi.1]; omega
  | ⟨1, _⟩ => show win0_2.index t 1 * 1024 + 1 * q.val = q.val; rw [hi.2]; omega

/-- The second product's weights. -/
theorem b3 (c : Dev nD) (t : Fin cfg0.N) (p : Fin 4096) (q : Fin 1024) :
    (iblk m c 3 t (ix2 p q) : EReal) = A3 m c (ix2 p q) := by
  unfold iblk
  rw [View.read_apply]
  show (V m c main_v3 _ : EReal) = _
  rw [V_wd]
  congr 1
  funext a
  apply Fin.ext
  have hi : win0_3.index t 0 = 0 ∧ win0_3.index t 1 = 0 := (by decide +kernel : ∀ t : Fin grid0.N, win0_3.index t 0 = 0 ∧ win0_3.index t 1 = 0) t
  match a with
  | ⟨0, _⟩ => show win0_3.index t 0 * 4096 + 1 * p.val = p.val; rw [hi.1]; omega
  | ⟨1, _⟩ => show win0_3.index t 1 * 1024 + 1 * q.val = q.val; rw [hi.2]; omega

/-- The hidden tile's entries. -/
theorem b4 (c : Dev nD) (t : Fin cfg0.N) (p : Fin 512) (q : Fin 4096) :
    (iblk m c 4 t (ix2 p q) : EReal) = val_main_v16 (F := Ideal) (A0 m c) (A1 m c) (A2 m c) (ix2 (row t p) q) := by
  unfold iblk
  rw [View.read_apply]
  show (V m c main_v23 _ : EReal) = _
  rw [V_f]
  congr 1
  funext a
  apply Fin.ext
  have hi : win0_4.index t 0 = t.val ∧ win0_4.index t 1 = 0 := (by decide +kernel : ∀ t : Fin grid0.N, win0_4.index t 0 = t.val ∧ win0_4.index t 1 = 0) t
  match a with
  | ⟨0, _⟩ => show win0_4.index t 0 * 512 + 1 * p.val = 512 * t.val + p.val; rw [hi.1]; omega
  | ⟨1, _⟩ => show win0_4.index t 1 * 4096 + 1 * q.val = q.val; rw [hi.2]; omega

/-- The first product's weights: block `b` of 1024 columns. -/
theorem b5 (c : Dev nD) (t : Fin cfg0.N) (b : Fin 4) (q j : Fin 1024) :
    (iblk m c 5 t (ix3 b q j) : EReal) = A2 m c (ix2 q ⟨b.val * 1024 + j.val, by omega⟩) := by
  unfold iblk
  rw [View.read_apply]
  refine Eq.trans ?_ (V_wu m c b q j)
  show (V m c main_v2 _ : EReal) = _
  congr 1
  funext a
  apply Fin.ext
  have hi : win0_5.index t 0 = 0 ∧ win0_5.index t 1 = 0 ∧ win0_5.index t 2 = 0 := (by decide +kernel : ∀ t : Fin grid0.N, win0_5.index t 0 = 0 ∧ win0_5.index t 1 = 0 ∧ win0_5.index t 2 = 0) t
  match a with
  | ⟨0, _⟩ => show win0_5.index t 0 * 4 + 1 * b.val = b.val; rw [hi.1]; omega
  | ⟨1, _⟩ => show win0_5.index t 1 * 1024 + 1 * q.val = q.val; rw [hi.2.1]; omega
  | ⟨2, _⟩ => show win0_5.index t 2 * 1024 + 1 * j.val = j.val; rw [hi.2.2]; omega

/-- The residual stream's tile. -/
theorem b6 (c : Dev nD) (t : Fin cfg0.N) (p : Fin 512) (q : Fin 1024) :
    (iblk m c 6 t (ix2 p q) : EReal) = A0 m c (ix2 (row t p) q) := by
  unfold iblk
  rw [View.read_apply]
  show (V m c main_arg0 _ : EReal) = _
  rw [V_main_arg0]
  congr 1
  funext a
  apply Fin.ext
  have hi : win0_6.index t 0 = t.val ∧ win0_6.index t 1 = 0 := (by decide +kernel : ∀ t : Fin grid0.N, win0_6.index t 0 = t.val ∧ win0_6.index t 1 = 0) t
  match a with
  | ⟨0, _⟩ => show win0_6.index t 0 * 512 + 1 * p.val = 512 * t.val + p.val; rw [hi.1]; omega
  | ⟨1, _⟩ => show win0_6.index t 1 * 1024 + 1 * q.val = q.val; rw [hi.2]; omega

/-- The first norm's weights. -/
theorem b7 (c : Dev nD) (t : Fin cfg0.N) (q : Fin 1024) : (iblk m c 7 t (ix2 0 q) : EReal) = A1 m c (ix1 q) := by
  unfold iblk
  rw [View.read_apply]
  refine Eq.trans ?_ (V_gp m c q)
  show (V m c main_v24 _ : EReal) = _
  congr 1
  funext a
  apply Fin.ext
  have hi : win0_7.index t 0 = 0 ∧ win0_7.index t 1 = 0 := (by decide +kernel : ∀ t : Fin grid0.N, win0_7.index t 0 = 0 ∧ win0_7.index t 1 = 0) t
  match a with
  | ⟨0, _⟩ => show win0_7.index t 0 * 1 + 1 * 0 = 0; rw [hi.1]
  | ⟨1, _⟩ => show win0_7.index t 1 * 1024 + 1 * q.val = q.val; rw [hi.2]; omega

end Cert.KernelIdeal.Value

end
-- ==== Proof.Final.lean ====
module

public import proofs.«01_k».proof.Proof.Blk

@[expose] public section

noncomputable section

open Idealize.ShloMosaic Idealize.ShloMosaic.TcCoe Idealize.SL.Sem Cert.Alg

namespace Cert.KernelIdeal.Value
open Cert.KernelIdeal Cert.KernelIdeal.Gen
open Cert.ReferenceIdeal.Read (val_main_v16 val_main_v24 val_main_v60 val_main_v64 val_main_v65 val_main_v86 val_main_v87 val_main_v88 val_main_v89 val_main_v90)

variable (m : (ℓ : Loc nD τ sig) → Buf (Elt Ideal) ℓ)

/-! ## What each point leaves, in the reference's stages -/

/-- The point's first stage is the reference's gradient at the second product's output, on its rows. -/
theorem do_block (c : Dev nD) (t : Fin cfg0.N) (p : Fin 512) (q : Fin 1024) :
    (k0_pay6 (iblk m c 2 t) (iblk m c 0 t) (iblk m c 1 t) (ix2 p q) : EReal)
      = val_main_v60 (F := Ideal) (A0 m c) (A1 m c) (A2 m c) (A3 m c) (A4 m c) (A5 m c) (ix2 (row t p) q) := by
  refine (pay6_apply _ _ _ p q).trans ?_
  rw [Cert.ReferenceIdeal.Read.do_apply]
  exact congrFun (congrArg₂ (rmsK cN cE) (funext fun k => b0 m c t p k)
    (funext fun k => congrArg₂ (fun a b : EReal => a * b) (b2 m c t p k) (b1 m c t k))) q

/-- The point's second stage is the reference's gradient at the first product's output, on its rows. -/
theorem df_block (c : Dev nD) (t : Fin cfg0.N) (p : Fin 512) (j : Fin 4096) :
    dfK (iblk m c 0 t) (iblk m c 1 t) (iblk m c 2 t) (iblk m c 3 t) (iblk m c 4 t) (ix2 p j)
      = val_main_v64 (F := Ideal) (A0 m c) (A1 m c) (A2 m c) (A3 m c) (A4 m c) (A5 m c) (ix2 (row t p) j) := by
  rw [Cert.ReferenceIdeal.Read.df_apply]
  unfold dfK
  refine congrArg₂ (fun a b : EReal => a * b) ?_ ?_
  · exact Finset.sum_congr rfl fun k _ => congrArg₂ (fun a b : EReal => a * b) (do_block m c t p k) (b3 m c t j k)
  · exact congrArg (fun z => Ideal.ofBits FTy.f32 1073741824#32 * max z 0) (b4 m c t p j)

/-- The point's third stage is the reference's gradient at the normed rows. -/
theorem dh_block (c : Dev nD) (t : Fin cfg0.N) (p : Fin 512) (q : Fin 1024) :
    (dhP (iblk m c 0 t) (iblk m c 1 t) (iblk m c 2 t) (iblk m c 3 t) (iblk m c 4 t) (iblk m c 5 t) (ix2 p q) : EReal)
      = val_main_v65 (F := Ideal) (A0 m c) (A1 m c) (A2 m c) (A3 m c) (A4 m c) (A5 m c) (ix2 (row t p) q) := by
  rw [Cert.ReferenceIdeal.Read.dh_apply]
  refine (dhP_apply _ _ _ _ _ _ p q).trans ?_
  refine Finset.sum_congr rfl fun j _ => congrArg₂ (fun a b : EReal => a * b) (df_block m c t p j) ?_
  refine (b5 m c t _ _ _).trans ?_
  congr 2
  exact Fin.ext (Nat.div_add_mod' j.val 1024)

end Cert.KernelIdeal.Value

end
-- ==== Proof.Out.lean ====
module

public import proofs.«01_k».proof.Proof.Final

@[expose] public section

noncomputable section

open Idealize.ShloMosaic Idealize.ShloMosaic.TcCoe Idealize.SL.Sem Cert.Alg

namespace Cert.KernelIdeal.Value
open Cert.KernelIdeal Cert.KernelIdeal.Gen
open Cert.ReferenceIdeal.Read (val_main_v16 val_main_v24 val_main_v60 val_main_v64 val_main_v65 val_main_v86 val_main_v87 val_main_v88 val_main_v89 val_main_v90)

variable (m : (ℓ : Loc nD τ sig) → Buf (Elt Ideal) ℓ)

/-! ## What the staging buffers hold after a point -/

theorem caseA (t : Fin cfg0.N) (h : t.val = 0) : t.val % 8 = 0 ∧ ¬1 ≤ t.val := by omega
theorem caseB (t : Fin cfg0.N) (h : t.val ≠ 0) : ¬t.val % 8 = 0 ∧ 1 ≤ t.val := by
  have := t.isLt
  have h8 : cfg0.N = 8 := N_0
  omega

theorem o8 (c : Dev nD) (t : Fin cfg0.N) : (outsAt0 m c t.val t.isLt).1 = k0_pay6 (iblk m c 2 t) (iblk m c 0 t) (iblk m c 1 t) := by
  by_cases h : t.val = 0
  · have hA := caseA t h
    rw [outsAt0_A m c t hA.1 hA.2 hA.1 hA.2]
    dsimp only
    rw [out8_A]
  · have hB := caseB t h
    rw [outsAt0_B m c t hB.1 hB.2 hB.1 hB.2]
    dsimp only
    rw [out8_B]

theorem o9 (c : Dev nD) (t : Fin cfg0.N) : (outsAt0 m c t.val t.isLt).2.1 = dfK (iblk m c 0 t) (iblk m c 1 t) (iblk m c 2 t) (iblk m c 3 t) (iblk m c 4 t) := by
  by_cases h : t.val = 0
  · have hA := caseA t h
    rw [outsAt0_A m c t hA.1 hA.2 hA.1 hA.2]
    dsimp only
    rw [out9_A]
  · have hB := caseB t h
    rw [outsAt0_B m c t hB.1 hB.2 hB.1 hB.2]
    dsimp only
    rw [out9_B]

theorem o10 (c : Dev nD) (t : Fin cfg0.N) : (outsAt0 m c t.val t.isLt).2.2.1 = k0_pay22 (iblk m c 2 t) (dhP (iblk m c 0 t) (iblk m c 1 t) (iblk m c 2 t) (iblk m c 3 t) (iblk m c 4 t) (iblk m c 5 t)) (iblk m c 6 t) (k0_pay18 (iblk m c 7 t)) (k0_pay19 (iblk m c 6 t)) := by
  by_cases h : t.val = 0
  · have hA := caseA t h
    rw [outsAt0_A m c t hA.1 hA.2 hA.1 hA.2]
    dsimp only
    rw [out10_A]
  · have hB := caseB t h
    rw [outsAt0_B m c t hB.1 hB.2 hB.1 hB.2]
    dsimp only
    rw [out10_B]

/-- The call's array of the gradient at the second product's output: the reference's. -/
abbrev res8 (c : Dev nD) : Buf (Elt Ideal) ((c : Thread nD τ).loc main_v25_0) := val_main_v86 (F := Ideal) (A0 m c) (A1 m c) (A2 m c) (A3 m c) (A4 m c) (A5 m c)

/-- Each point writes back its rows of the gradient at the second product's output. -/
theorem wrote8 (c : Dev nD) (t : Fin cfg0.N) (hf : (cfg0.win 8).flush t = true) :
    (dats m 0 c).flushed 8 t = ((cfg0.win 8).blk t).view.read (Elt Ideal) (res8 m c) := by
  rw [flushed8, o8]
  funext j
  obtain ⟨p, q, rfl⟩ : ∃ (p : Fin 512) (q : Fin 1024), j = ix2 p q := ⟨j 0, j 1, eq_ix2 (n0 := 512) (n1 := 1024) j⟩
  rw [View.read_apply]
  have e : ((cfg0.win 8).blk t).view.emb (ix2 p q) = ix2 (row t p) q := by
    have hi := (by decide +kernel : ∀ t : Fin grid0.N, win0_8.index t 0 = t.val ∧ win0_8.index t 1 = 0) t
    funext a
    apply Fin.ext
    match a with
    | ⟨0, _⟩ => show win0_8.index t 0 * 512 + 1 * p.val = 512 * t.val + p.val; rw [hi.1]; omega
    | ⟨1, _⟩ => show win0_8.index t 1 * 1024 + 1 * q.val = q.val; rw [hi.2]; omega
  rw [e]
  exact do_block m c t p q

/-- The array after the run. -/
theorem final8 (c : Dev nD) : (dats m 0 c).arrAt 8 cfg0.N = res8 m c :=
  (dats m 0 c).arrAt_eq_of_cover 8 (res8 m c) (wrote8 m c) fun i => by
    have h0 : (i 0 : Nat) < 4096 := (i 0).isLt
    have h1 : (i 1 : Nat) < 1024 := (i 1).isLt
    have h8 : grid0.N = 8 := N_0
    refine ⟨⟨(i 0 : Nat) / 512, by rw [show cfg0.N = 8 from N_0]; omega⟩, flush0_8 _, ?_⟩
    generalize ht : (⟨(i 0 : Nat) / 512, _⟩ : Fin cfg0.N) = t
    have hv : t.val = (i 0 : Nat) / 512 := by rw [← ht]
    show i ∈ ((View.whole main_v25_0).slice (win0_8.rect t)).set
    rw [View.set_slice_whole, Rect.mem_set_unit]
    have hi := (by decide +kernel : ∀ t : Fin grid0.N, win0_8.index t 0 = t.val ∧ win0_8.index t 1 = 0) t
    intro a
    match a with
    | ⟨0, _⟩ => show win0_8.index t 0 * 512 ≤ (i 0 : Nat) ∧ (i 0 : Nat) < win0_8.index t 0 * 512 + 512
                rw [hi.1]; omega
    | ⟨1, _⟩ => show win0_8.index t 1 * 1024 ≤ (i 1 : Nat) ∧ (i 1 : Nat) < win0_8.index t 1 * 1024 + 1024
                rw [hi.2]; omega

/-- The call's array of the gradient at the first product's output: the reference's. -/
abbrev res9 (c : Dev nD) : Buf (Elt Ideal) ((c : Thread nD τ).loc main_v25_1) := val_main_v87 (F := Ideal) (A0 m c) (A1 m c) (A2 m c) (A3 m c) (A4 m c) (A5 m c)

/-- Each point writes back its rows of the gradient at the first product's output. -/
theorem wrote9 (c : Dev nD) (t : Fin cfg0.N) (hf : (cfg0.win 9).flush t = true) :
    (dats m 0 c).flushed 9 t = ((cfg0.win 9).blk t).view.read (Elt Ideal) (res9 m c) := by
  rw [flushed9, o9]
  funext j
  obtain ⟨p, q, rfl⟩ : ∃ (p : Fin 512) (q : Fin 4096), j = ix2 p q := ⟨j 0, j 1, eq_ix2 (n0 := 512) (n1 := 4096) j⟩
  rw [View.read_apply]
  have e : ((cfg0.win 9).blk t).view.emb (ix2 p q) = ix2 (row t p) q := by
    have hi := (by decide +kernel : ∀ t : Fin grid0.N, win0_9.index t 0 = t.val ∧ win0_9.index t 1 = 0) t
    funext a
    apply Fin.ext
    match a with
    | ⟨0, _⟩ => show win0_9.index t 0 * 512 + 1 * p.val = 512 * t.val + p.val; rw [hi.1]; omega
    | ⟨1, _⟩ => show win0_9.index t 1 * 4096 + 1 * q.val = q.val; rw [hi.2]; omega
  rw [e]
  exact df_block m c t p q

/-- The array after the run. -/
theorem final9 (c : Dev nD) : (dats m 0 c).arrAt 9 cfg0.N = res9 m c :=
  (dats m 0 c).arrAt_eq_of_cover 9 (res9 m c) (wrote9 m c) fun i => by
    have h0 : (i 0 : Nat) < 4096 := (i 0).isLt
    have h1 : (i 1 : Nat) < 4096 := (i 1).isLt
    have h8 : grid0.N = 8 := N_0
    refine ⟨⟨(i 0 : Nat) / 512, by rw [show cfg0.N = 8 from N_0]; omega⟩, flush0_9 _, ?_⟩
    generalize ht : (⟨(i 0 : Nat) / 512, _⟩ : Fin cfg0.N) = t
    have hv : t.val = (i 0 : Nat) / 512 := by rw [← ht]
    show i ∈ ((View.whole main_v25_1).slice (win0_9.rect t)).set
    rw [View.set_slice_whole, Rect.mem_set_unit]
    have hi := (by decide +kernel : ∀ t : Fin grid0.N, win0_9.index t 0 = t.val ∧ win0_9.index t 1 = 0) t
    intro a
    match a with
    | ⟨0, _⟩ => show win0_9.index t 0 * 512 ≤ (i 0 : Nat) ∧ (i 0 : Nat) < win0_9.index t 0 * 512 + 512
                rw [hi.1]; omega
    | ⟨1, _⟩ => show win0_9.index t 1 * 4096 ≤ (i 1 : Nat) ∧ (i 1 : Nat) < win0_9.index t 1 * 4096 + 4096
                rw [hi.2]; omega

/-- The call's array of the gradient at the residual stream: the reference's. -/
abbrev res10 (c : Dev nD) : Buf (Elt Ideal) ((c : Thread nD τ).loc main_v25_2) := val_main_v88 (F := Ideal) (A0 m c) (A1 m c) (A2 m c) (A3 m c) (A4 m c) (A5 m c)

/-- Each point writes back its rows of the gradient at the residual stream. -/
theorem wrote10 (c : Dev nD) (t : Fin cfg0.N) (hf : (cfg0.win 10).flush t = true) :
    (dats m 0 c).flushed 10 t = ((cfg0.win 10).blk t).view.read (Elt Ideal) (res10 m c) := by
  rw [flushed10, o10]
  funext j
  obtain ⟨p, q, rfl⟩ : ∃ (p : Fin 512) (q : Fin 1024), j = ix2 p q := ⟨j 0, j 1, eq_ix2 (n0 := 512) (n1 := 1024) j⟩
  rw [View.read_apply]
  have e : ((cfg0.win 10).blk t).view.emb (ix2 p q) = ix2 (row t p) q := by
    have hi := (by decide +kernel : ∀ t : Fin grid0.N, win0_10.index t 0 = t.val ∧ win0_10.index t 1 = 0) t
    funext a
    apply Fin.ext
    match a with
    | ⟨0, _⟩ => show win0_10.index t 0 * 512 + 1 * p.val = 512 * t.val + p.val; rw [hi.1]; omega
    | ⟨1, _⟩ => show win0_10.index t 1 * 1024 + 1 * q.val = q.val; rw [hi.2]; omega
  rw [e]
  refine (pay22_apply _ _ _ _ p q).trans ?_
  refine Eq.trans ?_ (Cert.ReferenceIdeal.Read.dx_apply _ _ _ _ _ _ (row t p) q).symm
  exact congrArg₂ (fun a b : EReal => a + b) (b2 m c t p q) (congrFun (congrArg₂ (rmsK cN cE) (funext fun k => b6 m c t p k)
    (funext fun k => congrArg₂ (fun a b : EReal => a * b) (dh_block m c t p k) (b7 m c t k))) q)

/-- The array after the run. -/
theorem final10 (c : Dev nD) : (dats m 0 c).arrAt 10 cfg0.N = res10 m c :=
  (dats m 0 c).arrAt_eq_of_cover 10 (res10 m c) (wrote10 m c) fun i => by
    have h0 : (i 0 : Nat) < 4096 := (i 0).isLt
    have h1 : (i 1 : Nat) < 1024 := (i 1).isLt
    have h8 : grid0.N = 8 := N_0
    refine ⟨⟨(i 0 : Nat) / 512, by rw [show cfg0.N = 8 from N_0]; omega⟩, flush0_10 _, ?_⟩
    generalize ht : (⟨(i 0 : Nat) / 512, _⟩ : Fin cfg0.N) = t
    have hv : t.val = (i 0 : Nat) / 512 := by rw [← ht]
    show i ∈ ((View.whole main_v25_2).slice (win0_10.rect t)).set
    rw [View.set_slice_whole, Rect.mem_set_unit]
    have hi := (by decide +kernel : ∀ t : Fin grid0.N, win0_10.index t 0 = t.val ∧ win0_10.index t 1 = 0) t
    intro a
    match a with
    | ⟨0, _⟩ => show win0_10.index t 0 * 512 ≤ (i 0 : Nat) ∧ (i 0 : Nat) < win0_10.index t 0 * 512 + 512
                rw [hi.1]; omega
    | ⟨1, _⟩ => show win0_10.index t 1 * 1024 ≤ (i 1 : Nat) ∧ (i 1 : Nat) < win0_10.index t 1 * 1024 + 1024
                rw [hi.2]; omega

end Cert.KernelIdeal.Value

end
-- ==== Proof.Acc.lean ====
module

public import proofs.«01_k».proof.Proof.Out

@[expose] public section

noncomputable section

open Idealize.ShloMosaic Idealize.ShloMosaic.TcCoe Idealize.SL.Sem Cert.Alg

namespace Cert.KernelIdeal.Value
open Cert.KernelIdeal Cert.KernelIdeal.Gen
open Cert.ReferenceIdeal.Read (val_main_v16 val_main_v24 val_main_v60 val_main_v64 val_main_v65 val_main_v86 val_main_v87 val_main_v88 val_main_v89 val_main_v90)

variable (m : (ℓ : Loc nD τ sig) → Buf (Elt Ideal) ℓ)

/-- The 4096 rows are 8 tiles of 512. -/
theorem sum_tiles (g : Fin 4096 → EReal) (T : ℕ → EReal) (hT : ∀ t : Fin cfg0.N, T t.val = ∑ p : Fin 512, g (row t p)) :
    ∑ s ∈ Finset.range 8, T s = ∑ i : Fin 4096, g i := by
  have hN : cfg0.N = 8 := N_0
  rw [Finset.sum_range, sum_split (N := 4096) (a := 8) (b := 512) rfl g]
  exact Finset.sum_congr rfl fun s _ => hT ⟨s.val, by rw [hN]; exact s.isLt⟩

/-- A tile's share of the gradient at the second norm's weights. -/
def part11 (c : Dev nD) (t : Fin cfg0.N) : Vec Ideal S1x1024 .f32 := k0_pay23 (k0_pay5 (iblk m c 2 t) (iblk m c 0 t))

/-- A tile's share is the sum over its rows. -/
theorem part11_apply (c : Dev nD) (t : Fin cfg0.N) (q : Fin 1024) :
    (part11 m c t (ix2 0 q) : EReal) = ∑ p : Fin 512, (fun i => (A5 m c (ix2 i q) : EReal) * ((val_main_v24 (F := Ideal) (A0 m c) (A1 m c) (A2 m c) (A3 m c) (ix2 i q) : EReal) * rinv cN cE (fun k => val_main_v24 (F := Ideal) (A0 m c) (A1 m c) (A2 m c) (A3 m c) (ix2 i k)))) (row t p) := by
  unfold part11
  refine (pay23_apply _ _ q).trans (Finset.sum_congr rfl fun p _ => ?_)
  exact congrArg₂ (fun a b : EReal => a * b) (b2 m c t p q) (congrArg₂ (fun a b : EReal => a * b) (b0 m c t p q) (congrArg (rinv cN cE) (funext fun k => b0 m c t p k)))

/-- The first point leaves its tile's share. -/
theorem first11 (c : Dev nD) (h : 0 < cfg0.N) : (outsAt0 m c 0 h).2.2.2.1 = part11 m c ⟨0, h⟩ := by
  have hA := caseA ⟨0, h⟩ rfl
  have e := congrArg (fun z => z.2.2.2.1) (outsAt0_A m c ⟨0, h⟩ hA.1 hA.2 hA.1 hA.2)
  dsimp only at e
  rw [e, out11_A]
  rfl

/-- Each further point adds its tile's share. -/
theorem next11 (c : Dev nD) (n : ℕ) (h : n + 1 < cfg0.N) (q : Fin 1024) :
    ((outsAt0 m c (n + 1) h).2.2.2.1 (ix2 0 q) : EReal)
      = (outsAt0 m c n (Nat.lt_of_succ_lt h)).2.2.2.1 (ix2 0 q) + part11 m c ⟨n + 1, h⟩ (ix2 0 q) := by
  have hB := caseB ⟨n + 1, h⟩ (Nat.succ_ne_zero n)
  have e := congrArg (fun z => z.2.2.2.1) (outsAt0_B m c ⟨n + 1, h⟩ hB.1 hB.2 hB.1 hB.2)
  dsimp only at e
  rw [e, out11_B]
  exact pay24_apply _ _ _ q

/-- The call's array of the gradient at the second norm's weights: the reference's. -/
abbrev res11 (c : Dev nD) : Buf (Elt Ideal) ((c : Thread nD τ).loc main_v25_3) := val_main_v89 (F := Ideal) (A0 m c) (A1 m c) (A2 m c) (A3 m c) (A5 m c)

/-- The last point leaves the sum over all the rows. -/
theorem last11 (c : Dev nD) (h : 7 < cfg0.N) (q : Fin 1024) :
    ((outsAt0 m c 7 h).2.2.2.1 (ix2 0 q) : EReal) = res11 m c (ix2 0 q) := by
  have hN : cfg0.N = 8 := N_0
  let T : ℕ → EReal := fun n => if h : n < cfg0.N then part11 m c ⟨n, h⟩ (ix2 0 q) else 0
  have hT : ∀ t : Fin cfg0.N, T t.val = part11 m c t (ix2 0 q) := fun t => dif_pos t.isLt
  refine (running (fun n h => (outsAt0 m c n h).2.2.2.1 (ix2 0 q)) T
    (fun h => (congrFun (first11 m c h) (ix2 0 q)).trans (hT ⟨0, h⟩).symm)
    (fun n h => (next11 m c n h q).trans (congrArg _ (hT ⟨n + 1, h⟩).symm)) 7 h).trans ?_
  refine (sum_tiles (fun i => (A5 m c (ix2 i q) : EReal) * ((val_main_v24 (F := Ideal) (A0 m c) (A1 m c) (A2 m c) (A3 m c) (ix2 i q) : EReal) * rinv cN cE (fun k => val_main_v24 (F := Ideal) (A0 m c) (A1 m c) (A2 m c) (A3 m c) (ix2 i k)))) T fun t => (hT t).trans (part11_apply m c t q)).trans ?_
  exact (Cert.ReferenceIdeal.Read.dgq_apply _ _ _ _ _ q).symm

/-- The one write-back, at the last point. -/
theorem wrote11 (c : Dev nD) (t : Fin cfg0.N) (hf : (cfg0.win 11).flush t = true) :
    (dats m 0 c).flushed 11 t = ((cfg0.win 11).blk t).view.read (Elt Ideal) (res11 m c) := by
  have hN : cfg0.N = 8 := N_0
  have h7 : t.val = 7 := by have := (flush0_11 t).mp hf; have := t.isLt; omega
  obtain rfl : t = t0_7 := Fin.ext h7
  rw [flushed11]
  funext j
  obtain ⟨p, q, rfl⟩ : ∃ (p : Fin 1) (q : Fin 1024), j = ix2 p q := ⟨j 0, j 1, eq_ix2 (n0 := 1) (n1 := 1024) j⟩
  obtain rfl : p = 0 := Subsingleton.elim _ _
  rw [View.read_apply]
  have e : ((cfg0.win 11).blk t0_7).view.emb (ix2 0 q) = ix2 0 q := by
    have hi : win0_11.index t0_7 0 = 0 ∧ win0_11.index t0_7 1 = 0 := by decide +kernel
    funext a
    apply Fin.ext
    match a with
    | ⟨0, _⟩ => show win0_11.index t0_7 0 * 1 + 1 * 0 = 0; rw [hi.1]
    | ⟨1, _⟩ => show win0_11.index t0_7 1 * 1024 + 1 * q.val = q.val; rw [hi.2]; omega
  rw [e]
  exact last11 m c _ q

/-- The array after the run. -/
theorem final11 (c : Dev nD) : (dats m 0 c).arrAt 11 cfg0.N = res11 m c :=
  (dats m 0 c).arrAt_eq_of_cover 11 (res11 m c) (wrote11 m c) fun i => by
    have h0 : (i 0 : Nat) < 1 := (i 0).isLt
    have h1 : (i 1 : Nat) < 1024 := (i 1).isLt
    refine ⟨t0_7, (flush0_11 t0_7).mpr rfl, ?_⟩
    show i ∈ ((View.whole main_v25_3).slice (win0_11.rect t0_7)).set
    rw [View.set_slice_whole, Rect.mem_set_unit]
    have hi : win0_11.index t0_7 0 = 0 ∧ win0_11.index t0_7 1 = 0 := by decide +kernel
    intro a
    match a with
    | ⟨0, _⟩ => show win0_11.index t0_7 0 * 1 ≤ (i 0 : Nat) ∧ (i 0 : Nat) < win0_11.index t0_7 0 * 1 + 1
                rw [hi.1]; omega
    | ⟨1, _⟩ => show win0_11.index t0_7 1 * 1024 ≤ (i 1 : Nat) ∧ (i 1 : Nat) < win0_11.index t0_7 1 * 1024 + 1024
                rw [hi.2]; omega

/-- A tile's share of the gradient at the first norm's weights. -/
def part12 (c : Dev nD) (t : Fin cfg0.N) : Vec Ideal S1x1024 .f32 := k0_pay25 (dhP (iblk m c 0 t) (iblk m c 1 t) (iblk m c 2 t) (iblk m c 3 t) (iblk m c 4 t) (iblk m c 5 t)) (iblk m c 6 t) (k0_pay19 (iblk m c 6 t))

/-- A tile's share is the sum over its rows. -/
theorem part12_apply (c : Dev nD) (t : Fin cfg0.N) (q : Fin 1024) :
    (part12 m c t (ix2 0 q) : EReal) = ∑ p : Fin 512, (fun i => (val_main_v65 (F := Ideal) (A0 m c) (A1 m c) (A2 m c) (A3 m c) (A4 m c) (A5 m c) (ix2 i q) : EReal) * ((A0 m c (ix2 i q) : EReal) * rinv cN cE (fun k => A0 m c (ix2 i k)))) (row t p) := by
  unfold part12
  refine (pay25_apply _ _ q).trans (Finset.sum_congr rfl fun p _ => ?_)
  exact congrArg₂ (fun a b : EReal => a * b) (dh_block m c t p q) (congrArg₂ (fun a b : EReal => a * b) (b6 m c t p q) (congrArg (rinv cN cE) (funext fun k => b6 m c t p k)))

/-- The first point leaves its tile's share. -/
theorem first12 (c : Dev nD) (h : 0 < cfg0.N) : (outsAt0 m c 0 h).2.2.2.2 = part12 m c ⟨0, h⟩ := by
  have hA := caseA ⟨0, h⟩ rfl
  have e := congrArg (fun z => z.2.2.2.2) (outsAt0_A m c ⟨0, h⟩ hA.1 hA.2 hA.1 hA.2)
  dsimp only at e
  rw [e, out12_A]
  rfl

/-- Each further point adds its tile's share. -/
theorem next12 (c : Dev nD) (n : ℕ) (h : n + 1 < cfg0.N) (q : Fin 1024) :
    ((outsAt0 m c (n + 1) h).2.2.2.2 (ix2 0 q) : EReal)
      = (outsAt0 m c n (Nat.lt_of_succ_lt h)).2.2.2.2 (ix2 0 q) + part12 m c ⟨n + 1, h⟩ (ix2 0 q) := by
  have hB := caseB ⟨n + 1, h⟩ (Nat.succ_ne_zero n)
  have e := congrArg (fun z => z.2.2.2.2) (outsAt0_B m c ⟨n + 1, h⟩ hB.1 hB.2 hB.1 hB.2)
  dsimp only at e
  rw [e, out12_B]
  exact pay1_apply _ _ q

/-- The call's array of the gradient at the first norm's weights: the reference's. -/
abbrev res12 (c : Dev nD) : Buf (Elt Ideal) ((c : Thread nD τ).loc main_v25_4) := val_main_v90 (F := Ideal) (A0 m c) (A1 m c) (A2 m c) (A3 m c) (A4 m c) (A5 m c)

/-- The last point leaves the sum over all the rows. -/
theorem last12 (c : Dev nD) (h : 7 < cfg0.N) (q : Fin 1024) :
    ((outsAt0 m c 7 h).2.2.2.2 (ix2 0 q) : EReal) = res12 m c (ix2 0 q) := by
  have hN : cfg0.N = 8 := N_0
  let T : ℕ → EReal := fun n => if h : n < cfg0.N then part12 m c ⟨n, h⟩ (ix2 0 q) else 0
  have hT : ∀ t : Fin cfg0.N, T t.val = part12 m c t (ix2 0 q) := fun t => dif_pos t.isLt
  refine (running (fun n h => (outsAt0 m c n h).2.2.2.2 (ix2 0 q)) T
    (fun h => (congrFun (first12 m c h) (ix2 0 q)).trans (hT ⟨0, h⟩).symm)
    (fun n h => (next12 m c n h q).trans (congrArg _ (hT ⟨n + 1, h⟩).symm)) 7 h).trans ?_
  refine (sum_tiles (fun i => (val_main_v65 (F := Ideal) (A0 m c) (A1 m c) (A2 m c) (A3 m c) (A4 m c) (A5 m c) (ix2 i q) : EReal) * ((A0 m c (ix2 i q) : EReal) * rinv cN cE (fun k => A0 m c (ix2 i k)))) T fun t => (hT t).trans (part12_apply m c t q)).trans ?_
  exact (Cert.ReferenceIdeal.Read.dgp_apply _ _ _ _ _ _ q).symm

/-- The one write-back, at the last point. -/
theorem wrote12 (c : Dev nD) (t : Fin cfg0.N) (hf : (cfg0.win 12).flush t = true) :
    (dats m 0 c).flushed 12 t = ((cfg0.win 12).blk t).view.read (Elt Ideal) (res12 m c) := by
  have hN : cfg0.N = 8 := N_0
  have h7 : t.val = 7 := by have := (flush0_12 t).mp hf; have := t.isLt; omega
  obtain rfl : t = t0_7 := Fin.ext h7
  rw [flushed12]
  funext j
  obtain ⟨p, q, rfl⟩ : ∃ (p : Fin 1) (q : Fin 1024), j = ix2 p q := ⟨j 0, j 1, eq_ix2 (n0 := 1) (n1 := 1024) j⟩
  obtain rfl : p = 0 := Subsingleton.elim _ _
  rw [View.read_apply]
  have e : ((cfg0.win 12).blk t0_7).view.emb (ix2 0 q) = ix2 0 q := by
    have hi : win0_12.index t0_7 0 = 0 ∧ win0_12.index t0_7 1 = 0 := by decide +kernel
    funext a
    apply Fin.ext
    match a with
    | ⟨0, _⟩ => show win0_12.index t0_7 0 * 1 + 1 * 0 = 0; rw [hi.1]
    | ⟨1, _⟩ => show win0_12.index t0_7 1 * 1024 + 1 * q.val = q.val; rw [hi.2]; omega
  rw [e]
  exact last12 m c _ q

/-- The array after the run. -/
theorem final12 (c : Dev nD) : (dats m 0 c).arrAt 12 cfg0.N = res12 m c :=
  (dats m 0 c).arrAt_eq_of_cover 12 (res12 m c) (wrote12 m c) fun i => by
    have h0 : (i 0 : Nat) < 1 := (i 0).isLt
    have h1 : (i 1 : Nat) < 1024 := (i 1).isLt
    refine ⟨t0_7, (flush0_12 t0_7).mpr rfl, ?_⟩
    show i ∈ ((View.whole main_v25_4).slice (win0_12.rect t0_7)).set
    rw [View.set_slice_whole, Rect.mem_set_unit]
    have hi : win0_12.index t0_7 0 = 0 ∧ win0_12.index t0_7 1 = 0 := by decide +kernel
    intro a
    match a with
    | ⟨0, _⟩ => show win0_12.index t0_7 0 * 1 ≤ (i 0 : Nat) ∧ (i 0 : Nat) < win0_12.index t0_7 0 * 1 + 1
                rw [hi.1]; omega
    | ⟨1, _⟩ => show win0_12.index t0_7 1 * 1024 ≤ (i 1 : Nat) ∧ (i 1 : Nat) < win0_12.index t0_7 1 * 1024 + 1024
                rw [hi.2]; omega

end Cert.KernelIdeal.Value

end
-- ==== Proof.Alg.lean ====
module

public import proofs.«01_k».proof.Defs
public import proofs.«01_k».proof.Proof.Acc
public import proofs.«01_k».proof.Proof.Gen.ReferenceIdeal.Run

@[expose] public section

noncomputable section

open Idealize.ShloMosaic Idealize.ShloMosaic.TcCoe Idealize.SL.Sem

namespace Cert.Proof.Mlp
open Cert.KernelIdeal.Value

variable (m' : (ℓ : Loc Cert.ReferenceIdeal.nD Cert.ReferenceIdeal.τ Cert.ReferenceIdeal.sig) → Buf (Elt Ideal) ℓ) (g' : Dev Cert.ReferenceIdeal.nD → PrngReg)

/-- The reference's run: each result is its last stage over the arguments, and the arguments are kept. -/
theorem ref_run : θ_run (Cert.ReferenceIdeal.defs (F := Ideal)) (onTc (τ := Cert.ReferenceIdeal.τ) (Cert.ReferenceIdeal.main (F := Ideal))) ⟨m', fun _ => 0, g'⟩ fun r =>
    ∀ c : Dev Cert.ReferenceIdeal.nD,
      r.2.mem ((c.tc : Thread Cert.ReferenceIdeal.nD Cert.ReferenceIdeal.τ).loc Cert.ReferenceIdeal.main_v86) = Cert.ReferenceIdeal.Read.val_main_v86 (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5))
      ∧ r.2.mem ((c.tc : Thread Cert.ReferenceIdeal.nD Cert.ReferenceIdeal.τ).loc Cert.ReferenceIdeal.main_v87) = Cert.ReferenceIdeal.Read.val_main_v87 (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5))
      ∧ r.2.mem ((c.tc : Thread Cert.ReferenceIdeal.nD Cert.ReferenceIdeal.τ).loc Cert.ReferenceIdeal.main_v88) = Cert.ReferenceIdeal.Read.val_main_v88 (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5))
      ∧ r.2.mem ((c.tc : Thread Cert.ReferenceIdeal.nD Cert.ReferenceIdeal.τ).loc Cert.ReferenceIdeal.main_v89) = Cert.ReferenceIdeal.Read.val_main_v89 (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg5))
      ∧ r.2.mem ((c.tc : Thread Cert.ReferenceIdeal.nD Cert.ReferenceIdeal.τ).loc Cert.ReferenceIdeal.main_v90) = Cert.ReferenceIdeal.Read.val_main_v90 (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5) :=
  (θ_run Cert.ReferenceIdeal.defs _ _).mono (fun r hr c => ⟨
    (hr c).1.trans (Cert.ReferenceIdeal.Read.val_main_v86_eq _),
    (hr c).2.1.trans (Cert.ReferenceIdeal.Read.val_main_v87_eq _),
    (hr c).2.2.1.trans (Cert.ReferenceIdeal.Read.val_main_v88_eq _),
    (hr c).2.2.2.1.trans (Cert.ReferenceIdeal.Read.val_main_v89_eq _),
    (hr c).2.2.2.2.1.trans (Cert.ReferenceIdeal.Read.val_main_v90_eq _),
    (hr c).2.2.2.2.2⟩) (Cert.ReferenceIdeal.Value.run m' g')

/-- Over the extended reals the call ends with the reference's results. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => res8 m c, fun c => res9 m c, fun c => res10 m c, fun c => res11 m c, fun c => res12 m c, ?_, ?_⟩
  · refine (θ_run Cert.KernelIdeal.defs _ _).mono (fun r hr c => ?_) (Cert.KernelIdeal.Value.run_blocks m g)
    obtain ⟨h0, h1, h2, h3, h4, hk⟩ := hr c
    exact ⟨h0.trans (final8 m c), h1.trans (final9 m c), h2.trans (final10 m c), h3.trans (final11 m c), h4.trans (final12 m c), hk⟩
  · refine (θ_run Cert.ReferenceIdeal.defs _ _).mono (fun r hr c => ?_) (ref_run m' g')
    obtain ⟨h0, h1, h2, h3, h4, hk⟩ := hr c
    obtain ⟨a0, a1, a2, a3, a4, a5⟩ := h c
    rw [a0, a1, a2, a3, a4, a5] at h0 h1 h2
    rw [a0, a1, a2, a3, a5] at h3
    rw [a0, a1, a2, a3, a4, a5] at h4
    exact ⟨h0, h1, h2, h3, h4, hk⟩

/-- The reference's frame: it declares no semaphore. -/
theorem frame_ref : Cert.quiescent_ReferenceIdeal (hReferenceIdeal := Cert.ReferenceIdeal.Gen.facts) := by
  intro m g _
  exact (θ_run Cert.ReferenceIdeal.defs _ _).mono (fun r h => ⟨fun c => (h c).2.2.2.2.2, sem_eq_zero_of_no_sems (by decide) r.2⟩) (ref_run m g)

end Cert.Proof.Mlp

end
-- ==== Proof.ScanNum.lean ====
/- The forward state-space scan: places in its arrays and facts about its numbers. -/
module

public import proofs.«01_k».proof.Proof.Rms
public import Idealize.ShloMosaic.Lib.Tactic

@[expose] public section

noncomputable section

open Idealize.ShloMosaic Idealize.SL.Sem

namespace Cert.Scan

/-- Row `p` of chunk `t`. -/
abbrev row (t : Fin 32) (p : Fin 128) : Fin 4096 := ⟨t.val * 128 + p.val, by omega⟩

/-- Chunk `k` of sequence `b`. -/
abbrev chunk (b : Fin 2) (k : Fin 16) : Fin 32 := ⟨b.val * 16 + k.val, by omega⟩

/-- A head as a place of a 128-wide row. -/
abbrev hl (h : Fin 16) : Fin 128 := ⟨h.val, by omega⟩

/-- A head's step in a projected row. -/
abbrev dcol (h : Fin 16) : Fin 5760 := ⟨5632 + h.val, by omega⟩

/-- Place `e` of head `h` in a row. -/
abbrev hcol (h : Fin 16) (e : Fin 64) : Fin 1024 := ⟨h.val * 64 + e.val, by omega⟩

/-- A place of a row in the convolved rows. -/
abbrev xcol (j : Fin 1024) : Fin 1536 := ⟨j.val, by omega⟩

/-- Place `n` of the input projection of a head's group. -/
abbrev bcol (h : Fin 16) (n : Fin 128) : Fin 1536 := ⟨1024 + (h.val / 8 * 128 + n.val), by omega⟩

/-- Place `n` of the output projection of a head's group. -/
abbrev ccol (h : Fin 16) (n : Fin 128) : Fin 1536 := ⟨1280 + (h.val / 8 * 128 + n.val), by omega⟩

/-- The head of a place of a row. -/
abbrev hd (j : Fin 1024) : Fin 16 := ⟨j.val / 64, by omega⟩

/-- The place inside its head of a place of a row. -/
abbrev sub (j : Fin 1024) : Fin 64 := ⟨j.val % 64, by omega⟩

/-- The softplus as the kernel spells it. -/
def spK (z : EReal) : EReal := max z 0 + Ideal.log (1 + Ideal.exp (0 - max z (-z)))

/-- The softplus as the reference spells it. -/
def spR (z : EReal) : EReal := max z 0 + Ideal.log1p (Ideal.exp (-max z (-z)))

/-- The two spellings of the softplus agree. -/
theorem sp_eq (z : EReal) : spR z = spK z := by
  unfold spR spK Ideal.log1p
  rw [zero_sub]

/-- The comparison of two places picks the later rows. -/
theorem sge_word (l s : Fin 128) : IntOp.cmpi CmpIPredicate.sge (BitVec.ofNat 32 l.val) (BitVec.ofNat 32 s.val) = if s.val ≤ l.val then 1#1 else 0#1 :=
  (by decide +kernel : ∀ l s : Fin 128, IntOp.cmpi CmpIPredicate.sge (BitVec.ofNat 32 l.val) (BitVec.ofNat 32 s.val) = if s.val ≤ l.val then 1#1 else 0#1) l s

/-- A selection by that comparison. -/
theorem sge_sel (l s : Fin 128) (x y : EReal) : Scalar.select (IntOp.cmpi CmpIPredicate.sge (BitVec.ofNat 32 l.val) (BitVec.ofNat 32 s.val)) x y = if s.val ≤ l.val then x else y := by
  rw [sge_word]
  split <;> rfl

/-- A selection of the first sixteen lanes. -/
theorem slt_sel (h : Fin 128) (x y : EReal) (hh : h.val < 16) : Scalar.select (IntOp.cmpi CmpIPredicate.slt (BitVec.ofNat 32 h.val) 16#32) x y = x := by
  have e : IntOp.cmpi CmpIPredicate.slt (BitVec.ofNat 32 h.val) 16#32 = 1#1 :=
    (by decide +kernel : ∀ h : Fin 128, h.val < 16 → IntOp.cmpi CmpIPredicate.slt (BitVec.ofNat 32 h.val) 16#32 = 1#1) h hh
  rw [e]
  rfl

/-- An exponential is not negative. -/
theorem exp_nonneg (z : EReal) : 0 ≤ Ideal.exp z := by
  induction z using EReal.rec with
  | bot => simp
  | coe r => rw [Ideal.exp_coe]; exact_mod_cast (Real.exp_pos r).le
  | top => simp

/-- The exponential of a number that is not positive is real. -/
theorem exp_real (z : EReal) (h : z ≤ 0) : ∃ r : ℝ, Ideal.exp z = r := by
  induction z using EReal.rec with
  | bot => exact ⟨0, by simp⟩
  | coe r => exact ⟨Real.exp r, Ideal.exp_coe r⟩
  | top => exact absurd h (by simp)

/-- The logarithm of a number at least one is not negative. -/
theorem log_nonneg (z : EReal) (h : 1 ≤ z) : 0 ≤ Ideal.log z := by
  induction z using EReal.rec with
  | bot => exact absurd (lt_of_lt_of_le (EReal.bot_lt_coe 1) h) (lt_irrefl _)
  | coe r =>
    have hr : (1 : ℝ) ≤ r := by exact_mod_cast h
    rw [Ideal.log_coe, if_neg (by linarith)]
    exact_mod_cast Real.log_nonneg hr
  | top => simp

/-- The softplus is not negative. -/
theorem sp_nonneg (z : EReal) : 0 ≤ spK z := by
  unfold spK
  refine add_nonneg (le_max_right _ _) (log_nonneg _ ?_)
  have := add_le_add_right (exp_nonneg (0 - max z (-z))) 1
  simpa using this

/-- A one-hot row picks one term out of a sum, whatever the others are. -/
theorem sum_pick {n : ℕ} (f : Fin n → EReal) (e : Fin n → EReal) (h : Fin n) (he : ∀ k, e k = if k = h then 1 else 0) :
    ∑ k : Fin n, f k * e k = f h := by
  rw [Finset.sum_eq_single h]
  · rw [he, if_pos rfl, mul_one]
  · intro b _ hb
    rw [he, if_neg hb, mul_zero]
  · intro hh; exact absurd (Finset.mem_univ _) hh

/-- A value split into what is kept and what is left over comes back whole when the value picked is real. -/
theorem sum_split3 {n : ℕ} (f : Fin n → EReal) (e : Fin n → EReal) (h : Fin n) (he : ∀ k, e k = if k = h then 1 else 0) (r : ℝ) (hr : f h = r) :
    ∑ k : Fin n, f k * e k + ∑ k : Fin n, (f k - f k) * e k + ∑ k : Fin n, (f k - f k - (f k - f k)) * e k = f h := by
  rw [sum_pick f e h he, sum_pick (fun k => f k - f k) e h he, sum_pick (fun k => f k - f k - (f k - f k)) e h he, hr]
  have : (r : EReal) - r = 0 := by rw [← EReal.coe_sub, sub_self]; rfl
  rw [this, sub_zero, add_zero, add_zero]

end Cert.Scan
-- ==== Proof.ScanPay.lean ====
/- The forward state-space scan: what the kernel's body computes, entry by entry. -/
module

public import proofs.«01_k».proof.Proof.Gen.Kernel18Ideal.Skeleton
public import proofs.«01_k».proof.Proof.ScanNum
public import Idealize.ShloMosaic.Lib.Tactic

@[expose] public section

noncomputable section

open Idealize.ShloMosaic Idealize.ShloMosaic.TcCoe Idealize.SL.Sem

namespace Cert.Scan

/-- The head a place of a row belongs to, as a place of a 128-wide row. -/
abbrev lane (j : Fin 1024) : Fin 128 := ⟨j.val / 64, by omega⟩

end Cert.Scan

namespace Cert.Kernel18Ideal.Value
open Cert.Kernel18Ideal Cert.Kernel18Ideal.Gen Cert.Scan

variable (par : Vec Ideal S8x128 .f32) (dtr : Vec Ideal S128x128 .bf16) (E : Vec Ideal S128x1024 .bf16) (T : Vec Ideal S128x128 .f32) (xs : Vec Ideal S128x1024 .f32) (P : Vec Ideal S128x1024 .f32)

/-- The rate of each head. -/
theorem pay4_apply (h : Fin 128) : (k0_pay4 par (ix2 0 h) : EReal) = - Ideal.exp (par (ix2 1 h)) := by
  unfold k0_pay4
  pointwise
  rw [zero_sub]

/-- The step of each row and head. -/
theorem pay5_apply (p : Fin 128) (h : Fin 128) (hh : h.val < 16) : (k0_pay5 par dtr (ix2 p h) : EReal) = spK (dtr (ix2 p h) + par (ix2 0 h)) := by
  unfold k0_pay5
  pointwise
  exact slt_sel h _ _ hh

/-- The running sums. -/
theorem pay6_apply (a : FVec Ideal S1x128 .f32) (d : FVec Ideal S128x128 .f32) (l : Fin 128) (h : Fin 128) : (k0_pay6 a d T (ix2 l h) : EReal) = ∑ s : Fin 128, T (ix2 l s) * (d (ix2 s h) * a (ix2 0 h)) := by
  unfold k0_pay6
  pointwise

/-- The step spread over the lanes. -/
theorem pay11_apply (d : FVec Ideal S128x128 .f32) (p : Fin 128) (j : Fin 1024) : (k0_pay11 d E (ix2 p j) : EReal) = ∑ h : Fin 128, d (ix2 p h) * E (ix2 h j) := by
  unfold k0_pay11 k0_pay8
  pointwise

/-- The decay to the chunk's end spread over the lanes. -/
theorem pay12_apply (a : FVec Ideal S1x128 .f32) (d : FVec Ideal S128x128 .f32) (p : Fin 128) (j : Fin 1024) : (k0_pay12 a d T E (ix2 p j) : EReal) = ∑ h : Fin 128, Ideal.exp (k0_pay6 a d T (ix2 127 h) - k0_pay6 a d T (ix2 p h)) * E (ix2 h j) := by
  unfold k0_pay12 k0_pay8 k0_pay7
  pointwise

/-- The decay from the chunk's start spread over the lanes. -/
theorem pay13_apply (a : FVec Ideal S1x128 .f32) (d : FVec Ideal S128x128 .f32) (p : Fin 128) (j : Fin 1024) : (k0_pay13 a d T E (ix2 p j) : EReal) = ∑ h : Fin 128, Ideal.exp (k0_pay6 a d T (ix2 p h)) * E (ix2 h j) := by
  unfold k0_pay13 k0_pay8
  pointwise

/-- The chunk's decay spread over the lanes. -/
theorem pay14_apply (s : FVec Ideal S1x128 .f32) (a : FVec Ideal S1x128 .f32) (d : FVec Ideal S128x128 .f32) (j : Fin 1024)
    (hE : ∀ k : Fin 128, (E (ix2 k j) : EReal) = if k = lane j then 1 else 0) (r : ℝ) (hr : Ideal.exp (k0_pay6 a d T (ix2 127 (lane j))) = r) :
    (k0_pay14 s a d T E (ix2 0 j) : EReal) = Ideal.exp (k0_pay6 a d T (ix2 127 (lane j))) := by
  refine Eq.trans ?_ (sum_split3 (fun k => Ideal.exp (k0_pay6 a d T (ix2 127 k))) (fun k => E (ix2 k j)) (lane j) hE r hr)
  unfold k0_pay14 k0_pay9 k0_pay8 k0_pay7
  pointwise

/-- The skip weights spread over the lanes. -/
theorem pay15_apply (s : FVec Ideal S1x128 .f32) (a : FVec Ideal S1x128 .f32) (d : FVec Ideal S128x128 .f32) (j : Fin 1024)
    (hE : ∀ k : Fin 128, (E (ix2 k j) : EReal) = if k = lane j then 1 else 0) (r : ℝ) (hr : (s (ix2 0 (lane j)) : EReal) = r) :
    (k0_pay15 s a d T E (ix2 0 j) : EReal) = s (ix2 0 (lane j)) := by
  refine Eq.trans ?_ (sum_split3 (fun k => s (ix2 0 k)) (fun k => E (ix2 k j)) (lane j) hE r hr)
  unfold k0_pay15 k0_pay9 k0_pay8 k0_pay7
  pointwise
  rfl

/-- The state after the chunk, first group. -/
theorem pay41_apply (e : FVec Ideal S1x1024 .f32) (w : FVec Ideal S128x1024 .bf16) (b : Vec Ideal S128x128 .f32) (n : Fin 128) (r : Fin 512) :
    (k0_pay41 e w P (k0_pay22 b) (ix2 n r) : EReal) = P (ix2 n ⟨r.val, by omega⟩) * e (ix2 0 ⟨r.val, by omega⟩) + ∑ l : Fin 128, b (ix2 l n) * w (ix2 l ⟨r.val, by omega⟩) := by
  unfold k0_pay41 k0_pay22
  pointwise

/-- The state after the chunk, second group. -/
theorem pay59_apply (e : FVec Ideal S1x1024 .f32) (w : FVec Ideal S128x1024 .bf16) (b : Vec Ideal S128x128 .f32) (n : Fin 128) (r : Fin 512) :
    (k0_pay59 e w P (k0_pay42 b) (ix2 n r) : EReal) = P (ix2 n ⟨512 + r.val, by omega⟩) * e (ix2 0 ⟨512 + r.val, by omega⟩) + ∑ l : Fin 128, b (ix2 l n) * w (ix2 l ⟨512 + r.val, by omega⟩) := by
  unfold k0_pay59 k0_pay42
  pointwise

/-- The scaled rows. -/
theorem pay18_apply (u v : FVec Ideal S128x1024 .f32) (p : Fin 128) (j : Fin 1024) :
    (k0_pay18 u v xs (ix2 p j) : EReal) = xs (ix2 p j) * u (ix2 p j) * v (ix2 p j) := by
  unfold k0_pay18 k0_pay16
  pointwise

/-- The zero the state starts from. -/
theorem pay2_apply (n : Fin 128) (j : Fin 1024) : (k0_pay2 (F := Ideal) (ix2 n j) : EReal) = 0 := by
  unfold k0_pay2
  pointwise

/-- The state as it is stored. -/
theorem pay19_apply (n : Fin 128) (j : Fin 1024) : (k0_pay19 P (ix3 0 n j) : EReal) = P (ix2 n j) := by
  unfold k0_pay19
  pointwise

end Cert.Kernel18Ideal.Value
-- ==== Proof.ScanBlk.lean ====
/- The forward state-space scan: the blocks a point of the call works on. -/
module

public import proofs.«01_k».proof.Proof.Gen.Kernel18Ideal.Frame
public import proofs.«01_k».proof.Proof.ScanPay
public import Idealize.ShloMosaic.Lib.Tactic

@[expose] public section

noncomputable section

open Idealize.ShloMosaic Idealize.ShloMosaic.TcCoe Idealize.SL.Sem Cert.Alg

namespace Cert.Kernel18Ideal.Value
open Cert.Kernel18Ideal Cert.Kernel18Ideal.Gen Cert.Scan

variable (m : (ℓ : Loc nD τ sig) → Buf (Elt Ideal) ℓ)

/-- The convolved rows. -/
abbrev A0 (c : Dev nD) : Vec Ideal S4096x1536 .f32 := m ((c : Thread nD τ).loc main_arg0)
/-- The projected rows. -/
abbrev A1 (c : Dev nD) : Vec Ideal S4096x5760 .bf16 := m ((c : Thread nD τ).loc main_arg1)
/-- The heads' parameters. -/
abbrev A2 (c : Dev nD) : Vec Ideal S8x128 .f32 := m ((c : Thread nD τ).loc main_arg2)

/-- A point as a chunk. -/
abbrev ck (t : Fin cfg0.N) : Fin 32 := ⟨t.val, by have := t.isLt; have h : cfg0.N = 32 := N_0; omega⟩

/-- A bit of a comparison as a number. -/
theorem bit_num (x : BitVec 1) (φ : FTy) (P : Prop) [Decidable P] (h : x = if P then 1#1 else 0#1) : (FloatOps.uitofp (F := Ideal) (w := 1) φ x : EReal) = if P then 1 else 0 := by
  rw [h]
  split
  · show ((((1#1 : BitVec 1).toNat : ℕ) : ℝ) : EReal) = 1
    norm_num
  · show ((((0#1 : BitVec 1).toNat : ℕ) : ℝ) : EReal) = 0
    norm_num

/-- The comparison of two places for equality. -/
theorem eq_word (l s : Fin 128) : IntOp.cmpi CmpIPredicate.eq (BitVec.ofNat 32 l.val) (BitVec.ofNat 32 s.val) = if l = s then 1#1 else 0#1 :=
  (by decide +kernel : ∀ l s : Fin 128, IntOp.cmpi CmpIPredicate.eq (BitVec.ofNat 32 l.val) (BitVec.ofNat 32 s.val) = if l = s then 1#1 else 0#1) l s

/-- The head of each lane, as the host divides for it. -/
def laneWord : IVec S1024 32 :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32))) (broadcastInDim S1024 ![] bcast_S_S1024 (constantI S_ 32 0#32))))
    (subi (Host.divsi (iotaInDim S1024 32 0) (broadcastInDim S1024 ![] bcast_S_S1024 (constantI S_ 32 64#32))) (broadcastInDim S1024 ![] bcast_S_S1024 (constantI S_ 32 1#32)))
    (Host.divsi (iotaInDim S1024 32 0) (broadcastInDim S1024 ![] bcast_S_S1024 (constantI S_ 32 64#32)))

/-- The host's division of a lane by the heads' width. -/
theorem laneWord_apply (j : Fin 1024) : (laneWord (ix1 j) : BitVec 32) = BitVec.ofNat 32 (lane j).val := by
  unfold laneWord
  revert j
  decide +kernel

/-- The lanes of each head. -/
theorem V_E (c : Dev nD) (h : Fin 128) (j : Fin 1024) : (V m c main_v9 (ix2 h j) : EReal) = (if h = lane j then 1 else 0 : EReal) := by
  dsimp only [V, hostOps0, hostOps0_1, hostOps0_2, List.flatten_cons, List.flatten_nil, List.append_nil, List.cons_append, List.nil_append]
  after_results
  pointwise
  refine bit_num _ _ (h = lane j) ?_
  refine Eq.trans (congrArg (IntOp.cmpi CmpIPredicate.eq (BitVec.ofNat 32 h.val)) (?_ : (_ : BitVec 32) = BitVec.ofNat 32 (lane j).val)) (eq_word h (lane j))
  exact Eq.trans (show _ = laneWord (ix1 j) from rfl) (laneWord_apply j)

/-- The rows up to each row. -/
theorem V_T (c : Dev nD) (l s : Fin 128) : (V m c main_v17 (ix2 l s) : EReal) = (if s.val ≤ l.val then 1 else 0 : EReal) := by
  dsimp only [V, hostOps0, hostOps0_1, hostOps0_2, List.flatten_cons, List.flatten_nil, List.append_nil, List.cons_append, List.nil_append]
  after_results
  pointwise
  exact bit_num _ _ _ (sge_word l s)

/-- Block 0 of a point. -/
theorem b0 (c : Dev nD) (t : Fin cfg0.N) (p : Fin 128) (q : Fin 1024) : (X0_0 m c t (ix2 p q) : EReal) = A0 m c (ix2 (row (ck t) p) (xcol q)) := by
  unfold X0_0 Pipeline.Window.fill
  rw [dif_pos (moved0_0 t (ix2 p q))]
  unfold iblk
  rw [View.read_apply]
  show (V m c main_arg0 _ : EReal) = _
  rw [V_main_arg0]
  congr 1
  funext a
  apply Fin.ext
  have hi : win0_0.index t 0 = t.val ∧ win0_0.index t 1 = 0 := (by decide +kernel : ∀ t : Fin grid0.N, win0_0.index t 0 = t.val ∧ win0_0.index t 1 = 0) t
  match a with
  | ⟨0, _⟩ => show win0_0.index t 0 * 128 + 1 * p.val = t.val * 128 + p.val; rw [hi.1]; omega
  | ⟨1, _⟩ => show win0_0.index t 1 * 1024 + 1 * q.val = q.val; rw [hi.2]; omega

/-- Block 1 of a point. -/
theorem b1 (c : Dev nD) (t : Fin cfg0.N) (p : Fin 128) (q : Fin 256) : (iblk m c 1 t (ix2 p q) : EReal) = A0 m c (ix2 (row (ck t) p) ⟨1024 + q.val, by omega⟩) := by
  unfold iblk
  rw [View.read_apply]
  show (V m c main_arg0 _ : EReal) = _
  rw [V_main_arg0]
  congr 1
  funext a
  apply Fin.ext
  have hi : win0_1.index t 0 = t.val ∧ win0_1.index t 1 = 4 := (by decide +kernel : ∀ t : Fin grid0.N, win0_1.index t 0 = t.val ∧ win0_1.index t 1 = 4) t
  match a with
  | ⟨0, _⟩ => show win0_1.index t 0 * 128 + 1 * p.val = t.val * 128 + p.val; rw [hi.1]; omega
  | ⟨1, _⟩ => show win0_1.index t 1 * 256 + 1 * q.val = 1024 + q.val; rw [hi.2]; omega

/-- Block 3 of a point. -/
theorem b3 (c : Dev nD) (t : Fin cfg0.N) (p : Fin 128) (q : Fin 128) : (iblk m c 3 t (ix2 p q) : EReal) = A1 m c (ix2 (row (ck t) p) ⟨5632 + q.val, by omega⟩) := by
  unfold iblk
  rw [View.read_apply]
  show (V m c main_arg1 _ : EReal) = _
  rw [V_main_arg1]
  congr 1
  funext a
  apply Fin.ext
  have hi : win0_3.index t 0 = t.val ∧ win0_3.index t 1 = 44 := (by decide +kernel : ∀ t : Fin grid0.N, win0_3.index t 0 = t.val ∧ win0_3.index t 1 = 44) t
  match a with
  | ⟨0, _⟩ => show win0_3.index t 0 * 128 + 1 * p.val = t.val * 128 + p.val; rw [hi.1]; omega
  | ⟨1, _⟩ => show win0_3.index t 1 * 128 + 1 * q.val = 5632 + q.val; rw [hi.2]; omega

/-- Block 5 of a point. -/
theorem b5 (c : Dev nD) (t : Fin cfg0.N) (p : Fin 8) (q : Fin 128) : (iblk m c 5 t (ix2 p q) : EReal) = A2 m c (ix2 p q) := by
  unfold iblk
  rw [View.read_apply]
  show (V m c main_arg2 _ : EReal) = _
  rw [V_main_arg2]
  congr 1
  funext a
  apply Fin.ext
  have hi : win0_5.index t 0 = 0 ∧ win0_5.index t 1 = 0 := (by decide +kernel : ∀ t : Fin grid0.N, win0_5.index t 0 = 0 ∧ win0_5.index t 1 = 0) t
  match a with
  | ⟨0, _⟩ => show win0_5.index t 0 * 8 + 1 * p.val = p.val; rw [hi.1]; omega
  | ⟨1, _⟩ => show win0_5.index t 1 * 128 + 1 * q.val = q.val; rw [hi.2]; omega

/-- Block 6 of a point. -/
theorem b6 (c : Dev nD) (t : Fin cfg0.N) (p : Fin 128) (q : Fin 1024) : (iblk m c 6 t (ix2 p q) : EReal) = (if p = lane q then 1 else 0 : EReal) := by
  unfold iblk
  rw [View.read_apply]
  refine Eq.trans (congrArg (V m c main_v9) (?_ : _ = ix2 p q)) (V_E m c p q)
  funext a
  apply Fin.ext
  have hi : win0_6.index t 0 = 0 ∧ win0_6.index t 1 = 0 := (by decide +kernel : ∀ t : Fin grid0.N, win0_6.index t 0 = 0 ∧ win0_6.index t 1 = 0) t
  match a with
  | ⟨0, _⟩ => show win0_6.index t 0 * 128 + 1 * p.val = p.val; rw [hi.1]; omega
  | ⟨1, _⟩ => show win0_6.index t 1 * 1024 + 1 * q.val = q.val; rw [hi.2]; omega

/-- Block 7 of a point. -/
theorem b7 (c : Dev nD) (t : Fin cfg0.N) (p : Fin 128) (q : Fin 128) : (iblk m c 7 t (ix2 p q) : EReal) = (if q.val ≤ p.val then 1 else 0 : EReal) := by
  unfold iblk
  rw [View.read_apply]
  refine Eq.trans (congrArg (V m c main_v17) (?_ : _ = ix2 p q)) (V_T m c p q)
  funext a
  apply Fin.ext
  have hi : win0_7.index t 0 = 0 ∧ win0_7.index t 1 = 0 := (by decide +kernel : ∀ t : Fin grid0.N, win0_7.index t 0 = 0 ∧ win0_7.index t 1 = 0) t
  match a with
  | ⟨0, _⟩ => show win0_7.index t 0 * 128 + 1 * p.val = p.val; rw [hi.1]; omega
  | ⟨1, _⟩ => show win0_7.index t 1 * 128 + 1 * q.val = q.val; rw [hi.2]; omega

end Cert.Kernel18Ideal.Value

end
-- ==== Proof.ScanCase.lean ====
/- The forward state-space scan: what a point of the call leaves. -/
module

public import proofs.«01_k».proof.Proof.Gen.Kernel18Ideal.Frame
public import proofs.«01_k».proof.Proof.ScanPay
public import Idealize.ShloMosaic.Lib.Tactic

@[expose] public section

noncomputable section

open Idealize.ShloMosaic Idealize.ShloMosaic.TcCoe Idealize.SL.Sem Cert.Alg

namespace Cert.Kernel18Ideal.Value
open Cert.Kernel18Ideal Cert.Kernel18Ideal.Gen Cert.Scan

theorem hz : (![0, 0] : Fin 2 → Nat) = fun _ => 0 := funext fun a => by fin_cases a <;> rfl

theorem hz3 : (![0, 0, 0] : Fin 3 → Nat) = fun _ => 0 := funext fun a => by fin_cases a <;> rfl

/-- The chunk's rows times their steps and the decays to the chunk's end. -/
abbrev Xdte (x0 : Vec Ideal S128x1024 .f32) (x3 : Vec Ideal S128x128 .bf16) (x5 : Vec Ideal S8x128 .f32) (x6 : Vec Ideal S128x1024 .bf16) (x7 : Vec Ideal S128x128 .f32) : FVec Ideal S128x1024 .bf16 :=
  k0_pay18 (k0_pay11 (k0_pay5 x5 x3) x6) (k0_pay12 (k0_pay4 x5) (k0_pay5 x5 x3) x7 x6) x0

/-- The chunk's decay over the lanes. -/
abbrev Ecl (x3 : Vec Ideal S128x128 .bf16) (x5 : Vec Ideal S8x128 .f32) (x6 : Vec Ideal S128x1024 .bf16) (x7 : Vec Ideal S128x128 .f32) : FVec Ideal S1x1024 .f32 :=
  k0_pay14 (k0_pay3 x5) (k0_pay4 x5) (k0_pay5 x5 x3) x7 x6

/-- The first group's input projection. -/
abbrev bg0 (x1 : Vec Ideal S128x256 .f32) : Vec Ideal S128x128 .f32 := View.ld x1 (Rect.unit ![0, 0] ![128, 128] inb_S128x256_S128x128_0_0)

/-- The second group's input projection. -/
abbrev bg1 (x1 : Vec Ideal S128x256 .f32) : Vec Ideal S128x128 .f32 := View.ld x1 (Rect.unit ![0, 128] ![128, 128] inb_S128x256_S128x128_0_128)

/-- The right half of a row after a store of the right half. -/
theorem canon_right (w : Vec Ideal S128x512 .f32) (L : List (View.Piece (Elt Ideal) S128x1024 .f32)) (n : Fin 128) (j : Fin 1024) (h : ¬j.val < 512) :
    (View.canon (⟨Rect.unit ![0, 512] ![128, 512] inb_S128x1024_S128x512_0_512, w⟩ :: L) (ix2 n j) : EReal) = w (ix2 n ⟨j.val - 512, by omega⟩) := by
  have e : (ix2 n j : S128x1024.Idx) = (Rect.unit ![0, 512] ![128, 512] inb_S128x1024_S128x512_0_512).emb (ix2 n ⟨j.val - 512, by omega⟩) := by
    funext a
    apply Fin.ext
    match a with
    | ⟨0, _⟩ => show n.val = 0 + 1 * n.val; omega
    | ⟨1, _⟩ => show j.val = 512 + 1 * (j.val - 512); omega
  rw [e]
  exact View.canon_cons_emb _ _ _ _

/-- The left half of a row after a store of the left half. -/
theorem canon_left (w : Vec Ideal S128x512 .f32) (L : List (View.Piece (Elt Ideal) S128x1024 .f32)) (n : Fin 128) (j : Fin 1024) (h : j.val < 512) :
    (View.canon (⟨Rect.unit ![0, 0] ![128, 512] inb_S128x1024_S128x512_0_0, w⟩ :: L) (ix2 n j) : EReal) = w (ix2 n ⟨j.val, h⟩) := by
  have e : (ix2 n j : S128x1024.Idx) = (Rect.unit ![0, 0] ![128, 512] inb_S128x1024_S128x512_0_0).emb (ix2 n ⟨j.val, h⟩) := by
    funext a
    apply Fin.ext
    match a with
    | ⟨0, _⟩ => show n.val = 0 + 1 * n.val; omega
    | ⟨1, _⟩ => show j.val = 0 + 1 * j.val; omega
  rw [e]
  exact View.canon_cons_emb _ _ _ _

/-- The left half of a row is untouched by a store of the right half. -/
theorem canon_skip (w : Vec Ideal S128x512 .f32) (L : List (View.Piece (Elt Ideal) S128x1024 .f32)) (n : Fin 128) (j : Fin 1024) (h : j.val < 512) :
    (View.canon (⟨Rect.unit ![0, 512] ![128, 512] inb_S128x1024_S128x512_0_512, w⟩ :: L) (ix2 n j) : EReal) = View.canon L (ix2 n j) := by
  refine View.canon_cons_of_not_mem _ _ fun hm => ?_
  have h2 : 512 ≤ j.val := ((Rect.mem_set_unit (inb := inb_S128x1024_S128x512_0_512)).mp hm 1).1
  omega

/-- The state after the chunk. -/
abbrev newP (x0 : Vec Ideal S128x1024 .f32) (x1 : Vec Ideal S128x256 .f32) (x3 : Vec Ideal S128x128 .bf16) (x5 : Vec Ideal S8x128 .f32) (x6 : Vec Ideal S128x1024 .bf16) (x7 : Vec Ideal S128x128 .f32) (P : Vec Ideal S128x1024 .f32) (n : Fin 128) (j : Fin 1024) : EReal :=
  if h : j.val < 512 then k0_pay41 (Ecl x3 x5 x6 x7) (Xdte x0 x3 x5 x6 x7) P (k0_pay22 (bg0 x1)) (ix2 n ⟨j.val, h⟩)
  else k0_pay59 (Ecl x3 x5 x6 x7) (Xdte x0 x3 x5 x6 x7) P (k0_pay42 (bg1 x1)) (ix2 n ⟨j.val - 512, by omega⟩)

/-- The first point of a sequence leaves the state it found. -/
theorem out11_A (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x128 .bf16) (harg4 : arg4.IsWhole) (arg5 : Memref sig .tc .vmem S128x1024 .bf16) (harg5 : arg5.IsWhole) (arg6 : Memref sig .tc .vmem S8x128 .f32) (harg6 : arg6.IsWhole) (arg7 : Memref sig .tc .vmem S128x1024 .bf16) (harg7 : arg7.IsWhole) (arg8 : Memref sig .tc .vmem S128x128 .f32) (harg8 : arg8.IsWhole) (arg9 : Memref sig .tc .vmem S1x1024 .f32) (harg9 : arg9.IsWhole) (arg11 : Memref sig .tc .vmem S128x1024 .bf16) (harg11 : arg11.IsWhole) (arg12 : Memref sig .tc .vmem S128x1024 .f32) (harg12 : arg12.IsWhole) (arg13 : Memref sig .tc .vmem S1x128x1024 .f32) (harg13 : arg13.IsWhole) (arg14 : Memref sig .tc .vmem S128x1024 .f32) (harg14 : arg14.IsWhole) (arg15 : Memref sig .tc .vmem S128x1024 .f32) (harg15 : arg15.IsWhole) (hc0 : cond0_0 i)
    (x0 : Vec Ideal S128x1024 .f32) (x1 : Vec Ideal S128x256 .f32) (x2 : Vec Ideal S128x256 .f32) (x3 : Vec Ideal S128x128 .bf16) (x4 : Vec Ideal S128x1024 .bf16) (x5 : Vec Ideal S8x128 .f32) (x6 : Vec Ideal S128x1024 .bf16) (x7 : Vec Ideal S128x128 .f32) (x8 : Vec Ideal S1x1024 .f32) :
    out0_A_11 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8 = (k0_pay19 (k0_pay2 (F := Ideal)) : FVec Ideal S1x128x1024 .f32) := by
  unfold out0_A_11
  rw [View.read_writes_eq_canon _ _ _ (cover0_A_11 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8)]
  unfold kernelRun0_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S128x1024) hz, View.ld_unit_zero (S := S8x128) hz, View.ld_unit_zero (S := S128x128) hz]
  rw [View.readCov_unit_zero _ hz]

/-- The first point of a sequence leaves the state after the chunk in the scratch. -/
theorem sout_A (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x128 .bf16) (harg4 : arg4.IsWhole) (arg5 : Memref sig .tc .vmem S128x1024 .bf16) (harg5 : arg5.IsWhole) (arg6 : Memref sig .tc .vmem S8x128 .f32) (harg6 : arg6.IsWhole) (arg7 : Memref sig .tc .vmem S128x1024 .bf16) (harg7 : arg7.IsWhole) (arg8 : Memref sig .tc .vmem S128x128 .f32) (harg8 : arg8.IsWhole) (arg9 : Memref sig .tc .vmem S1x1024 .f32) (harg9 : arg9.IsWhole) (arg11 : Memref sig .tc .vmem S128x1024 .bf16) (harg11 : arg11.IsWhole) (arg12 : Memref sig .tc .vmem S128x1024 .f32) (harg12 : arg12.IsWhole) (arg13 : Memref sig .tc .vmem S1x128x1024 .f32) (harg13 : arg13.IsWhole) (arg14 : Memref sig .tc .vmem S128x1024 .f32) (harg14 : arg14.IsWhole) (arg15 : Memref sig .tc .vmem S128x1024 .f32) (harg15 : arg15.IsWhole) (hc0 : cond0_0 i)
    (x0 : Vec Ideal S128x1024 .f32) (x1 : Vec Ideal S128x256 .f32) (x2 : Vec Ideal S128x256 .f32) (x3 : Vec Ideal S128x128 .bf16) (x4 : Vec Ideal S128x1024 .bf16) (x5 : Vec Ideal S8x128 .f32) (x6 : Vec Ideal S128x1024 .bf16) (x7 : Vec Ideal S128x128 .f32) (x8 : Vec Ideal S1x1024 .f32) (n : Fin 128) (j : Fin 1024) :
    (sout0_A_0 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8 (ix2 n j) : EReal) = newP x0 x1 x3 x5 x6 x7 (k0_pay2 (F := Ideal)) n j := by
  unfold sout0_A_0
  rw [View.read_writes_eq_canon _ _ _ (scover0_A_0 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S128x1024) hz, View.ld_unit_zero (S := S8x128) hz, View.ld_unit_zero (S := S128x128) hz]
  rw [View.readCov_unit_zero _ hz]
  unfold newP
  split
  · rename_i h
    rw [canon_skip _ _ _ _ h, canon_left _ _ _ _ h]
  · rename_i h
    rw [canon_right _ _ _ _ h]

/-- A point inside a sequence leaves the state it found. -/
theorem out11_B (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x128 .bf16) (harg4 : arg4.IsWhole) (arg5 : Memref sig .tc .vmem S128x1024 .bf16) (harg5 : arg5.IsWhole) (arg6 : Memref sig .tc .vmem S8x128 .f32) (harg6 : arg6.IsWhole) (arg7 : Memref sig .tc .vmem S128x1024 .bf16) (harg7 : arg7.IsWhole) (arg8 : Memref sig .tc .vmem S128x128 .f32) (harg8 : arg8.IsWhole) (arg9 : Memref sig .tc .vmem S1x1024 .f32) (harg9 : arg9.IsWhole) (arg11 : Memref sig .tc .vmem S128x1024 .bf16) (harg11 : arg11.IsWhole) (arg12 : Memref sig .tc .vmem S128x1024 .f32) (harg12 : arg12.IsWhole) (arg13 : Memref sig .tc .vmem S1x128x1024 .f32) (harg13 : arg13.IsWhole) (arg14 : Memref sig .tc .vmem S128x1024 .f32) (harg14 : arg14.IsWhole) (arg15 : Memref sig .tc .vmem S128x1024 .f32) (harg15 : arg15.IsWhole) (hc0 : ¬cond0_0 i)
    (x0 : Vec Ideal S128x1024 .f32) (x1 : Vec Ideal S128x256 .f32) (x2 : Vec Ideal S128x256 .f32) (x3 : Vec Ideal S128x128 .bf16) (x4 : Vec Ideal S128x1024 .bf16) (x5 : Vec Ideal S8x128 .f32) (x6 : Vec Ideal S128x1024 .bf16) (x7 : Vec Ideal S128x128 .f32) (x8 : Vec Ideal S1x1024 .f32) (xs0 : Vec Ideal S128x1024 .f32) :
    out0_B_11 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8 xs0 = (k0_pay19 xs0 : FVec Ideal S1x128x1024 .f32) := by
  unfold out0_B_11
  rw [View.read_writes_eq_canon _ _ _ (cover0_B_11 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8 xs0)]
  unfold kernelRun0_B
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S128x1024) hz, View.ld_unit_zero (S := S8x128) hz, View.ld_unit_zero (S := S128x128) hz]

/-- A point inside a sequence leaves the state after the chunk in the scratch. -/
theorem sout_B (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x128 .bf16) (harg4 : arg4.IsWhole) (arg5 : Memref sig .tc .vmem S128x1024 .bf16) (harg5 : arg5.IsWhole) (arg6 : Memref sig .tc .vmem S8x128 .f32) (harg6 : arg6.IsWhole) (arg7 : Memref sig .tc .vmem S128x1024 .bf16) (harg7 : arg7.IsWhole) (arg8 : Memref sig .tc .vmem S128x128 .f32) (harg8 : arg8.IsWhole) (arg9 : Memref sig .tc .vmem S1x1024 .f32) (harg9 : arg9.IsWhole) (arg11 : Memref sig .tc .vmem S128x1024 .bf16) (harg11 : arg11.IsWhole) (arg12 : Memref sig .tc .vmem S128x1024 .f32) (harg12 : arg12.IsWhole) (arg13 : Memref sig .tc .vmem S1x128x1024 .f32) (harg13 : arg13.IsWhole) (arg14 : Memref sig .tc .vmem S128x1024 .f32) (harg14 : arg14.IsWhole) (arg15 : Memref sig .tc .vmem S128x1024 .f32) (harg15 : arg15.IsWhole) (hc0 : ¬cond0_0 i)
    (x0 : Vec Ideal S128x1024 .f32) (x1 : Vec Ideal S128x256 .f32) (x2 : Vec Ideal S128x256 .f32) (x3 : Vec Ideal S128x128 .bf16) (x4 : Vec Ideal S128x1024 .bf16) (x5 : Vec Ideal S8x128 .f32) (x6 : Vec Ideal S128x1024 .bf16) (x7 : Vec Ideal S128x128 .f32) (x8 : Vec Ideal S1x1024 .f32) (xs0 : Vec Ideal S128x1024 .f32) (n : Fin 128) (j : Fin 1024) :
    (sout0_B_0 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8 xs0 (ix2 n j) : EReal) = newP x0 x1 x3 x5 x6 x7 xs0 n j := by
  unfold sout0_B_0
  rw [View.read_writes_eq_canon _ _ _ (scover0_B_0 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S128x1024) hz, View.ld_unit_zero (S := S8x128) hz, View.ld_unit_zero (S := S128x128) hz]

  unfold newP
  split
  · rename_i h
    rw [canon_skip _ _ _ _ h, canon_left _ _ _ _ h]
  · rename_i h
    rw [canon_right _ _ _ _ h]

end Cert.Kernel18Ideal.Value
-- ==== Proof.ScanRef.lean ====
/- The forward state-space scan: what the reference computes, entry by entry. -/
module

public import proofs.«01_k».proof.Proof.Gen.Reference18Ideal.Read
public import proofs.«01_k».proof.Proof.Rms
public import proofs.«01_k».proof.Proof.ScanNum
public import Idealize.ShloMosaic.Lib.Tactic

@[expose] public section

noncomputable section

open Idealize.ShloMosaic Idealize.ShloMosaic.TcCoe Idealize.SL.Sem Cert.Alg

namespace Cert.Reference18Ideal.Read
open Cert.Reference18Ideal Cert.Reference18Ideal.Gen Cert.Scan

variable (x0 : (⟨S4096x1536, .f32⟩ : BufTy).Contents (Elt Ideal)) (x1 : (⟨S4096x5760, .bf16⟩ : BufTy).Contents (Elt Ideal)) (x2 : (⟨S8x128, .f32⟩ : BufTy).Contents (Elt Ideal))

/-- The step of a row and head. -/
theorem dt_apply (t : Fin 32) (p : Fin 128) (h : Fin 16) :
    (val_main_v12 (F := Ideal) x1 x2 (ix3 t p h) : EReal) = spR (x1 (ix2 (row t p) (dcol h)) + x2 (ix2 0 (hl h))) := by
  pointwise [val_main_v4, val_main_v5, val_main_v6, val_main_v7, val_main_v8, val_main_v9, val_main_v10, val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_v11, val_main_v12]
  rw [if_neg (not_not.mpr rfl)]
  rfl

/-- The running sums of a chunk. -/
theorem cs_apply (t : Fin 32) (l : Fin 128) (h : Fin 16) :
    (val_main_v29 (F := Ideal) x1 x2 (ix3 t l h) : EReal) = ∑ s : Fin 128, if s.val ≤ l.val then val_main_v12 (F := Ideal) x1 x2 (ix3 t s h) * -Ideal.exp (x2 (ix2 1 (hl h))) else 0 := by
  pointwise [val_main_v13, val_main_v14, val_main_v15, val_main_v16, val_main_v17, val_main_v18, val_main_v19, val_main_v20, val_main_v21, val_main_v22, val_main_v23, val_main_v24, val_main_v25, val_main_v26, val_main_v27, val_main_cst, val_main_call1_v0, val_main_call1_v1, val_main_call1_v2, val_main_call1_v3, val_main_v28, val_main_cst_0, val_main_v29]
  refine Finset.sum_congr rfl fun s _ => ?_
  rw [sge_sel]
  split
  · rfl
  · show (Ideal.ofBits FTy.f32 0#32 : EReal) = 0
    simp [Ideal.ofBits, Ideal.ieee]

/-- The rows scaled by their steps. -/
theorem xdt_apply (t : Fin 32) (p : Fin 128) (h : Fin 16) (e : Fin 64) :
    (val_main_v32 (F := Ideal) x0 x1 x2 (ix4 t p h e) : EReal) = x0 (ix2 (row t p) (xcol (hcol h e))) * val_main_v12 (F := Ideal) x1 x2 (ix3 t p h) := by
  pointwise [val_main_v0, val_main_v1, val_main_v30, val_main_v31, val_main_v32]

/-- What a chunk adds to the state. -/
theorem add_apply (b : Fin 2) (k : Fin 16) (n : Fin 128) (h : Fin 16) (e : Fin 64) :
    (val_main_v43 (F := Ideal) x0 x1 x2 (ix5 b k n h e) : EReal)
      = ∑ l : Fin 128, val_main_v32 (F := Ideal) x0 x1 x2 (ix4 (chunk b k) l h e) * Ideal.exp (val_main_v29 (F := Ideal) x1 x2 (ix3 (chunk b k) 127 h) - val_main_v29 (F := Ideal) x1 x2 (ix3 (chunk b k) l h)) * x0 (ix2 (row (chunk b k) l) (bcol h n)) := by
  pointwise [val_main_v2, val_main_v3, val_main_v33, val_main_v34, val_main_v35, val_main_v36, val_main_v37, val_main_v38, val_main_v39, val_main_v40, val_main_v41, val_main_v42, val_main_v43]

/-- A chunk's decay. -/
theorem decay_apply (b : Fin 2) (k : Fin 16) (h : Fin 16) :
    (val_main_v47 (F := Ideal) x1 x2 (ix5 b k 0 h 0) : EReal) = Ideal.exp (val_main_v29 (F := Ideal) x1 x2 (ix3 (chunk b k) 127 h)) := by
  pointwise [val_main_v44, val_main_v45, val_main_v46, val_main_v47]

/-- The state at a sequence's start is zero. -/
theorem carry_0 (b : Fin 2) (n : Fin 128) (h : Fin 16) (e : Fin 64) : (val_main_v48 (F := Ideal) (ix4 b n h e) : EReal) = 0 := by
  pointwise [val_main_cst_1, val_main_v48]

/-- The state after chunk 0 of a sequence. -/
theorem carry_1 (b : Fin 2) (n : Fin 128) (h : Fin 16) (e : Fin 64) :
    (val_main_v55 (F := Ideal) x0 x1 x2 (ix4 b n h e) : EReal) = val_main_v48 (F := Ideal) (ix4 b n h e) * val_main_v47 (F := Ideal) x1 x2 (ix5 b 0 0 h 0) + val_main_v43 (F := Ideal) x0 x1 x2 (ix5 b 0 n h e) := by
  pointwise [val_main_v49, val_main_v50, val_main_v51, val_main_v52, val_main_v53, val_main_v54, val_main_v55]

/-- The state after chunk 1 of a sequence. -/
theorem carry_2 (b : Fin 2) (n : Fin 128) (h : Fin 16) (e : Fin 64) :
    (val_main_v62 (F := Ideal) x0 x1 x2 (ix4 b n h e) : EReal) = val_main_v55 (F := Ideal) x0 x1 x2 (ix4 b n h e) * val_main_v47 (F := Ideal) x1 x2 (ix5 b 1 0 h 0) + val_main_v43 (F := Ideal) x0 x1 x2 (ix5 b 1 n h e) := by
  pointwise [val_main_v56, val_main_v57, val_main_v58, val_main_v59, val_main_v60, val_main_v61, val_main_v62]

/-- The state after chunk 2 of a sequence. -/
theorem carry_3 (b : Fin 2) (n : Fin 128) (h : Fin 16) (e : Fin 64) :
    (val_main_v69 (F := Ideal) x0 x1 x2 (ix4 b n h e) : EReal) = val_main_v62 (F := Ideal) x0 x1 x2 (ix4 b n h e) * val_main_v47 (F := Ideal) x1 x2 (ix5 b 2 0 h 0) + val_main_v43 (F := Ideal) x0 x1 x2 (ix5 b 2 n h e) := by
  pointwise [val_main_v63, val_main_v64, val_main_v65, val_main_v66, val_main_v67, val_main_v68, val_main_v69]

/-- The state after chunk 3 of a sequence. -/
theorem carry_4 (b : Fin 2) (n : Fin 128) (h : Fin 16) (e : Fin 64) :
    (val_main_v76 (F := Ideal) x0 x1 x2 (ix4 b n h e) : EReal) = val_main_v69 (F := Ideal) x0 x1 x2 (ix4 b n h e) * val_main_v47 (F := Ideal) x1 x2 (ix5 b 3 0 h 0) + val_main_v43 (F := Ideal) x0 x1 x2 (ix5 b 3 n h e) := by
  pointwise [val_main_v70, val_main_v71, val_main_v72, val_main_v73, val_main_v74, val_main_v75, val_main_v76]

/-- The state after chunk 4 of a sequence. -/
theorem carry_5 (b : Fin 2) (n : Fin 128) (h : Fin 16) (e : Fin 64) :
    (val_main_v83 (F := Ideal) x0 x1 x2 (ix4 b n h e) : EReal) = val_main_v76 (F := Ideal) x0 x1 x2 (ix4 b n h e) * val_main_v47 (F := Ideal) x1 x2 (ix5 b 4 0 h 0) + val_main_v43 (F := Ideal) x0 x1 x2 (ix5 b 4 n h e) := by
  pointwise [val_main_v77, val_main_v78, val_main_v79, val_main_v80, val_main_v81, val_main_v82, val_main_v83]

/-- The state after chunk 5 of a sequence. -/
theorem carry_6 (b : Fin 2) (n : Fin 128) (h : Fin 16) (e : Fin 64) :
    (val_main_v90 (F := Ideal) x0 x1 x2 (ix4 b n h e) : EReal) = val_main_v83 (F := Ideal) x0 x1 x2 (ix4 b n h e) * val_main_v47 (F := Ideal) x1 x2 (ix5 b 5 0 h 0) + val_main_v43 (F := Ideal) x0 x1 x2 (ix5 b 5 n h e) := by
  pointwise [val_main_v84, val_main_v85, val_main_v86, val_main_v87, val_main_v88, val_main_v89, val_main_v90]

/-- The state after chunk 6 of a sequence. -/
theorem carry_7 (b : Fin 2) (n : Fin 128) (h : Fin 16) (e : Fin 64) :
    (val_main_v97 (F := Ideal) x0 x1 x2 (ix4 b n h e) : EReal) = val_main_v90 (F := Ideal) x0 x1 x2 (ix4 b n h e) * val_main_v47 (F := Ideal) x1 x2 (ix5 b 6 0 h 0) + val_main_v43 (F := Ideal) x0 x1 x2 (ix5 b 6 n h e) := by
  pointwise [val_main_v91, val_main_v92, val_main_v93, val_main_v94, val_main_v95, val_main_v96, val_main_v97]

/-- The state after chunk 7 of a sequence. -/
theorem carry_8 (b : Fin 2) (n : Fin 128) (h : Fin 16) (e : Fin 64) :
    (val_main_v104 (F := Ideal) x0 x1 x2 (ix4 b n h e) : EReal) = val_main_v97 (F := Ideal) x0 x1 x2 (ix4 b n h e) * val_main_v47 (F := Ideal) x1 x2 (ix5 b 7 0 h 0) + val_main_v43 (F := Ideal) x0 x1 x2 (ix5 b 7 n h e) := by
  pointwise [val_main_v98, val_main_v99, val_main_v100, val_main_v101, val_main_v102, val_main_v103, val_main_v104]

/-- The state after chunk 8 of a sequence. -/
theorem carry_9 (b : Fin 2) (n : Fin 128) (h : Fin 16) (e : Fin 64) :
    (val_main_v111 (F := Ideal) x0 x1 x2 (ix4 b n h e) : EReal) = val_main_v104 (F := Ideal) x0 x1 x2 (ix4 b n h e) * val_main_v47 (F := Ideal) x1 x2 (ix5 b 8 0 h 0) + val_main_v43 (F := Ideal) x0 x1 x2 (ix5 b 8 n h e) := by
  pointwise [val_main_v105, val_main_v106, val_main_v107, val_main_v108, val_main_v109, val_main_v110, val_main_v111]

/-- The state after chunk 9 of a sequence. -/
theorem carry_10 (b : Fin 2) (n : Fin 128) (h : Fin 16) (e : Fin 64) :
    (val_main_v118 (F := Ideal) x0 x1 x2 (ix4 b n h e) : EReal) = val_main_v111 (F := Ideal) x0 x1 x2 (ix4 b n h e) * val_main_v47 (F := Ideal) x1 x2 (ix5 b 9 0 h 0) + val_main_v43 (F := Ideal) x0 x1 x2 (ix5 b 9 n h e) := by
  pointwise [val_main_v112, val_main_v113, val_main_v114, val_main_v115, val_main_v116, val_main_v117, val_main_v118]

/-- The state after chunk 10 of a sequence. -/
theorem carry_11 (b : Fin 2) (n : Fin 128) (h : Fin 16) (e : Fin 64) :
    (val_main_v125 (F := Ideal) x0 x1 x2 (ix4 b n h e) : EReal) = val_main_v118 (F := Ideal) x0 x1 x2 (ix4 b n h e) * val_main_v47 (F := Ideal) x1 x2 (ix5 b 10 0 h 0) + val_main_v43 (F := Ideal) x0 x1 x2 (ix5 b 10 n h e) := by
  pointwise [val_main_v119, val_main_v120, val_main_v121, val_main_v122, val_main_v123, val_main_v124, val_main_v125]

/-- The state after chunk 11 of a sequence. -/
theorem carry_12 (b : Fin 2) (n : Fin 128) (h : Fin 16) (e : Fin 64) :
    (val_main_v132 (F := Ideal) x0 x1 x2 (ix4 b n h e) : EReal) = val_main_v125 (F := Ideal) x0 x1 x2 (ix4 b n h e) * val_main_v47 (F := Ideal) x1 x2 (ix5 b 11 0 h 0) + val_main_v43 (F := Ideal) x0 x1 x2 (ix5 b 11 n h e) := by
  pointwise [val_main_v126, val_main_v127, val_main_v128, val_main_v129, val_main_v130, val_main_v131, val_main_v132]

/-- The state after chunk 12 of a sequence. -/
theorem carry_13 (b : Fin 2) (n : Fin 128) (h : Fin 16) (e : Fin 64) :
    (val_main_v139 (F := Ideal) x0 x1 x2 (ix4 b n h e) : EReal) = val_main_v132 (F := Ideal) x0 x1 x2 (ix4 b n h e) * val_main_v47 (F := Ideal) x1 x2 (ix5 b 12 0 h 0) + val_main_v43 (F := Ideal) x0 x1 x2 (ix5 b 12 n h e) := by
  pointwise [val_main_v133, val_main_v134, val_main_v135, val_main_v136, val_main_v137, val_main_v138, val_main_v139]

/-- The state after chunk 13 of a sequence. -/
theorem carry_14 (b : Fin 2) (n : Fin 128) (h : Fin 16) (e : Fin 64) :
    (val_main_v146 (F := Ideal) x0 x1 x2 (ix4 b n h e) : EReal) = val_main_v139 (F := Ideal) x0 x1 x2 (ix4 b n h e) * val_main_v47 (F := Ideal) x1 x2 (ix5 b 13 0 h 0) + val_main_v43 (F := Ideal) x0 x1 x2 (ix5 b 13 n h e) := by
  pointwise [val_main_v140, val_main_v141, val_main_v142, val_main_v143, val_main_v144, val_main_v145, val_main_v146]

/-- The state after chunk 14 of a sequence. -/
theorem carry_15 (b : Fin 2) (n : Fin 128) (h : Fin 16) (e : Fin 64) :
    (val_main_v153 (F := Ideal) x0 x1 x2 (ix4 b n h e) : EReal) = val_main_v146 (F := Ideal) x0 x1 x2 (ix4 b n h e) * val_main_v47 (F := Ideal) x1 x2 (ix5 b 14 0 h 0) + val_main_v43 (F := Ideal) x0 x1 x2 (ix5 b 14 n h e) := by
  pointwise [val_main_v147, val_main_v148, val_main_v149, val_main_v150, val_main_v151, val_main_v152, val_main_v153]

/-- The states at the chunks' starts, one after the other. -/
def pieces : Fin 16 → S2x1x128x16x64.Idx → EReal := ![val_main_v161 (F := Ideal), val_main_v162 (F := Ideal) x0 x1 x2, val_main_v163 (F := Ideal) x0 x1 x2, val_main_v164 (F := Ideal) x0 x1 x2, val_main_v165 (F := Ideal) x0 x1 x2, val_main_v166 (F := Ideal) x0 x1 x2, val_main_v167 (F := Ideal) x0 x1 x2, val_main_v168 (F := Ideal) x0 x1 x2, val_main_v169 (F := Ideal) x0 x1 x2, val_main_v170 (F := Ideal) x0 x1 x2, val_main_v171 (F := Ideal) x0 x1 x2, val_main_v172 (F := Ideal) x0 x1 x2, val_main_v173 (F := Ideal) x0 x1 x2, val_main_v174 (F := Ideal) x0 x1 x2, val_main_v175 (F := Ideal) x0 x1 x2, val_main_v176 (F := Ideal) x0 x1 x2]

/-- A kept state is its piece. -/
theorem prev_piece (b : Fin 2) (k : Fin 16) (n : Fin 128) (h : Fin 16) (e : Fin 64) :
    (val_main_v177 (F := Ideal) x0 x1 x2 (ix5 b k n h e) : EReal) = pieces x0 x1 x2 k (ix5 b 0 n h e) := by
  unfold val_main_v177
  exact concatenate_ofFn_unit_apply (t := S2x16x128x16x64) (s₁ := S2x1x128x16x64) (1 : Fin 5) (pieces x0 x1 x2) concatenates_S2x1x128x16x64_S2x1x128x16x64_S2x1x128x16x64_S2x1x128x16x64_S2x1x128x16x64_S2x1x128x16x64_S2x1x128x16x64_S2x1x128x16x64_S2x1x128x16x64_S2x1x128x16x64_S2x1x128x16x64_S2x1x128x16x64_S2x1x128x16x64_S2x1x128x16x64_S2x1x128x16x64_S2x1x128x16x64_S2x16x128x16x64_d1 rfl rfl (ix5 b k n h e) k rfl (ix5 b 0 n h e) fun a ha => match a with
    | ⟨0, _⟩ => rfl
    | ⟨1, _⟩ => absurd rfl ha
    | ⟨2, _⟩ => rfl
    | ⟨3, _⟩ => rfl
    | ⟨4, _⟩ => rfl

/-- The state kept for chunk 0 of a sequence. -/
theorem prev_0 (b : Fin 2) (n : Fin 128) (h : Fin 16) (e : Fin 64) :
    (val_main_v177 (F := Ideal) x0 x1 x2 (ix5 b 0 n h e) : EReal) = val_main_v48 (F := Ideal) (ix4 b n h e) := by
  rw [prev_piece]
  show (val_main_v161 (F := Ideal) (ix5 b 0 n h e) : EReal) = _
  pointwise [val_main_v161]

/-- The state kept for chunk 1 of a sequence. -/
theorem prev_1 (b : Fin 2) (n : Fin 128) (h : Fin 16) (e : Fin 64) :
    (val_main_v177 (F := Ideal) x0 x1 x2 (ix5 b 1 n h e) : EReal) = val_main_v55 (F := Ideal) x0 x1 x2 (ix4 b n h e) := by
  rw [prev_piece]
  show (val_main_v162 (F := Ideal) x0 x1 x2 (ix5 b 0 n h e) : EReal) = _
  pointwise [val_main_v162]

/-- The state kept for chunk 2 of a sequence. -/
theorem prev_2 (b : Fin 2) (n : Fin 128) (h : Fin 16) (e : Fin 64) :
    (val_main_v177 (F := Ideal) x0 x1 x2 (ix5 b 2 n h e) : EReal) = val_main_v62 (F := Ideal) x0 x1 x2 (ix4 b n h e) := by
  rw [prev_piece]
  show (val_main_v163 (F := Ideal) x0 x1 x2 (ix5 b 0 n h e) : EReal) = _
  pointwise [val_main_v163]

/-- The state kept for chunk 3 of a sequence. -/
theorem prev_3 (b : Fin 2) (n : Fin 128) (h : Fin 16) (e : Fin 64) :
    (val_main_v177 (F := Ideal) x0 x1 x2 (ix5 b 3 n h e) : EReal) = val_main_v69 (F := Ideal) x0 x1 x2 (ix4 b n h e) := by
  rw [prev_piece]
  show (val_main_v164 (F := Ideal) x0 x1 x2 (ix5 b 0 n h e) : EReal) = _
  pointwise [val_main_v164]

/-- The state kept for chunk 4 of a sequence. -/
theorem prev_4 (b : Fin 2) (n : Fin 128) (h : Fin 16) (e : Fin 64) :
    (val_main_v177 (F := Ideal) x0 x1 x2 (ix5 b 4 n h e) : EReal) = val_main_v76 (F := Ideal) x0 x1 x2 (ix4 b n h e) := by
  rw [prev_piece]
  show (val_main_v165 (F := Ideal) x0 x1 x2 (ix5 b 0 n h e) : EReal) = _
  pointwise [val_main_v165]

/-- The state kept for chunk 5 of a sequence. -/
theorem prev_5 (b : Fin 2) (n : Fin 128) (h : Fin 16) (e : Fin 64) :
    (val_main_v177 (F := Ideal) x0 x1 x2 (ix5 b 5 n h e) : EReal) = val_main_v83 (F := Ideal) x0 x1 x2 (ix4 b n h e) := by
  rw [prev_piece]
  show (val_main_v166 (F := Ideal) x0 x1 x2 (ix5 b 0 n h e) : EReal) = _
  pointwise [val_main_v166]

/-- The state kept for chunk 6 of a sequence. -/
theorem prev_6 (b : Fin 2) (n : Fin 128) (h : Fin 16) (e : Fin 64) :
    (val_main_v177 (F := Ideal) x0 x1 x2 (ix5 b 6 n h e) : EReal) = val_main_v90 (F := Ideal) x0 x1 x2 (ix4 b n h e) := by
  rw [prev_piece]
  show (val_main_v167 (F := Ideal) x0 x1 x2 (ix5 b 0 n h e) : EReal) = _
  pointwise [val_main_v167]

/-- The state kept for chunk 7 of a sequence. -/
theorem prev_7 (b : Fin 2) (n : Fin 128) (h : Fin 16) (e : Fin 64) :
    (val_main_v177 (F := Ideal) x0 x1 x2 (ix5 b 7 n h e) : EReal) = val_main_v97 (F := Ideal) x0 x1 x2 (ix4 b n h e) := by
  rw [prev_piece]
  show (val_main_v168 (F := Ideal) x0 x1 x2 (ix5 b 0 n h e) : EReal) = _
  pointwise [val_main_v168]

/-- The state kept for chunk 8 of a sequence. -/
theorem prev_8 (b : Fin 2) (n : Fin 128) (h : Fin 16) (e : Fin 64) :
    (val_main_v177 (F := Ideal) x0 x1 x2 (ix5 b 8 n h e) : EReal) = val_main_v104 (F := Ideal) x0 x1 x2 (ix4 b n h e) := by
  rw [prev_piece]
  show (val_main_v169 (F := Ideal) x0 x1 x2 (ix5 b 0 n h e) : EReal) = _
  pointwise [val_main_v169]

/-- The state kept for chunk 9 of a sequence. -/
theorem prev_9 (b : Fin 2) (n : Fin 128) (h : Fin 16) (e : Fin 64) :
    (val_main_v177 (F := Ideal) x0 x1 x2 (ix5 b 9 n h e) : EReal) = val_main_v111 (F := Ideal) x0 x1 x2 (ix4 b n h e) := by
  rw [prev_piece]
  show (val_main_v170 (F := Ideal) x0 x1 x2 (ix5 b 0 n h e) : EReal) = _
  pointwise [val_main_v170]

/-- The state kept for chunk 10 of a sequence. -/
theorem prev_10 (b : Fin 2) (n : Fin 128) (h : Fin 16) (e : Fin 64) :
    (val_main_v177 (F := Ideal) x0 x1 x2 (ix5 b 10 n h e) : EReal) = val_main_v118 (F := Ideal) x0 x1 x2 (ix4 b n h e) := by
  rw [prev_piece]
  show (val_main_v171 (F := Ideal) x0 x1 x2 (ix5 b 0 n h e) : EReal) = _
  pointwise [val_main_v171]

/-- The state kept for chunk 11 of a sequence. -/
theorem prev_11 (b : Fin 2) (n : Fin 128) (h : Fin 16) (e : Fin 64) :
    (val_main_v177 (F := Ideal) x0 x1 x2 (ix5 b 11 n h e) : EReal) = val_main_v125 (F := Ideal) x0 x1 x2 (ix4 b n h e) := by
  rw [prev_piece]
  show (val_main_v172 (F := Ideal) x0 x1 x2 (ix5 b 0 n h e) : EReal) = _
  pointwise [val_main_v172]

/-- The state kept for chunk 12 of a sequence. -/
theorem prev_12 (b : Fin 2) (n : Fin 128) (h : Fin 16) (e : Fin 64) :
    (val_main_v177 (F := Ideal) x0 x1 x2 (ix5 b 12 n h e) : EReal) = val_main_v132 (F := Ideal) x0 x1 x2 (ix4 b n h e) := by
  rw [prev_piece]
  show (val_main_v173 (F := Ideal) x0 x1 x2 (ix5 b 0 n h e) : EReal) = _
  pointwise [val_main_v173]

/-- The state kept for chunk 13 of a sequence. -/
theorem prev_13 (b : Fin 2) (n : Fin 128) (h : Fin 16) (e : Fin 64) :
    (val_main_v177 (F := Ideal) x0 x1 x2 (ix5 b 13 n h e) : EReal) = val_main_v139 (F := Ideal) x0 x1 x2 (ix4 b n h e) := by
  rw [prev_piece]
  show (val_main_v174 (F := Ideal) x0 x1 x2 (ix5 b 0 n h e) : EReal) = _
  pointwise [val_main_v174]

/-- The state kept for chunk 14 of a sequence. -/
theorem prev_14 (b : Fin 2) (n : Fin 128) (h : Fin 16) (e : Fin 64) :
    (val_main_v177 (F := Ideal) x0 x1 x2 (ix5 b 14 n h e) : EReal) = val_main_v146 (F := Ideal) x0 x1 x2 (ix4 b n h e) := by
  rw [prev_piece]
  show (val_main_v175 (F := Ideal) x0 x1 x2 (ix5 b 0 n h e) : EReal) = _
  pointwise [val_main_v175]

/-- The state kept for chunk 15 of a sequence. -/
theorem prev_15 (b : Fin 2) (n : Fin 128) (h : Fin 16) (e : Fin 64) :
    (val_main_v177 (F := Ideal) x0 x1 x2 (ix5 b 15 n h e) : EReal) = val_main_v153 (F := Ideal) x0 x1 x2 (ix4 b n h e) := by
  rw [prev_piece]
  show (val_main_v176 (F := Ideal) x0 x1 x2 (ix5 b 0 n h e) : EReal) = _
  pointwise [val_main_v176]

/-- The states as the call returns them. -/
theorem prev_apply (t : Fin 32) (n : Fin 128) (j : Fin 1024) :
    (val_main_v178 (F := Ideal) x0 x1 x2 (ix3 t n j) : EReal) = val_main_v177 (F := Ideal) x0 x1 x2 (ix5 ⟨t.val / 16, by omega⟩ ⟨t.val % 16, by omega⟩ n (hd j) (sub j)) := by
  pointwise [val_main_v178]

end Cert.Reference18Ideal.Read
-- ==== Proof.ScanStep.lean ====
/- The forward state-space scan: one step of the state, in the call and in the reference. -/
module

public import proofs.«01_k».proof.Proof.Gen.Reference18Ideal.Read
public import proofs.«01_k».proof.Proof.ScanBlk
public import proofs.«01_k».proof.Proof.ScanCase
public import proofs.«01_k».proof.Proof.ScanRef
public import Idealize.ShloMosaic.Lib.Tactic

@[expose] public section

noncomputable section

open Idealize.ShloMosaic Idealize.ShloMosaic.TcCoe Idealize.SL.Sem Cert.Alg

namespace Cert.Reference18Ideal.Read
open Cert.Reference18Ideal Cert.Scan

variable (x0 : (⟨S4096x1536, .f32⟩ : BufTy).Contents (Elt Ideal)) (x1 : (⟨S4096x5760, .bf16⟩ : BufTy).Contents (Elt Ideal)) (x2 : (⟨S8x128, .f32⟩ : BufTy).Contents (Elt Ideal))

/-- A sequence starts from zero. -/
theorem prev_start (b : Fin 2) (n : Fin 128) (h : Fin 16) (e : Fin 64) : (val_main_v177 (F := Ideal) x0 x1 x2 (ix5 b 0 n h e) : EReal) = 0 :=
  (prev_0 x0 x1 x2 b n h e).trans (carry_0 b n h e)

/-- The state before a chunk, from the state before the chunk before it. -/
theorem prev_succ (b : Fin 2) (k k' : Fin 16) (hk : k'.val = k.val + 1) (n : Fin 128) (h : Fin 16) (e : Fin 64) :
    (val_main_v177 (F := Ideal) x0 x1 x2 (ix5 b k' n h e) : EReal) = val_main_v177 (F := Ideal) x0 x1 x2 (ix5 b k n h e) * val_main_v47 (F := Ideal) x1 x2 (ix5 b k 0 h 0) + val_main_v43 (F := Ideal) x0 x1 x2 (ix5 b k n h e) := by
  match k, hk with
  | ⟨0, _⟩, hk =>
    obtain rfl : k' = 1 := Fin.ext hk
    exact (prev_1 x0 x1 x2 b n h e).trans ((carry_1 x0 x1 x2 b n h e).trans (congrArg (fun z : EReal => z * val_main_v47 (F := Ideal) x1 x2 (ix5 b 0 0 h 0) + val_main_v43 (F := Ideal) x0 x1 x2 (ix5 b 0 n h e)) (prev_0 x0 x1 x2 b n h e).symm))
  | ⟨1, _⟩, hk =>
    obtain rfl : k' = 2 := Fin.ext hk
    exact (prev_2 x0 x1 x2 b n h e).trans ((carry_2 x0 x1 x2 b n h e).trans (congrArg (fun z : EReal => z * val_main_v47 (F := Ideal) x1 x2 (ix5 b 1 0 h 0) + val_main_v43 (F := Ideal) x0 x1 x2 (ix5 b 1 n h e)) (prev_1 x0 x1 x2 b n h e).symm))
  | ⟨2, _⟩, hk =>
    obtain rfl : k' = 3 := Fin.ext hk
    exact (prev_3 x0 x1 x2 b n h e).trans ((carry_3 x0 x1 x2 b n h e).trans (congrArg (fun z : EReal => z * val_main_v47 (F := Ideal) x1 x2 (ix5 b 2 0 h 0) + val_main_v43 (F := Ideal) x0 x1 x2 (ix5 b 2 n h e)) (prev_2 x0 x1 x2 b n h e).symm))
  | ⟨3, _⟩, hk =>
    obtain rfl : k' = 4 := Fin.ext hk
    exact (prev_4 x0 x1 x2 b n h e).trans ((carry_4 x0 x1 x2 b n h e).trans (congrArg (fun z : EReal => z * val_main_v47 (F := Ideal) x1 x2 (ix5 b 3 0 h 0) + val_main_v43 (F := Ideal) x0 x1 x2 (ix5 b 3 n h e)) (prev_3 x0 x1 x2 b n h e).symm))
  | ⟨4, _⟩, hk =>
    obtain rfl : k' = 5 := Fin.ext hk
    exact (prev_5 x0 x1 x2 b n h e).trans ((carry_5 x0 x1 x2 b n h e).trans (congrArg (fun z : EReal => z * val_main_v47 (F := Ideal) x1 x2 (ix5 b 4 0 h 0) + val_main_v43 (F := Ideal) x0 x1 x2 (ix5 b 4 n h e)) (prev_4 x0 x1 x2 b n h e).symm))
  | ⟨5, _⟩, hk =>
    obtain rfl : k' = 6 := Fin.ext hk
    exact (prev_6 x0 x1 x2 b n h e).trans ((carry_6 x0 x1 x2 b n h e).trans (congrArg (fun z : EReal => z * val_main_v47 (F := Ideal) x1 x2 (ix5 b 5 0 h 0) + val_main_v43 (F := Ideal) x0 x1 x2 (ix5 b 5 n h e)) (prev_5 x0 x1 x2 b n h e).symm))
  | ⟨6, _⟩, hk =>
    obtain rfl : k' = 7 := Fin.ext hk
    exact (prev_7 x0 x1 x2 b n h e).trans ((carry_7 x0 x1 x2 b n h e).trans (congrArg (fun z : EReal => z * val_main_v47 (F := Ideal) x1 x2 (ix5 b 6 0 h 0) + val_main_v43 (F := Ideal) x0 x1 x2 (ix5 b 6 n h e)) (prev_6 x0 x1 x2 b n h e).symm))
  | ⟨7, _⟩, hk =>
    obtain rfl : k' = 8 := Fin.ext hk
    exact (prev_8 x0 x1 x2 b n h e).trans ((carry_8 x0 x1 x2 b n h e).trans (congrArg (fun z : EReal => z * val_main_v47 (F := Ideal) x1 x2 (ix5 b 7 0 h 0) + val_main_v43 (F := Ideal) x0 x1 x2 (ix5 b 7 n h e)) (prev_7 x0 x1 x2 b n h e).symm))
  | ⟨8, _⟩, hk =>
    obtain rfl : k' = 9 := Fin.ext hk
    exact (prev_9 x0 x1 x2 b n h e).trans ((carry_9 x0 x1 x2 b n h e).trans (congrArg (fun z : EReal => z * val_main_v47 (F := Ideal) x1 x2 (ix5 b 8 0 h 0) + val_main_v43 (F := Ideal) x0 x1 x2 (ix5 b 8 n h e)) (prev_8 x0 x1 x2 b n h e).symm))
  | ⟨9, _⟩, hk =>
    obtain rfl : k' = 10 := Fin.ext hk
    exact (prev_10 x0 x1 x2 b n h e).trans ((carry_10 x0 x1 x2 b n h e).trans (congrArg (fun z : EReal => z * val_main_v47 (F := Ideal) x1 x2 (ix5 b 9 0 h 0) + val_main_v43 (F := Ideal) x0 x1 x2 (ix5 b 9 n h e)) (prev_9 x0 x1 x2 b n h e).symm))
  | ⟨10, _⟩, hk =>
    obtain rfl : k' = 11 := Fin.ext hk
    exact (prev_11 x0 x1 x2 b n h e).trans ((carry_11 x0 x1 x2 b n h e).trans (congrArg (fun z : EReal => z * val_main_v47 (F := Ideal) x1 x2 (ix5 b 10 0 h 0) + val_main_v43 (F := Ideal) x0 x1 x2 (ix5 b 10 n h e)) (prev_10 x0 x1 x2 b n h e).symm))
  | ⟨11, _⟩, hk =>
    obtain rfl : k' = 12 := Fin.ext hk
    exact (prev_12 x0 x1 x2 b n h e).trans ((carry_12 x0 x1 x2 b n h e).trans (congrArg (fun z : EReal => z * val_main_v47 (F := Ideal) x1 x2 (ix5 b 11 0 h 0) + val_main_v43 (F := Ideal) x0 x1 x2 (ix5 b 11 n h e)) (prev_11 x0 x1 x2 b n h e).symm))
  | ⟨12, _⟩, hk =>
    obtain rfl : k' = 13 := Fin.ext hk
    exact (prev_13 x0 x1 x2 b n h e).trans ((carry_13 x0 x1 x2 b n h e).trans (congrArg (fun z : EReal => z * val_main_v47 (F := Ideal) x1 x2 (ix5 b 12 0 h 0) + val_main_v43 (F := Ideal) x0 x1 x2 (ix5 b 12 n h e)) (prev_12 x0 x1 x2 b n h e).symm))
  | ⟨13, _⟩, hk =>
    obtain rfl : k' = 14 := Fin.ext hk
    exact (prev_14 x0 x1 x2 b n h e).trans ((carry_14 x0 x1 x2 b n h e).trans (congrArg (fun z : EReal => z * val_main_v47 (F := Ideal) x1 x2 (ix5 b 13 0 h 0) + val_main_v43 (F := Ideal) x0 x1 x2 (ix5 b 13 n h e)) (prev_13 x0 x1 x2 b n h e).symm))
  | ⟨14, _⟩, hk =>
    obtain rfl : k' = 15 := Fin.ext hk
    exact (prev_15 x0 x1 x2 b n h e).trans ((carry_15 x0 x1 x2 b n h e).trans (congrArg (fun z : EReal => z * val_main_v47 (F := Ideal) x1 x2 (ix5 b 14 0 h 0) + val_main_v43 (F := Ideal) x0 x1 x2 (ix5 b 14 n h e)) (prev_14 x0 x1 x2 b n h e).symm))
  | ⟨15, _⟩, hk => exact absurd k'.isLt (by have : k'.val = 15 + 1 := hk; omega)
  | ⟨i + 16, hi⟩, hk => omega

/-- No running sum is positive. -/
theorem cs_nonpos (t : Fin 32) (l : Fin 128) (h : Fin 16) : (val_main_v29 (F := Ideal) x1 x2 (ix3 t l h) : EReal) ≤ 0 := by
  rw [cs_apply]
  refine Finset.sum_nonpos fun s _ => ?_
  split
  · rw [dt_apply, sp_eq, mul_neg]
    exact EReal.neg_le.mpr (by rw [neg_zero]; exact mul_nonneg (sp_nonneg _) (exp_nonneg _))
  · exact le_refl _

end Cert.Reference18Ideal.Read

namespace Cert.Kernel18Ideal.Value
open Cert.Kernel18Ideal Cert.Kernel18Ideal.Gen Cert.Scan

variable (m : (ℓ : Loc nD τ sig) → Buf (Elt Ideal) ℓ)

/-- The reference's steps over the call's arguments. -/
abbrev rdt (c : Dev nD) (t : Fin 32) (p : Fin 128) (h : Fin 16) : EReal := Cert.Reference18Ideal.Read.val_main_v12 (F := Ideal) (A1 m c) (A2 m c) (ix3 t p h)

/-- The reference's running sums over the call's arguments. -/
abbrev rcs (c : Dev nD) (t : Fin 32) (p : Fin 128) (h : Fin 16) : EReal := Cert.Reference18Ideal.Read.val_main_v29 (F := Ideal) (A1 m c) (A2 m c) (ix3 t p h)

/-- A point's steps are the reference's. -/
theorem kdt (c : Dev nD) (t : Fin cfg0.N) (p : Fin 128) (h : Fin 16) : (k0_pay5 (iblk m c 5 t) (iblk m c 3 t) (ix2 p (hl h)) : EReal) = rdt m c (ck t) p h := by
  refine (pay5_apply _ _ p (hl h) h.isLt).trans ?_
  refine Eq.trans ?_ (Cert.Reference18Ideal.Read.dt_apply (A1 m c) (A2 m c) (ck t) p h).symm
  rw [sp_eq]
  exact congrArg spK (congrArg₂ (fun a b : EReal => a + b) (b3 m c t p (hl h)) (b5 m c t 0 (hl h)))

/-- A point's running sums are the reference's. -/
theorem kcs (c : Dev nD) (t : Fin cfg0.N) (l : Fin 128) (h : Fin 16) :
    (k0_pay6 (k0_pay4 (iblk m c 5 t)) (k0_pay5 (iblk m c 5 t) (iblk m c 3 t)) (iblk m c 7 t) (ix2 l (hl h)) : EReal) = rcs m c (ck t) l h := by
  refine (pay6_apply _ _ _ l (hl h)).trans ?_
  refine Eq.trans ?_ (Cert.Reference18Ideal.Read.cs_apply (A1 m c) (A2 m c) (ck t) l h).symm
  refine Finset.sum_congr rfl fun s _ => ?_
  have h7 := b7 m c t l s
  have h4 := (pay4_apply (iblk m c 5 t) (hl h)).trans (congrArg (fun z : EReal => -Ideal.exp z) (b5 m c t 1 (hl h)))
  rw [h7, h4, kdt]
  split
  · rw [one_mul]
  · rw [zero_mul]

/-- The lanes of a head, at a point. -/
theorem kE (c : Dev nD) (t : Fin cfg0.N) (j : Fin 1024) (k : Fin 128) : (iblk m c 6 t (ix2 k j) : EReal) = (if k = lane j then 1 else 0 : EReal) := b6 m c t k j

/-- A point's scaled rows. -/
theorem kx (c : Dev nD) (t : Fin cfg0.N) (p : Fin 128) (j : Fin 1024) :
    (Xdte (X0_0 m c t) (iblk m c 3 t) (iblk m c 5 t) (iblk m c 6 t) (iblk m c 7 t) (ix2 p j) : EReal)
      = A0 m c (ix2 (row (ck t) p) (xcol j)) * rdt m c (ck t) p (hd j) * Ideal.exp (rcs m c (ck t) 127 (hd j) - rcs m c (ck t) p (hd j)) := by
  refine (pay18_apply _ _ _ p j).trans ?_
  refine congrArg₂ (fun a b : EReal => a * b) (congrArg₂ (fun a b : EReal => a * b) (b0 m c t p j) ?_) ?_
  · refine (pay11_apply _ _ p j).trans ((sum_pick _ _ (lane j) (kE m c t j)).trans (kdt m c t p (hd j)))
  · refine (pay12_apply _ _ _ _ p j).trans ((sum_pick _ _ (lane j) (kE m c t j)).trans ?_)
    exact congrArg₂ (fun a b : EReal => Ideal.exp (a - b)) (kcs m c t 127 (hd j)) (kcs m c t p (hd j))

/-- A point's decay. -/
theorem ke (c : Dev nD) (t : Fin cfg0.N) (j : Fin 1024) :
    (Ecl (iblk m c 3 t) (iblk m c 5 t) (iblk m c 6 t) (iblk m c 7 t) (ix2 0 j) : EReal) = Ideal.exp (rcs m c (ck t) 127 (hd j)) := by
  obtain ⟨r, hr⟩ := exp_real _ (Cert.Reference18Ideal.Read.cs_nonpos (A1 m c) (A2 m c) (ck t) 127 (hd j))
  have hc := congrArg Ideal.exp (kcs m c t 127 (hd j))
  exact (pay14_apply _ _ _ _ _ j (kE m c t j) r (hc.trans hr)).trans hc

/-- The first group's columns. -/
theorem bg0_apply (x1 : Vec Ideal S128x256 .f32) (l n : Fin 128) : (bg0 x1 (ix2 l n) : EReal) = x1 (ix2 l ⟨n.val, by omega⟩) := by
  show (x1 _ : EReal) = _
  congr 1
  funext a
  apply Fin.ext
  match a with
  | ⟨0, _⟩ => show 0 + 1 * l.val = l.val; omega
  | ⟨1, _⟩ => show 0 + 1 * n.val = n.val; omega

/-- The second group's columns. -/
theorem bg1_apply (x1 : Vec Ideal S128x256 .f32) (l n : Fin 128) : (bg1 x1 (ix2 l n) : EReal) = x1 (ix2 l ⟨128 + n.val, by omega⟩) := by
  show (x1 _ : EReal) = _
  congr 1
  funext a
  apply Fin.ext
  match a with
  | ⟨0, _⟩ => show 0 + 1 * l.val = l.val; omega
  | ⟨1, _⟩ => show 128 + 1 * n.val = 128 + n.val; omega

/-- One term of what a chunk adds to the state. -/
theorem kterm (c : Dev nD) (t : Fin cfg0.N) (b : Fin 2) (k : Fin 16) (hc : ck t = chunk b k) (l n : Fin 128) (j : Fin 1024) (y : EReal)
    (hy : y = A0 m c (ix2 (row (ck t) l) (bcol (hd j) n))) :
    y * (Xdte (X0_0 m c t) (iblk m c 3 t) (iblk m c 5 t) (iblk m c 6 t) (iblk m c 7 t) (ix2 l j) : EReal)
      = Cert.Reference18Ideal.Read.val_main_v32 (F := Ideal) (A0 m c) (A1 m c) (A2 m c) (ix4 (chunk b k) l (hd j) (sub j))
        * Ideal.exp (rcs m c (chunk b k) 127 (hd j) - rcs m c (chunk b k) l (hd j)) * A0 m c (ix2 (row (chunk b k) l) (bcol (hd j) n)) := by
  have hx := Cert.Reference18Ideal.Read.xdt_apply (A0 m c) (A1 m c) (A2 m c) (chunk b k) l (hd j) (sub j)
  have hj : hcol (hd j) (sub j) = j := Fin.ext (by show j.val / 64 * 64 + j.val % 64 = j.val; omega)
  rw [hj] at hx
  rw [hy, kx, mul_comm, hc, hx]

/-- The state after a chunk. -/
theorem knew (c : Dev nD) (t : Fin cfg0.N) (b : Fin 2) (k : Fin 16) (hc : ck t = chunk b k) (P : Vec Ideal S128x1024 .f32) (n : Fin 128) (j : Fin 1024) :
    newP (X0_0 m c t) (iblk m c 1 t) (iblk m c 3 t) (iblk m c 5 t) (iblk m c 6 t) (iblk m c 7 t) P n j
      = P (ix2 n j) * Cert.Reference18Ideal.Read.val_main_v47 (F := Ideal) (A1 m c) (A2 m c) (ix5 b k 0 (hd j) 0)
        + Cert.Reference18Ideal.Read.val_main_v43 (F := Ideal) (A0 m c) (A1 m c) (A2 m c) (ix5 b k n (hd j) (sub j)) := by
  have hd' := Cert.Reference18Ideal.Read.decay_apply (A1 m c) (A2 m c) b k (hd j)
  have he := (ke m c t j).trans (Eq.trans (by rw [hc]) hd'.symm)
  refine Eq.trans ?_ (congrArg (fun z : EReal => P (ix2 n j) * Cert.Reference18Ideal.Read.val_main_v47 (F := Ideal) (A1 m c) (A2 m c) (ix5 b k 0 (hd j) 0) + z)
    (Cert.Reference18Ideal.Read.add_apply (A0 m c) (A1 m c) (A2 m c) b k n (hd j) (sub j)).symm)
  unfold newP
  split
  · rename_i h
    refine (pay41_apply _ _ _ _ n ⟨j.val, h⟩).trans ?_
    refine congrArg₂ (fun a b : EReal => a + b) (congrArg (fun z : EReal => P (ix2 n j) * z) he) ?_
    refine Finset.sum_congr rfl fun l _ => kterm m c t b k hc l n j _ ?_
    refine (bg0_apply _ l n).trans ((b1 m c t l _).trans ?_)
    congr 2
    apply Fin.ext
    show 1024 + n.val = 1024 + (j.val / 64 / 8 * 128 + n.val)
    omega
  · rename_i h
    have hj : (⟨512 + (j.val - 512), by omega⟩ : Fin 1024) = j := Fin.ext (by show 512 + (j.val - 512) = j.val; omega)
    refine (pay59_apply _ _ _ _ n ⟨j.val - 512, by omega⟩).trans ?_
    rw [hj]
    refine congrArg₂ (fun a b : EReal => a + b) (congrArg (fun z : EReal => P (ix2 n j) * z) he) ?_
    refine Finset.sum_congr rfl fun l _ => kterm m c t b k hc l n j _ ?_
    refine (bg1_apply _ l n).trans ((b1 m c t l _).trans ?_)
    congr 2
    apply Fin.ext
    show 1024 + (128 + n.val) = 1024 + (j.val / 64 / 8 * 128 + n.val)
    omega

end Cert.Kernel18Ideal.Value

end
-- ==== Proof.Scan.lean ====
/- The forward state-space scan: the states before each chunk. -/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.ScanStep
public import Idealize.ShloMosaic.Lib.Tactic
public import Idealize.ShloMosaic.Adequacy

@[expose] public section

noncomputable section

open Idealize.ShloMosaic Idealize.ShloMosaic.TcCoe Idealize.SL.Sem Cert.Alg

namespace Cert.Kernel18Ideal.Value
open Cert.Kernel18Ideal Cert.Kernel18Ideal.Gen Cert.Scan

variable (m : (ℓ : Loc nD τ sig) → Buf (Elt Ideal) ℓ)

/-- The first point of a sequence leaves the state after its chunk, from zero. -/
theorem scr_first (c : Dev nD) (t : Fin cfg0.N) (h : t.val % 16 = 0) (n : Fin 128) (j : Fin 1024) :
    ((outsAt0 m c t.val t.isLt).2.2.2 (ix2 n j) : EReal) = newP (X0_0 m c t) (iblk m c 1 t) (iblk m c 3 t) (iblk m c 5 t) (iblk m c 6 t) (iblk m c 7 t) (k0_pay2 (F := Ideal)) n j := by
  rw [outsAt0_A m c t h]
  dsimp only
  rw [sout_A]

/-- Every further point leaves the state after its chunk, from the one before. -/
theorem scr_next (c : Dev nD) (t : Fin cfg0.N) (h : ¬t.val % 16 = 0) (n : Fin 128) (j : Fin 1024) :
    ((outsAt0 m c t.val t.isLt).2.2.2 (ix2 n j) : EReal) = newP (X0_0 m c t) (iblk m c 1 t) (iblk m c 3 t) (iblk m c 5 t) (iblk m c 6 t) (iblk m c 7 t) (outsAt0 m c (t.val - 1) (Nat.lt_of_le_of_lt (Nat.sub_le _ _) t.isLt)).2.2.2 n j := by
  rw [outsAt0_B m c t h]
  dsimp only
  rw [sout_B]

/-- The state after each point is the reference's before the next chunk. -/
theorem scr (c : Dev nD) (s : ℕ) (hs : s < cfg0.N) (b : Fin 2) (k k' : Fin 16) (hb : s = b.val * 16 + k.val) (hk : k'.val = k.val + 1) (n : Fin 128) (j : Fin 1024) :
    ((outsAt0 m c s hs).2.2.2 (ix2 n j) : EReal) = Cert.Reference18Ideal.Read.val_main_v177 (F := Ideal) (A0 m c) (A1 m c) (A2 m c) (ix5 b k' n (hd j) (sub j)) := by
  induction s generalizing k k' with
  | zero =>
    obtain rfl : k = 0 := Fin.ext (by show k.val = 0; omega)
    have hc : ck ⟨0, hs⟩ = chunk b 0 := Fin.ext hb
    refine (scr_first m c ⟨0, hs⟩ rfl n j).trans ((knew m c ⟨0, hs⟩ b 0 hc _ n j).trans ?_)
    refine Eq.trans ?_ (Cert.Reference18Ideal.Read.prev_succ (A0 m c) (A1 m c) (A2 m c) b 0 k' hk n (hd j) (sub j)).symm
    rw [pay2_apply, Cert.Reference18Ideal.Read.prev_start]
  | succ s ih =>
    have hc : ck ⟨s + 1, hs⟩ = chunk b k := Fin.ext hb
    refine Eq.trans ?_ (Cert.Reference18Ideal.Read.prev_succ (A0 m c) (A1 m c) (A2 m c) b k k' hk n (hd j) (sub j)).symm
    by_cases h : (s + 1) % 16 = 0
    · obtain rfl : k = 0 := Fin.ext (by show k.val = 0; omega)
      refine (scr_first m c ⟨s + 1, hs⟩ h n j).trans ((knew m c ⟨s + 1, hs⟩ b 0 hc _ n j).trans ?_)
      rw [pay2_apply, Cert.Reference18Ideal.Read.prev_start]
    · refine (scr_next m c ⟨s + 1, hs⟩ h n j).trans ((knew m c ⟨s + 1, hs⟩ b k hc _ n j).trans ?_)
      have hi := ih (Nat.lt_of_succ_lt hs) ⟨k.val - 1, by omega⟩ k (by show s = b.val * 16 + (k.val - 1); omega) (by show k.val = k.val - 1 + 1; omega)
      exact congrArg (fun z : EReal => z * _ + _) hi

/-- The call's states before each chunk: the reference's. -/
abbrev res11 (c : Dev nD) : Buf (Elt Ideal) ((c : Thread nD τ).loc main_v18_2) := Cert.Reference18Ideal.Read.val_main_v178 (F := Ideal) (A0 m c) (A1 m c) (A2 m c)

/-- What a point leaves is the reference's state before its chunk. -/
theorem o11 (c : Dev nD) (t : Fin cfg0.N) (n : Fin 128) (j : Fin 1024) :
    ((outsAt0 m c t.val t.isLt).2.2.1 (ix3 0 n j) : EReal) = res11 m c (ix3 (ck t) n j) := by
  have hN : cfg0.N = 32 := N_0
  have ht := t.isLt
  refine Eq.trans ?_ (Cert.Reference18Ideal.Read.prev_apply (A0 m c) (A1 m c) (A2 m c) (ck t) n j).symm
  by_cases h : t.val % 16 = 0
  · rw [outsAt0_A m c t h]
    dsimp only
    rw [out11_A]
    refine (pay19_apply _ n j).trans ((pay2_apply n j).trans ?_)
    have e : (⟨(ck t).val % 16, by omega⟩ : Fin 16) = 0 := Fin.ext h
    rw [e]
    exact (Cert.Reference18Ideal.Read.prev_start (A0 m c) (A1 m c) (A2 m c) _ n (hd j) (sub j)).symm
  · rw [outsAt0_B m c t h]
    dsimp only
    rw [out11_B]
    refine (pay19_apply _ n j).trans ?_
    exact scr m c (t.val - 1) _ ⟨t.val / 16, by omega⟩ ⟨t.val % 16 - 1, by omega⟩ ⟨t.val % 16, by omega⟩
      (by show t.val - 1 = t.val / 16 * 16 + (t.val % 16 - 1); omega) (by show t.val % 16 = t.val % 16 - 1 + 1; omega) n j

/-- Each point writes back its block. -/
theorem wrote11 (c : Dev nD) (t : Fin cfg0.N) (hf : (cfg0.win 11).flush t = true) :
    (dats m 0 c).flushed 11 t = ((cfg0.win 11).blk t).view.read (Elt Ideal) (res11 m c) := by
  rw [flushed11]
  funext j
  obtain ⟨z, p, q, rfl⟩ : ∃ (z : Fin 1) (p : Fin 128) (q : Fin 1024), j = ix3 z p q := ⟨j 0, j 1, j 2, eq_ix3 (n0 := 1) (n1 := 128) (n2 := 1024) j⟩
  obtain rfl : z = 0 := Subsingleton.elim _ _
  rw [View.read_apply]
  have e : ((cfg0.win 11).blk t).view.emb (ix3 0 p q) = ix3 (ck t) p q := by
    have hi := (by decide +kernel : ∀ t : Fin grid0.N, win0_11.index t 0 = t.val ∧ win0_11.index t 1 = 0 ∧ win0_11.index t 2 = 0) t
    funext a
    apply Fin.ext
    match a with
    | ⟨0, _⟩ => show win0_11.index t 0 * 1 + 1 * 0 = t.val; rw [hi.1]; omega
    | ⟨1, _⟩ => show win0_11.index t 1 * 128 + 1 * p.val = p.val; rw [hi.2.1]; omega
    | ⟨2, _⟩ => show win0_11.index t 2 * 1024 + 1 * q.val = q.val; rw [hi.2.2]; omega
  rw [e]
  exact o11 m c t p q

/-- The array of the states after the run. -/
theorem fin11 (c : Dev nD) : (dats m 0 c).arrAt 11 cfg0.N = res11 m c :=
  (dats m 0 c).arrAt_eq_of_cover 11 (res11 m c) (wrote11 m c) fun i => by
    have h0 : (i 0 : Nat) < 32 := (i 0).isLt
    have h1 : (i 1 : Nat) < 128 := (i 1).isLt
    have h2 : (i 2 : Nat) < 1024 := (i 2).isLt
    refine ⟨⟨(i 0 : Nat), by rw [show cfg0.N = 32 from N_0]; omega⟩, flush0_11 _, ?_⟩
    generalize ht : (⟨(i 0 : Nat), _⟩ : Fin cfg0.N) = t
    have hv : t.val = (i 0 : Nat) := by rw [← ht]
    show i ∈ ((View.whole main_v18_2).slice (win0_11.rect t)).set
    rw [View.set_slice_whole, Rect.mem_set_unit]
    have hi := (by decide +kernel : ∀ t : Fin grid0.N, win0_11.index t 0 = t.val ∧ win0_11.index t 1 = 0 ∧ win0_11.index t 2 = 0) t
    intro a
    match a with
    | ⟨0, _⟩ => show win0_11.index t 0 * 1 ≤ (i 0 : Nat) ∧ (i 0 : Nat) < win0_11.index t 0 * 1 + 1
                rw [hi.1]; omega
    | ⟨1, _⟩ => show win0_11.index t 1 * 128 ≤ (i 1 : Nat) ∧ (i 1 : Nat) < win0_11.index t 1 * 128 + 128
                rw [hi.2.1]; omega
    | ⟨2, _⟩ => show win0_11.index t 2 * 1024 ≤ (i 2 : Nat) ∧ (i 2 : Nat) < win0_11.index t 2 * 1024 + 1024
                rw [hi.2.2]; omega

end Cert.Kernel18Ideal.Value

namespace Cert.Proof.Scan
open Cert.Kernel18Ideal.Value

variable (m' : (ℓ : Loc Cert.Reference18Ideal.nD Cert.Reference18Ideal.τ Cert.Reference18Ideal.sig) → Buf (Elt Ideal) ℓ) (g' : Dev Cert.Reference18Ideal.nD → PrngReg)

/-- The reference's run: each result is its last stage over the arguments, and the arguments are kept. -/
theorem ref_run : θ_run (Cert.Reference18Ideal.defs (F := Ideal)) (onTc (τ := Cert.Reference18Ideal.τ) (Cert.Reference18Ideal.main (F := Ideal))) ⟨m', fun _ => 0, g'⟩ fun r =>
    ∀ c : Dev Cert.Reference18Ideal.nD,
      r.2.mem ((c.tc : Thread Cert.Reference18Ideal.nD Cert.Reference18Ideal.τ).loc Cert.Reference18Ideal.main_v178) = Cert.Reference18Ideal.Read.val_main_v178 (m' (c.tc.loc Cert.Reference18Ideal.main_arg0)) (m' (c.tc.loc Cert.Reference18Ideal.main_arg1)) (m' (c.tc.loc Cert.Reference18Ideal.main_arg2))
      ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4) :=
  (θ_run Cert.Reference18Ideal.defs _ _).mono (fun r hr c => ⟨
    (hr c).1.trans (Cert.Reference18Ideal.Read.val_main_v178_eq _),
    (hr c).2⟩) (Cert.Reference18Ideal.Value.run m' g')

/-- Over the extended reals the call ends with the reference's results. -/
theorem algebraic : Cert.algebraic_Kernel18Ideal_Reference18Ideal (hKernel18Ideal := Cert.Kernel18Ideal.Gen.facts) (hReference18Ideal := Cert.Reference18Ideal.Gen.facts) := by
  intro m g m' g' _ h
  refine ⟨fun c => res11 m c, ?_, ?_⟩
  · refine (θ_run Cert.Kernel18Ideal.defs _ _).mono (fun r hr c => ?_) (Cert.Kernel18Ideal.Value.run_blocks m g)
    obtain ⟨-, -, h0, hk⟩ := hr c
    exact ⟨h0.trans (fin11 m c), hk⟩
  · refine (θ_run Cert.Reference18Ideal.defs _ _).mono (fun r hr c => ?_) (ref_run m' g')
    obtain ⟨h0, hk⟩ := hr c
    obtain ⟨a0, a1, a2, a3, a4⟩ := h c
    rw [a0, a1, a2] at h0
    exact ⟨h0, hk⟩

/-- The reference's frame: it declares no semaphore. -/
theorem frame_ref : Cert.quiescent_Reference18Ideal (hReference18Ideal := Cert.Reference18Ideal.Gen.facts) := by
  intro m g _
  exact (θ_run Cert.Reference18Ideal.defs _ _).mono (fun r h => ⟨fun c => (h c).2, sem_eq_zero_of_no_sems (by decide) r.2⟩) (ref_run m g)

end Cert.Proof.Scan

end
-- ==== Proof.SsdRef.lean ====
/- The gated norm behind the state-space scan: what the reference computes, entry by entry. -/
module

public import proofs.«01_k».proof.Defs
public import proofs.«01_k».proof.Proof.Gen.Reference8Ideal.Read
public import proofs.«01_k».proof.Proof.Rms
public import Idealize.ShloMosaic.Lib.Tactic

@[expose] public section

noncomputable section

open Idealize.ShloMosaic Idealize.ShloMosaic.TcCoe Idealize.SL.Sem Cert.Alg

namespace Cert.Ssd

/-- Place `r` of half `k` of a row. -/
abbrev col (k : Fin 2) (r : Fin 512) : Fin 1024 := ⟨k.val * 512 + r.val, by omega⟩

/-- A place of the gate in a projected row. -/
abbrev zcol (q : Fin 1024) : Fin 5760 := ⟨3072 + q.val, by omega⟩

/-- A place of the second half of a row of the gradient. -/
abbrev ccol (q : Fin 1024) : Fin 2048 := ⟨1024 + q.val, by omega⟩

/-- The width of a half row. -/
abbrev cH : EReal := Ideal.ofBits FTy.f32 1140850688#32

/-- The logistic function as the reference spells it. -/
def sR (z : EReal) : EReal := Ideal.div 1 (1 + Ideal.exp (-z))

/-- The gradient of a half row's norm as the reference spells it, closed. -/
theorem rms_half (x g : Fin 512 → EReal) (j : Fin 512) :
    g j * rinv cH cE x + (x j * rmsF cH cE (Ideal.ofBits FTy.f32 3204448256#32) x g + rmsF cH cE (Ideal.ofBits FTy.f32 3204448256#32) x g * x j) = rmsK cH cE x g j := by
  obtain ⟨ε, hε, he⟩ := ceps_eq
  exact (rmsK_eq cH cE _ 512 ε (by norm_num) hε c512_eq he chalf_eq x g j).symm

end Cert.Ssd

namespace Cert.Reference8Ideal.Read
open Cert.Reference8Ideal Cert.Reference8Ideal.Gen Cert.Ssd

variable (x1 : (⟨S4096x5760, .bf16⟩ : BufTy).Contents (Elt Ideal)) (x2 : (⟨S4096x1024, .f32⟩ : BufTy).Contents (Elt Ideal)) (x4 : (⟨S4096x2048, .bf16⟩ : BufTy).Contents (Elt Ideal)) (x6 : (⟨S1024, .f32⟩ : BufTy).Contents (Elt Ideal)) (x7 : (⟨S4096x5760, .bf16⟩ : BufTy).Contents (Elt Ideal))

/-- The gate's logistic function. -/
theorem sig_apply (i : Fin 4096) (q : Fin 1024) : (val_main_v2_2 (F := Ideal) x1 (ix2 i q) : EReal) = sR (x1 (ix2 i (zcol q))) := by
  pointwise [val_main_v0, val_main_v1, val_main_call0_v0, val_main_call0_v1, val_main_call0_cst, val_main_call0_v2, val_main_call0_v3, val_main_call0_cst_0, val_main_call0_v4, val_main_v2_2]
  rfl

/-- The gated row. -/
theorem gated_apply (i : Fin 4096) (k : Fin 2) (r : Fin 512) :
    (val_main_v4 (F := Ideal) x1 x2 (ix3 i k r) : EReal)
      = x2 (ix2 i (col k r)) * (x1 (ix2 i (zcol (col k r))) * val_main_v2_2 (F := Ideal) x1 (ix2 i (col k r))) := by
  pointwise [val_main_v0, val_main_v1, val_main_v2_0, val_main_v3, val_main_v4]

/-- The reciprocal root of the mean square of a half row. -/
theorem root_apply (i : Fin 4096) (k : Fin 2) :
    (val_main_v13 (F := Ideal) x1 x2 (ix3 i k 0) : EReal) = rinv cH cE (fun r => val_main_v4 (F := Ideal) x1 x2 (ix3 i k r)) := by
  pointwise [val_main_v6, val_main_cst, val_main_v7, val_main_v8, val_main_cst_0, val_main_v9, val_main_v10, val_main_cst_1, val_main_v11, val_main_v12, val_main_v13]
  unfold rinv
  simp

/-- The gradient at the scaled row. -/
theorem grow_apply (i : Fin 4096) (k : Fin 2) (r : Fin 512) :
    (val_main_v30 (F := Ideal) x4 x6 (ix3 i k r) : EReal) = x4 (ix2 i (ccol (col k r))) * x6 (ix1 (col k r)) := by
  pointwise [val_main_v5, val_main_v19, val_main_v23, val_main_v24, val_main_v25, val_main_v29, val_main_v30]

/-- The factor that the reciprocal root's derivative contributes. -/
theorem fac_apply (i : Fin 4096) (k : Fin 2) :
    (val_main_v40 (F := Ideal) x1 x2 x4 x6 (ix2 i k) : EReal)
      = rmsF cH cE (Ideal.ofBits FTy.f32 3204448256#32) (fun r => val_main_v4 (F := Ideal) x1 x2 (ix3 i k r)) (fun r => val_main_v30 (F := Ideal) x4 x6 (ix3 i k r)) := by
  have hr := root_apply x1 x2 i k
  pointwise [val_main_v6, val_main_cst, val_main_v7, val_main_v8, val_main_cst_0, val_main_v9, val_main_v10, val_main_cst_1, val_main_v11, val_main_v12, val_main_v14, val_main_cst_2, val_main_v15, val_main_v16, val_main_v32, val_main_cst_5, val_main_v33, val_main_v34, val_main_v37, val_main_cst_6, val_main_v38, val_main_v39, val_main_cst_7, val_main_v40]
  unfold rmsF
  rw [← hr]
  simp

/-- The gradient at the gated row. -/
theorem du_apply (i : Fin 4096) (k : Fin 2) (r : Fin 512) :
    (val_main_v45 (F := Ideal) x1 x2 x4 x6 (ix3 i k r) : EReal)
      = rmsK cH cE (fun r => val_main_v4 (F := Ideal) x1 x2 (ix3 i k r)) (fun r => val_main_v30 (F := Ideal) x4 x6 (ix3 i k r)) r := by
  have hf := fac_apply x1 x2 x4 x6 i k
  have hr := root_apply x1 x2 i k
  pointwise [val_main_v35, val_main_v36, val_main_v41, val_main_v42, val_main_v43, val_main_v44, val_main_v45]
  rw [hf, hr, add_assoc]
  exact rms_half (fun r => val_main_v4 (F := Ideal) x1 x2 (ix3 i k r)) (fun r => val_main_v30 (F := Ideal) x4 x6 (ix3 i k r)) r

/-- The gradient at the gated row, as rows of 1024. -/
theorem dq_apply (i : Fin 4096) (k : Fin 2) (r : Fin 512) :
    (val_main_v47 (F := Ideal) x1 x2 x4 x6 (ix2 i (col k r)) : EReal) = val_main_v45 (F := Ideal) x1 x2 x4 x6 (ix3 i k r) := by
  pointwise [val_main_v47]
  congr 2
  · exact Fin.ext (by show (k.val * 512 + r.val) / 512 = k.val; omega)
  · exact Fin.ext (by show (k.val * 512 + r.val) % 512 = r.val; omega)

/-- The gate's gradient. -/
theorem dz_apply (i : Fin 4096) (q : Fin 1024) :
    (val_main_v50 (F := Ideal) x1 x2 x4 x6 (ix2 i q) : EReal)
      = x2 (ix2 i q) * val_main_v47 (F := Ideal) x1 x2 x4 x6 (ix2 i q) * sR (x1 (ix2 i (zcol q)))
        + x1 (ix2 i (zcol q)) * (x2 (ix2 i q) * val_main_v47 (F := Ideal) x1 x2 x4 x6 (ix2 i q)) * (sR (x1 (ix2 i (zcol q))) * (1 - sR (x1 (ix2 i (zcol q))))) := by
  have hs := sig_apply x1 i q
  pointwise [val_main_v0, val_main_v1, val_main_call0_cst_1, val_main_call0_v6, val_main_call0_v7, val_main_v2_1, val_main_v48, val_main_call1_v0, val_main_call1_v1, val_main_call1_v2, val_main_v50]
  rw [hs]

/-- The gradient of the norm's weights. -/
theorem dgain_apply (k : Fin 2) (r : Fin 512) :
    (val_main_v55 (F := Ideal) x1 x2 x4 (ix2 0 (col k r)) : EReal)
      = ∑ i : Fin 4096, val_main_v4 (F := Ideal) x1 x2 (ix3 i k r) * rinv cH cE (fun r => val_main_v4 (F := Ideal) x1 x2 (ix3 i k r)) * x4 (ix2 i (ccol (col k r))) := by
  have hr := fun i => root_apply x1 x2 i k
  pointwise [val_main_v17, val_main_v18, val_main_v23, val_main_v24, val_main_v25, val_main_v26, val_main_cst_3, val_main_v27, val_main_v28, val_main_cst_4, val_main_v31, val_main_v46, val_main_v55]
  simp [hr]

/-- The projected rows' gradient in the gate's columns. -/
theorem out_mid (i : Fin 4096) (q : Fin 1024) :
    (val_main_v54 (F := Ideal) x1 x2 x4 x6 x7 (ix2 i (zcol q)) : EReal) = val_main_v50 (F := Ideal) x1 x2 x4 x6 (ix2 i q) := by
  pointwise [val_main_v52, val_main_v54]

/-- The projected rows' gradient outside the gate's columns. -/
theorem out_rest (i : Fin 4096) (j : Fin 5760) (h : j.val < 3072 ∨ 4096 ≤ j.val) :
    (val_main_v54 (F := Ideal) x1 x2 x4 x6 x7 (ix2 i j) : EReal) = x7 (ix2 i j) := by
  pointwise [val_main_v51, val_main_v53, val_main_v54]
  by_cases h1 : j.val < 3072
  · rw [dif_pos h1]
  · have hj : 4096 ≤ j.val := h.resolve_left h1
    have hlt : 4096 + (j.val - 3072 - 1024) < 5760 := by omega
    have e : (⟨4096 + (j.val - 3072 - 1024), hlt⟩ : Fin 5760) = j :=
      Fin.ext (by show 4096 + (j.val - 3072 - 1024) = j.val; omega)
    rw [dif_neg h1, dif_neg (by omega : ¬ j.val - 3072 < 1024)]
    exact congrArg (fun q => x7 (ix2 i q)) e

end Cert.Reference8Ideal.Read
-- ==== Proof.SsdPay.lean ====
/- The gated norm behind the state-space scan: what the kernel's body computes, entry by entry. -/
module

public import proofs.«01_k».proof.Proof.Gen.Kernel8Ideal.Skeleton
public import proofs.«01_k».proof.Proof.SsdRef
public import Idealize.ShloMosaic.Lib.Tactic

@[expose] public section

noncomputable section

open Idealize.ShloMosaic Idealize.ShloMosaic.TcCoe Idealize.SL.Sem Cert.Alg

namespace Cert.Ssd

/-- The logistic function as the kernel spells it. -/
def sK (z : EReal) : EReal := Ideal.ofBits FTy.f32 1056964608#32 * Ideal.tanh (Ideal.ofBits FTy.f32 1056964608#32 * z) + Ideal.ofBits FTy.f32 1056964608#32

/-- The first half's columns. -/
theorem col0 (r : Fin 512) : col 0 r = ⟨r.val, by omega⟩ := Fin.ext (by show 0 * 512 + r.val = r.val; omega)

/-- The second half's columns. -/
theorem col1 (r : Fin 512) : col 1 r = ⟨512 + r.val, by omega⟩ := Fin.ext (by show 1 * 512 + r.val = 512 + r.val; omega)

end Cert.Ssd

namespace Cert.Kernel8Ideal.Value
open Cert.Kernel8Ideal Cert.Kernel8Ideal.Gen Cert.Ssd

variable (y : Vec Ideal S128x1024 .f32) (z : Vec Ideal S128x1024 .bf16) (g : Vec Ideal S1x1024 .f32) (dl dr : Vec Ideal S128x512 .bf16)

/-- The gate's logistic function. -/
theorem pay28_apply (p : Fin 128) (q : Fin 1024) : (k0_pay28 z (ix2 p q) : EReal) = sK (z (ix2 p q)) := by
  unfold k0_pay28 k0_pay26
  pointwise
  rfl

/-- The gated row. -/
theorem pay30_apply (p : Fin 128) (q : Fin 1024) : (k0_pay30 y z (ix2 p q) : EReal) = y (ix2 p q) * (z (ix2 p q) * sK (z (ix2 p q))) := by
  have h := pay28_apply z p q
  unfold k0_pay30 k0_pay29 k0_pay26
  pointwise
  rw [h]

/-- Half `k` of a gated row. -/
abbrev U (p : Fin 128) (k : Fin 2) (r : Fin 512) : EReal := k0_pay30 y z (ix2 p (col k r))

/-- The reciprocal root of the mean square of the first half. -/
theorem pay33_apply (p : Fin 128) : (k0_pay33 y z (ix2 p 0) : EReal) = rinv cH cE (U y z p 0) := by
  unfold k0_pay33 k0_pay31
  pointwise
  unfold rinv U
  simp only [col0, col1]

/-- The reciprocal root of the mean square of the second half. -/
theorem pay38_apply (p : Fin 128) : (k0_pay38 (k0_pay30 y z) (ix2 p 0) : EReal) = rinv cH cE (U y z p 1) := by
  unfold k0_pay38 k0_pay36
  pointwise
  unfold rinv U
  simp only [col0, col1]

/-- The normed first half. -/
theorem pay34_apply (p : Fin 128) (r : Fin 512) : (k0_pay34 y z (ix2 p r) : EReal) = U y z p 0 r * rinv cH cE (U y z p 0) := by
  have h := pay33_apply y z p
  unfold k0_pay34 k0_pay31
  pointwise
  rw [h]
  unfold U
  simp only [col0, col1]

/-- The normed second half. -/
theorem pay39_apply (p : Fin 128) (r : Fin 512) : (k0_pay39 (k0_pay30 y z) (ix2 p r) : EReal) = U y z p 1 r * rinv cH cE (U y z p 1) := by
  have h := pay38_apply y z p
  unfold k0_pay39 k0_pay36
  pointwise
  rw [h]
  unfold U
  simp only [col0, col1]

/-- The gradient at the gated row, first half. -/
theorem pay40_left (p : Fin 128) (r : Fin 512) :
    (k0_pay40 (k0_pay27 g) (k0_pay30 y z) (k0_pay32 dl) (k0_pay33 y z) (k0_pay34 y z) (k0_pay35 g) dr (ix2 p (col 0 r)) : EReal)
      = rmsK cH cE (U y z p 0) (fun r => dl (ix2 p r) * g (ix2 0 (col 0 r))) r := by
  have h3 := pay33_apply y z p
  have h4 := pay34_apply y z p
  unfold k0_pay40 k0_pay32 k0_pay35 k0_pay27
  pointwise
  unfold rmsK
  simp only [h3, h4, col0, col1]

/-- The gradient at the gated row, second half. -/
theorem pay40_right (p : Fin 128) (r : Fin 512) :
    (k0_pay40 (k0_pay27 g) (k0_pay30 y z) (k0_pay32 dl) (k0_pay33 y z) (k0_pay34 y z) (k0_pay35 g) dr (ix2 p (col 1 r)) : EReal)
      = rmsK cH cE (U y z p 1) (fun r => dr (ix2 p r) * g (ix2 0 (col 1 r))) r := by
  have h3 := pay38_apply y z p
  have h4 := pay39_apply y z p
  unfold k0_pay40 k0_pay37 k0_pay27
  pointwise
  unfold rmsK
  simp only [h3, h4, col0, col1]

/-- The gate's gradient, from the gradient at the gated row. -/
theorem pay45_apply (p : Fin 128) (q : Fin 1024) :
    (k0_pay45 (k0_pay43 y (k0_pay27 g) (k0_pay30 y z) (k0_pay32 dl) (k0_pay33 y z) (k0_pay34 y z) (k0_pay35 g) dr) (k0_pay44 (k0_pay26 z) (k0_pay28 z)) (ix2 p q) : EReal)
      = k0_pay40 (k0_pay27 g) (k0_pay30 y z) (k0_pay32 dl) (k0_pay33 y z) (k0_pay34 y z) (k0_pay35 g) dr (ix2 p q) * y (ix2 p q)
        * (sK (z (ix2 p q)) * (1 + z (ix2 p q) * (1 - sK (z (ix2 p q))))) := by
  have h := pay28_apply z p q
  unfold k0_pay45 k0_pay43 k0_pay44 k0_pay26
  pointwise
  rw [h]

/-- The tile's share of the gradient of the norm's weights, first half. -/
theorem pay259_left (r : Fin 512) :
    (k0_pay259 (k0_pay41 (k0_pay30 y z) (k0_pay32 dl) (k0_pay34 y z) dr) (ix2 0 (col 0 r)) : EReal)
      = ∑ p : Fin 128, dl (ix2 p r) * (U y z p 0 r * rinv cH cE (U y z p 0)) := by
  have h := fun p => pay34_apply y z p r
  unfold k0_pay259 k0_pay41 k0_pay32
  pointwise
  simp [h]

/-- The tile's share of the gradient of the norm's weights, second half. -/
theorem pay259_right (r : Fin 512) :
    (k0_pay259 (k0_pay41 (k0_pay30 y z) (k0_pay32 dl) (k0_pay34 y z) dr) (ix2 0 (col 1 r)) : EReal)
      = ∑ p : Fin 128, dr (ix2 p r) * (U y z p 1 r * rinv cH cE (U y z p 1)) := by
  have h := fun p => pay39_apply y z p r
  unfold k0_pay259 k0_pay41 k0_pay37
  pointwise
  simp [h]

/-- A further share is added to what is there. -/
theorem pay1_apply (v w : Vec Ideal S1x1024 .f32) (q : Fin 1024) : (k0_pay1 v w (ix2 0 q) : EReal) = w (ix2 0 q) + v (ix2 0 q) := by
  unfold k0_pay1
  pointwise

variable (d : Vec Ideal S128x1024 .bf16)

/-- The first half of a block of the gradient. -/
def lo : Vec Ideal S128x512 .bf16 := View.ld d (Rect.unit ![0, 0] ![128, 512] inb_S128x1024_S128x512_0_0)

/-- The second half of a block of the gradient. -/
def hi : Vec Ideal S128x512 .bf16 := View.ld d (Rect.unit ![0, 512] ![128, 512] inb_S128x1024_S128x512_0_512)

theorem lo_apply (p : Fin 128) (r : Fin 512) : (lo d (ix2 p r) : EReal) = d (ix2 p (col 0 r)) := by
  unfold lo
  pointwise
  simp only [col0]

theorem hi_apply (p : Fin 128) (r : Fin 512) : (hi d (ix2 p r) : EReal) = d (ix2 p (col 1 r)) := by
  unfold hi
  pointwise
  simp only [col1]

/-- What a point leaves of the gate's gradient. -/
abbrev gate : Vec Ideal S128x1024 .bf16 :=
  k0_pay45 (k0_pay43 y (k0_pay27 g) (k0_pay30 y z) (k0_pay32 (lo d)) (k0_pay33 y z) (k0_pay34 y z) (k0_pay35 g) (hi d)) (k0_pay44 (k0_pay26 z) (k0_pay28 z))

/-- A point's share of the gradient of the norm's weights. -/
abbrev part : Vec Ideal S1x1024 .f32 := k0_pay259 (k0_pay41 (k0_pay30 y z) (k0_pay32 (lo d)) (k0_pay34 y z) (hi d))

theorem gate_apply (p : Fin 128) (k : Fin 2) (r : Fin 512) :
    (gate y z g d (ix2 p (col k r)) : EReal)
      = rmsK cH cE (U y z p k) (fun r => d (ix2 p (col k r)) * g (ix2 0 (col k r))) r * y (ix2 p (col k r))
        * (sK (z (ix2 p (col k r))) * (1 + z (ix2 p (col k r)) * (1 - sK (z (ix2 p (col k r)))))) := by
  unfold gate
  rw [pay45_apply]
  match k with
  | 0 => rw [pay40_left]; simp only [lo_apply]
  | 1 => rw [pay40_right]; simp only [hi_apply]

theorem part_apply (k : Fin 2) (r : Fin 512) :
    (part y z d (ix2 0 (col k r)) : EReal) = ∑ p : Fin 128, d (ix2 p (col k r)) * (U y z p k r * rinv cH cE (U y z p k)) := by
  unfold part
  match k with
  | 0 => rw [pay259_left]; simp only [lo_apply]
  | 1 => rw [pay259_right]; simp only [hi_apply]

end Cert.Kernel8Ideal.Value
-- ==== Proof.SsdCase.lean ====
/- The gated norm behind the state-space scan: what a point of the backward call leaves. -/
module

public import proofs.«01_k».proof.Proof.Gen.Kernel8Ideal.Frame
public import proofs.«01_k».proof.Proof.SsdPay
public import Idealize.ShloMosaic.Lib.Tactic

@[expose] public section

noncomputable section

open Idealize.ShloMosaic Idealize.ShloMosaic.TcCoe Idealize.SL.Sem Cert.Alg

namespace Cert.Kernel8Ideal.Value
open Cert.Kernel8Ideal Cert.Kernel8Ideal.Gen Cert.Ssd

theorem hz : (![0, 0] : Fin 2 → Nat) = fun _ => 0 := funext fun a => by fin_cases a <;> rfl

/-- The first point leaves the gate's gradient. -/
theorem out13_A (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x128 .bf16) (harg4 : arg4.IsWhole) (arg5 : Memref sig .tc .vmem S128x1024 .bf16) (harg5 : arg5.IsWhole) (arg6 : Memref sig .tc .vmem S128x1024 .f32) (harg6 : arg6.IsWhole) (arg7 : Memref sig .tc .vmem S1x128x1024 .f32) (harg7 : arg7.IsWhole) (arg8 : Memref sig .tc .vmem S128x1024 .bf16) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x128 .f32) (harg11 : arg11.IsWhole) (arg12 : Memref sig .tc .vmem S1x1024 .f32) (harg12 : arg12.IsWhole) (arg14 : Memref sig .tc .vmem S128x1536 .f32) (harg14 : arg14.IsWhole) (arg15 : Memref sig .tc .vmem S128x1024 .bf16) (harg15 : arg15.IsWhole) (arg16 : Memref sig .tc .vmem S128x128 .bf16) (harg16 : arg16.IsWhole) (arg17 : Memref sig .tc .vmem S8x128 .f32) (harg17 : arg17.IsWhole) (arg18 : Memref sig .tc .vmem S1x1024 .f32) (harg18 : arg18.IsWhole) (arg19 : Memref sig .tc .vmem S128x1024 .f32) (harg19 : arg19.IsWhole) (arg20 : Memref sig .tc .vmem S128x1024 .f32) (harg20 : arg20.IsWhole) (hc0 : cond0_0 i) (hc1 : cond0_1 i) (hc2 : ¬cond0_2 i) (hc3 : cond0_3 i) (hc4 : ¬cond0_4 i)
    (x0 : Vec Ideal S128x1024 .f32) (x1 : Vec Ideal S128x256 .f32) (x2 : Vec Ideal S128x256 .f32) (x3 : Vec Ideal S128x128 .bf16) (x4 : Vec Ideal S128x1024 .bf16) (x5 : Vec Ideal S128x1024 .f32) (x6 : Vec Ideal S1x128x1024 .f32) (x7 : Vec Ideal S128x1024 .bf16) (x8 : Vec Ideal S8x128 .f32) (x9 : Vec Ideal S128x1024 .bf16) (x10 : Vec Ideal S128x128 .f32) (x11 : Vec Ideal S1x1024 .f32) :
    out0_A_13 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 hc0 hc1 hc2 hc3 hc4 x0 x1 x2 x3 x4 x5 x6 x7 x8 x9 x10 x11 = gate x5 x4 x11 x7 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 hc0 hc1 hc2 hc3 hc4 x0 x1 x2 x3 x4 x5 x6 x7 x8 x9 x10 x11)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread, harg17.read_unread, harg18.read_unread, harg19.read_unread, harg20.read_unread, View.ld_unit_zero (S := S128x1024) hz, View.ld_unit_zero (S := S1x1024) hz]
  rfl

/-- The first point leaves its share of the gradient of the norm's weights. -/
theorem out16_A (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x128 .bf16) (harg4 : arg4.IsWhole) (arg5 : Memref sig .tc .vmem S128x1024 .bf16) (harg5 : arg5.IsWhole) (arg6 : Memref sig .tc .vmem S128x1024 .f32) (harg6 : arg6.IsWhole) (arg7 : Memref sig .tc .vmem S1x128x1024 .f32) (harg7 : arg7.IsWhole) (arg8 : Memref sig .tc .vmem S128x1024 .bf16) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x128 .f32) (harg11 : arg11.IsWhole) (arg12 : Memref sig .tc .vmem S1x1024 .f32) (harg12 : arg12.IsWhole) (arg14 : Memref sig .tc .vmem S128x1536 .f32) (harg14 : arg14.IsWhole) (arg15 : Memref sig .tc .vmem S128x1024 .bf16) (harg15 : arg15.IsWhole) (arg16 : Memref sig .tc .vmem S128x128 .bf16) (harg16 : arg16.IsWhole) (arg17 : Memref sig .tc .vmem S8x128 .f32) (harg17 : arg17.IsWhole) (arg18 : Memref sig .tc .vmem S1x1024 .f32) (harg18 : arg18.IsWhole) (arg19 : Memref sig .tc .vmem S128x1024 .f32) (harg19 : arg19.IsWhole) (arg20 : Memref sig .tc .vmem S128x1024 .f32) (harg20 : arg20.IsWhole) (hc0 : cond0_0 i) (hc1 : cond0_1 i) (hc2 : ¬cond0_2 i) (hc3 : cond0_3 i) (hc4 : ¬cond0_4 i)
    (x0 : Vec Ideal S128x1024 .f32) (x1 : Vec Ideal S128x256 .f32) (x2 : Vec Ideal S128x256 .f32) (x3 : Vec Ideal S128x128 .bf16) (x4 : Vec Ideal S128x1024 .bf16) (x5 : Vec Ideal S128x1024 .f32) (x6 : Vec Ideal S1x128x1024 .f32) (x7 : Vec Ideal S128x1024 .bf16) (x8 : Vec Ideal S8x128 .f32) (x9 : Vec Ideal S128x1024 .bf16) (x10 : Vec Ideal S128x128 .f32) (x11 : Vec Ideal S1x1024 .f32) :
    out0_A_16 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 hc0 hc1 hc2 hc3 hc4 x0 x1 x2 x3 x4 x5 x6 x7 x8 x9 x10 x11 = part x5 x4 x7 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 hc0 hc1 hc2 hc3 hc4 x0 x1 x2 x3 x4 x5 x6 x7 x8 x9 x10 x11)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread, harg17.read_unread, harg18.read_unread, harg19.read_unread, harg20.read_unread, View.ld_unit_zero (S := S128x1024) hz, View.ld_unit_zero (S := S1x1024) hz]
  rfl

/-- A point inside a sequence leaves the gate's gradient. -/
theorem out13_B (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x128 .bf16) (harg4 : arg4.IsWhole) (arg5 : Memref sig .tc .vmem S128x1024 .bf16) (harg5 : arg5.IsWhole) (arg6 : Memref sig .tc .vmem S128x1024 .f32) (harg6 : arg6.IsWhole) (arg7 : Memref sig .tc .vmem S1x128x1024 .f32) (harg7 : arg7.IsWhole) (arg8 : Memref sig .tc .vmem S128x1024 .bf16) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x128 .f32) (harg11 : arg11.IsWhole) (arg12 : Memref sig .tc .vmem S1x1024 .f32) (harg12 : arg12.IsWhole) (arg14 : Memref sig .tc .vmem S128x1536 .f32) (harg14 : arg14.IsWhole) (arg15 : Memref sig .tc .vmem S128x1024 .bf16) (harg15 : arg15.IsWhole) (arg16 : Memref sig .tc .vmem S128x128 .bf16) (harg16 : arg16.IsWhole) (arg17 : Memref sig .tc .vmem S8x128 .f32) (harg17 : arg17.IsWhole) (arg18 : Memref sig .tc .vmem S1x1024 .f32) (harg18 : arg18.IsWhole) (arg19 : Memref sig .tc .vmem S128x1024 .f32) (harg19 : arg19.IsWhole) (arg20 : Memref sig .tc .vmem S128x1024 .f32) (harg20 : arg20.IsWhole) (hc0 : ¬cond0_0 i) (hc1 : ¬cond0_1 i) (hc2 : cond0_2 i) (hc3 : ¬cond0_3 i) (hc4 : cond0_4 i)
    (x0 : Vec Ideal S128x1024 .f32) (x1 : Vec Ideal S128x256 .f32) (x2 : Vec Ideal S128x256 .f32) (x3 : Vec Ideal S128x128 .bf16) (x4 : Vec Ideal S128x1024 .bf16) (x5 : Vec Ideal S128x1024 .f32) (x6 : Vec Ideal S1x128x1024 .f32) (x7 : Vec Ideal S128x1024 .bf16) (x8 : Vec Ideal S8x128 .f32) (x9 : Vec Ideal S128x1024 .bf16) (x10 : Vec Ideal S128x128 .f32) (x11 : Vec Ideal S1x1024 .f32) (xo15 : Vec Ideal S8x128 .f32) (xo16 : Vec Ideal S1x1024 .f32) (xs0 : Vec Ideal S128x1024 .f32) :
    out0_B_13 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 hc0 hc1 hc2 hc3 hc4 x0 x1 x2 x3 x4 x5 x6 x7 x8 x9 x10 x11 xo15 xo16 xs0 = gate x5 x4 x11 x7 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 hc0 hc1 hc2 hc3 hc4 x0 x1 x2 x3 x4 x5 x6 x7 x8 x9 x10 x11 xo15 xo16 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread, harg17.read_unread, harg18.read_unread, harg19.read_unread, harg20.read_unread, View.ld_unit_zero (S := S128x1024) hz, View.ld_unit_zero (S := S1x1024) hz]
  rfl

/-- A point inside a sequence adds its share of the gradient of the norm's weights. -/
theorem out16_B (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x128 .bf16) (harg4 : arg4.IsWhole) (arg5 : Memref sig .tc .vmem S128x1024 .bf16) (harg5 : arg5.IsWhole) (arg6 : Memref sig .tc .vmem S128x1024 .f32) (harg6 : arg6.IsWhole) (arg7 : Memref sig .tc .vmem S1x128x1024 .f32) (harg7 : arg7.IsWhole) (arg8 : Memref sig .tc .vmem S128x1024 .bf16) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x128 .f32) (harg11 : arg11.IsWhole) (arg12 : Memref sig .tc .vmem S1x1024 .f32) (harg12 : arg12.IsWhole) (arg14 : Memref sig .tc .vmem S128x1536 .f32) (harg14 : arg14.IsWhole) (arg15 : Memref sig .tc .vmem S128x1024 .bf16) (harg15 : arg15.IsWhole) (arg16 : Memref sig .tc .vmem S128x128 .bf16) (harg16 : arg16.IsWhole) (arg17 : Memref sig .tc .vmem S8x128 .f32) (harg17 : arg17.IsWhole) (arg18 : Memref sig .tc .vmem S1x1024 .f32) (harg18 : arg18.IsWhole) (arg19 : Memref sig .tc .vmem S128x1024 .f32) (harg19 : arg19.IsWhole) (arg20 : Memref sig .tc .vmem S128x1024 .f32) (harg20 : arg20.IsWhole) (hc0 : ¬cond0_0 i) (hc1 : ¬cond0_1 i) (hc2 : cond0_2 i) (hc3 : ¬cond0_3 i) (hc4 : cond0_4 i)
    (x0 : Vec Ideal S128x1024 .f32) (x1 : Vec Ideal S128x256 .f32) (x2 : Vec Ideal S128x256 .f32) (x3 : Vec Ideal S128x128 .bf16) (x4 : Vec Ideal S128x1024 .bf16) (x5 : Vec Ideal S128x1024 .f32) (x6 : Vec Ideal S1x128x1024 .f32) (x7 : Vec Ideal S128x1024 .bf16) (x8 : Vec Ideal S8x128 .f32) (x9 : Vec Ideal S128x1024 .bf16) (x10 : Vec Ideal S128x128 .f32) (x11 : Vec Ideal S1x1024 .f32) (xo15 : Vec Ideal S8x128 .f32) (xo16 : Vec Ideal S1x1024 .f32) (xs0 : Vec Ideal S128x1024 .f32) :
    out0_B_16 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 hc0 hc1 hc2 hc3 hc4 x0 x1 x2 x3 x4 x5 x6 x7 x8 x9 x10 x11 xo15 xo16 xs0 = k0_pay1 (part x5 x4 x7) xo16 := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 hc0 hc1 hc2 hc3 hc4 x0 x1 x2 x3 x4 x5 x6 x7 x8 x9 x10 x11 xo15 xo16 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread, harg17.read_unread, harg18.read_unread, harg19.read_unread, harg20.read_unread, View.ld_unit_zero (S := S128x1024) hz, View.ld_unit_zero (S := S1x1024) hz]
  rfl

/-- The first point of the other sequence leaves the gate's gradient. -/
theorem out13_C (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x128 .bf16) (harg4 : arg4.IsWhole) (arg5 : Memref sig .tc .vmem S128x1024 .bf16) (harg5 : arg5.IsWhole) (arg6 : Memref sig .tc .vmem S128x1024 .f32) (harg6 : arg6.IsWhole) (arg7 : Memref sig .tc .vmem S1x128x1024 .f32) (harg7 : arg7.IsWhole) (arg8 : Memref sig .tc .vmem S128x1024 .bf16) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x128 .f32) (harg11 : arg11.IsWhole) (arg12 : Memref sig .tc .vmem S1x1024 .f32) (harg12 : arg12.IsWhole) (arg14 : Memref sig .tc .vmem S128x1536 .f32) (harg14 : arg14.IsWhole) (arg15 : Memref sig .tc .vmem S128x1024 .bf16) (harg15 : arg15.IsWhole) (arg16 : Memref sig .tc .vmem S128x128 .bf16) (harg16 : arg16.IsWhole) (arg17 : Memref sig .tc .vmem S8x128 .f32) (harg17 : arg17.IsWhole) (arg18 : Memref sig .tc .vmem S1x1024 .f32) (harg18 : arg18.IsWhole) (arg19 : Memref sig .tc .vmem S128x1024 .f32) (harg19 : arg19.IsWhole) (arg20 : Memref sig .tc .vmem S128x1024 .f32) (harg20 : arg20.IsWhole) (hc0 : cond0_0 i) (hc1 : ¬cond0_1 i) (hc2 : cond0_2 i) (hc3 : ¬cond0_3 i) (hc4 : cond0_4 i)
    (x0 : Vec Ideal S128x1024 .f32) (x1 : Vec Ideal S128x256 .f32) (x2 : Vec Ideal S128x256 .f32) (x3 : Vec Ideal S128x128 .bf16) (x4 : Vec Ideal S128x1024 .bf16) (x5 : Vec Ideal S128x1024 .f32) (x6 : Vec Ideal S1x128x1024 .f32) (x7 : Vec Ideal S128x1024 .bf16) (x8 : Vec Ideal S8x128 .f32) (x9 : Vec Ideal S128x1024 .bf16) (x10 : Vec Ideal S128x128 .f32) (x11 : Vec Ideal S1x1024 .f32) (xo15 : Vec Ideal S8x128 .f32) (xo16 : Vec Ideal S1x1024 .f32) :
    out0_C_13 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 hc0 hc1 hc2 hc3 hc4 x0 x1 x2 x3 x4 x5 x6 x7 x8 x9 x10 x11 xo15 xo16 = gate x5 x4 x11 x7 := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 hc0 hc1 hc2 hc3 hc4 x0 x1 x2 x3 x4 x5 x6 x7 x8 x9 x10 x11 xo15 xo16)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread, harg17.read_unread, harg18.read_unread, harg19.read_unread, harg20.read_unread, View.ld_unit_zero (S := S128x1024) hz, View.ld_unit_zero (S := S1x1024) hz]
  rfl

/-- The first point of the other sequence adds its share of the gradient of the norm's weights. -/
theorem out16_C (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x128 .bf16) (harg4 : arg4.IsWhole) (arg5 : Memref sig .tc .vmem S128x1024 .bf16) (harg5 : arg5.IsWhole) (arg6 : Memref sig .tc .vmem S128x1024 .f32) (harg6 : arg6.IsWhole) (arg7 : Memref sig .tc .vmem S1x128x1024 .f32) (harg7 : arg7.IsWhole) (arg8 : Memref sig .tc .vmem S128x1024 .bf16) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x128 .f32) (harg11 : arg11.IsWhole) (arg12 : Memref sig .tc .vmem S1x1024 .f32) (harg12 : arg12.IsWhole) (arg14 : Memref sig .tc .vmem S128x1536 .f32) (harg14 : arg14.IsWhole) (arg15 : Memref sig .tc .vmem S128x1024 .bf16) (harg15 : arg15.IsWhole) (arg16 : Memref sig .tc .vmem S128x128 .bf16) (harg16 : arg16.IsWhole) (arg17 : Memref sig .tc .vmem S8x128 .f32) (harg17 : arg17.IsWhole) (arg18 : Memref sig .tc .vmem S1x1024 .f32) (harg18 : arg18.IsWhole) (arg19 : Memref sig .tc .vmem S128x1024 .f32) (harg19 : arg19.IsWhole) (arg20 : Memref sig .tc .vmem S128x1024 .f32) (harg20 : arg20.IsWhole) (hc0 : cond0_0 i) (hc1 : ¬cond0_1 i) (hc2 : cond0_2 i) (hc3 : ¬cond0_3 i) (hc4 : cond0_4 i)
    (x0 : Vec Ideal S128x1024 .f32) (x1 : Vec Ideal S128x256 .f32) (x2 : Vec Ideal S128x256 .f32) (x3 : Vec Ideal S128x128 .bf16) (x4 : Vec Ideal S128x1024 .bf16) (x5 : Vec Ideal S128x1024 .f32) (x6 : Vec Ideal S1x128x1024 .f32) (x7 : Vec Ideal S128x1024 .bf16) (x8 : Vec Ideal S8x128 .f32) (x9 : Vec Ideal S128x1024 .bf16) (x10 : Vec Ideal S128x128 .f32) (x11 : Vec Ideal S1x1024 .f32) (xo15 : Vec Ideal S8x128 .f32) (xo16 : Vec Ideal S1x1024 .f32) :
    out0_C_16 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 hc0 hc1 hc2 hc3 hc4 x0 x1 x2 x3 x4 x5 x6 x7 x8 x9 x10 x11 xo15 xo16 = k0_pay1 (part x5 x4 x7) xo16 := by
  unfold out0_C_16
  rw [View.read_writes_eq_canon _ _ _ (cover0_C_16 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 hc0 hc1 hc2 hc3 hc4 x0 x1 x2 x3 x4 x5 x6 x7 x8 x9 x10 x11 xo15 xo16)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread, harg17.read_unread, harg18.read_unread, harg19.read_unread, harg20.read_unread, View.ld_unit_zero (S := S128x1024) hz, View.ld_unit_zero (S := S1x1024) hz]
  rfl

end Cert.Kernel8Ideal.Value
-- ==== Proof.SsdNum.lean ====
/- The gated norm behind the state-space scan: the two spellings of the logistic function and of its derivative. -/
module

public import proofs.«01_k».proof.Proof.SsdPay

@[expose] public section

noncomputable section

open Idealize.ShloMosaic Idealize.ShloMosaic.TcCoe Idealize.SL.Sem Cert.Alg

namespace Cert.Ssd

/-- The word of `0.5`. -/
theorem half_eq : Ideal.ofBits FTy.f32 1056964608#32 = ((1 / 2 : ℝ) : EReal) := by
  simp [Ideal.ofBits, Ideal.ieee, -EReal.coe_mul]; norm_num

/-- The logistic function of a real, from the exponential. -/
theorem sR_coe (z : ℝ) : sR (z : EReal) = ((1 / (1 + Real.exp (-z)) : ℝ) : EReal) := by
  have h : (1 + Real.exp (-z)) ≠ 0 := by positivity
  unfold sR
  rw [← EReal.coe_neg, Ideal.exp_coe, ← EReal.coe_one, ← EReal.coe_add, Ideal.div_coe h, ← EReal.coe_mul, one_mul]

theorem sR_top : sR ⊤ = 1 := by
  unfold sR
  rw [EReal.neg_top, Ideal.exp_bot, add_zero]
  unfold Ideal.div
  simp

theorem sR_bot : sR ⊥ = 0 := by
  unfold sR
  rw [EReal.neg_bot, Ideal.exp_top, ← EReal.coe_one, EReal.coe_add_top]
  unfold Ideal.div
  simp

/-- The hyperbolic tangent's half angle gives the logistic function. -/
theorem tanh_half (z : ℝ) : (1 / 2 : ℝ) * Real.tanh (1 / 2 * z) + 1 / 2 = 1 / (1 + Real.exp (-z)) := by
  have e1 : Real.exp (1 / 2 * z) * Real.exp (-(1 / 2 * z)) = 1 := by rw [← Real.exp_add]; simp
  have e2 : Real.exp (-z) = Real.exp (-(1 / 2 * z)) * Real.exp (-(1 / 2 * z)) := by rw [← Real.exp_add]; congr 1; ring
  have p1 := Real.exp_pos (1 / 2 * z)
  have p2 := Real.exp_pos (-(1 / 2 * z))
  rw [Real.tanh_eq_sinh_div_cosh, Real.sinh_eq, Real.cosh_eq, e2]
  generalize Real.exp (1 / 2 * z) = a at *
  generalize Real.exp (-(1 / 2 * z)) = b at *
  have hb : b ≠ 0 := p2.ne'
  have ha : a = 1 / b := by field_simp; exact e1
  subst ha
  have : 1 + b * b ≠ 0 := by positivity
  have : 1 / b + b ≠ 0 := by positivity
  field_simp
  ring

/-- The two spellings of the logistic function are one. -/
theorem sig_eq (z : EReal) : sK z = sR z := by
  unfold sK
  rw [half_eq]
  induction z with
  | bot =>
    rw [sR_bot, EReal.coe_mul_bot_of_pos (by norm_num), Ideal.tanh_bot, mul_neg, mul_one, ← EReal.coe_neg, ← EReal.coe_add]
    norm_num
  | top =>
    rw [sR_top, EReal.coe_mul_top_of_pos (by norm_num), Ideal.tanh_top, mul_one]
    norm_cast
    norm_num
  | coe z =>
    rw [sR_coe, ← tanh_half, ← EReal.coe_mul, Ideal.tanh_coe, ← EReal.coe_mul, ← EReal.coe_add]

/-- The gate's derivative in its two spellings. -/
theorem gate_eq (a : ℝ) (z : EReal) :
    (a : EReal) * (sR z * (1 + z * (1 - sR z))) = a * sR z + z * a * (sR z * (1 - sR z)) := by
  induction z with
  | bot => rw [sR_bot]; simp
  | top =>
    have h : (1 - 1 : EReal) = 0 := by rw [← EReal.coe_one, ← EReal.coe_sub]; norm_num
    rw [sR_top, h]
    simp
  | coe z =>
    rw [sR_coe]
    norm_cast
    ring

/-- The gradient of a half row's norm is real where the gradient it takes is, whatever the row. -/
theorem rms_real (x g : Fin 512 → EReal) (hg : ∀ r, ∃ v : ℝ, g r = v) (j : Fin 512) : ∃ v : ℝ, rmsK cH cE x g j = v := by
  obtain ⟨ε, hε, he⟩ := ceps_eq
  by_cases h : ∑ k, x k * x k = ⊤
  · refine ⟨0, ?_⟩
    have hr : rinv cH cE x = 0 := by
      unfold rinv
      rw [h, show cH = ((512 : ℝ) : EReal) from c512_eq, Ideal.div_coe (by norm_num), EReal.top_mul_coe_of_pos (by norm_num), show cE = (ε : EReal) from he, EReal.top_add_coe, Ideal.rsqrt_top]
    unfold rmsK
    rw [hr, zero_mul]
    rfl
  · obtain ⟨y, rfl⟩ := real_of_sum_sq x h
    choose v hv using hg
    obtain rfl : g = fun r => (v r : EReal) := funext hv
    have hs0 : 0 ≤ ∑ k, y k * y k := Finset.sum_nonneg fun k _ => mul_self_nonneg (y k)
    have hpos : 0 < (∑ k, y k * y k) * (1 / 512) + ε := by positivity
    have hr : ∃ ρ : ℝ, rinv cH cE (fun k => (y k : EReal)) = ρ := by
      refine ⟨(Real.sqrt ((∑ k, y k * y k) * (1 / 512) + ε))⁻¹, ?_⟩
      unfold rinv
      simp only [← EReal.coe_mul, ← coe_sum]
      rw [show cH = ((512 : ℝ) : EReal) from c512_eq, Ideal.div_coe (by norm_num), show cE = (ε : EReal) from he, ← EReal.coe_mul, ← EReal.coe_add, Ideal.rsqrt_coe,
        if_neg (not_lt.mpr hpos.le), if_neg hpos.ne']
    obtain ⟨ρ, hρ⟩ := hr
    unfold rmsK
    rw [hρ, show cH = ((512 : ℝ) : EReal) from c512_eq, Ideal.div_coe (by norm_num)]
    simp only [← EReal.coe_mul, ← coe_sum, ← EReal.coe_sub]
    exact ⟨_, rfl⟩

/-- A half row with an infinite entry has no gradient. -/
theorem rms_zero (x g : Fin 512 → EReal) (h : ∑ k, x k * x k = ⊤) (j : Fin 512) : rmsK cH cE x g j = 0 := by
  obtain ⟨ε, hε, he⟩ := ceps_eq
  have hr : rinv cH cE x = 0 := by
    unfold rinv
    rw [h, show cH = ((512 : ℝ) : EReal) from c512_eq, Ideal.div_coe (by norm_num), EReal.top_mul_coe_of_pos (by norm_num), show cE = (ε : EReal) from he, EReal.top_add_coe, Ideal.rsqrt_top]
  unfold rmsK
  rw [hr, zero_mul]

/-- The gate's derivative in its two spellings, at an infinite gate or at a gate that is zero. -/
theorem gate_ends (A z : EReal) (h : z = ⊥ ∨ z = ⊤ ∨ z = 0) :
    A * (sR z * (1 + z * (1 - sR z))) = A * sR z + z * A * (sR z * (1 - sR z)) := by
  rcases h with rfl | rfl | rfl
  · rw [sR_bot]; simp
  · have h : (1 - 1 : EReal) = 0 := by rw [← EReal.coe_one, ← EReal.coe_sub]; norm_num
    rw [sR_top, h]
    simp
  · simp

/-- The gate's gradient, kernel against reference, at a real row gradient: where the scan's row is infinite and the gate is
    not at an end, the gated row is infinite and both sides are zero. -/
theorem gate_row (x g : Fin 512 → EReal) (y z : EReal) (hg : ∀ r, ∃ v : ℝ, g r = v) (r : Fin 512) (hx : x r = y * (z * sR z)) :
    rmsK cH cE x g r * y * (sR z * (1 + z * (1 - sR z)))
      = y * rmsK cH cE x g r * sR z + z * (y * rmsK cH cE x g r) * (sR z * (1 - sR z)) := by
  by_cases h : ∑ k, x k * x k = ⊤
  · rw [rms_zero x g h]
    simp
  by_cases hz : z = ⊥ ∨ z = ⊤ ∨ z = 0
  · rw [mul_comm (rmsK cH cE x g r) y]
    exact gate_ends _ _ hz
  obtain ⟨v, hv⟩ := rms_real x g hg r
  obtain ⟨w, hw⟩ := real_of_sum_sq x h
  rw [not_or, not_or] at hz
  obtain ⟨u, rfl⟩ : ∃ u : ℝ, z = u := ⟨z.toReal, (EReal.coe_toReal hz.2.1 hz.1).symm⟩
  have hu : u ≠ 0 := fun e => hz.2.2 (by rw [e]; rfl)
  have hs : u * (1 / (1 + Real.exp (-u))) ≠ 0 := mul_ne_zero hu (by positivity)
  rw [hw, sR_coe, ← EReal.coe_mul] at hx
  dsimp only at hx
  obtain ⟨t, rfl⟩ : ∃ t : ℝ, y = t := by
    induction y with
    | coe t => exact ⟨t, rfl⟩
    | top =>
      rcases lt_or_gt_of_ne hs with h' | h'
      · rw [EReal.top_mul_coe_of_neg h'] at hx; exact absurd hx (EReal.coe_ne_bot _)
      · rw [EReal.top_mul_coe_of_pos h'] at hx; exact absurd hx (EReal.coe_ne_top _)
    | bot =>
      rcases lt_or_gt_of_ne hs with h' | h'
      · rw [EReal.bot_mul_coe_of_neg h'] at hx; exact absurd hx (EReal.coe_ne_top _)
      · rw [EReal.bot_mul_coe_of_pos h'] at hx; exact absurd hx (EReal.coe_ne_bot _)
  rw [hv, mul_comm (v : EReal), ← EReal.coe_mul]
  exact gate_eq _ _

end Cert.Ssd
-- ==== Proof.SsdPre.lean ====
/- The gated norm behind the state-space scan: what the claim assumes of its arguments. -/
module

public import proofs.«01_k».proof.Defs
public import Idealize.ShloMosaic.Lib.ReduceAll
public import Idealize.ShloMosaic.Lib.Affine
public import proofs.«01_k».proof.Proof.SsdRef
public import Idealize.ShloMosaic.Lib.Tactic

@[expose] public section

noncomputable section

open Idealize.ShloMosaic Idealize.ShloMosaic.TcCoe Idealize.SL.Sem Cert.Ssd

namespace Cert.Proof.Ssd

/-- The shape relations that the precondition's operations take. -/
theorem pre_facts : Cert.Pre_finite.Facts where
  slices_S4096x2048_S4096x1024_0_1024 := by decide
  bitsLt_bf16_f32 := by decide
  bcast_S_S1024 := by decide
  reducesTo_S1024_S_d0 := by decide
  h_S_ := by decide
  bcast_S_S4096x1024 := by decide
  reducesTo_S4096x1024_S_d0_1 := by decide

/-- A magnitude below the infinity is a real's. -/
theorem real_of_lt {x : EReal} (h : Ideal.cmp .olt (max x (-x)) (Ideal.ofBits FTy.f32 0x7F800000#32) = 1#1) : ∃ v : ℝ, x = v := by
  have htop : Ideal.ofBits FTy.f32 0x7F800000#32 = ⊤ := by simp [Ideal.ofBits, Ideal.ieee]
  rw [htop] at h
  unfold Ideal.cmp at h
  induction x with
  | bot => simp at h
  | top => simp at h
  | coe v => exact ⟨v, rfl⟩

/-- The precondition: the norm's weights and the gradient that comes back are real. -/
theorem pre_real (m : (ℓ : Loc Cert.Kernel8Ideal.nD Cert.Kernel8Ideal.τ Cert.Kernel8Ideal.sig) → Buf (Elt Ideal) ℓ) (c : Dev Cert.Kernel8Ideal.nD)
    (h : Cert.Pre_Kernel8Ideal_finite (hPre_finite := pre_facts) m)
    (g : Vec Ideal Cert.Pre_finite.S1024 .f32) (d : Vec Ideal Cert.Pre_finite.S4096x2048 .bf16)
    (hg : g = m ((c.tc : Thread Cert.Kernel8Ideal.nD Cert.Kernel8Ideal.τ).loc Cert.Kernel8Ideal.main_arg6))
    (hd : d = m ((c.tc : Thread Cert.Kernel8Ideal.nD Cert.Kernel8Ideal.τ).loc Cert.Kernel8Ideal.main_arg4)) :
    (∀ q : Fin 1024, ∃ v : ℝ, (g (ix1 q) : EReal) = (v : EReal))
      ∧ ∀ (i : Fin 4096) (q : Fin 1024), ∃ v : ℝ, (d (ix2 i (ccol q)) : EReal) = (v : EReal) := by
  subst hg hd
  have e := congrFun (h c) (fun a => a.elim0)
  unfold Cert.Pre_finite.fn at e
  dsimp only at e
  obtain ⟨e1, e2⟩ := IntOp.andi_eq_one.1 e
  haveI : Subsingleton Cert.Pre_finite.S_.Idx := ⟨fun a b => funext fun k => k.elim0⟩
  refine ⟨fun q => real_of_lt (Host.reduce_andi_all _ _ _ _ _ e1 (ix1 q)), fun i q => ?_⟩
  have e3 := real_of_lt (Host.reduce_andi_all _ _ _ _ _ e2 (ix2 i q))
  obtain ⟨v, hv⟩ := e3
  refine ⟨v, Eq.trans (congrArg _ ?_) hv⟩
  funext a
  apply Fin.ext
  match a with
  | ⟨0, _⟩ => show i.val = 0 + i.val; omega
  | ⟨1, _⟩ => rfl

end Cert.Proof.Ssd
-- ==== Proof.Ssd.lean ====
/- The gradient of the gated norm behind the state-space scan, as the backward call computes it: the gate's gradient, written
   into the columns of the projected rows' gradient that belong to it, and the gradient of the norm's weights. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.SsdCase
public import proofs.«01_k».proof.Proof.SsdNum
public import proofs.«01_k».proof.Proof.SsdPre
public import Idealize.ShloMosaic.Lib.Tactic
public import Idealize.ShloMosaic.Adequacy

@[expose] public section

noncomputable section

open Idealize.ShloMosaic Idealize.ShloMosaic.TcCoe Idealize.SL.Sem Cert.Alg

namespace Cert.Kernel8Ideal.Value
open Cert.Kernel8Ideal Cert.Kernel8Ideal.Gen Cert.Ssd

variable (m : (ℓ : Loc nD τ sig) → Buf (Elt Ideal) ℓ)

/-- The projected rows. -/
abbrev A1 (c : Dev nD) : Vec Ideal S4096x5760 .bf16 := m ((c : Thread nD τ).loc main_arg1)
/-- The scan's rows. -/
abbrev A2 (c : Dev nD) : Vec Ideal S4096x1024 .f32 := m ((c : Thread nD τ).loc main_arg2)
/-- The gradient that comes back. -/
abbrev A4 (c : Dev nD) : Vec Ideal S4096x2048 .bf16 := m ((c : Thread nD τ).loc main_arg4)
/-- The norm's weights. -/
abbrev A6 (c : Dev nD) : Vec Ideal S1024 .f32 := m ((c : Thread nD τ).loc main_arg6)
/-- The projected rows' gradient as far as it is known. -/
abbrev A7 (c : Dev nD) : Vec Ideal S4096x5760 .bf16 := m ((c : Thread nD τ).loc main_arg7)

/-- The chunk a point works on: the chunks of a sequence are taken from the last to the first. -/
abbrev rv (n : ℕ) : ℕ := n / 16 * 16 + (15 - n % 16)

/-- Row `p` of point `t`'s chunk. -/
abbrev row (t : Fin cfg0.N) (p : Fin 128) : Fin 4096 :=
  ⟨128 * rv t.val + p.val, by have := t.isLt; have h : cfg0.N = 32 := N_0; have := p.isLt; show 128 * (t.val / 16 * 16 + (15 - t.val % 16)) + p.val < 4096; omega⟩

/-- The norm's weights as the call takes them. -/
theorem V_g (c : Dev nD) (q : Fin 1024) : (V m c main_v0 (ix2 0 q) : EReal) = A6 m c (ix1 q) := by
  dsimp only [V, hostOps0, hostOps0_1, hostOps0_2, List.flatten_cons, List.flatten_nil, List.append_nil, List.cons_append, List.nil_append]
  after_results
  pointwise

/-- The gradient of the projected rows that the call starts from. -/
theorem V_d (c : Dev nD) : (V m c main_v18_1 : S4096x5760.Idx → EReal) = A7 m c := by
  dsimp only [V, hostOps0, hostOps0_1, hostOps0_2, List.flatten_cons, List.flatten_nil, List.append_nil, List.cons_append, List.nil_append]
  after_results
  rfl

/-- The chunk of the scan's rows. -/
theorem b5 (c : Dev nD) (t : Fin cfg0.N) (p : Fin 128) (q : Fin 1024) : (iblk m c 5 t (ix2 p q) : EReal) = A2 m c (ix2 (row t p) q) := by
  unfold iblk
  rw [View.read_apply]
  show (V m c main_arg2 _ : EReal) = _
  rw [V_main_arg2]
  congr 1
  funext a
  apply Fin.ext
  have hi : win0_5.index t 0 = t.val / 16 * 16 + (15 - t.val % 16) ∧ win0_5.index t 1 = 0 := (by decide +kernel : ∀ t : Fin grid0.N, win0_5.index t 0 = t.val / 16 * 16 + (15 - t.val % 16) ∧ win0_5.index t 1 = 0) t
  match a with
  | ⟨0, _⟩ => show win0_5.index t 0 * 128 + 1 * p.val = 128 * (t.val / 16 * 16 + (15 - t.val % 16)) + p.val; rw [hi.1]; omega
  | ⟨1, _⟩ => show win0_5.index t 1 * 1024 + 1 * q.val = q.val; rw [hi.2]; omega

/-- The chunk of the gradient that comes back. -/
theorem b7 (c : Dev nD) (t : Fin cfg0.N) (p : Fin 128) (q : Fin 1024) : (iblk m c 7 t (ix2 p q) : EReal) = A4 m c (ix2 (row t p) (ccol q)) := by
  unfold iblk
  rw [View.read_apply]
  show (V m c main_arg4 _ : EReal) = _
  rw [V_main_arg4]
  congr 1
  funext a
  apply Fin.ext
  have hi : win0_7.index t 0 = t.val / 16 * 16 + (15 - t.val % 16) ∧ win0_7.index t 1 = 1 := (by decide +kernel : ∀ t : Fin grid0.N, win0_7.index t 0 = t.val / 16 * 16 + (15 - t.val % 16) ∧ win0_7.index t 1 = 1) t
  match a with
  | ⟨0, _⟩ => show win0_7.index t 0 * 128 + 1 * p.val = 128 * (t.val / 16 * 16 + (15 - t.val % 16)) + p.val; rw [hi.1]; omega
  | ⟨1, _⟩ => show win0_7.index t 1 * 1024 + 1 * q.val = 1024 + q.val; rw [hi.2]; omega

/-- The norm's weights at every point. -/
theorem b11 (c : Dev nD) (t : Fin cfg0.N) (q : Fin 1024) : (iblk m c 11 t (ix2 0 q) : EReal) = A6 m c (ix1 q) := by
  unfold iblk
  rw [View.read_apply]
  refine Eq.trans (congrArg (V m c main_v0) ?_) (V_g m c q)
  funext a
  apply Fin.ext
  have hi : win0_11.index t 0 = 0 ∧ win0_11.index t 1 = 0 := (by decide +kernel : ∀ t : Fin grid0.N, win0_11.index t 0 = 0 ∧ win0_11.index t 1 = 0) t
  match a with
  | ⟨0, _⟩ => show win0_11.index t 0 * 1 + 1 * 0 = 0; rw [hi.1]
  | ⟨1, _⟩ => show win0_11.index t 1 * 1024 + 1 * q.val = q.val; rw [hi.2]; omega

/-- The chunk of the gate. -/
theorem b4 (c : Dev nD) (t : Fin cfg0.N) (p : Fin 128) (q : Fin 1024) : (X0_4 m c t (ix2 p q) : EReal) = A1 m c (ix2 (row t p) (zcol q)) := by
  unfold X0_4 Pipeline.Window.fill
  rw [dif_pos (moved0_4 t (ix2 p q))]
  unfold iblk
  rw [View.read_apply]
  show (V m c main_arg1 _ : EReal) = _
  rw [V_main_arg1]
  congr 1
  funext a
  apply Fin.ext
  have hi : win0_4.index t 0 = t.val / 16 * 16 + (15 - t.val % 16) ∧ win0_4.index t 1 = 3 := (by decide +kernel : ∀ t : Fin grid0.N, win0_4.index t 0 = t.val / 16 * 16 + (15 - t.val % 16) ∧ win0_4.index t 1 = 3) t
  match a with
  | ⟨0, _⟩ => show win0_4.index t 0 * 128 + 1 * p.val = 128 * (t.val / 16 * 16 + (15 - t.val % 16)) + p.val; rw [hi.1]; omega
  | ⟨1, _⟩ => show win0_4.index t 1 * 1024 + 1 * q.val = 3072 + q.val; rw [hi.2]; omega

/-- What a point leaves of the gate's gradient. -/
theorem o13 (c : Dev nD) (t : Fin cfg0.N) :
    (outsAt0 m c t.val t.isLt).2.1 = gate (iblk m c 5 t) (X0_4 m c t) (iblk m c 11 t) (iblk m c 7 t) := by
  have hN : cfg0.N = 32 := N_0
  have ht := t.isLt
  by_cases h : t.val % 16 = 0
  · by_cases h' : t.val = 0
    · rw [outsAt0_A m c t h (by omega) (by omega) (by omega) (by omega)]
      dsimp only
      rw [out13_A]
    · rw [outsAt0_C m c t h (by omega) (by omega) (by omega) (by omega)]
      dsimp only
      rw [out13_C]
  · rw [outsAt0_B m c t h (by omega) (by omega) (by omega) (by omega)]
    dsimp only
    rw [out13_B]

/-- A point's share of the gradient of the norm's weights. -/
abbrev part16 (c : Dev nD) (t : Fin cfg0.N) : Vec Ideal S1x1024 .f32 := part (iblk m c 5 t) (X0_4 m c t) (iblk m c 7 t)

/-- The first point leaves its share. -/
theorem first16 (c : Dev nD) (h : 0 < cfg0.N) : (outsAt0 m c 0 h).2.2.2.2.1 = part16 m c ⟨0, h⟩ := by
  have e := congrArg (fun z => z.2.2.2.2.1) (outsAt0_A m c ⟨0, h⟩ (show 0 % 16 = 0 by decide) (show 0 % 32 = 0 by decide) (show ¬1 ≤ 0 by decide) (show 0 % 32 = 0 by decide) (show ¬1 ≤ 0 by decide))
  dsimp only at e
  rw [out16_A] at e
  exact e

/-- Every further point adds its share. -/
theorem next16 (c : Dev nD) (n : ℕ) (h : n + 1 < cfg0.N) (q : Fin 1024) :
    ((outsAt0 m c (n + 1) h).2.2.2.2.1 (ix2 0 q) : EReal) = (outsAt0 m c n (Nat.lt_of_succ_lt h)).2.2.2.2.1 (ix2 0 q) + part16 m c ⟨n + 1, h⟩ (ix2 0 q) := by
  have hN : cfg0.N = 32 := N_0
  by_cases h0 : (n + 1) % 16 = 0
  · have e := congrArg (fun z => z.2.2.2.2.1) (outsAt0_C m c ⟨n + 1, h⟩ h0 (show ¬(n + 1) % 32 = 0 by omega) (show 1 ≤ n + 1 by omega) (show ¬(n + 1) % 32 = 0 by omega) (show 1 ≤ n + 1 by omega))
    dsimp only at e
    rw [out16_C] at e
    rw [e]
    exact pay1_apply _ _ q
  · have e := congrArg (fun z => z.2.2.2.2.1) (outsAt0_B m c ⟨n + 1, h⟩ h0 (show ¬(n + 1) % 32 = 0 by omega) (show 1 ≤ n + 1 by omega) (show ¬(n + 1) % 32 = 0 by omega) (show 1 ≤ n + 1 by omega))
    dsimp only at e
    rw [out16_B] at e
    rw [e]
    exact pay1_apply _ _ q

/-- The call's projected rows' gradient: the reference's. -/
abbrev res13 (c : Dev nD) : Buf (Elt Ideal) ((c : Thread nD τ).loc main_v18_1) := Cert.Reference8Ideal.Read.val_main_v54 (F := Ideal) (A1 m c) (A2 m c) (A4 m c) (A6 m c) (A7 m c)

/-- The call's gradient of the norm's weights: the reference's. -/
abbrev res16 (c : Dev nD) : Buf (Elt Ideal) ((c : Thread nD τ).loc main_v18_4) := Cert.Reference8Ideal.Read.val_main_v55 (F := Ideal) (A1 m c) (A2 m c) (A4 m c)

/-- A half of a gated row is the reference's. -/
theorem gated (c : Dev nD) (t : Fin cfg0.N) (p : Fin 128) (k : Fin 2) :
    U (iblk m c 5 t) (X0_4 m c t) p k = fun r => (Cert.Reference8Ideal.Read.val_main_v4 (F := Ideal) (A1 m c) (A2 m c) (ix3 (row t p) k r) : EReal) := by
  funext r
  refine (pay30_apply (iblk m c 5 t) (X0_4 m c t) p (col k r)).trans ?_
  refine Eq.trans ?_ (Cert.Reference8Ideal.Read.gated_apply (A1 m c) (A2 m c) (row t p) k r).symm
  rw [Cert.Reference8Ideal.Read.sig_apply, sig_eq]
  refine congrArg₂ (fun a b : EReal => a * b) (b5 m c t p (col k r)) ?_
  rw [b4]

/-- What a point leaves of the gate's gradient is the reference's. -/
theorem blk13 (c : Dev nD) (hg : ∀ q : Fin 1024, ∃ v : ℝ, (A6 m c (ix1 q) : EReal) = (v : EReal))
    (hd : ∀ (i : Fin 4096) (q : Fin 1024), ∃ v : ℝ, (A4 m c (ix2 i (ccol q)) : EReal) = (v : EReal))
    (t : Fin cfg0.N) (p : Fin 128) (k : Fin 2) (r : Fin 512) :
    (gate (iblk m c 5 t) (X0_4 m c t) (iblk m c 11 t) (iblk m c 7 t) (ix2 p (col k r)) : EReal) = res13 m c (ix2 (row t p) (zcol (col k r))) := by
  refine (gate_apply _ _ _ _ p k r).trans ?_
  refine Eq.trans ?_ (Cert.Reference8Ideal.Read.out_mid _ _ _ _ _ (row t p) (col k r)).symm
  refine Eq.trans ?_ (Cert.Reference8Ideal.Read.dz_apply _ _ _ _ (row t p) (col k r)).symm
  rw [Cert.Reference8Ideal.Read.dq_apply, Cert.Reference8Ideal.Read.du_apply, gated, sig_eq]
  have hG : (fun r => @HMul.hMul EReal EReal EReal _ (iblk m c 7 t (ix2 p (col k r))) (iblk m c 11 t (ix2 0 (col k r))))
      = fun r => (Cert.Reference8Ideal.Read.val_main_v30 (F := Ideal) (A4 m c) (A6 m c) (ix3 (row t p) k r) : EReal) := by
    funext r
    refine Eq.trans ?_ (Cert.Reference8Ideal.Read.grow_apply (A4 m c) (A6 m c) (row t p) k r).symm
    exact congrArg₂ (fun a b : EReal => a * b) (b7 m c t p (col k r)) (b11 m c t (col k r))
  have hr : ∀ r, ∃ v : ℝ, (Cert.Reference8Ideal.Read.val_main_v30 (F := Ideal) (A4 m c) (A6 m c) (ix3 (row t p) k r) : EReal) = (v : EReal) := fun r => by
    obtain ⟨a, ha⟩ := hd (row t p) (col k r)
    obtain ⟨b, hb⟩ := hg (col k r)
    exact ⟨a * b, (Cert.Reference8Ideal.Read.grow_apply (A4 m c) (A6 m c) (row t p) k r).trans (by rw [ha, hb, EReal.coe_mul])⟩
  have hx := (Cert.Reference8Ideal.Read.gated_apply (A1 m c) (A2 m c) (row t p) k r)
  rw [Cert.Reference8Ideal.Read.sig_apply] at hx
  have h4 := b4 m c t p (col k r)
  have h5 := b5 m c t p (col k r)
  rw [hG, h4, h5]
  exact gate_row _ _ _ _ hr r hx

/-- Nothing of the gate's block is cut. -/
theorem whole13 : ∀ t : Fin cfg0.N, ∀ a, (cfg0.win 13).xsize (cfg0.grid.coords t) a = (cfg0.win 13).size a := by decide +kernel

/-- The array of the projected rows' gradient after the run. -/
theorem fin13 (c : Dev nD) (hg : ∀ q : Fin 1024, ∃ v : ℝ, (A6 m c (ix1 q) : EReal) = (v : EReal))
    (hd : ∀ (i : Fin 4096) (q : Fin 1024), ∃ v : ℝ, (A4 m c (ix2 i (ccol q)) : EReal) = (v : EReal)) :
    (dats m 0 c).arrAt 13 cfg0.N = res13 m c := by
  have hN : cfg0.N = 32 := N_0
  have hi := (by decide +kernel : ∀ t : Fin grid0.N, win0_13.index t 0 = t.val / 16 * 16 + (15 - t.val % 16) ∧ win0_13.index t 1 = 3)
  funext i
  obtain ⟨s, j, rfl⟩ : ∃ (s : Fin 4096) (j : Fin 5760), i = ix2 s j := ⟨i 0, i 1, eq_ix2 (n0 := 4096) (n1 := 5760) i⟩
  have hs := s.isLt
  by_cases h : j.val < 3072 ∨ 4096 ≤ j.val
  · refine (entry13 m c (ix2 s j) fun t hf hm => ?_).trans ?_
    · have hm' : ix2 s j ∈ ((View.whole main_v18_1).slice (win0_13.rect t)).set := hm
      rw [View.set_slice_whole, Rect.mem_set_unit] at hm'
      have h1 := hm' 1
      change win0_13.index t 1 * 1024 ≤ j.val ∧ j.val < win0_13.index t 1 * 1024 + (cfg0.win 13).xsize (cfg0.grid.coords t) 1 at h1
      rw [whole13 t 1, (hi t).2] at h1
      change 3 * 1024 ≤ j.val ∧ j.val < 3 * 1024 + 1024 at h1
      omega
    · refine Eq.trans (congrFun (V_d m c) (ix2 s j)) ?_
      exact (Cert.Reference8Ideal.Read.out_rest _ _ _ _ _ s j h).symm
  · let t : Fin cfg0.N := ⟨rv (s.val / 128), by show s.val / 128 / 16 * 16 + (15 - s.val / 128 % 16) < cfg0.N; omega⟩
    let p : Fin 128 := ⟨s.val % 128, by omega⟩
    let k : Fin 2 := ⟨(j.val - 3072) / 512, by omega⟩
    let r : Fin 512 := ⟨(j.val - 3072) % 512, by omega⟩
    have hrow : row t p = s := Fin.ext (by
      show 128 * (rv (s.val / 128) / 16 * 16 + (15 - rv (s.val / 128) % 16)) + s.val % 128 = s.val
      have : rv (s.val / 128) = s.val / 128 / 16 * 16 + (15 - s.val / 128 % 16) := rfl
      omega)
    have hcol : zcol (col k r) = j := Fin.ext (by show 3072 + ((j.val - 3072) / 512 * 512 + (j.val - 3072) % 512) = j.val; omega)
    let J : ((cfg0.win 13).xblock (cfg0.grid.coords t)).Idx := fun a => ⟨(ix2 p (col k r) a).val, by
      show _ < (cfg0.win 13).xsize (cfg0.grid.coords t) a
      rw [whole13 t a]; exact (ix2 p (col k r) a).isLt⟩
    have e := congrFun (blocks13 m c t (flush0_13 t)) J
    rw [View.read_apply, flushed13, o13] at e
    have hE : ((cfg0.win 13).blk t).view.emb J = ix2 (row t p) (zcol (col k r)) := by
      funext a
      apply Fin.ext
      match a with
      | ⟨0, _⟩ => show win0_13.index t 0 * 128 + 1 * p.val = 128 * (t.val / 16 * 16 + (15 - t.val % 16)) + p.val; rw [(hi t).1]; omega
      | ⟨1, _⟩ => show win0_13.index t 1 * 1024 + 1 * (col k r).val = 3072 + (col k r).val; rw [(hi t).2]; omega
    rw [hE, hrow, hcol] at e
    refine e.trans ?_
    refine (blk13 m c hg hd t p k r).trans ?_
    rw [hrow, hcol]

/-- Taking the chunks of each sequence backwards is a bijection of the chunks. -/
def back : Equiv.Perm (Fin 32) :=
  Function.Involutive.toPerm (fun t => ⟨t.val / 16 * 16 + (15 - t.val % 16), by omega⟩) (fun t => Fin.ext (by
    show (t.val / 16 * 16 + (15 - t.val % 16)) / 16 * 16 + (15 - (t.val / 16 * 16 + (15 - t.val % 16)) % 16) = t.val
    omega))

/-- The rows are 32 chunks of 128, in whatever order. -/
theorem sum_chunks (g : Fin 4096 → EReal) (T : ℕ → EReal) (hT : ∀ t : Fin cfg0.N, T t.val = ∑ p : Fin 128, g (row t p)) :
    ∑ s ∈ Finset.range 32, T s = ∑ i : Fin 4096, g i := by
  have hN : cfg0.N = 32 := N_0
  rw [Finset.sum_range, sum_split (N := 4096) (a := 32) (b := 128) rfl g]
  refine Eq.trans ?_ (Equiv.sum_comp back (fun s : Fin 32 => ∑ p : Fin 128, g ⟨128 * s.val + p.val, by omega⟩))
  exact Finset.sum_congr rfl fun s _ => hT ⟨s.val, by rw [hN]; exact s.isLt⟩

/-- The last point leaves the sum over all the rows. -/
theorem last16 (c : Dev nD) (h : 31 < cfg0.N) (k : Fin 2) (r : Fin 512) :
    ((outsAt0 m c 31 h).2.2.2.2.1 (ix2 0 (col k r)) : EReal) = res16 m c (ix2 0 (col k r)) := by
  let T : ℕ → EReal := fun n => if h : n < cfg0.N then part16 m c ⟨n, h⟩ (ix2 0 (col k r)) else 0
  have hT : ∀ t : Fin cfg0.N, T t.val = part16 m c t (ix2 0 (col k r)) := fun t => dif_pos t.isLt
  refine (running (fun n h => (outsAt0 m c n h).2.2.2.2.1 (ix2 0 (col k r))) T
    (fun h => (congrFun (first16 m c h) (ix2 0 (col k r))).trans (hT ⟨0, h⟩).symm)
    (fun n h => (next16 m c n h (col k r)).trans (congrArg _ (hT ⟨n + 1, h⟩).symm)) 31 h).trans ?_
  refine (sum_chunks (fun i => (Cert.Reference8Ideal.Read.val_main_v4 (F := Ideal) (A1 m c) (A2 m c) (ix3 i k r) : EReal)
      * rinv cH cE (fun r => (Cert.Reference8Ideal.Read.val_main_v4 (F := Ideal) (A1 m c) (A2 m c) (ix3 i k r) : EReal)) * A4 m c (ix2 i (ccol (col k r)))) T fun t => ?_).trans ?_
  · refine (hT t).trans ((part_apply _ _ _ k r).trans (Finset.sum_congr rfl fun p _ => ?_))
    rw [gated, mul_comm]
    exact congrArg (fun b : EReal => _ * b) (b7 m c t p (col k r))
  · exact (Cert.Reference8Ideal.Read.dgain_apply _ _ _ k r).symm

/-- The one write-back, at the last point. -/
theorem wrote16 (c : Dev nD) (t : Fin cfg0.N) (hf : (cfg0.win 16).flush t = true) :
    (dats m 0 c).flushed 16 t = ((cfg0.win 16).blk t).view.read (Elt Ideal) (res16 m c) := by
  have hN : cfg0.N = 32 := N_0
  have hl : t.val = 31 := by have := (flush0_16 t).mp hf; have := t.isLt; omega
  have h31 : 31 < cfg0.N := by omega
  obtain rfl : t = ⟨31, h31⟩ := Fin.ext hl
  rw [flushed16]
  funext j
  obtain ⟨p, q, rfl⟩ : ∃ (p : Fin 1) (q : Fin 1024), j = ix2 p q := ⟨j 0, j 1, eq_ix2 (n0 := 1) (n1 := 1024) j⟩
  obtain rfl : p = 0 := Subsingleton.elim _ _
  obtain ⟨k, r, rfl⟩ : ∃ (k : Fin 2) (r : Fin 512), q = col k r :=
    ⟨⟨q.val / 512, by omega⟩, ⟨q.val % 512, by omega⟩, Fin.ext (by show q.val = q.val / 512 * 512 + q.val % 512; omega)⟩
  rw [View.read_apply]
  have e : ((cfg0.win 16).blk ⟨31, h31⟩).view.emb (ix2 0 (col k r)) = ix2 0 (col k r) := by
    have hi := (by decide +kernel : ∀ t : Fin grid0.N, win0_16.index t 0 = 0 ∧ win0_16.index t 1 = 0) ⟨31, h31⟩
    funext a
    apply Fin.ext
    match a with
    | ⟨0, _⟩ => show win0_16.index ⟨31, h31⟩ 0 * 1 + 1 * 0 = 0; rw [hi.1]
    | ⟨1, _⟩ => show win0_16.index ⟨31, h31⟩ 1 * 1024 + 1 * (col k r).val = (col k r).val; rw [hi.2]; omega
  rw [e]
  exact last16 m c _ k r

/-- The array of the weights' gradient after the run. -/
theorem fin16 (c : Dev nD) : (dats m 0 c).arrAt 16 cfg0.N = res16 m c :=
  (dats m 0 c).arrAt_eq_of_cover 16 (res16 m c) (wrote16 m c) fun i => by
    have h31 : 31 < cfg0.N := by have hN : cfg0.N = 32 := N_0; omega
    have h0 : (i 0 : Nat) < 1 := (i 0).isLt
    have h1 : (i 1 : Nat) < 1024 := (i 1).isLt
    refine ⟨⟨31, h31⟩, (flush0_16 _).mpr rfl, ?_⟩
    show i ∈ ((View.whole main_v18_4).slice (win0_16.rect ⟨31, h31⟩)).set
    rw [View.set_slice_whole, Rect.mem_set_unit]
    have hi := (by decide +kernel : ∀ t : Fin grid0.N, win0_16.index t 0 = 0 ∧ win0_16.index t 1 = 0) ⟨31, h31⟩
    intro a
    match a with
    | ⟨0, _⟩ => show win0_16.index ⟨31, h31⟩ 0 * 1 ≤ (i 0 : Nat) ∧ (i 0 : Nat) < win0_16.index ⟨31, h31⟩ 0 * 1 + 1
                rw [hi.1]; omega
    | ⟨1, _⟩ => show win0_16.index ⟨31, h31⟩ 1 * 1024 ≤ (i 1 : Nat) ∧ (i 1 : Nat) < win0_16.index ⟨31, h31⟩ 1 * 1024 + 1024
                rw [hi.2]; omega

end Cert.Kernel8Ideal.Value

namespace Cert.Proof.Ssd
open Cert.Kernel8Ideal.Value

variable (m' : (ℓ : Loc Cert.Reference8Ideal.nD Cert.Reference8Ideal.τ Cert.Reference8Ideal.sig) → Buf (Elt Ideal) ℓ) (g' : Dev Cert.Reference8Ideal.nD → PrngReg)

/-- The reference's run: each result is its last stage over the arguments, and the arguments are kept. -/
theorem ref_run : θ_run (Cert.Reference8Ideal.defs (F := Ideal)) (onTc (τ := Cert.Reference8Ideal.τ) (Cert.Reference8Ideal.main (F := Ideal))) ⟨m', fun _ => 0, g'⟩ fun r =>
    ∀ c : Dev Cert.Reference8Ideal.nD,
      r.2.mem ((c.tc : Thread Cert.Reference8Ideal.nD Cert.Reference8Ideal.τ).loc Cert.Reference8Ideal.main_v54) = Cert.Reference8Ideal.Read.val_main_v54 (m' (c.tc.loc Cert.Reference8Ideal.main_arg1)) (m' (c.tc.loc Cert.Reference8Ideal.main_arg2)) (m' (c.tc.loc Cert.Reference8Ideal.main_arg4)) (m' (c.tc.loc Cert.Reference8Ideal.main_arg6)) (m' (c.tc.loc Cert.Reference8Ideal.main_arg7))
      ∧ r.2.mem ((c.tc : Thread Cert.Reference8Ideal.nD Cert.Reference8Ideal.τ).loc Cert.Reference8Ideal.main_v55) = Cert.Reference8Ideal.Read.val_main_v55 (m' (c.tc.loc Cert.Reference8Ideal.main_arg1)) (m' (c.tc.loc Cert.Reference8Ideal.main_arg2)) (m' (c.tc.loc Cert.Reference8Ideal.main_arg4))
      ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7) :=
  (θ_run Cert.Reference8Ideal.defs _ _).mono (fun r hr c => ⟨
    (hr c).1.trans (Cert.Reference8Ideal.Read.val_main_v54_eq _ _),
    (hr c).2.1.trans (Cert.Reference8Ideal.Read.val_main_v55_eq _ _ _),
    (hr c).2.2⟩) (Cert.Reference8Ideal.Value.run m' g')

/-- Over the extended reals, where the norm's weights and the gradient that comes back are real, the call
    ends with the reference's results. -/
theorem algebraic : Cert.algebraic_Kernel8Ideal_Reference8Ideal_pre_finite (hKernel8Ideal := Cert.Kernel8Ideal.Gen.facts) (hReference8Ideal := Cert.Reference8Ideal.Gen.facts) (hPre_finite := pre_facts) := by
  intro m g m' g' hpre h
  refine ⟨fun c => res13 m c, fun c => res16 m c, ?_, ?_⟩
  · refine (θ_run Cert.Kernel8Ideal.defs _ _).mono (fun r hr c => ?_) (Cert.Kernel8Ideal.Value.run_blocks m g)
    obtain ⟨-, h0, -, -, h1, hk⟩ := hr c
    obtain ⟨hg, hd⟩ := pre_real m c hpre _ _ rfl rfl
    exact ⟨h0.trans (fin13 m c hg hd), h1.trans (fin16 m c), hk⟩
  · refine (θ_run Cert.Reference8Ideal.defs _ _).mono (fun r hr c => ?_) (ref_run m' g')
    obtain ⟨h0, h1, hk⟩ := hr c
    obtain ⟨a0, a1, a2, a3, a4, a5, a6, a7⟩ := h c
    rw [a1, a2, a4, a6, a7] at h0
    rw [a1, a2, a4] at h1
    exact ⟨h0, h1, hk⟩

/-- The reference's frame: it declares no semaphore. -/
theorem frame_ref : Cert.quiescent_Reference8Ideal (hReference8Ideal := Cert.Reference8Ideal.Gen.facts) := by
  intro m g _
  exact (θ_run Cert.Reference8Ideal.defs _ _).mono (fun r h => ⟨fun c => (h c).2.2, sem_eq_zero_of_no_sems (by decide) r.2⟩) (ref_run m g)

end Cert.Proof.Ssd

end
-- ==== Proof.OutFwd.lean ====
/- The out projection of the forward pass: the product, and the residual stream plus the norm of the product. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Rms
public import Idealize.ShloMosaic.Lib.Tactic
public import Idealize.ShloMosaic.Adequacy

@[expose] public section

noncomputable section

open Idealize.ShloMosaic Idealize.ShloMosaic.TcCoe Idealize.SL.Sem Cert.Alg

namespace Cert.Reference9Ideal.Read
open Cert.Reference9Ideal Cert.Reference9Ideal.Gen

variable (x0 : (⟨S4096x2048, .f32⟩ : BufTy).Contents (Elt Ideal)) (x1 : (⟨S2048x1024, .f32⟩ : BufTy).Contents (Elt Ideal)) (x2 : (⟨S4096x1024, .f32⟩ : BufTy).Contents (Elt Ideal)) (x3 : (⟨S1024, .f32⟩ : BufTy).Contents (Elt Ideal))

/-- The product. -/
theorem mix_apply (i : Fin 4096) (q : Fin 1024) :
    (val_main_v0 (F := Ideal) x0 x1 (ix2 i q) : EReal) = ∑ k : Fin 2048, (x0 (ix2 i k) : EReal) * x1 (ix2 k q) := by
  pointwise [val_main_v0]

/-- The residual stream plus the norm of the product. -/
theorem xo_apply (i : Fin 4096) (q : Fin 1024) :
    (val_main_v15 (F := Ideal) x0 x1 x2 x3 (ix2 i q) : EReal)
      = x2 (ix2 i q) + val_main_v0 (F := Ideal) x0 x1 (ix2 i q) * rinv cN cE (fun k => val_main_v0 (F := Ideal) x0 x1 (ix2 i k)) * x3 (ix1 q) := by
  pointwise [val_main_v2, val_main_cst, val_main_v3, val_main_v4, val_main_cst_0, val_main_v5, val_main_v6, val_main_cst_1, val_main_v7, val_main_v8, val_main_v9, val_main_v10, val_main_v11, val_main_v12, val_main_v13, val_main_v14, val_main_v15]
  unfold rinv
  simp [cN, cE]

end Cert.Reference9Ideal.Read

namespace Cert.Kernel9Ideal.Value
open Cert.Kernel9Ideal Cert.Kernel9Ideal.Gen

theorem hz : (![0, 0] : Fin 2 → Nat) = fun _ => 0 := funext fun a => by fin_cases a <;> rfl

section
variable (a : Vec Ideal S1024x2048 .bf16) (w : Vec Ideal S2048x1024 .bf16) (x : Vec Ideal S1024x1024 .f32) (g : Vec Ideal S1x1024 .f32)

/-- The block of the product. -/
theorem pay1_apply (p : Fin 1024) (q : Fin 1024) :
    (k0_pay1 a w (ix2 p q) : EReal) = ∑ k : Fin 2048, (a (ix2 p k) : EReal) * w (ix2 k q) := by
  unfold k0_pay1
  pointwise

/-- The block of the product as it is stored. -/
theorem pay2_apply (p : Fin 1024) (q : Fin 1024) : (k0_pay2 a w (ix2 p q) : EReal) = k0_pay1 a w (ix2 p q) := by
  unfold k0_pay2
  pointwise

/-- The block of the residual stream plus the norm of the product. -/
theorem pay3_apply (p : Fin 1024) (q : Fin 1024) :
    (k0_pay3 a w x g (ix2 p q) : EReal)
      = x (ix2 p q) + k0_pay1 a w (ix2 p q) * rinv cN cE (fun k => k0_pay1 a w (ix2 p k)) * g (ix2 0 q) := by
  unfold k0_pay3
  pointwise
  rfl
end

/-- What a point leaves of the product. -/
theorem out4_eq (x0 : Vec Ideal S1024x2048 .bf16) (x1 : Vec Ideal S2048x1024 .bf16) (x2 : Vec Ideal S1024x1024 .f32) (x3 : Vec Ideal S1x1024 .f32) :
    out0_4 x0 x1 x2 x3 = k0_pay2 x0 x1 := by
  unfold out0_4
  rw [View.canon_unit_zero hz]
  simp only [View.ld_unit_zero (S := S1024x2048) hz, View.ld_unit_zero (S := S2048x1024) hz]

/-- What a point leaves of the residual stream. -/
theorem out5_eq (x0 : Vec Ideal S1024x2048 .bf16) (x1 : Vec Ideal S2048x1024 .bf16) (x2 : Vec Ideal S1024x1024 .f32) (x3 : Vec Ideal S1x1024 .f32) :
    out0_5 x0 x1 x2 x3 = k0_pay3 x0 x1 x2 x3 := by
  unfold out0_5
  rw [View.canon_unit_zero hz]
  simp only [View.ld_unit_zero (S := S1024x2048) hz, View.ld_unit_zero (S := S2048x1024) hz, View.ld_unit_zero (S := S1024x1024) hz, View.ld_unit_zero (S := S1x1024) hz]

variable (m : (ℓ : Loc nD τ sig) → Buf (Elt Ideal) ℓ)

/-- The concatenated heads. -/
abbrev A0 (c : Dev nD) : Vec Ideal S4096x2048 .f32 := m ((c : Thread nD τ).loc main_arg0)
/-- The weights of the out projection. -/
abbrev A1 (c : Dev nD) : Vec Ideal S2048x1024 .f32 := m ((c : Thread nD τ).loc main_arg1)
/-- The residual stream. -/
abbrev A2 (c : Dev nD) : Vec Ideal S4096x1024 .f32 := m ((c : Thread nD τ).loc main_arg2)
/-- The norm weights. -/
abbrev A3 (c : Dev nD) : Vec Ideal S1024 .f32 := m ((c : Thread nD τ).loc main_arg3)

/-- Row `p` of tile `t`. -/
abbrev row (t : Fin cfg0.N) (p : Fin 1024) : Fin 4096 := ⟨1024 * t.val + p.val, by have := t.isLt; have h : cfg0.N = 4 := N_0; omega⟩

/-- The heads as the call takes them. -/
theorem V_a (c : Dev nD) : (V m c main_v0 : S4096x2048.Idx → EReal) = A0 m c := by
  dsimp only [V, hostOps0, List.flatten_cons, List.flatten_nil, List.append_nil, List.cons_append, List.nil_append]
  after_results
  rfl

/-- The weights as the call takes them. -/
theorem V_w (c : Dev nD) : (V m c main_v1 : S2048x1024.Idx → EReal) = A1 m c := by
  dsimp only [V, hostOps0, List.flatten_cons, List.flatten_nil, List.append_nil, List.cons_append, List.nil_append]
  after_results
  rfl

/-- The norm weights as the call takes them. -/
theorem V_g (c : Dev nD) (q : Fin 1024) : (V m c main_v2 (ix2 0 q) : EReal) = A3 m c (ix1 q) := by
  dsimp only [V, hostOps0, List.flatten_cons, List.flatten_nil, List.append_nil, List.cons_append, List.nil_append]
  after_results
  pointwise

/-- The tile of the heads. -/
theorem b0 (c : Dev nD) (t : Fin cfg0.N) (p : Fin 1024) (q : Fin 2048) : (iblk m c 0 t (ix2 p q) : EReal) = A0 m c (ix2 (row t p) q) := by
  unfold iblk
  rw [View.read_apply]
  show (V m c main_v0 _ : EReal) = _
  rw [V_a]
  congr 1
  funext a
  apply Fin.ext
  have hi : win0_0.index t 0 = t.val ∧ win0_0.index t 1 = 0 := (by decide +kernel : ∀ t : Fin grid0.N, win0_0.index t 0 = t.val ∧ win0_0.index t 1 = 0) t
  match a with
  | ⟨0, _⟩ => show win0_0.index t 0 * 1024 + 1 * p.val = 1024 * t.val + p.val; rw [hi.1]; omega
  | ⟨1, _⟩ => show win0_0.index t 1 * 2048 + 1 * q.val = q.val; rw [hi.2]; omega

/-- The weights. -/
theorem b1 (c : Dev nD) (t : Fin cfg0.N) (p : Fin 2048) (q : Fin 1024) : (iblk m c 1 t (ix2 p q) : EReal) = A1 m c (ix2 p q) := by
  unfold iblk
  rw [View.read_apply]
  show (V m c main_v1 _ : EReal) = _
  rw [V_w]
  congr 1
  funext a
  apply Fin.ext
  have hi : win0_1.index t 0 = 0 ∧ win0_1.index t 1 = 0 := (by decide +kernel : ∀ t : Fin grid0.N, win0_1.index t 0 = 0 ∧ win0_1.index t 1 = 0) t
  match a with
  | ⟨0, _⟩ => show win0_1.index t 0 * 2048 + 1 * p.val = p.val; rw [hi.1]; omega
  | ⟨1, _⟩ => show win0_1.index t 1 * 1024 + 1 * q.val = q.val; rw [hi.2]; omega

/-- The tile of the residual stream. -/
theorem b2 (c : Dev nD) (t : Fin cfg0.N) (p : Fin 1024) (q : Fin 1024) : (iblk m c 2 t (ix2 p q) : EReal) = A2 m c (ix2 (row t p) q) := by
  unfold iblk
  rw [View.read_apply]
  show (V m c main_arg2 _ : EReal) = _
  rw [V_main_arg2]
  congr 1
  funext a
  apply Fin.ext
  have hi : win0_2.index t 0 = t.val ∧ win0_2.index t 1 = 0 := (by decide +kernel : ∀ t : Fin grid0.N, win0_2.index t 0 = t.val ∧ win0_2.index t 1 = 0) t
  match a with
  | ⟨0, _⟩ => show win0_2.index t 0 * 1024 + 1 * p.val = 1024 * t.val + p.val; rw [hi.1]; omega
  | ⟨1, _⟩ => show win0_2.index t 1 * 1024 + 1 * q.val = q.val; rw [hi.2]; omega

/-- The norm weights. -/
theorem b3 (c : Dev nD) (t : Fin cfg0.N) (q : Fin 1024) : (iblk m c 3 t (ix2 0 q) : EReal) = A3 m c (ix1 q) := by
  unfold iblk
  rw [View.read_apply]
  refine Eq.trans ?_ (V_g m c q)
  show (V m c main_v2 _ : EReal) = _
  congr 1
  funext a
  apply Fin.ext
  have hi : win0_3.index t 0 = 0 ∧ win0_3.index t 1 = 0 := (by decide +kernel : ∀ t : Fin grid0.N, win0_3.index t 0 = 0 ∧ win0_3.index t 1 = 0) t
  match a with
  | ⟨0, _⟩ => show win0_3.index t 0 * 1 + 1 * 0 = 0; rw [hi.1]
  | ⟨1, _⟩ => show win0_3.index t 1 * 1024 + 1 * q.val = q.val; rw [hi.2]; omega

/-- What a point leaves of the product. -/
theorem o4 (c : Dev nD) (t : Fin cfg0.N) : out0_4 (iblk m c 0 t) (iblk m c 1 t) (iblk m c 2 t) (iblk m c 3 t) = k0_pay2 (iblk m c 0 t) (iblk m c 1 t) := out4_eq _ _ _ _

/-- What a point leaves of the residual stream. -/
theorem o5 (c : Dev nD) (t : Fin cfg0.N) : out0_5 (iblk m c 0 t) (iblk m c 1 t) (iblk m c 2 t) (iblk m c 3 t) = k0_pay3 (iblk m c 0 t) (iblk m c 1 t) (iblk m c 2 t) (iblk m c 3 t) := out5_eq _ _ _ _

/-- The tile's product is the reference's. -/
theorem mix_eq (c : Dev nD) (t : Fin cfg0.N) (p : Fin 1024) (q : Fin 1024) :
    (k0_pay1 (iblk m c 0 t) (iblk m c 1 t) (ix2 p q) : EReal) = Cert.Reference9Ideal.Read.val_main_v0 (F := Ideal) (A0 m c) (A1 m c) (ix2 (row t p) q) := by
  rw [Cert.Reference9Ideal.Read.mix_apply]
  exact (pay1_apply (iblk m c 0 t) (iblk m c 1 t) p q).trans (Finset.sum_congr rfl fun k _ => congrArg₂ (fun a b : EReal => a * b) (b0 m c t p k) (b1 m c t k q))

/-- The tile's result is the reference's. -/
theorem xo_eq (c : Dev nD) (t : Fin cfg0.N) (p : Fin 1024) (q : Fin 1024) :
    (k0_pay3 (iblk m c 0 t) (iblk m c 1 t) (iblk m c 2 t) (iblk m c 3 t) (ix2 p q) : EReal) = Cert.Reference9Ideal.Read.val_main_v15 (F := Ideal) (A0 m c) (A1 m c) (A2 m c) (A3 m c) (ix2 (row t p) q) := by
  rw [Cert.Reference9Ideal.Read.xo_apply]
  refine (pay3_apply (iblk m c 0 t) (iblk m c 1 t) (iblk m c 2 t) (iblk m c 3 t) p q).trans ?_
  refine congrArg₂ (fun a b : EReal => a + b) (b2 m c t p q) (congrArg₂ (fun a b : EReal => a * b) (congrArg₂ (fun a b : EReal => a * b) (mix_eq m c t p q) ?_) (b3 m c t q))
  exact congrArg (rinv cN cE) (funext fun k => mix_eq m c t p k)

/-- The call's array of the product: the reference's. -/
abbrev res4 (c : Dev nD) : Buf (Elt Ideal) ((c : Thread nD τ).loc main_v3_0) := Cert.Reference9Ideal.Read.val_main_v1 (F := Ideal) (A0 m c) (A1 m c)

/-- Each point writes back its rows of the product. -/
theorem wrote4 (c : Dev nD) (t : Fin cfg0.N) (hf : (cfg0.win 4).flush t = true) :
    (dats m 0 c).flushed 4 t = ((cfg0.win 4).blk t).view.read (Elt Ideal) (res4 m c) := by
  rw [flushed4, o4]
  funext j
  obtain ⟨p, q, rfl⟩ : ∃ (p : Fin 1024) (q : Fin 1024), j = ix2 p q := ⟨j 0, j 1, eq_ix2 (n0 := 1024) (n1 := 1024) j⟩
  rw [View.read_apply]
  have e : ((cfg0.win 4).blk t).view.emb (ix2 p q) = ix2 (row t p) q := by
    have hi := (by decide +kernel : ∀ t : Fin grid0.N, win0_4.index t 0 = t.val ∧ win0_4.index t 1 = 0) t
    funext a
    apply Fin.ext
    match a with
    | ⟨0, _⟩ => show win0_4.index t 0 * 1024 + 1 * p.val = 1024 * t.val + p.val; rw [hi.1]; omega
    | ⟨1, _⟩ => show win0_4.index t 1 * 1024 + 1 * q.val = q.val; rw [hi.2]; omega
  rw [e]
  exact (pay2_apply (iblk m c 0 t) (iblk m c 1 t) p q).trans (mix_eq m c t p q)

/-- The array after the run. -/
theorem fin4 (c : Dev nD) : (dats m 0 c).arrAt 4 cfg0.N = res4 m c :=
  (dats m 0 c).arrAt_eq_of_cover 4 (res4 m c) (wrote4 m c) fun i => by
    have h0 : (i 0 : Nat) < 4096 := (i 0).isLt
    have h1 : (i 1 : Nat) < 1024 := (i 1).isLt
    refine ⟨⟨(i 0 : Nat) / 1024, by rw [show cfg0.N = 4 from N_0]; omega⟩, flush0_4 _, ?_⟩
    generalize ht : (⟨(i 0 : Nat) / 1024, _⟩ : Fin cfg0.N) = t
    have hv : t.val = (i 0 : Nat) / 1024 := by rw [← ht]
    show i ∈ ((View.whole main_v3_0).slice (win0_4.rect t)).set
    rw [View.set_slice_whole, Rect.mem_set_unit]
    have hi := (by decide +kernel : ∀ t : Fin grid0.N, win0_4.index t 0 = t.val ∧ win0_4.index t 1 = 0) t
    intro a
    match a with
    | ⟨0, _⟩ => show win0_4.index t 0 * 1024 ≤ (i 0 : Nat) ∧ (i 0 : Nat) < win0_4.index t 0 * 1024 + 1024
                rw [hi.1]; omega
    | ⟨1, _⟩ => show win0_4.index t 1 * 1024 ≤ (i 1 : Nat) ∧ (i 1 : Nat) < win0_4.index t 1 * 1024 + 1024
                rw [hi.2]; omega

/-- The call's array of the residual stream: the reference's. -/
abbrev res5 (c : Dev nD) : Buf (Elt Ideal) ((c : Thread nD τ).loc main_v3_1) := Cert.Reference9Ideal.Read.val_main_v15 (F := Ideal) (A0 m c) (A1 m c) (A2 m c) (A3 m c)

/-- Each point writes back its rows of the residual stream. -/
theorem wrote5 (c : Dev nD) (t : Fin cfg0.N) (hf : (cfg0.win 5).flush t = true) :
    (dats m 0 c).flushed 5 t = ((cfg0.win 5).blk t).view.read (Elt Ideal) (res5 m c) := by
  rw [flushed5, o5]
  funext j
  obtain ⟨p, q, rfl⟩ : ∃ (p : Fin 1024) (q : Fin 1024), j = ix2 p q := ⟨j 0, j 1, eq_ix2 (n0 := 1024) (n1 := 1024) j⟩
  rw [View.read_apply]
  have e : ((cfg0.win 5).blk t).view.emb (ix2 p q) = ix2 (row t p) q := by
    have hi := (by decide +kernel : ∀ t : Fin grid0.N, win0_5.index t 0 = t.val ∧ win0_5.index t 1 = 0) t
    funext a
    apply Fin.ext
    match a with
    | ⟨0, _⟩ => show win0_5.index t 0 * 1024 + 1 * p.val = 1024 * t.val + p.val; rw [hi.1]; omega
    | ⟨1, _⟩ => show win0_5.index t 1 * 1024 + 1 * q.val = q.val; rw [hi.2]; omega
  rw [e]
  exact xo_eq m c t p q

/-- The array after the run. -/
theorem fin5 (c : Dev nD) : (dats m 0 c).arrAt 5 cfg0.N = res5 m c :=
  (dats m 0 c).arrAt_eq_of_cover 5 (res5 m c) (wrote5 m c) fun i => by
    have h0 : (i 0 : Nat) < 4096 := (i 0).isLt
    have h1 : (i 1 : Nat) < 1024 := (i 1).isLt
    refine ⟨⟨(i 0 : Nat) / 1024, by rw [show cfg0.N = 4 from N_0]; omega⟩, flush0_5 _, ?_⟩
    generalize ht : (⟨(i 0 : Nat) / 1024, _⟩ : Fin cfg0.N) = t
    have hv : t.val = (i 0 : Nat) / 1024 := by rw [← ht]
    show i ∈ ((View.whole main_v3_1).slice (win0_5.rect t)).set
    rw [View.set_slice_whole, Rect.mem_set_unit]
    have hi := (by decide +kernel : ∀ t : Fin grid0.N, win0_5.index t 0 = t.val ∧ win0_5.index t 1 = 0) t
    intro a
    match a with
    | ⟨0, _⟩ => show win0_5.index t 0 * 1024 ≤ (i 0 : Nat) ∧ (i 0 : Nat) < win0_5.index t 0 * 1024 + 1024
                rw [hi.1]; omega
    | ⟨1, _⟩ => show win0_5.index t 1 * 1024 ≤ (i 1 : Nat) ∧ (i 1 : Nat) < win0_5.index t 1 * 1024 + 1024
                rw [hi.2]; omega

end Cert.Kernel9Ideal.Value

namespace Cert.Proof.OutFwd
open Cert.Kernel9Ideal.Value

variable (m' : (ℓ : Loc Cert.Reference9Ideal.nD Cert.Reference9Ideal.τ Cert.Reference9Ideal.sig) → Buf (Elt Ideal) ℓ) (g' : Dev Cert.Reference9Ideal.nD → PrngReg)

/-- The reference's run: each result is its last stage over the arguments, and the arguments are kept. -/
theorem ref_run : θ_run (Cert.Reference9Ideal.defs (F := Ideal)) (onTc (τ := Cert.Reference9Ideal.τ) (Cert.Reference9Ideal.main (F := Ideal))) ⟨m', fun _ => 0, g'⟩ fun r =>
    ∀ c : Dev Cert.Reference9Ideal.nD,
      r.2.mem ((c.tc : Thread Cert.Reference9Ideal.nD Cert.Reference9Ideal.τ).loc Cert.Reference9Ideal.main_v1) = Cert.Reference9Ideal.Read.val_main_v1 (m' (c.tc.loc Cert.Reference9Ideal.main_arg0)) (m' (c.tc.loc Cert.Reference9Ideal.main_arg1))
      ∧ r.2.mem ((c.tc : Thread Cert.Reference9Ideal.nD Cert.Reference9Ideal.τ).loc Cert.Reference9Ideal.main_v15) = Cert.Reference9Ideal.Read.val_main_v15 (m' (c.tc.loc Cert.Reference9Ideal.main_arg0)) (m' (c.tc.loc Cert.Reference9Ideal.main_arg1)) (m' (c.tc.loc Cert.Reference9Ideal.main_arg2)) (m' (c.tc.loc Cert.Reference9Ideal.main_arg3))
      ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3) :=
  (θ_run Cert.Reference9Ideal.defs _ _).mono (fun r hr c => ⟨
    (hr c).1.trans (Cert.Reference9Ideal.Read.val_main_v1_eq _ _),
    (hr c).2.1.trans (Cert.Reference9Ideal.Read.val_main_v15_eq _ _ _ _),
    (hr c).2.2⟩) (Cert.Reference9Ideal.Value.run m' g')

/-- Over the extended reals the call ends with the reference's results. -/
theorem algebraic : Cert.algebraic_Kernel9Ideal_Reference9Ideal (hKernel9Ideal := Cert.Kernel9Ideal.Gen.facts) (hReference9Ideal := Cert.Reference9Ideal.Gen.facts) := by
  intro m g m' g' _ h
  refine ⟨fun c => res4 m c, fun c => res5 m c, ?_, ?_⟩
  · refine (θ_run Cert.Kernel9Ideal.defs _ _).mono (fun r hr c => ?_) (Cert.Kernel9Ideal.Value.run_blocks m g)
    obtain ⟨h0, h1, hk⟩ := hr c
    exact ⟨h0.trans (fin4 m c), h1.trans (fin5 m c), hk⟩
  · refine (θ_run Cert.Reference9Ideal.defs _ _).mono (fun r hr c => ?_) (ref_run m' g')
    obtain ⟨h0, h1, hk⟩ := hr c
    obtain ⟨a0, a1, a2, a3⟩ := h c
    rw [a0, a1] at h0
    rw [a0, a1, a2, a3] at h1
    exact ⟨h0, h1, hk⟩

/-- The reference's frame: it declares no semaphore. -/
theorem frame_ref : Cert.quiescent_Reference9Ideal (hReference9Ideal := Cert.Reference9Ideal.Gen.facts) := by
  intro m g _
  exact (θ_run Cert.Reference9Ideal.defs _ _).mono (fun r h => ⟨fun c => (h c).2.2, sem_eq_zero_of_no_sems (by decide) r.2⟩) (ref_run m g)

end Cert.Proof.OutFwd

end
-- ==== Proof.MlpFwd.lean ====
/- The squared rectifier block of the forward pass: the normalised input, the hidden activation, the second product, and the
   residual stream plus the norm of it. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Rms
public import Idealize.ShloMosaic.Lib.Tactic
public import Idealize.ShloMosaic.Adequacy

@[expose] public section

noncomputable section

open Idealize.ShloMosaic Idealize.ShloMosaic.TcCoe Idealize.SL.Sem Cert.Alg

namespace Cert.Reference10Ideal.Read
open Cert.Reference10Ideal Cert.Reference10Ideal.Gen

variable (x0 : (⟨S4096x1024, .f32⟩ : BufTy).Contents (Elt Ideal)) (x1 : (⟨S1024, .f32⟩ : BufTy).Contents (Elt Ideal)) (x2 : (⟨S1024x4096, .f32⟩ : BufTy).Contents (Elt Ideal)) (x3 : (⟨S4096x1024, .f32⟩ : BufTy).Contents (Elt Ideal)) (x4 : (⟨S1024, .f32⟩ : BufTy).Contents (Elt Ideal))

/-- The normalised input. -/
theorem h_apply (i : Fin 4096) (q : Fin 1024) :
    (val_main_v12 (F := Ideal) x0 x1 (ix2 i q) : EReal) = x0 (ix2 i q) * rinv cN cE (fun k => x0 (ix2 i k)) * x1 (ix1 q) := by
  pointwise [val_main_cst, val_main_cst_0, val_main_cst_1, val_main_call0_cst, val_main_call0_v0, val_main_cst_2, val_main_cst_3, val_main_cst_4, val_main_v0, val_main_v1, val_main_v2, val_main_v3, val_main_v4, val_main_v5, val_main_v6, val_main_v7, val_main_v8, val_main_v9, val_main_v10, val_main_v11, val_main_v12]
  unfold rinv
  simp [cN, cE]

/-- The hidden activation. -/
theorem f_apply (i : Fin 4096) (j : Fin 4096) :
    (val_main_v13 (F := Ideal) x0 x1 x2 (ix2 i j) : EReal) = ∑ k : Fin 1024, (val_main_v12 (F := Ideal) x0 x1 (ix2 i k) : EReal) * x2 (ix2 k j) := by
  pointwise [val_main_v13]

/-- The second product. -/
theorem o_apply (i : Fin 4096) (q : Fin 1024) :
    (val_main_v16 (F := Ideal) x0 x1 x2 x3 (ix2 i q) : EReal) = ∑ j : Fin 4096, (max (val_main_v13 (F := Ideal) x0 x1 x2 (ix2 i j) : EReal) 0 * max (val_main_v13 (F := Ideal) x0 x1 x2 (ix2 i j) : EReal) 0) * x3 (ix2 j q) := by
  pointwise [val_main_cst, val_main_cst_0, val_main_cst_1, val_main_call0_cst, val_main_call0_v0, val_main_cst_2, val_main_cst_3, val_main_cst_4, val_main_v14, val_main_v15, val_main_v16]

/-- The residual stream plus the norm of the second product. -/
theorem xo_apply (i : Fin 4096) (q : Fin 1024) :
    (val_main_v33 (F := Ideal) x0 x1 x2 x3 x4 (ix2 i q) : EReal)
      = x0 (ix2 i q) + val_main_v16 (F := Ideal) x0 x1 x2 x3 (ix2 i q) * rinv cN cE (fun k => val_main_v16 (F := Ideal) x0 x1 x2 x3 (ix2 i k)) * x4 (ix1 q) := by
  pointwise [val_main_cst, val_main_cst_0, val_main_cst_1, val_main_call0_cst, val_main_call0_v0, val_main_cst_2, val_main_cst_3, val_main_cst_4, val_main_v20, val_main_v21, val_main_v22, val_main_v23, val_main_v24, val_main_v25, val_main_v26, val_main_v27, val_main_v28, val_main_v29, val_main_v30, val_main_v31, val_main_v32, val_main_v33]
  unfold rinv
  simp [cN, cE]

end Cert.Reference10Ideal.Read

namespace Cert.Kernel10Ideal.Value
open Cert.Kernel10Ideal Cert.Kernel10Ideal.Gen

theorem hz : (![0, 0] : Fin 2 → Nat) = fun _ => 0 := funext fun a => by fin_cases a <;> rfl

/-- A sum over four blocks of 1024 is a sum over 4096. -/
theorem four_blocks (f : Fin 4096 → EReal) :
    ((∑ j : Fin 1024, f ⟨j.val, by omega⟩ + ∑ j : Fin 1024, f ⟨1024 + j.val, by omega⟩)
      + ∑ j : Fin 1024, f ⟨2048 + j.val, by omega⟩) + ∑ j : Fin 1024, f ⟨3072 + j.val, by omega⟩ = ∑ j, f j := by
  rw [sum_split (N := 4096) (a := 4) (b := 1024) rfl f, Fin.sum_univ_four]
  simp

/-- The square of the rectifier. -/
abbrev sq (z : EReal) : EReal := max z 0 * max z 0

section
variable (x : Vec Ideal S512x1024 .f32) (g : Vec Ideal S1x1024 .f32) (h : Vec Ideal S512x1024 .bf16) (u : Vec Ideal S1x1024x1024 .bf16) (w : Vec Ideal S1024x1024 .bf16)

/-- The block of the normalised input. -/
theorem pay4_apply (p : Fin 512) (q : Fin 1024) :
    (k0_pay4 x g (ix2 p q) : EReal) = x (ix2 p q) * rinv cN cE (fun k => x (ix2 p k)) * g (ix2 0 q) := by
  unfold k0_pay4
  pointwise
  rfl

theorem pay5_apply (p : Fin 512) (q : Fin 1024) :
    (k0_pay5 x g u (ix2 p q) : EReal) = ∑ k : Fin 1024, (k0_pay4 x g (ix2 p k) : EReal) * u (ix3 0 k q) := by
  unfold k0_pay5
  pointwise

theorem pay8_apply (p : Fin 512) (q : Fin 1024) :
    (k0_pay8 x g u (ix2 p q) : EReal) = ∑ k : Fin 1024, (k0_pay4 x g (ix2 p k) : EReal) * u (ix3 0 k q) := by
  unfold k0_pay8
  pointwise

theorem pay10_apply (p : Fin 512) (q : Fin 1024) :
    (k0_pay10 h u (ix2 p q) : EReal) = ∑ k : Fin 1024, (h (ix2 p k) : EReal) * u (ix3 0 k q) := by
  unfold k0_pay10
  pointwise

theorem pay13_apply (p : Fin 512) (q : Fin 1024) :
    (k0_pay13 h u (ix2 p q) : EReal) = ∑ k : Fin 1024, (h (ix2 p k) : EReal) * u (ix3 0 k q) := by
  unfold k0_pay13
  pointwise

theorem pay7_apply (p : Fin 512) (q : Fin 1024) :
    (k0_pay7 x g u w (ix2 p q) : EReal) = ∑ j : Fin 1024, sq (k0_pay5 x g u (ix2 p j)) * (w (ix2 j q) : EReal) := by
  unfold k0_pay7
  pointwise

/-- The block of the second product, from the first column block's share on. -/
theorem pay1_apply (s f1 : FVec Ideal S512x1024 .f32) (w1 w2 w3 : Vec Ideal S1024x1024 .bf16) (u2 u3 : Vec Ideal S1x1024x1024 .bf16) (p : Fin 512) (q : Fin 1024) :
    (k0_pay1 (k0_pay12 h s f1 w1 u2 w2) (k0_pay15 h u3) (k0_pay16 w3) (ix2 p q) : EReal)
      = ((s (ix2 p q) + ∑ j : Fin 1024, sq (f1 (ix2 p j)) * (w1 (ix2 j q) : EReal))
          + ∑ j : Fin 1024, sq (k0_pay10 h u2 (ix2 p j)) * (w2 (ix2 j q) : EReal))
          + ∑ j : Fin 1024, sq (k0_pay13 h u3 (ix2 p j)) * (w3 (ix2 j q) : EReal) := by
  unfold k0_pay1 k0_pay12 k0_pay15 k0_pay16
  pointwise

theorem pay2_apply (s : FVec Ideal S512x1024 .f32) (r : FVec Ideal S512x1024 .bf16) (w : FVec Ideal S1024x1024 .bf16) (p : Fin 512) (q : Fin 1024) :
    (k0_pay2 s r w (ix2 p q) : EReal) = k0_pay1 s r w (ix2 p q) := by
  unfold k0_pay2
  pointwise

/-- The block of the residual stream plus the norm of the second product. -/
theorem pay3_apply (s : FVec Ideal S512x1024 .f32) (r : FVec Ideal S512x1024 .bf16) (w : FVec Ideal S1024x1024 .bf16) (p : Fin 512) (q : Fin 1024) :
    (k0_pay3 x s r w g (ix2 p q) : EReal)
      = x (ix2 p q) + k0_pay1 s r w (ix2 p q) * rinv cN cE (fun k => k0_pay1 s r w (ix2 p k)) * g (ix2 0 q) := by
  unfold k0_pay3
  pointwise
  rfl
end

section
variable (x0 : Vec Ideal S512x1024 .f32) (x1 : Vec Ideal S1x1024 .f32) (x2 : Vec Ideal S4x1024x1024 .bf16) (x3 : Vec Ideal S4096x1024 .bf16) (x4 : Vec Ideal S1x1024 .f32)

/-- The hidden activation of a block of rows, over all its columns. -/
def fK (i : S512x4096.Idx) : EReal :=
  ∑ k : Fin 1024, (k0_pay4 x0 x1 (ix2 (i 0) k) : EReal) * x2 (ix3 ⟨(i 1).val / 1024, by have := (i 1).isLt; change _ < 4096 at this; omega⟩ k ⟨(i 1).val % 1024, by omega⟩)

theorem ld_w0 (j : Fin 1024) (q : Fin 1024) : (View.ld x3 r0_4 (ix2 j q) : EReal) = x3 (ix2 ⟨j.val, by omega⟩ q) := by
  pointwise

theorem f_block0 (p : Fin 512) (j : Fin 1024) :
    ∑ k : Fin 1024, (k0_pay4 x0 x1 (ix2 p k) : EReal) * View.ld x2 r0_2 (ix3 0 k j) = fK x0 x1 x2 (ix2 p ⟨j.val, by omega⟩) := by
  unfold fK
  refine Finset.sum_congr rfl fun k _ => congrArg (_ * ·) ?_
  pointwise
  refine congrArg x2 (congrArg₂ (fun a b => ix3 a k b) (Fin.ext ?_) (Fin.ext ?_))
  · show (0 : ℕ) = (j.val) / 1024; omega
  · show j.val = (j.val) % 1024; omega

theorem ld_w1 (j : Fin 1024) (q : Fin 1024) : (View.ld x3 r0_7 (ix2 j q) : EReal) = x3 (ix2 ⟨1024 + j.val, by omega⟩ q) := by
  pointwise

theorem f_block1 (p : Fin 512) (j : Fin 1024) :
    ∑ k : Fin 1024, (k0_pay4 x0 x1 (ix2 p k) : EReal) * View.ld x2 r0_5 (ix3 0 k j) = fK x0 x1 x2 (ix2 p ⟨1024 + j.val, by omega⟩) := by
  unfold fK
  refine Finset.sum_congr rfl fun k _ => congrArg (_ * ·) ?_
  pointwise
  refine congrArg x2 (congrArg₂ (fun a b => ix3 a k b) (Fin.ext ?_) (Fin.ext ?_))
  · show (1 : ℕ) = (1024 + j.val) / 1024; omega
  · show j.val = (1024 + j.val) % 1024; omega

theorem ld_w2 (j : Fin 1024) (q : Fin 1024) : (View.ld x3 r0_10 (ix2 j q) : EReal) = x3 (ix2 ⟨2048 + j.val, by omega⟩ q) := by
  pointwise

theorem f_block2 (p : Fin 512) (j : Fin 1024) :
    ∑ k : Fin 1024, (k0_pay4 x0 x1 (ix2 p k) : EReal) * View.ld x2 r0_8 (ix3 0 k j) = fK x0 x1 x2 (ix2 p ⟨2048 + j.val, by omega⟩) := by
  unfold fK
  refine Finset.sum_congr rfl fun k _ => congrArg (_ * ·) ?_
  pointwise
  refine congrArg x2 (congrArg₂ (fun a b => ix3 a k b) (Fin.ext ?_) (Fin.ext ?_))
  · show (2 : ℕ) = (2048 + j.val) / 1024; omega
  · show j.val = (2048 + j.val) % 1024; omega

theorem ld_w3 (j : Fin 1024) (q : Fin 1024) : (View.ld x3 r0_13 (ix2 j q) : EReal) = x3 (ix2 ⟨3072 + j.val, by omega⟩ q) := by
  pointwise

theorem f_block3 (p : Fin 512) (j : Fin 1024) :
    ∑ k : Fin 1024, (k0_pay4 x0 x1 (ix2 p k) : EReal) * View.ld x2 r0_11 (ix3 0 k j) = fK x0 x1 x2 (ix2 p ⟨3072 + j.val, by omega⟩) := by
  unfold fK
  refine Finset.sum_congr rfl fun k _ => congrArg (_ * ·) ?_
  pointwise
  refine congrArg x2 (congrArg₂ (fun a b => ix3 a k b) (Fin.ext ?_) (Fin.ext ?_))
  · show (3 : ℕ) = (3072 + j.val) / 1024; omega
  · show j.val = (3072 + j.val) % 1024; omega

/-- The second product of a block of rows. -/
def oK (p : Fin 512) (q : Fin 1024) : EReal := ∑ j : Fin 4096, sq (fK x0 x1 x2 (ix2 p j)) * (x3 (ix2 j q) : EReal)

theorem pay17_eq : k0_pay17 x0 x1 x2 x3 x4 = k0_pay4 x0 x1 := by
  unfold k0_pay17
  simp only [View.ld_unit_zero (S := S512x1024) hz, View.ld_unit_zero (S := S1x1024) hz]

theorem o_block (p : Fin 512) (q : Fin 1024) :
    (k0_pay1 (k0_pay18 x0 x1 x2 x3 x4) (k0_pay19 x0 x1 x2 x3 x4) (k0_pay20 x0 x1 x2 x3 x4) (ix2 p q) : EReal) = oK x0 x1 x2 x3 p q := by
  unfold k0_pay18 k0_pay19 k0_pay20
  rw [pay17_eq]
  simp only [View.ld_unit_zero (S := S512x1024) hz, View.ld_unit_zero (S := S1x1024) hz]
  rw [pay1_apply, pay7_apply]
  simp only [pay5_apply, pay8_apply, pay10_apply, pay13_apply, f_block0, f_block1, f_block2, f_block3]
  refine Eq.trans ?_ (four_blocks fun j => sq (fK x0 x1 x2 (ix2 p j)) * (x3 (ix2 j q) : EReal))
  refine congrArg₂ (fun a b : EReal => a + b) (congrArg₂ (fun a b : EReal => a + b) (congrArg₂ (fun a b : EReal => a + b) ?_ ?_) ?_) ?_
  · exact Finset.sum_congr rfl fun j _ => congrArg (fun b : EReal => _ * b) (ld_w0 x3 j q)
  · exact Finset.sum_congr rfl fun j _ => congrArg (fun b : EReal => _ * b) (ld_w1 x3 j q)
  · exact Finset.sum_congr rfl fun j _ => congrArg (fun b : EReal => _ * b) (ld_w2 x3 j q)
  · exact Finset.sum_congr rfl fun j _ => congrArg (fun b : EReal => _ * b) (ld_w3 x3 j q)

/-- What a point leaves of the normalised input. -/
theorem out6_eq : out0_6 x0 x1 x2 x3 x4 = k0_pay4 x0 x1 := by
  unfold out0_6
  rw [View.canon_unit_zero hz]
  simp only [View.ld_unit_zero (S := S512x1024) hz, View.ld_unit_zero (S := S1x1024) hz]

/-- What a point leaves of the second product. -/
theorem out7_apply (p : Fin 512) (q : Fin 1024) : (out0_7 x0 x1 x2 x3 x4 (ix2 p q) : EReal) = oK x0 x1 x2 x3 p q := by
  unfold out0_7
  rw [View.canon_unit_zero hz]
  exact (pay2_apply _ _ _ p q).trans (o_block x0 x1 x2 x3 x4 p q)

/-- What a point leaves of the residual stream. -/
theorem out8_apply (p : Fin 512) (q : Fin 1024) :
    (out0_8 x0 x1 x2 x3 x4 (ix2 p q) : EReal) = x0 (ix2 p q) + oK x0 x1 x2 x3 p q * rinv cN cE (fun k => oK x0 x1 x2 x3 p k) * x4 (ix2 0 q) := by
  unfold out0_8
  rw [View.canon_unit_zero hz]
  simp only [View.ld_unit_zero (S := S512x1024) hz, View.ld_unit_zero (S := S1x1024) hz]
  refine (pay3_apply x0 x4 _ _ _ p q).trans ?_
  simp only [o_block]

/-- What a point leaves of the hidden activation. -/
theorem out5_eq : out0_5 x0 x1 x2 x3 x4 = fK x0 x1 x2 := by
  unfold out0_5
  rw [pay17_eq]
  simp only [View.ld_unit_zero (S := S512x1024) hz, View.ld_unit_zero (S := S1x1024) hz]
  refine funext fun y => View.canon_apply_of_pieces (Val := Elt Ideal) (e := .bf16) (fK x0 x1 x2) _ ?_ y (cover0_5 _ _ _ _ y)
  simp only [List.forall_mem_cons, List.not_mem_nil, IsEmpty.forall_iff, implies_true, and_true]
  refine ⟨fun x => ?_, fun x => ?_, fun x => ?_, fun x => ?_⟩
  · obtain ⟨p, q, rfl⟩ : ∃ (p : Fin 512) (q : Fin 1024), x = ix2 p q := ⟨x 0, x 1, eq_ix2 x⟩
    have e : r0_12.emb (ix2 p q) = ix2 p (⟨3072 + q.val, by omega⟩ : Fin 4096) := by
      funext a
      apply Fin.ext
      match a with
      | ⟨0, _⟩ => show 0 + 1 * p.val = p.val; omega
      | ⟨1, _⟩ => show 3072 + 1 * q.val = 3072 + q.val; omega
    show (k0_pay14 (k0_pay4 x0 x1) (View.ld x2 r0_11) (ix2 p q) : EReal) = fK x0 x1 x2 (r0_12.emb (ix2 p q))
    rw [e, ← f_block3]
    unfold k0_pay14
    exact pay13_apply (k0_pay4 x0 x1) _ p q
  · obtain ⟨p, q, rfl⟩ : ∃ (p : Fin 512) (q : Fin 1024), x = ix2 p q := ⟨x 0, x 1, eq_ix2 x⟩
    have e : r0_9.emb (ix2 p q) = ix2 p (⟨2048 + q.val, by omega⟩ : Fin 4096) := by
      funext a
      apply Fin.ext
      match a with
      | ⟨0, _⟩ => show 0 + 1 * p.val = p.val; omega
      | ⟨1, _⟩ => show 2048 + 1 * q.val = 2048 + q.val; omega
    show (k0_pay11 (k0_pay4 x0 x1) (View.ld x2 r0_8) (ix2 p q) : EReal) = fK x0 x1 x2 (r0_9.emb (ix2 p q))
    rw [e, ← f_block2]
    unfold k0_pay11
    exact pay10_apply (k0_pay4 x0 x1) _ p q
  · obtain ⟨p, q, rfl⟩ : ∃ (p : Fin 512) (q : Fin 1024), x = ix2 p q := ⟨x 0, x 1, eq_ix2 x⟩
    have e : r0_6.emb (ix2 p q) = ix2 p (⟨1024 + q.val, by omega⟩ : Fin 4096) := by
      funext a
      apply Fin.ext
      match a with
      | ⟨0, _⟩ => show 0 + 1 * p.val = p.val; omega
      | ⟨1, _⟩ => show 1024 + 1 * q.val = 1024 + q.val; omega
    show (k0_pay9 x0 x1 (View.ld x2 r0_5) (ix2 p q) : EReal) = fK x0 x1 x2 (r0_6.emb (ix2 p q))
    rw [e, ← f_block1]
    unfold k0_pay9
    exact pay8_apply x0 x1 _ p q
  · obtain ⟨p, q, rfl⟩ : ∃ (p : Fin 512) (q : Fin 1024), x = ix2 p q := ⟨x 0, x 1, eq_ix2 x⟩
    have e : r0_3.emb (ix2 p q) = ix2 p (⟨q.val, by omega⟩ : Fin 4096) := by
      funext a
      apply Fin.ext
      match a with
      | ⟨0, _⟩ => show 0 + 1 * p.val = p.val; omega
      | ⟨1, _⟩ => show 0 + 1 * q.val = q.val; omega
    show (k0_pay6 x0 x1 (View.ld x2 r0_2) (ix2 p q) : EReal) = fK x0 x1 x2 (r0_3.emb (ix2 p q))
    rw [e, ← f_block0]
    unfold k0_pay6
    exact pay5_apply x0 x1 _ p q
end

variable (m : (ℓ : Loc nD τ sig) → Buf (Elt Ideal) ℓ)

/-- The residual stream. -/
abbrev A0 (c : Dev nD) : Vec Ideal S4096x1024 .f32 := m ((c : Thread nD τ).loc main_arg0)
/-- The weights of the norm before the products. -/
abbrev A1 (c : Dev nD) : Vec Ideal S1024 .f32 := m ((c : Thread nD τ).loc main_arg1)
/-- The weights of the first product. -/
abbrev A2 (c : Dev nD) : Vec Ideal S1024x4096 .f32 := m ((c : Thread nD τ).loc main_arg2)
/-- The weights of the second product. -/
abbrev A3 (c : Dev nD) : Vec Ideal S4096x1024 .f32 := m ((c : Thread nD τ).loc main_arg3)
/-- The weights of the norm after the products. -/
abbrev A4 (c : Dev nD) : Vec Ideal S1024 .f32 := m ((c : Thread nD τ).loc main_arg4)

/-- Row `p` of tile `t`. -/
abbrev row (t : Fin cfg0.N) (p : Fin 512) : Fin 4096 := ⟨512 * t.val + p.val, by have := t.isLt; have h : cfg0.N = 8 := N_0; omega⟩

/-- The second product's weights as the call takes them. -/
theorem V_wd (c : Dev nD) : (V m c main_v4 : S4096x1024.Idx → EReal) = A3 m c := by
  dsimp only [V, hostOps0, List.flatten_cons, List.flatten_nil, List.append_nil, List.cons_append, List.nil_append]
  after_results
  rfl

/-- The first norm's weights as the call takes them. -/
theorem V_g (c : Dev nD) (q : Fin 1024) : (V m c main_v3 (ix2 0 q) : EReal) = A1 m c (ix1 q) := by
  dsimp only [V, hostOps0, List.flatten_cons, List.flatten_nil, List.append_nil, List.cons_append, List.nil_append]
  after_results
  pointwise

/-- The second norm's weights as the call takes them. -/
theorem V_g2 (c : Dev nD) (q : Fin 1024) : (V m c main_v5 (ix2 0 q) : EReal) = A4 m c (ix1 q) := by
  dsimp only [V, hostOps0, List.flatten_cons, List.flatten_nil, List.append_nil, List.cons_append, List.nil_append]
  after_results
  pointwise

/-- The first product's weights as the call takes them: four blocks of columns. -/
theorem V_wu (c : Dev nD) (b : Fin 4) (q j : Fin 1024) :
    (V m c main_v2 (ix3 b q j) : EReal) = A2 m c (ix2 q ⟨b.val * 1024 + j.val, by omega⟩) := by
  dsimp only [V, hostOps0, List.flatten_cons, List.flatten_nil, List.append_nil, List.cons_append, List.nil_append]
  after_results
  pointwise

/-- The tile of the residual stream. -/
theorem b0 (c : Dev nD) (t : Fin cfg0.N) (p : Fin 512) (q : Fin 1024) : (iblk m c 0 t (ix2 p q) : EReal) = A0 m c (ix2 (row t p) q) := by
  unfold iblk
  rw [View.read_apply]
  show (V m c main_arg0 _ : EReal) = _
  rw [V_main_arg0]
  congr 1
  funext a
  apply Fin.ext
  have hi : win0_0.index t 0 = t.val ∧ win0_0.index t 1 = 0 := (by decide +kernel : ∀ t : Fin grid0.N, win0_0.index t 0 = t.val ∧ win0_0.index t 1 = 0) t
  match a with
  | ⟨0, _⟩ => show win0_0.index t 0 * 512 + 1 * p.val = 512 * t.val + p.val; rw [hi.1]; omega
  | ⟨1, _⟩ => show win0_0.index t 1 * 1024 + 1 * q.val = q.val; rw [hi.2]; omega

/-- The norm weights. -/
theorem b1 (c : Dev nD) (t : Fin cfg0.N) (q : Fin 1024) : (iblk m c 1 t (ix2 0 q) : EReal) = A1 m c (ix1 q) := by
  unfold iblk
  rw [View.read_apply]
  refine Eq.trans ?_ (V_g m c q)
  show (V m c main_v3 _ : EReal) = _
  congr 1
  funext a
  apply Fin.ext
  have hi : win0_1.index t 0 = 0 ∧ win0_1.index t 1 = 0 := (by decide +kernel : ∀ t : Fin grid0.N, win0_1.index t 0 = 0 ∧ win0_1.index t 1 = 0) t
  match a with
  | ⟨0, _⟩ => show win0_1.index t 0 * 1 + 1 * 0 = 0; rw [hi.1]
  | ⟨1, _⟩ => show win0_1.index t 1 * 1024 + 1 * q.val = q.val; rw [hi.2]; omega

/-- The norm weights. -/
theorem b4 (c : Dev nD) (t : Fin cfg0.N) (q : Fin 1024) : (iblk m c 4 t (ix2 0 q) : EReal) = A4 m c (ix1 q) := by
  unfold iblk
  rw [View.read_apply]
  refine Eq.trans ?_ (V_g2 m c q)
  show (V m c main_v5 _ : EReal) = _
  congr 1
  funext a
  apply Fin.ext
  have hi : win0_4.index t 0 = 0 ∧ win0_4.index t 1 = 0 := (by decide +kernel : ∀ t : Fin grid0.N, win0_4.index t 0 = 0 ∧ win0_4.index t 1 = 0) t
  match a with
  | ⟨0, _⟩ => show win0_4.index t 0 * 1 + 1 * 0 = 0; rw [hi.1]
  | ⟨1, _⟩ => show win0_4.index t 1 * 1024 + 1 * q.val = q.val; rw [hi.2]; omega

/-- The first product's weights. -/
theorem b2 (c : Dev nD) (t : Fin cfg0.N) (b : Fin 4) (q j : Fin 1024) : (iblk m c 2 t (ix3 b q j) : EReal) = A2 m c (ix2 q ⟨b.val * 1024 + j.val, by omega⟩) := by
  unfold iblk
  rw [View.read_apply]
  refine Eq.trans ?_ (V_wu m c b q j)
  show (V m c main_v2 _ : EReal) = _
  congr 1
  funext a
  apply Fin.ext
  have hi : win0_2.index t 0 = 0 ∧ win0_2.index t 1 = 0 ∧ win0_2.index t 2 = 0 := (by decide +kernel : ∀ t : Fin grid0.N, win0_2.index t 0 = 0 ∧ win0_2.index t 1 = 0 ∧ win0_2.index t 2 = 0) t
  match a with
  | ⟨0, _⟩ => show win0_2.index t 0 * 4 + 1 * b.val = b.val; rw [hi.1]; omega
  | ⟨1, _⟩ => show win0_2.index t 1 * 1024 + 1 * q.val = q.val; rw [hi.2.1]; omega
  | ⟨2, _⟩ => show win0_2.index t 2 * 1024 + 1 * j.val = j.val; rw [hi.2.2]; omega

/-- The second product's weights. -/
theorem b3 (c : Dev nD) (t : Fin cfg0.N) (p : Fin 4096) (q : Fin 1024) : (iblk m c 3 t (ix2 p q) : EReal) = A3 m c (ix2 p q) := by
  unfold iblk
  rw [View.read_apply]
  show (V m c main_v4 _ : EReal) = _
  rw [V_wd]
  congr 1
  funext a
  apply Fin.ext
  have hi : win0_3.index t 0 = 0 ∧ win0_3.index t 1 = 0 := (by decide +kernel : ∀ t : Fin grid0.N, win0_3.index t 0 = 0 ∧ win0_3.index t 1 = 0) t
  match a with
  | ⟨0, _⟩ => show win0_3.index t 0 * 4096 + 1 * p.val = p.val; rw [hi.1]; omega
  | ⟨1, _⟩ => show win0_3.index t 1 * 1024 + 1 * q.val = q.val; rw [hi.2]; omega

/-- The tile's normalised input is the reference's. -/
theorem h_eq (c : Dev nD) (t : Fin cfg0.N) (p : Fin 512) (q : Fin 1024) :
    (k0_pay4 (iblk m c 0 t) (iblk m c 1 t) (ix2 p q) : EReal) = Cert.Reference10Ideal.Read.val_main_v12 (F := Ideal) (A0 m c) (A1 m c) (ix2 (row t p) q) := by
  rw [Cert.Reference10Ideal.Read.h_apply]
  refine (pay4_apply (iblk m c 0 t) (iblk m c 1 t) p q).trans ?_
  exact congrArg₂ (fun a b : EReal => a * b) (congrArg₂ (fun a b : EReal => a * b) (b0 m c t p q) (congrArg (rinv cN cE) (funext fun k => b0 m c t p k))) (b1 m c t q)

/-- The tile's hidden activation is the reference's. -/
theorem f_eq (c : Dev nD) (t : Fin cfg0.N) (p : Fin 512) (j : Fin 4096) :
    fK (iblk m c 0 t) (iblk m c 1 t) (iblk m c 2 t) (ix2 p j) = Cert.Reference10Ideal.Read.val_main_v13 (F := Ideal) (A0 m c) (A1 m c) (A2 m c) (ix2 (row t p) j) := by
  rw [Cert.Reference10Ideal.Read.f_apply]
  unfold fK
  refine Finset.sum_congr rfl fun k _ => congrArg₂ (fun a b : EReal => a * b) (h_eq m c t p k) ((b2 m c t _ k _).trans ?_)
  refine congrArg (A2 m c) (congrArg (ix2 k) (Fin.ext ?_))
  show j.val / 1024 * 1024 + j.val % 1024 = j.val
  omega

/-- The tile's second product is the reference's. -/
theorem o_eq (c : Dev nD) (t : Fin cfg0.N) (p : Fin 512) (q : Fin 1024) :
    oK (iblk m c 0 t) (iblk m c 1 t) (iblk m c 2 t) (iblk m c 3 t) p q = Cert.Reference10Ideal.Read.val_main_v16 (F := Ideal) (A0 m c) (A1 m c) (A2 m c) (A3 m c) (ix2 (row t p) q) := by
  rw [Cert.Reference10Ideal.Read.o_apply]
  unfold oK
  exact Finset.sum_congr rfl fun j _ => congrArg₂ (fun a b : EReal => a * b) (congrArg sq (f_eq m c t p j)) (b3 m c t j q)

/-- The tile's result is the reference's. -/
theorem xo_eq (c : Dev nD) (t : Fin cfg0.N) (p : Fin 512) (q : Fin 1024) :
    (out0_8 (iblk m c 0 t) (iblk m c 1 t) (iblk m c 2 t) (iblk m c 3 t) (iblk m c 4 t) (ix2 p q) : EReal) = Cert.Reference10Ideal.Read.val_main_v33 (F := Ideal) (A0 m c) (A1 m c) (A2 m c) (A3 m c) (A4 m c) (ix2 (row t p) q) := by
  rw [Cert.Reference10Ideal.Read.xo_apply]
  refine (out8_apply (iblk m c 0 t) (iblk m c 1 t) (iblk m c 2 t) (iblk m c 3 t) (iblk m c 4 t) p q).trans ?_
  refine congrArg₂ (fun a b : EReal => a + b) (b0 m c t p q) (congrArg₂ (fun a b : EReal => a * b) (congrArg₂ (fun a b : EReal => a * b) (o_eq m c t p q) ?_) (b4 m c t q))
  exact congrArg (rinv cN cE) (funext fun k => o_eq m c t p k)

/-- What a point leaves of the hidden activation. -/
theorem o5 (c : Dev nD) (t : Fin cfg0.N) : out0_5 (iblk m c 0 t) (iblk m c 1 t) (iblk m c 2 t) (iblk m c 3 t) (iblk m c 4 t) = fK (iblk m c 0 t) (iblk m c 1 t) (iblk m c 2 t) := out5_eq _ _ _ _ _

/-- What a point leaves of the normalised input. -/
theorem o6 (c : Dev nD) (t : Fin cfg0.N) : out0_6 (iblk m c 0 t) (iblk m c 1 t) (iblk m c 2 t) (iblk m c 3 t) (iblk m c 4 t) = k0_pay4 (iblk m c 0 t) (iblk m c 1 t) := out6_eq _ _ _ _ _

/-- The call's array of the hidden activation: the reference's. -/
abbrev res5 (c : Dev nD) : Buf (Elt Ideal) ((c : Thread nD τ).loc main_v6_0) := Cert.Reference10Ideal.Read.val_main_v17 (F := Ideal) (A0 m c) (A1 m c) (A2 m c)

/-- Each point writes back its rows of the hidden activation. -/
theorem wrote5 (c : Dev nD) (t : Fin cfg0.N) (hf : (cfg0.win 5).flush t = true) :
    (dats m 0 c).flushed 5 t = ((cfg0.win 5).blk t).view.read (Elt Ideal) (res5 m c) := by
  rw [flushed5, o5]
  funext j
  obtain ⟨p, q, rfl⟩ : ∃ (p : Fin 512) (q : Fin 4096), j = ix2 p q := ⟨j 0, j 1, eq_ix2 (n0 := 512) (n1 := 4096) j⟩
  rw [View.read_apply]
  have e : ((cfg0.win 5).blk t).view.emb (ix2 p q) = ix2 (row t p) q := by
    have hi := (by decide +kernel : ∀ t : Fin grid0.N, win0_5.index t 0 = t.val ∧ win0_5.index t 1 = 0) t
    funext a
    apply Fin.ext
    match a with
    | ⟨0, _⟩ => show win0_5.index t 0 * 512 + 1 * p.val = 512 * t.val + p.val; rw [hi.1]; omega
    | ⟨1, _⟩ => show win0_5.index t 1 * 4096 + 1 * q.val = q.val; rw [hi.2]; omega
  rw [e]
  exact f_eq m c t p q

/-- The array after the run. -/
theorem fin5 (c : Dev nD) : (dats m 0 c).arrAt 5 cfg0.N = res5 m c :=
  (dats m 0 c).arrAt_eq_of_cover 5 (res5 m c) (wrote5 m c) fun i => by
    have h0 : (i 0 : Nat) < 4096 := (i 0).isLt
    have h1 : (i 1 : Nat) < 4096 := (i 1).isLt
    refine ⟨⟨(i 0 : Nat) / 512, by rw [show cfg0.N = 8 from N_0]; omega⟩, flush0_5 _, ?_⟩
    generalize ht : (⟨(i 0 : Nat) / 512, _⟩ : Fin cfg0.N) = t
    have hv : t.val = (i 0 : Nat) / 512 := by rw [← ht]
    show i ∈ ((View.whole main_v6_0).slice (win0_5.rect t)).set
    rw [View.set_slice_whole, Rect.mem_set_unit]
    have hi := (by decide +kernel : ∀ t : Fin grid0.N, win0_5.index t 0 = t.val ∧ win0_5.index t 1 = 0) t
    intro a
    match a with
    | ⟨0, _⟩ => show win0_5.index t 0 * 512 ≤ (i 0 : Nat) ∧ (i 0 : Nat) < win0_5.index t 0 * 512 + 512
                rw [hi.1]; omega
    | ⟨1, _⟩ => show win0_5.index t 1 * 4096 ≤ (i 1 : Nat) ∧ (i 1 : Nat) < win0_5.index t 1 * 4096 + 4096
                rw [hi.2]; omega

/-- The call's array of the normalised input: the reference's. -/
abbrev res6 (c : Dev nD) : Buf (Elt Ideal) ((c : Thread nD τ).loc main_v6_1) := Cert.Reference10Ideal.Read.val_main_v18 (F := Ideal) (A0 m c) (A1 m c)

/-- Each point writes back its rows of the normalised input. -/
theorem wrote6 (c : Dev nD) (t : Fin cfg0.N) (hf : (cfg0.win 6).flush t = true) :
    (dats m 0 c).flushed 6 t = ((cfg0.win 6).blk t).view.read (Elt Ideal) (res6 m c) := by
  rw [flushed6, o6]
  funext j
  obtain ⟨p, q, rfl⟩ : ∃ (p : Fin 512) (q : Fin 1024), j = ix2 p q := ⟨j 0, j 1, eq_ix2 (n0 := 512) (n1 := 1024) j⟩
  rw [View.read_apply]
  have e : ((cfg0.win 6).blk t).view.emb (ix2 p q) = ix2 (row t p) q := by
    have hi := (by decide +kernel : ∀ t : Fin grid0.N, win0_6.index t 0 = t.val ∧ win0_6.index t 1 = 0) t
    funext a
    apply Fin.ext
    match a with
    | ⟨0, _⟩ => show win0_6.index t 0 * 512 + 1 * p.val = 512 * t.val + p.val; rw [hi.1]; omega
    | ⟨1, _⟩ => show win0_6.index t 1 * 1024 + 1 * q.val = q.val; rw [hi.2]; omega
  rw [e]
  exact h_eq m c t p q

/-- The array after the run. -/
theorem fin6 (c : Dev nD) : (dats m 0 c).arrAt 6 cfg0.N = res6 m c :=
  (dats m 0 c).arrAt_eq_of_cover 6 (res6 m c) (wrote6 m c) fun i => by
    have h0 : (i 0 : Nat) < 4096 := (i 0).isLt
    have h1 : (i 1 : Nat) < 1024 := (i 1).isLt
    refine ⟨⟨(i 0 : Nat) / 512, by rw [show cfg0.N = 8 from N_0]; omega⟩, flush0_6 _, ?_⟩
    generalize ht : (⟨(i 0 : Nat) / 512, _⟩ : Fin cfg0.N) = t
    have hv : t.val = (i 0 : Nat) / 512 := by rw [← ht]
    show i ∈ ((View.whole main_v6_1).slice (win0_6.rect t)).set
    rw [View.set_slice_whole, Rect.mem_set_unit]
    have hi := (by decide +kernel : ∀ t : Fin grid0.N, win0_6.index t 0 = t.val ∧ win0_6.index t 1 = 0) t
    intro a
    match a with
    | ⟨0, _⟩ => show win0_6.index t 0 * 512 ≤ (i 0 : Nat) ∧ (i 0 : Nat) < win0_6.index t 0 * 512 + 512
                rw [hi.1]; omega
    | ⟨1, _⟩ => show win0_6.index t 1 * 1024 ≤ (i 1 : Nat) ∧ (i 1 : Nat) < win0_6.index t 1 * 1024 + 1024
                rw [hi.2]; omega

/-- The call's array of the second product: the reference's. -/
abbrev res7 (c : Dev nD) : Buf (Elt Ideal) ((c : Thread nD τ).loc main_v6_2) := Cert.Reference10Ideal.Read.val_main_v19 (F := Ideal) (A0 m c) (A1 m c) (A2 m c) (A3 m c)

/-- Each point writes back its rows of the second product. -/
theorem wrote7 (c : Dev nD) (t : Fin cfg0.N) (hf : (cfg0.win 7).flush t = true) :
    (dats m 0 c).flushed 7 t = ((cfg0.win 7).blk t).view.read (Elt Ideal) (res7 m c) := by
  rw [flushed7]
  funext j
  obtain ⟨p, q, rfl⟩ : ∃ (p : Fin 512) (q : Fin 1024), j = ix2 p q := ⟨j 0, j 1, eq_ix2 (n0 := 512) (n1 := 1024) j⟩
  rw [View.read_apply]
  have e : ((cfg0.win 7).blk t).view.emb (ix2 p q) = ix2 (row t p) q := by
    have hi := (by decide +kernel : ∀ t : Fin grid0.N, win0_7.index t 0 = t.val ∧ win0_7.index t 1 = 0) t
    funext a
    apply Fin.ext
    match a with
    | ⟨0, _⟩ => show win0_7.index t 0 * 512 + 1 * p.val = 512 * t.val + p.val; rw [hi.1]; omega
    | ⟨1, _⟩ => show win0_7.index t 1 * 1024 + 1 * q.val = q.val; rw [hi.2]; omega
  rw [e]
  exact (out7_apply (iblk m c 0 t) (iblk m c 1 t) (iblk m c 2 t) (iblk m c 3 t) (iblk m c 4 t) p q).trans (o_eq m c t p q)

/-- The array after the run. -/
theorem fin7 (c : Dev nD) : (dats m 0 c).arrAt 7 cfg0.N = res7 m c :=
  (dats m 0 c).arrAt_eq_of_cover 7 (res7 m c) (wrote7 m c) fun i => by
    have h0 : (i 0 : Nat) < 4096 := (i 0).isLt
    have h1 : (i 1 : Nat) < 1024 := (i 1).isLt
    refine ⟨⟨(i 0 : Nat) / 512, by rw [show cfg0.N = 8 from N_0]; omega⟩, flush0_7 _, ?_⟩
    generalize ht : (⟨(i 0 : Nat) / 512, _⟩ : Fin cfg0.N) = t
    have hv : t.val = (i 0 : Nat) / 512 := by rw [← ht]
    show i ∈ ((View.whole main_v6_2).slice (win0_7.rect t)).set
    rw [View.set_slice_whole, Rect.mem_set_unit]
    have hi := (by decide +kernel : ∀ t : Fin grid0.N, win0_7.index t 0 = t.val ∧ win0_7.index t 1 = 0) t
    intro a
    match a with
    | ⟨0, _⟩ => show win0_7.index t 0 * 512 ≤ (i 0 : Nat) ∧ (i 0 : Nat) < win0_7.index t 0 * 512 + 512
                rw [hi.1]; omega
    | ⟨1, _⟩ => show win0_7.index t 1 * 1024 ≤ (i 1 : Nat) ∧ (i 1 : Nat) < win0_7.index t 1 * 1024 + 1024
                rw [hi.2]; omega

/-- The call's array of the residual stream: the reference's. -/
abbrev res8 (c : Dev nD) : Buf (Elt Ideal) ((c : Thread nD τ).loc main_v6_3) := Cert.Reference10Ideal.Read.val_main_v33 (F := Ideal) (A0 m c) (A1 m c) (A2 m c) (A3 m c) (A4 m c)

/-- Each point writes back its rows of the residual stream. -/
theorem wrote8 (c : Dev nD) (t : Fin cfg0.N) (hf : (cfg0.win 8).flush t = true) :
    (dats m 0 c).flushed 8 t = ((cfg0.win 8).blk t).view.read (Elt Ideal) (res8 m c) := by
  rw [flushed8]
  funext j
  obtain ⟨p, q, rfl⟩ : ∃ (p : Fin 512) (q : Fin 1024), j = ix2 p q := ⟨j 0, j 1, eq_ix2 (n0 := 512) (n1 := 1024) j⟩
  rw [View.read_apply]
  have e : ((cfg0.win 8).blk t).view.emb (ix2 p q) = ix2 (row t p) q := by
    have hi := (by decide +kernel : ∀ t : Fin grid0.N, win0_8.index t 0 = t.val ∧ win0_8.index t 1 = 0) t
    funext a
    apply Fin.ext
    match a with
    | ⟨0, _⟩ => show win0_8.index t 0 * 512 + 1 * p.val = 512 * t.val + p.val; rw [hi.1]; omega
    | ⟨1, _⟩ => show win0_8.index t 1 * 1024 + 1 * q.val = q.val; rw [hi.2]; omega
  rw [e]
  exact xo_eq m c t p q

/-- The array after the run. -/
theorem fin8 (c : Dev nD) : (dats m 0 c).arrAt 8 cfg0.N = res8 m c :=
  (dats m 0 c).arrAt_eq_of_cover 8 (res8 m c) (wrote8 m c) fun i => by
    have h0 : (i 0 : Nat) < 4096 := (i 0).isLt
    have h1 : (i 1 : Nat) < 1024 := (i 1).isLt
    refine ⟨⟨(i 0 : Nat) / 512, by rw [show cfg0.N = 8 from N_0]; omega⟩, flush0_8 _, ?_⟩
    generalize ht : (⟨(i 0 : Nat) / 512, _⟩ : Fin cfg0.N) = t
    have hv : t.val = (i 0 : Nat) / 512 := by rw [← ht]
    show i ∈ ((View.whole main_v6_3).slice (win0_8.rect t)).set
    rw [View.set_slice_whole, Rect.mem_set_unit]
    have hi := (by decide +kernel : ∀ t : Fin grid0.N, win0_8.index t 0 = t.val ∧ win0_8.index t 1 = 0) t
    intro a
    match a with
    | ⟨0, _⟩ => show win0_8.index t 0 * 512 ≤ (i 0 : Nat) ∧ (i 0 : Nat) < win0_8.index t 0 * 512 + 512
                rw [hi.1]; omega
    | ⟨1, _⟩ => show win0_8.index t 1 * 1024 ≤ (i 1 : Nat) ∧ (i 1 : Nat) < win0_8.index t 1 * 1024 + 1024
                rw [hi.2]; omega

end Cert.Kernel10Ideal.Value

namespace Cert.Proof.MlpFwd
open Cert.Kernel10Ideal.Value

variable (m' : (ℓ : Loc Cert.Reference10Ideal.nD Cert.Reference10Ideal.τ Cert.Reference10Ideal.sig) → Buf (Elt Ideal) ℓ) (g' : Dev Cert.Reference10Ideal.nD → PrngReg)

/-- The reference's run: each result is its last stage over the arguments, and the arguments are kept. -/
theorem ref_run : θ_run (Cert.Reference10Ideal.defs (F := Ideal)) (onTc (τ := Cert.Reference10Ideal.τ) (Cert.Reference10Ideal.main (F := Ideal))) ⟨m', fun _ => 0, g'⟩ fun r =>
    ∀ c : Dev Cert.Reference10Ideal.nD,
      r.2.mem ((c.tc : Thread Cert.Reference10Ideal.nD Cert.Reference10Ideal.τ).loc Cert.Reference10Ideal.main_v17) = Cert.Reference10Ideal.Read.val_main_v17 (m' (c.tc.loc Cert.Reference10Ideal.main_arg0)) (m' (c.tc.loc Cert.Reference10Ideal.main_arg1)) (m' (c.tc.loc Cert.Reference10Ideal.main_arg2))
      ∧ r.2.mem ((c.tc : Thread Cert.Reference10Ideal.nD Cert.Reference10Ideal.τ).loc Cert.Reference10Ideal.main_v18) = Cert.Reference10Ideal.Read.val_main_v18 (m' (c.tc.loc Cert.Reference10Ideal.main_arg0)) (m' (c.tc.loc Cert.Reference10Ideal.main_arg1))
      ∧ r.2.mem ((c.tc : Thread Cert.Reference10Ideal.nD Cert.Reference10Ideal.τ).loc Cert.Reference10Ideal.main_v19) = Cert.Reference10Ideal.Read.val_main_v19 (m' (c.tc.loc Cert.Reference10Ideal.main_arg0)) (m' (c.tc.loc Cert.Reference10Ideal.main_arg1)) (m' (c.tc.loc Cert.Reference10Ideal.main_arg2)) (m' (c.tc.loc Cert.Reference10Ideal.main_arg3))
      ∧ r.2.mem ((c.tc : Thread Cert.Reference10Ideal.nD Cert.Reference10Ideal.τ).loc Cert.Reference10Ideal.main_v33) = Cert.Reference10Ideal.Read.val_main_v33 (m' (c.tc.loc Cert.Reference10Ideal.main_arg0)) (m' (c.tc.loc Cert.Reference10Ideal.main_arg1)) (m' (c.tc.loc Cert.Reference10Ideal.main_arg2)) (m' (c.tc.loc Cert.Reference10Ideal.main_arg3)) (m' (c.tc.loc Cert.Reference10Ideal.main_arg4))
      ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4) :=
  (θ_run Cert.Reference10Ideal.defs _ _).mono (fun r hr c => ⟨
    (hr c).1.trans (Cert.Reference10Ideal.Read.val_main_v17_eq _ _ _),
    (hr c).2.1.trans (Cert.Reference10Ideal.Read.val_main_v18_eq _ _),
    (hr c).2.2.1.trans (Cert.Reference10Ideal.Read.val_main_v19_eq _ _ _ _),
    (hr c).2.2.2.1.trans (Cert.Reference10Ideal.Read.val_main_v33_eq _ _),
    (hr c).2.2.2.2⟩) (Cert.Reference10Ideal.Value.run m' g')

/-- Over the extended reals the call ends with the reference's results. -/
theorem algebraic : Cert.algebraic_Kernel10Ideal_Reference10Ideal (hKernel10Ideal := Cert.Kernel10Ideal.Gen.facts) (hReference10Ideal := Cert.Reference10Ideal.Gen.facts) := by
  intro m g m' g' _ h
  refine ⟨fun c => res5 m c, fun c => res6 m c, fun c => res7 m c, fun c => res8 m c, ?_, ?_⟩
  · refine (θ_run Cert.Kernel10Ideal.defs _ _).mono (fun r hr c => ?_) (Cert.Kernel10Ideal.Value.run_blocks m g)
    obtain ⟨h0, h1, h2, h3, hk⟩ := hr c
    exact ⟨h0.trans (fin5 m c), h1.trans (fin6 m c), h2.trans (fin7 m c), h3.trans (fin8 m c), hk⟩
  · refine (θ_run Cert.Reference10Ideal.defs _ _).mono (fun r hr c => ?_) (ref_run m' g')
    obtain ⟨h0, h1, h2, h3, hk⟩ := hr c
    obtain ⟨a0, a1, a2, a3, a4⟩ := h c
    rw [a0, a1, a2] at h0
    rw [a0, a1] at h1
    rw [a0, a1, a2, a3] at h2
    rw [a0, a1, a2, a3, a4] at h3
    exact ⟨h0, h1, h2, h3, hk⟩

/-- The reference's frame: it declares no semaphore. -/
theorem frame_ref : Cert.quiescent_Reference10Ideal (hReference10Ideal := Cert.Reference10Ideal.Gen.facts) := by
  intro m g _
  exact (θ_run Cert.Reference10Ideal.defs _ _).mono (fun r h => ⟨fun c => (h c).2.2.2.2, sem_eq_zero_of_no_sems (by decide) r.2⟩) (ref_run m g)

end Cert.Proof.MlpFwd

end
-- ==== Proof.AdamGain.lean ====
/- One step of the optimiser on the norm gains: the update and the two new moments. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Rms
public import Idealize.ShloMosaic.Lib.Tactic
public import Idealize.ShloMosaic.Adequacy

@[expose] public section

noncomputable section

open Idealize.ShloMosaic Idealize.ShloMosaic.TcCoe Idealize.SL.Sem Cert.Alg

namespace Cert.Kernel11Ideal.Value
open Cert.Kernel11Ideal Cert.Kernel11Ideal.Gen

variable (m : (ℓ : Loc nD τ sig) → Buf (Elt Ideal) ℓ)

/-- The weights. -/
abbrev A0 (c : Dev nD) : Vec Ideal S4x1024 .f32 := m ((c : Thread nD τ).loc main_arg0)
/-- The gradient. -/
abbrev A1 (c : Dev nD) : Vec Ideal S4x1024 .f32 := m ((c : Thread nD τ).loc main_arg1)
/-- The first moment. -/
abbrev A2 (c : Dev nD) : Vec Ideal S4x1024 .f32 := m ((c : Thread nD τ).loc main_arg2)
/-- The second moment. -/
abbrev A3 (c : Dev nD) : Vec Ideal S4x1024 .f32 := m ((c : Thread nD τ).loc main_arg3)

/-- The call's array of the update: the reference's. -/
abbrev res4 (c : Dev nD) : Buf (Elt Ideal) ((c : Thread nD τ).loc main_v0_0) := Cert.Reference11Ideal.Read.val_main_v23 (F := Ideal) (A0 m c) (A1 m c) (A2 m c) (A3 m c)

/-- The array after the run. -/
theorem fin4 (c : Dev nD) : (dats m 0 c).arrAt 4 cfg0.N = res4 m c := by
  refine (final4 m c).trans (funext fun i => ?_)
  obtain ⟨p, q, rfl⟩ : ∃ (p : Fin 4) (q : Fin 1024), i = ix2 p q := ⟨i 0, i 1, eq_ix2 (n0 := 4) (n1 := 1024) i⟩
  unfold res4
  pointwise [Cert.Reference11Ideal.Read.val_main_cst, Cert.Reference11Ideal.Read.val_main_v0, Cert.Reference11Ideal.Read.val_main_v1, Cert.Reference11Ideal.Read.val_main_cst_0, Cert.Reference11Ideal.Read.val_main_v2, Cert.Reference11Ideal.Read.val_main_v3, Cert.Reference11Ideal.Read.val_main_v4, Cert.Reference11Ideal.Read.val_main_cst_1, Cert.Reference11Ideal.Read.val_main_v5, Cert.Reference11Ideal.Read.val_main_v6, Cert.Reference11Ideal.Read.val_main_v7, Cert.Reference11Ideal.Read.val_main_cst_2, Cert.Reference11Ideal.Read.val_main_v8, Cert.Reference11Ideal.Read.val_main_v9, Cert.Reference11Ideal.Read.val_main_v10, Cert.Reference11Ideal.Read.val_main_cst_3, Cert.Reference11Ideal.Read.val_main_v11, Cert.Reference11Ideal.Read.val_main_v12, Cert.Reference11Ideal.Read.val_main_cst_4, Cert.Reference11Ideal.Read.val_main_v13, Cert.Reference11Ideal.Read.val_main_v14, Cert.Reference11Ideal.Read.val_main_v15, Cert.Reference11Ideal.Read.val_main_cst_5, Cert.Reference11Ideal.Read.val_main_v16, Cert.Reference11Ideal.Read.val_main_v17, Cert.Reference11Ideal.Read.val_main_v18, Cert.Reference11Ideal.Read.val_main_cst_6, Cert.Reference11Ideal.Read.val_main_v19, Cert.Reference11Ideal.Read.val_main_v20, Cert.Reference11Ideal.Read.val_main_v21, Cert.Reference11Ideal.Read.val_main_cst_7, Cert.Reference11Ideal.Read.val_main_v22, Cert.Reference11Ideal.Read.val_main_v23]

/-- The call's array of the new first moment: the reference's. -/
abbrev res5 (c : Dev nD) : Buf (Elt Ideal) ((c : Thread nD τ).loc main_v0_1) := Cert.Reference11Ideal.Read.val_main_v4 (F := Ideal) (A1 m c) (A2 m c)

/-- The array after the run. -/
theorem fin5 (c : Dev nD) : (dats m 0 c).arrAt 5 cfg0.N = res5 m c := by
  refine (final5 m c).trans (funext fun i => ?_)
  obtain ⟨p, q, rfl⟩ : ∃ (p : Fin 4) (q : Fin 1024), i = ix2 p q := ⟨i 0, i 1, eq_ix2 (n0 := 4) (n1 := 1024) i⟩
  unfold res5
  pointwise [Cert.Reference11Ideal.Read.val_main_cst, Cert.Reference11Ideal.Read.val_main_v0, Cert.Reference11Ideal.Read.val_main_v1, Cert.Reference11Ideal.Read.val_main_cst_0, Cert.Reference11Ideal.Read.val_main_v2, Cert.Reference11Ideal.Read.val_main_v3, Cert.Reference11Ideal.Read.val_main_v4, Cert.Reference11Ideal.Read.val_main_cst_1, Cert.Reference11Ideal.Read.val_main_v5, Cert.Reference11Ideal.Read.val_main_v6, Cert.Reference11Ideal.Read.val_main_v7, Cert.Reference11Ideal.Read.val_main_cst_2, Cert.Reference11Ideal.Read.val_main_v8, Cert.Reference11Ideal.Read.val_main_v9, Cert.Reference11Ideal.Read.val_main_v10, Cert.Reference11Ideal.Read.val_main_cst_3, Cert.Reference11Ideal.Read.val_main_v11, Cert.Reference11Ideal.Read.val_main_v12, Cert.Reference11Ideal.Read.val_main_cst_4, Cert.Reference11Ideal.Read.val_main_v13, Cert.Reference11Ideal.Read.val_main_v14, Cert.Reference11Ideal.Read.val_main_v15, Cert.Reference11Ideal.Read.val_main_cst_5, Cert.Reference11Ideal.Read.val_main_v16, Cert.Reference11Ideal.Read.val_main_v17, Cert.Reference11Ideal.Read.val_main_v18, Cert.Reference11Ideal.Read.val_main_cst_6, Cert.Reference11Ideal.Read.val_main_v19, Cert.Reference11Ideal.Read.val_main_v20, Cert.Reference11Ideal.Read.val_main_v21, Cert.Reference11Ideal.Read.val_main_cst_7, Cert.Reference11Ideal.Read.val_main_v22, Cert.Reference11Ideal.Read.val_main_v23]

/-- The call's array of the new second moment: the reference's. -/
abbrev res6 (c : Dev nD) : Buf (Elt Ideal) ((c : Thread nD τ).loc main_v0_2) := Cert.Reference11Ideal.Read.val_main_v10 (F := Ideal) (A1 m c) (A3 m c)

/-- The array after the run. -/
theorem fin6 (c : Dev nD) : (dats m 0 c).arrAt 6 cfg0.N = res6 m c := by
  refine (final6 m c).trans (funext fun i => ?_)
  obtain ⟨p, q, rfl⟩ : ∃ (p : Fin 4) (q : Fin 1024), i = ix2 p q := ⟨i 0, i 1, eq_ix2 (n0 := 4) (n1 := 1024) i⟩
  unfold res6
  pointwise [Cert.Reference11Ideal.Read.val_main_cst, Cert.Reference11Ideal.Read.val_main_v0, Cert.Reference11Ideal.Read.val_main_v1, Cert.Reference11Ideal.Read.val_main_cst_0, Cert.Reference11Ideal.Read.val_main_v2, Cert.Reference11Ideal.Read.val_main_v3, Cert.Reference11Ideal.Read.val_main_v4, Cert.Reference11Ideal.Read.val_main_cst_1, Cert.Reference11Ideal.Read.val_main_v5, Cert.Reference11Ideal.Read.val_main_v6, Cert.Reference11Ideal.Read.val_main_v7, Cert.Reference11Ideal.Read.val_main_cst_2, Cert.Reference11Ideal.Read.val_main_v8, Cert.Reference11Ideal.Read.val_main_v9, Cert.Reference11Ideal.Read.val_main_v10, Cert.Reference11Ideal.Read.val_main_cst_3, Cert.Reference11Ideal.Read.val_main_v11, Cert.Reference11Ideal.Read.val_main_v12, Cert.Reference11Ideal.Read.val_main_cst_4, Cert.Reference11Ideal.Read.val_main_v13, Cert.Reference11Ideal.Read.val_main_v14, Cert.Reference11Ideal.Read.val_main_v15, Cert.Reference11Ideal.Read.val_main_cst_5, Cert.Reference11Ideal.Read.val_main_v16, Cert.Reference11Ideal.Read.val_main_v17, Cert.Reference11Ideal.Read.val_main_v18, Cert.Reference11Ideal.Read.val_main_cst_6, Cert.Reference11Ideal.Read.val_main_v19, Cert.Reference11Ideal.Read.val_main_v20, Cert.Reference11Ideal.Read.val_main_v21, Cert.Reference11Ideal.Read.val_main_cst_7, Cert.Reference11Ideal.Read.val_main_v22, Cert.Reference11Ideal.Read.val_main_v23]

end Cert.Kernel11Ideal.Value

namespace Cert.Proof.AdamGain
open Cert.Kernel11Ideal.Value

variable (m' : (ℓ : Loc Cert.Reference11Ideal.nD Cert.Reference11Ideal.τ Cert.Reference11Ideal.sig) → Buf (Elt Ideal) ℓ) (g' : Dev Cert.Reference11Ideal.nD → PrngReg)

/-- The reference's run: each result is its last stage over the arguments, and the arguments are kept. -/
theorem ref_run : θ_run (Cert.Reference11Ideal.defs (F := Ideal)) (onTc (τ := Cert.Reference11Ideal.τ) (Cert.Reference11Ideal.main (F := Ideal))) ⟨m', fun _ => 0, g'⟩ fun r =>
    ∀ c : Dev Cert.Reference11Ideal.nD,
      r.2.mem ((c.tc : Thread Cert.Reference11Ideal.nD Cert.Reference11Ideal.τ).loc Cert.Reference11Ideal.main_v23) = Cert.Reference11Ideal.Read.val_main_v23 (m' (c.tc.loc Cert.Reference11Ideal.main_arg0)) (m' (c.tc.loc Cert.Reference11Ideal.main_arg1)) (m' (c.tc.loc Cert.Reference11Ideal.main_arg2)) (m' (c.tc.loc Cert.Reference11Ideal.main_arg3))
      ∧ r.2.mem ((c.tc : Thread Cert.Reference11Ideal.nD Cert.Reference11Ideal.τ).loc Cert.Reference11Ideal.main_v4) = Cert.Reference11Ideal.Read.val_main_v4 (m' (c.tc.loc Cert.Reference11Ideal.main_arg1)) (m' (c.tc.loc Cert.Reference11Ideal.main_arg2))
      ∧ r.2.mem ((c.tc : Thread Cert.Reference11Ideal.nD Cert.Reference11Ideal.τ).loc Cert.Reference11Ideal.main_v10) = Cert.Reference11Ideal.Read.val_main_v10 (m' (c.tc.loc Cert.Reference11Ideal.main_arg1)) (m' (c.tc.loc Cert.Reference11Ideal.main_arg3))
      ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3) :=
  (θ_run Cert.Reference11Ideal.defs _ _).mono (fun r hr c => ⟨
    (hr c).1.trans (Cert.Reference11Ideal.Read.val_main_v23_eq _ _ _ _),
    (hr c).2.1.trans (Cert.Reference11Ideal.Read.val_main_v4_eq _ _),
    (hr c).2.2.1.trans (Cert.Reference11Ideal.Read.val_main_v10_eq _ _),
    (hr c).2.2.2⟩) (Cert.Reference11Ideal.Value.run m' g')

/-- Over the extended reals the call ends with the reference's results. -/
theorem algebraic : Cert.algebraic_Kernel11Ideal_Reference11Ideal (hKernel11Ideal := Cert.Kernel11Ideal.Gen.facts) (hReference11Ideal := Cert.Reference11Ideal.Gen.facts) := by
  intro m g m' g' _ h
  refine ⟨fun c => res4 m c, fun c => res5 m c, fun c => res6 m c, ?_, ?_⟩
  · refine (θ_run Cert.Kernel11Ideal.defs _ _).mono (fun r hr c => ?_) (Cert.Kernel11Ideal.Value.run_blocks m g)
    obtain ⟨h0, h1, h2, hk⟩ := hr c
    exact ⟨h0.trans (fin4 m c), h1.trans (fin5 m c), h2.trans (fin6 m c), hk⟩
  · refine (θ_run Cert.Reference11Ideal.defs _ _).mono (fun r hr c => ?_) (ref_run m' g')
    obtain ⟨h0, h1, h2, hk⟩ := hr c
    obtain ⟨a0, a1, a2, a3⟩ := h c
    rw [a0, a1, a2, a3] at h0
    rw [a1, a2] at h1
    rw [a1, a3] at h2
    exact ⟨h0, h1, h2, hk⟩

/-- The reference's frame: it declares no semaphore. -/
theorem frame_ref : Cert.quiescent_Reference11Ideal (hReference11Ideal := Cert.Reference11Ideal.Gen.facts) := by
  intro m g _
  exact (θ_run Cert.Reference11Ideal.defs _ _).mono (fun r h => ⟨fun c => (h c).2.2.2, sem_eq_zero_of_no_sems (by decide) r.2⟩) (ref_run m g)

end Cert.Proof.AdamGain

end
-- ==== Proof.AdamBias.lean ====
/- One step of the optimiser on the convolution bias: the update and the two new moments. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Rms
public import Idealize.ShloMosaic.Lib.Tactic
public import Idealize.ShloMosaic.Adequacy

@[expose] public section

noncomputable section

open Idealize.ShloMosaic Idealize.ShloMosaic.TcCoe Idealize.SL.Sem Cert.Alg

namespace Cert.Kernel12Ideal.Value
open Cert.Kernel12Ideal Cert.Kernel12Ideal.Gen

variable (m : (ℓ : Loc nD τ sig) → Buf (Elt Ideal) ℓ)

/-- The weights. -/
abbrev A0 (c : Dev nD) : Vec Ideal S4x1536 .f32 := m ((c : Thread nD τ).loc main_arg0)
/-- The gradient. -/
abbrev A1 (c : Dev nD) : Vec Ideal S4x1536 .f32 := m ((c : Thread nD τ).loc main_arg1)
/-- The first moment. -/
abbrev A2 (c : Dev nD) : Vec Ideal S4x1536 .f32 := m ((c : Thread nD τ).loc main_arg2)
/-- The second moment. -/
abbrev A3 (c : Dev nD) : Vec Ideal S4x1536 .f32 := m ((c : Thread nD τ).loc main_arg3)

/-- The call's array of the update: the reference's. -/
abbrev res4 (c : Dev nD) : Buf (Elt Ideal) ((c : Thread nD τ).loc main_v0_0) := Cert.Reference12Ideal.Read.val_main_v23 (F := Ideal) (A0 m c) (A1 m c) (A2 m c) (A3 m c)

/-- The array after the run. -/
theorem fin4 (c : Dev nD) : (dats m 0 c).arrAt 4 cfg0.N = res4 m c := by
  refine (final4 m c).trans (funext fun i => ?_)
  obtain ⟨p, q, rfl⟩ : ∃ (p : Fin 4) (q : Fin 1536), i = ix2 p q := ⟨i 0, i 1, eq_ix2 (n0 := 4) (n1 := 1536) i⟩
  unfold res4
  pointwise [Cert.Reference12Ideal.Read.val_main_cst, Cert.Reference12Ideal.Read.val_main_v0, Cert.Reference12Ideal.Read.val_main_v1, Cert.Reference12Ideal.Read.val_main_cst_0, Cert.Reference12Ideal.Read.val_main_v2, Cert.Reference12Ideal.Read.val_main_v3, Cert.Reference12Ideal.Read.val_main_v4, Cert.Reference12Ideal.Read.val_main_cst_1, Cert.Reference12Ideal.Read.val_main_v5, Cert.Reference12Ideal.Read.val_main_v6, Cert.Reference12Ideal.Read.val_main_v7, Cert.Reference12Ideal.Read.val_main_cst_2, Cert.Reference12Ideal.Read.val_main_v8, Cert.Reference12Ideal.Read.val_main_v9, Cert.Reference12Ideal.Read.val_main_v10, Cert.Reference12Ideal.Read.val_main_cst_3, Cert.Reference12Ideal.Read.val_main_v11, Cert.Reference12Ideal.Read.val_main_v12, Cert.Reference12Ideal.Read.val_main_cst_4, Cert.Reference12Ideal.Read.val_main_v13, Cert.Reference12Ideal.Read.val_main_v14, Cert.Reference12Ideal.Read.val_main_v15, Cert.Reference12Ideal.Read.val_main_cst_5, Cert.Reference12Ideal.Read.val_main_v16, Cert.Reference12Ideal.Read.val_main_v17, Cert.Reference12Ideal.Read.val_main_v18, Cert.Reference12Ideal.Read.val_main_cst_6, Cert.Reference12Ideal.Read.val_main_v19, Cert.Reference12Ideal.Read.val_main_v20, Cert.Reference12Ideal.Read.val_main_v21, Cert.Reference12Ideal.Read.val_main_cst_7, Cert.Reference12Ideal.Read.val_main_v22, Cert.Reference12Ideal.Read.val_main_v23]

/-- The call's array of the new first moment: the reference's. -/
abbrev res5 (c : Dev nD) : Buf (Elt Ideal) ((c : Thread nD τ).loc main_v0_1) := Cert.Reference12Ideal.Read.val_main_v4 (F := Ideal) (A1 m c) (A2 m c)

/-- The array after the run. -/
theorem fin5 (c : Dev nD) : (dats m 0 c).arrAt 5 cfg0.N = res5 m c := by
  refine (final5 m c).trans (funext fun i => ?_)
  obtain ⟨p, q, rfl⟩ : ∃ (p : Fin 4) (q : Fin 1536), i = ix2 p q := ⟨i 0, i 1, eq_ix2 (n0 := 4) (n1 := 1536) i⟩
  unfold res5
  pointwise [Cert.Reference12Ideal.Read.val_main_cst, Cert.Reference12Ideal.Read.val_main_v0, Cert.Reference12Ideal.Read.val_main_v1, Cert.Reference12Ideal.Read.val_main_cst_0, Cert.Reference12Ideal.Read.val_main_v2, Cert.Reference12Ideal.Read.val_main_v3, Cert.Reference12Ideal.Read.val_main_v4, Cert.Reference12Ideal.Read.val_main_cst_1, Cert.Reference12Ideal.Read.val_main_v5, Cert.Reference12Ideal.Read.val_main_v6, Cert.Reference12Ideal.Read.val_main_v7, Cert.Reference12Ideal.Read.val_main_cst_2, Cert.Reference12Ideal.Read.val_main_v8, Cert.Reference12Ideal.Read.val_main_v9, Cert.Reference12Ideal.Read.val_main_v10, Cert.Reference12Ideal.Read.val_main_cst_3, Cert.Reference12Ideal.Read.val_main_v11, Cert.Reference12Ideal.Read.val_main_v12, Cert.Reference12Ideal.Read.val_main_cst_4, Cert.Reference12Ideal.Read.val_main_v13, Cert.Reference12Ideal.Read.val_main_v14, Cert.Reference12Ideal.Read.val_main_v15, Cert.Reference12Ideal.Read.val_main_cst_5, Cert.Reference12Ideal.Read.val_main_v16, Cert.Reference12Ideal.Read.val_main_v17, Cert.Reference12Ideal.Read.val_main_v18, Cert.Reference12Ideal.Read.val_main_cst_6, Cert.Reference12Ideal.Read.val_main_v19, Cert.Reference12Ideal.Read.val_main_v20, Cert.Reference12Ideal.Read.val_main_v21, Cert.Reference12Ideal.Read.val_main_cst_7, Cert.Reference12Ideal.Read.val_main_v22, Cert.Reference12Ideal.Read.val_main_v23]

/-- The call's array of the new second moment: the reference's. -/
abbrev res6 (c : Dev nD) : Buf (Elt Ideal) ((c : Thread nD τ).loc main_v0_2) := Cert.Reference12Ideal.Read.val_main_v10 (F := Ideal) (A1 m c) (A3 m c)

/-- The array after the run. -/
theorem fin6 (c : Dev nD) : (dats m 0 c).arrAt 6 cfg0.N = res6 m c := by
  refine (final6 m c).trans (funext fun i => ?_)
  obtain ⟨p, q, rfl⟩ : ∃ (p : Fin 4) (q : Fin 1536), i = ix2 p q := ⟨i 0, i 1, eq_ix2 (n0 := 4) (n1 := 1536) i⟩
  unfold res6
  pointwise [Cert.Reference12Ideal.Read.val_main_cst, Cert.Reference12Ideal.Read.val_main_v0, Cert.Reference12Ideal.Read.val_main_v1, Cert.Reference12Ideal.Read.val_main_cst_0, Cert.Reference12Ideal.Read.val_main_v2, Cert.Reference12Ideal.Read.val_main_v3, Cert.Reference12Ideal.Read.val_main_v4, Cert.Reference12Ideal.Read.val_main_cst_1, Cert.Reference12Ideal.Read.val_main_v5, Cert.Reference12Ideal.Read.val_main_v6, Cert.Reference12Ideal.Read.val_main_v7, Cert.Reference12Ideal.Read.val_main_cst_2, Cert.Reference12Ideal.Read.val_main_v8, Cert.Reference12Ideal.Read.val_main_v9, Cert.Reference12Ideal.Read.val_main_v10, Cert.Reference12Ideal.Read.val_main_cst_3, Cert.Reference12Ideal.Read.val_main_v11, Cert.Reference12Ideal.Read.val_main_v12, Cert.Reference12Ideal.Read.val_main_cst_4, Cert.Reference12Ideal.Read.val_main_v13, Cert.Reference12Ideal.Read.val_main_v14, Cert.Reference12Ideal.Read.val_main_v15, Cert.Reference12Ideal.Read.val_main_cst_5, Cert.Reference12Ideal.Read.val_main_v16, Cert.Reference12Ideal.Read.val_main_v17, Cert.Reference12Ideal.Read.val_main_v18, Cert.Reference12Ideal.Read.val_main_cst_6, Cert.Reference12Ideal.Read.val_main_v19, Cert.Reference12Ideal.Read.val_main_v20, Cert.Reference12Ideal.Read.val_main_v21, Cert.Reference12Ideal.Read.val_main_cst_7, Cert.Reference12Ideal.Read.val_main_v22, Cert.Reference12Ideal.Read.val_main_v23]

end Cert.Kernel12Ideal.Value

namespace Cert.Proof.AdamBias
open Cert.Kernel12Ideal.Value

variable (m' : (ℓ : Loc Cert.Reference12Ideal.nD Cert.Reference12Ideal.τ Cert.Reference12Ideal.sig) → Buf (Elt Ideal) ℓ) (g' : Dev Cert.Reference12Ideal.nD → PrngReg)

/-- The reference's run: each result is its last stage over the arguments, and the arguments are kept. -/
theorem ref_run : θ_run (Cert.Reference12Ideal.defs (F := Ideal)) (onTc (τ := Cert.Reference12Ideal.τ) (Cert.Reference12Ideal.main (F := Ideal))) ⟨m', fun _ => 0, g'⟩ fun r =>
    ∀ c : Dev Cert.Reference12Ideal.nD,
      r.2.mem ((c.tc : Thread Cert.Reference12Ideal.nD Cert.Reference12Ideal.τ).loc Cert.Reference12Ideal.main_v23) = Cert.Reference12Ideal.Read.val_main_v23 (m' (c.tc.loc Cert.Reference12Ideal.main_arg0)) (m' (c.tc.loc Cert.Reference12Ideal.main_arg1)) (m' (c.tc.loc Cert.Reference12Ideal.main_arg2)) (m' (c.tc.loc Cert.Reference12Ideal.main_arg3))
      ∧ r.2.mem ((c.tc : Thread Cert.Reference12Ideal.nD Cert.Reference12Ideal.τ).loc Cert.Reference12Ideal.main_v4) = Cert.Reference12Ideal.Read.val_main_v4 (m' (c.tc.loc Cert.Reference12Ideal.main_arg1)) (m' (c.tc.loc Cert.Reference12Ideal.main_arg2))
      ∧ r.2.mem ((c.tc : Thread Cert.Reference12Ideal.nD Cert.Reference12Ideal.τ).loc Cert.Reference12Ideal.main_v10) = Cert.Reference12Ideal.Read.val_main_v10 (m' (c.tc.loc Cert.Reference12Ideal.main_arg1)) (m' (c.tc.loc Cert.Reference12Ideal.main_arg3))
      ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3) :=
  (θ_run Cert.Reference12Ideal.defs _ _).mono (fun r hr c => ⟨
    (hr c).1.trans (Cert.Reference12Ideal.Read.val_main_v23_eq _ _ _ _),
    (hr c).2.1.trans (Cert.Reference12Ideal.Read.val_main_v4_eq _ _),
    (hr c).2.2.1.trans (Cert.Reference12Ideal.Read.val_main_v10_eq _ _),
    (hr c).2.2.2⟩) (Cert.Reference12Ideal.Value.run m' g')

/-- Over the extended reals the call ends with the reference's results. -/
theorem algebraic : Cert.algebraic_Kernel12Ideal_Reference12Ideal (hKernel12Ideal := Cert.Kernel12Ideal.Gen.facts) (hReference12Ideal := Cert.Reference12Ideal.Gen.facts) := by
  intro m g m' g' _ h
  refine ⟨fun c => res4 m c, fun c => res5 m c, fun c => res6 m c, ?_, ?_⟩
  · refine (θ_run Cert.Kernel12Ideal.defs _ _).mono (fun r hr c => ?_) (Cert.Kernel12Ideal.Value.run_blocks m g)
    obtain ⟨h0, h1, h2, hk⟩ := hr c
    exact ⟨h0.trans (fin4 m c), h1.trans (fin5 m c), h2.trans (fin6 m c), hk⟩
  · refine (θ_run Cert.Reference12Ideal.defs _ _).mono (fun r hr c => ?_) (ref_run m' g')
    obtain ⟨h0, h1, h2, hk⟩ := hr c
    obtain ⟨a0, a1, a2, a3⟩ := h c
    rw [a0, a1, a2, a3] at h0
    rw [a1, a2] at h1
    rw [a1, a3] at h2
    exact ⟨h0, h1, h2, hk⟩

/-- The reference's frame: it declares no semaphore. -/
theorem frame_ref : Cert.quiescent_Reference12Ideal (hReference12Ideal := Cert.Reference12Ideal.Gen.facts) := by
  intro m g _
  exact (θ_run Cert.Reference12Ideal.defs _ _).mono (fun r h => ⟨fun c => (h c).2.2.2, sem_eq_zero_of_no_sems (by decide) r.2⟩) (ref_run m g)

end Cert.Proof.AdamBias

end
-- ==== Proof.AdamTapA.lean ====
/- One step of the optimiser on the short convolution's taps: the update and the two new moments. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Rms
public import Idealize.ShloMosaic.Lib.Tactic
public import Idealize.ShloMosaic.Adequacy

@[expose] public section

noncomputable section

open Idealize.ShloMosaic Idealize.ShloMosaic.TcCoe Idealize.SL.Sem Cert.Alg

namespace Cert.Kernel13Ideal.Value
open Cert.Kernel13Ideal Cert.Kernel13Ideal.Gen

theorem hz : (![0, 0] : Fin 2 → Nat) = fun _ => 0 := funext fun a => by fin_cases a <;> rfl

variable (m : (ℓ : Loc nD τ sig) → Buf (Elt Ideal) ℓ)

/-- The weights. -/
abbrev A0 (c : Dev nD) : Vec Ideal S4x3x256 .f32 := m ((c : Thread nD τ).loc main_arg0)
/-- The gradient. -/
abbrev A1 (c : Dev nD) : Vec Ideal S4x3x256 .f32 := m ((c : Thread nD τ).loc main_arg1)
/-- The first moment. -/
abbrev A2 (c : Dev nD) : Vec Ideal S4x3x256 .f32 := m ((c : Thread nD τ).loc main_arg2)
/-- The second moment. -/
abbrev A3 (c : Dev nD) : Vec Ideal S4x3x256 .f32 := m ((c : Thread nD τ).loc main_arg3)

/-- Array 0 as the call takes it. -/
theorem V_in0 (c : Dev nD) : (V m c main_v0 : Vec Ideal S12x256 .f32) = shapeCast S12x256 (A0 m c) shapeCasts_S4x3x256_S12x256 := by
  dsimp only [V, hostOps0, List.flatten_cons, List.flatten_nil, List.append_nil, List.cons_append, List.nil_append]
  after_results
  rfl

/-- The one block of array 0. -/
theorem b0 (c : Dev nD) (t : Fin cfg0.N) : (iblk m c 0 t : Vec Ideal S12x256 .f32) = shapeCast S12x256 (A0 m c) shapeCasts_S4x3x256_S12x256 := by
  funext j
  obtain ⟨p, q, rfl⟩ : ∃ (p : Fin 12) (q : Fin 256), j = ix2 p q := ⟨j 0, j 1, eq_ix2 (n0 := 12) (n1 := 256) j⟩
  unfold iblk
  rw [View.read_apply]
  show (V m c main_v0 : Vec Ideal S12x256 .f32) _ = _
  rw [V_in0]
  congr 1
  funext a
  apply Fin.ext
  have hi : win0_0.index t 0 = 0 ∧ win0_0.index t 1 = 0 := (by decide +kernel : ∀ t : Fin grid0.N, win0_0.index t 0 = 0 ∧ win0_0.index t 1 = 0) t
  match a with
  | ⟨0, _⟩ => show win0_0.index t 0 * 12 + 1 * p.val = p.val; rw [hi.1]; omega
  | ⟨1, _⟩ => show win0_0.index t 1 * 256 + 1 * q.val = q.val; rw [hi.2]; omega

/-- Array 1 as the call takes it. -/
theorem V_in1 (c : Dev nD) : (V m c main_v1 : Vec Ideal S12x256 .f32) = shapeCast S12x256 (A1 m c) shapeCasts_S4x3x256_S12x256 := by
  dsimp only [V, hostOps0, List.flatten_cons, List.flatten_nil, List.append_nil, List.cons_append, List.nil_append]
  after_results
  rfl

/-- The one block of array 1. -/
theorem b1 (c : Dev nD) (t : Fin cfg0.N) : (iblk m c 1 t : Vec Ideal S12x256 .f32) = shapeCast S12x256 (A1 m c) shapeCasts_S4x3x256_S12x256 := by
  funext j
  obtain ⟨p, q, rfl⟩ : ∃ (p : Fin 12) (q : Fin 256), j = ix2 p q := ⟨j 0, j 1, eq_ix2 (n0 := 12) (n1 := 256) j⟩
  unfold iblk
  rw [View.read_apply]
  show (V m c main_v1 : Vec Ideal S12x256 .f32) _ = _
  rw [V_in1]
  congr 1
  funext a
  apply Fin.ext
  have hi : win0_1.index t 0 = 0 ∧ win0_1.index t 1 = 0 := (by decide +kernel : ∀ t : Fin grid0.N, win0_1.index t 0 = 0 ∧ win0_1.index t 1 = 0) t
  match a with
  | ⟨0, _⟩ => show win0_1.index t 0 * 12 + 1 * p.val = p.val; rw [hi.1]; omega
  | ⟨1, _⟩ => show win0_1.index t 1 * 256 + 1 * q.val = q.val; rw [hi.2]; omega

/-- Array 2 as the call takes it. -/
theorem V_in2 (c : Dev nD) : (V m c main_v2 : Vec Ideal S12x256 .f32) = shapeCast S12x256 (A2 m c) shapeCasts_S4x3x256_S12x256 := by
  dsimp only [V, hostOps0, List.flatten_cons, List.flatten_nil, List.append_nil, List.cons_append, List.nil_append]
  after_results
  rfl

/-- The one block of array 2. -/
theorem b2 (c : Dev nD) (t : Fin cfg0.N) : (iblk m c 2 t : Vec Ideal S12x256 .f32) = shapeCast S12x256 (A2 m c) shapeCasts_S4x3x256_S12x256 := by
  funext j
  obtain ⟨p, q, rfl⟩ : ∃ (p : Fin 12) (q : Fin 256), j = ix2 p q := ⟨j 0, j 1, eq_ix2 (n0 := 12) (n1 := 256) j⟩
  unfold iblk
  rw [View.read_apply]
  show (V m c main_v2 : Vec Ideal S12x256 .f32) _ = _
  rw [V_in2]
  congr 1
  funext a
  apply Fin.ext
  have hi : win0_2.index t 0 = 0 ∧ win0_2.index t 1 = 0 := (by decide +kernel : ∀ t : Fin grid0.N, win0_2.index t 0 = 0 ∧ win0_2.index t 1 = 0) t
  match a with
  | ⟨0, _⟩ => show win0_2.index t 0 * 12 + 1 * p.val = p.val; rw [hi.1]; omega
  | ⟨1, _⟩ => show win0_2.index t 1 * 256 + 1 * q.val = q.val; rw [hi.2]; omega

/-- Array 3 as the call takes it. -/
theorem V_in3 (c : Dev nD) : (V m c main_v3 : Vec Ideal S12x256 .f32) = shapeCast S12x256 (A3 m c) shapeCasts_S4x3x256_S12x256 := by
  dsimp only [V, hostOps0, List.flatten_cons, List.flatten_nil, List.append_nil, List.cons_append, List.nil_append]
  after_results
  rfl

/-- The one block of array 3. -/
theorem b3 (c : Dev nD) (t : Fin cfg0.N) : (iblk m c 3 t : Vec Ideal S12x256 .f32) = shapeCast S12x256 (A3 m c) shapeCasts_S4x3x256_S12x256 := by
  funext j
  obtain ⟨p, q, rfl⟩ : ∃ (p : Fin 12) (q : Fin 256), j = ix2 p q := ⟨j 0, j 1, eq_ix2 (n0 := 12) (n1 := 256) j⟩
  unfold iblk
  rw [View.read_apply]
  show (V m c main_v3 : Vec Ideal S12x256 .f32) _ = _
  rw [V_in3]
  congr 1
  funext a
  apply Fin.ext
  have hi : win0_3.index t 0 = 0 ∧ win0_3.index t 1 = 0 := (by decide +kernel : ∀ t : Fin grid0.N, win0_3.index t 0 = 0 ∧ win0_3.index t 1 = 0) t
  match a with
  | ⟨0, _⟩ => show win0_3.index t 0 * 12 + 1 * p.val = p.val; rw [hi.1]; omega
  | ⟨1, _⟩ => show win0_3.index t 1 * 256 + 1 * q.val = q.val; rw [hi.2]; omega

/-- The call's array of the update: the reference's. -/
abbrev res4 (c : Dev nD) : Buf (Elt Ideal) ((c : Thread nD τ).loc main_v4_0) := Cert.Reference13Ideal.Read.val_main_v24 (F := Ideal) (A0 m c) (A1 m c) (A2 m c) (A3 m c)

/-- The one point writes back the update. -/
theorem wrote4 (c : Dev nD) (t : Fin cfg0.N) (hf : (cfg0.win 4).flush t = true) :
    (dats m 0 c).flushed 4 t = ((cfg0.win 4).blk t).view.read (Elt Ideal) (res4 m c) := by
  rw [flushed4]
  unfold out0_4
  rw [View.canon_unit_zero hz]
  simp only [View.ld_unit_zero (S := S12x256) hz]
  funext j
  obtain ⟨p, q, rfl⟩ : ∃ (p : Fin 12) (q : Fin 256), j = ix2 p q := ⟨j 0, j 1, eq_ix2 (n0 := 12) (n1 := 256) j⟩
  rw [View.read_apply]
  have e : ((cfg0.win 4).blk t).view.emb (ix2 p q) = ix2 p q := by
    have hi := (by decide +kernel : ∀ t : Fin grid0.N, win0_4.index t 0 = 0 ∧ win0_4.index t 1 = 0) t
    funext a
    apply Fin.ext
    match a with
    | ⟨0, _⟩ => show win0_4.index t 0 * 12 + 1 * p.val = p.val; rw [hi.1]; omega
    | ⟨1, _⟩ => show win0_4.index t 1 * 256 + 1 * q.val = q.val; rw [hi.2]; omega
  rw [e]
  rw [b0, b1, b2, b3]
  show k0_pay4 (shapeCast S12x256 (A1 m c) shapeCasts_S4x3x256_S12x256) (shapeCast S12x256 (A2 m c) shapeCasts_S4x3x256_S12x256) (shapeCast S12x256 (A3 m c) shapeCasts_S4x3x256_S12x256) (shapeCast S12x256 (A0 m c) shapeCasts_S4x3x256_S12x256) (ix2 p q) = res4 m c (ix2 p q)
  unfold res4
  unfold_payloads
  pointwise [Cert.Reference13Ideal.Read.val_main_cst, Cert.Reference13Ideal.Read.val_main_v0, Cert.Reference13Ideal.Read.val_main_v1, Cert.Reference13Ideal.Read.val_main_cst_0, Cert.Reference13Ideal.Read.val_main_v2, Cert.Reference13Ideal.Read.val_main_v3, Cert.Reference13Ideal.Read.val_main_v4, Cert.Reference13Ideal.Read.val_main_cst_1, Cert.Reference13Ideal.Read.val_main_v5, Cert.Reference13Ideal.Read.val_main_v6, Cert.Reference13Ideal.Read.val_main_v7, Cert.Reference13Ideal.Read.val_main_cst_2, Cert.Reference13Ideal.Read.val_main_v8, Cert.Reference13Ideal.Read.val_main_v9, Cert.Reference13Ideal.Read.val_main_v10, Cert.Reference13Ideal.Read.val_main_cst_3, Cert.Reference13Ideal.Read.val_main_v11, Cert.Reference13Ideal.Read.val_main_v12, Cert.Reference13Ideal.Read.val_main_cst_4, Cert.Reference13Ideal.Read.val_main_v13, Cert.Reference13Ideal.Read.val_main_v14, Cert.Reference13Ideal.Read.val_main_v15, Cert.Reference13Ideal.Read.val_main_cst_5, Cert.Reference13Ideal.Read.val_main_v16, Cert.Reference13Ideal.Read.val_main_v17, Cert.Reference13Ideal.Read.val_main_v18, Cert.Reference13Ideal.Read.val_main_cst_6, Cert.Reference13Ideal.Read.val_main_v19, Cert.Reference13Ideal.Read.val_main_v20, Cert.Reference13Ideal.Read.val_main_v21, Cert.Reference13Ideal.Read.val_main_cst_7, Cert.Reference13Ideal.Read.val_main_v22, Cert.Reference13Ideal.Read.val_main_v23, Cert.Reference13Ideal.Read.val_main_v24, Cert.Reference13Ideal.Read.val_main_v25, Cert.Reference13Ideal.Read.val_main_v26]

/-- The array after the run. -/
theorem fin4 (c : Dev nD) : (dats m 0 c).arrAt 4 cfg0.N = res4 m c :=
  (dats m 0 c).arrAt_eq_of_cover 4 (res4 m c) (wrote4 m c) fun i => by
    have h0 : (i 0 : Nat) < 12 := (i 0).isLt
    have h1 : (i 1 : Nat) < 256 := (i 1).isLt
    refine ⟨t0_0, flush0_4 _, ?_⟩
    show i ∈ ((View.whole main_v4_0).slice (win0_4.rect t0_0)).set
    rw [View.set_slice_whole, Rect.mem_set_unit]
    have hi : win0_4.index t0_0 0 = 0 ∧ win0_4.index t0_0 1 = 0 := by decide +kernel
    intro a
    match a with
    | ⟨0, _⟩ => show win0_4.index t0_0 0 * 12 ≤ (i 0 : Nat) ∧ (i 0 : Nat) < win0_4.index t0_0 0 * 12 + 12
                rw [hi.1]; omega
    | ⟨1, _⟩ => show win0_4.index t0_0 1 * 256 ≤ (i 1 : Nat) ∧ (i 1 : Nat) < win0_4.index t0_0 1 * 256 + 256
                rw [hi.2]; omega

/-- The call's array of the new first moment: the reference's. -/
abbrev res5 (c : Dev nD) : Buf (Elt Ideal) ((c : Thread nD τ).loc main_v4_1) := Cert.Reference13Ideal.Read.val_main_v25 (F := Ideal) (A1 m c) (A2 m c)

/-- The one point writes back the new first moment. -/
theorem wrote5 (c : Dev nD) (t : Fin cfg0.N) (hf : (cfg0.win 5).flush t = true) :
    (dats m 0 c).flushed 5 t = ((cfg0.win 5).blk t).view.read (Elt Ideal) (res5 m c) := by
  rw [flushed5]
  unfold out0_5
  rw [View.canon_unit_zero hz]
  simp only [View.ld_unit_zero (S := S12x256) hz]
  funext j
  obtain ⟨p, q, rfl⟩ : ∃ (p : Fin 12) (q : Fin 256), j = ix2 p q := ⟨j 0, j 1, eq_ix2 (n0 := 12) (n1 := 256) j⟩
  rw [View.read_apply]
  have e : ((cfg0.win 5).blk t).view.emb (ix2 p q) = ix2 p q := by
    have hi := (by decide +kernel : ∀ t : Fin grid0.N, win0_5.index t 0 = 0 ∧ win0_5.index t 1 = 0) t
    funext a
    apply Fin.ext
    match a with
    | ⟨0, _⟩ => show win0_5.index t 0 * 12 + 1 * p.val = p.val; rw [hi.1]; omega
    | ⟨1, _⟩ => show win0_5.index t 1 * 256 + 1 * q.val = q.val; rw [hi.2]; omega
  rw [e]
  rw [b1, b2]
  show k0_pay2 (shapeCast S12x256 (A1 m c) shapeCasts_S4x3x256_S12x256) (shapeCast S12x256 (A2 m c) shapeCasts_S4x3x256_S12x256) (ix2 p q) = res5 m c (ix2 p q)
  unfold res5
  unfold_payloads
  pointwise [Cert.Reference13Ideal.Read.val_main_cst, Cert.Reference13Ideal.Read.val_main_v0, Cert.Reference13Ideal.Read.val_main_v1, Cert.Reference13Ideal.Read.val_main_cst_0, Cert.Reference13Ideal.Read.val_main_v2, Cert.Reference13Ideal.Read.val_main_v3, Cert.Reference13Ideal.Read.val_main_v4, Cert.Reference13Ideal.Read.val_main_cst_1, Cert.Reference13Ideal.Read.val_main_v5, Cert.Reference13Ideal.Read.val_main_v6, Cert.Reference13Ideal.Read.val_main_v7, Cert.Reference13Ideal.Read.val_main_cst_2, Cert.Reference13Ideal.Read.val_main_v8, Cert.Reference13Ideal.Read.val_main_v9, Cert.Reference13Ideal.Read.val_main_v10, Cert.Reference13Ideal.Read.val_main_cst_3, Cert.Reference13Ideal.Read.val_main_v11, Cert.Reference13Ideal.Read.val_main_v12, Cert.Reference13Ideal.Read.val_main_cst_4, Cert.Reference13Ideal.Read.val_main_v13, Cert.Reference13Ideal.Read.val_main_v14, Cert.Reference13Ideal.Read.val_main_v15, Cert.Reference13Ideal.Read.val_main_cst_5, Cert.Reference13Ideal.Read.val_main_v16, Cert.Reference13Ideal.Read.val_main_v17, Cert.Reference13Ideal.Read.val_main_v18, Cert.Reference13Ideal.Read.val_main_cst_6, Cert.Reference13Ideal.Read.val_main_v19, Cert.Reference13Ideal.Read.val_main_v20, Cert.Reference13Ideal.Read.val_main_v21, Cert.Reference13Ideal.Read.val_main_cst_7, Cert.Reference13Ideal.Read.val_main_v22, Cert.Reference13Ideal.Read.val_main_v23, Cert.Reference13Ideal.Read.val_main_v24, Cert.Reference13Ideal.Read.val_main_v25, Cert.Reference13Ideal.Read.val_main_v26]

/-- The array after the run. -/
theorem fin5 (c : Dev nD) : (dats m 0 c).arrAt 5 cfg0.N = res5 m c :=
  (dats m 0 c).arrAt_eq_of_cover 5 (res5 m c) (wrote5 m c) fun i => by
    have h0 : (i 0 : Nat) < 12 := (i 0).isLt
    have h1 : (i 1 : Nat) < 256 := (i 1).isLt
    refine ⟨t0_0, flush0_5 _, ?_⟩
    show i ∈ ((View.whole main_v4_1).slice (win0_5.rect t0_0)).set
    rw [View.set_slice_whole, Rect.mem_set_unit]
    have hi : win0_5.index t0_0 0 = 0 ∧ win0_5.index t0_0 1 = 0 := by decide +kernel
    intro a
    match a with
    | ⟨0, _⟩ => show win0_5.index t0_0 0 * 12 ≤ (i 0 : Nat) ∧ (i 0 : Nat) < win0_5.index t0_0 0 * 12 + 12
                rw [hi.1]; omega
    | ⟨1, _⟩ => show win0_5.index t0_0 1 * 256 ≤ (i 1 : Nat) ∧ (i 1 : Nat) < win0_5.index t0_0 1 * 256 + 256
                rw [hi.2]; omega

/-- The call's array of the new second moment: the reference's. -/
abbrev res6 (c : Dev nD) : Buf (Elt Ideal) ((c : Thread nD τ).loc main_v4_2) := Cert.Reference13Ideal.Read.val_main_v26 (F := Ideal) (A1 m c) (A3 m c)

/-- The one point writes back the new second moment. -/
theorem wrote6 (c : Dev nD) (t : Fin cfg0.N) (hf : (cfg0.win 6).flush t = true) :
    (dats m 0 c).flushed 6 t = ((cfg0.win 6).blk t).view.read (Elt Ideal) (res6 m c) := by
  rw [flushed6]
  unfold out0_6
  rw [View.canon_unit_zero hz]
  simp only [View.ld_unit_zero (S := S12x256) hz]
  funext j
  obtain ⟨p, q, rfl⟩ : ∃ (p : Fin 12) (q : Fin 256), j = ix2 p q := ⟨j 0, j 1, eq_ix2 (n0 := 12) (n1 := 256) j⟩
  rw [View.read_apply]
  have e : ((cfg0.win 6).blk t).view.emb (ix2 p q) = ix2 p q := by
    have hi := (by decide +kernel : ∀ t : Fin grid0.N, win0_6.index t 0 = 0 ∧ win0_6.index t 1 = 0) t
    funext a
    apply Fin.ext
    match a with
    | ⟨0, _⟩ => show win0_6.index t 0 * 12 + 1 * p.val = p.val; rw [hi.1]; omega
    | ⟨1, _⟩ => show win0_6.index t 1 * 256 + 1 * q.val = q.val; rw [hi.2]; omega
  rw [e]
  rw [b1, b3]
  show k0_pay3 (shapeCast S12x256 (A1 m c) shapeCasts_S4x3x256_S12x256) (shapeCast S12x256 (A3 m c) shapeCasts_S4x3x256_S12x256) (ix2 p q) = res6 m c (ix2 p q)
  unfold res6
  unfold_payloads
  pointwise [Cert.Reference13Ideal.Read.val_main_cst, Cert.Reference13Ideal.Read.val_main_v0, Cert.Reference13Ideal.Read.val_main_v1, Cert.Reference13Ideal.Read.val_main_cst_0, Cert.Reference13Ideal.Read.val_main_v2, Cert.Reference13Ideal.Read.val_main_v3, Cert.Reference13Ideal.Read.val_main_v4, Cert.Reference13Ideal.Read.val_main_cst_1, Cert.Reference13Ideal.Read.val_main_v5, Cert.Reference13Ideal.Read.val_main_v6, Cert.Reference13Ideal.Read.val_main_v7, Cert.Reference13Ideal.Read.val_main_cst_2, Cert.Reference13Ideal.Read.val_main_v8, Cert.Reference13Ideal.Read.val_main_v9, Cert.Reference13Ideal.Read.val_main_v10, Cert.Reference13Ideal.Read.val_main_cst_3, Cert.Reference13Ideal.Read.val_main_v11, Cert.Reference13Ideal.Read.val_main_v12, Cert.Reference13Ideal.Read.val_main_cst_4, Cert.Reference13Ideal.Read.val_main_v13, Cert.Reference13Ideal.Read.val_main_v14, Cert.Reference13Ideal.Read.val_main_v15, Cert.Reference13Ideal.Read.val_main_cst_5, Cert.Reference13Ideal.Read.val_main_v16, Cert.Reference13Ideal.Read.val_main_v17, Cert.Reference13Ideal.Read.val_main_v18, Cert.Reference13Ideal.Read.val_main_cst_6, Cert.Reference13Ideal.Read.val_main_v19, Cert.Reference13Ideal.Read.val_main_v20, Cert.Reference13Ideal.Read.val_main_v21, Cert.Reference13Ideal.Read.val_main_cst_7, Cert.Reference13Ideal.Read.val_main_v22, Cert.Reference13Ideal.Read.val_main_v23, Cert.Reference13Ideal.Read.val_main_v24, Cert.Reference13Ideal.Read.val_main_v25, Cert.Reference13Ideal.Read.val_main_v26]

/-- The array after the run. -/
theorem fin6 (c : Dev nD) : (dats m 0 c).arrAt 6 cfg0.N = res6 m c :=
  (dats m 0 c).arrAt_eq_of_cover 6 (res6 m c) (wrote6 m c) fun i => by
    have h0 : (i 0 : Nat) < 12 := (i 0).isLt
    have h1 : (i 1 : Nat) < 256 := (i 1).isLt
    refine ⟨t0_0, flush0_6 _, ?_⟩
    show i ∈ ((View.whole main_v4_2).slice (win0_6.rect t0_0)).set
    rw [View.set_slice_whole, Rect.mem_set_unit]
    have hi : win0_6.index t0_0 0 = 0 ∧ win0_6.index t0_0 1 = 0 := by decide +kernel
    intro a
    match a with
    | ⟨0, _⟩ => show win0_6.index t0_0 0 * 12 ≤ (i 0 : Nat) ∧ (i 0 : Nat) < win0_6.index t0_0 0 * 12 + 12
                rw [hi.1]; omega
    | ⟨1, _⟩ => show win0_6.index t0_0 1 * 256 ≤ (i 1 : Nat) ∧ (i 1 : Nat) < win0_6.index t0_0 1 * 256 + 256
                rw [hi.2]; omega

end Cert.Kernel13Ideal.Value

namespace Cert.Proof.AdamTapA
open Cert.Kernel13Ideal.Value

variable (m' : (ℓ : Loc Cert.Reference13Ideal.nD Cert.Reference13Ideal.τ Cert.Reference13Ideal.sig) → Buf (Elt Ideal) ℓ) (g' : Dev Cert.Reference13Ideal.nD → PrngReg)

/-- The reference's run: each result is its last stage over the arguments, and the arguments are kept. -/
theorem ref_run : θ_run (Cert.Reference13Ideal.defs (F := Ideal)) (onTc (τ := Cert.Reference13Ideal.τ) (Cert.Reference13Ideal.main (F := Ideal))) ⟨m', fun _ => 0, g'⟩ fun r =>
    ∀ c : Dev Cert.Reference13Ideal.nD,
      r.2.mem ((c.tc : Thread Cert.Reference13Ideal.nD Cert.Reference13Ideal.τ).loc Cert.Reference13Ideal.main_v24) = Cert.Reference13Ideal.Read.val_main_v24 (m' (c.tc.loc Cert.Reference13Ideal.main_arg0)) (m' (c.tc.loc Cert.Reference13Ideal.main_arg1)) (m' (c.tc.loc Cert.Reference13Ideal.main_arg2)) (m' (c.tc.loc Cert.Reference13Ideal.main_arg3))
      ∧ r.2.mem ((c.tc : Thread Cert.Reference13Ideal.nD Cert.Reference13Ideal.τ).loc Cert.Reference13Ideal.main_v25) = Cert.Reference13Ideal.Read.val_main_v25 (m' (c.tc.loc Cert.Reference13Ideal.main_arg1)) (m' (c.tc.loc Cert.Reference13Ideal.main_arg2))
      ∧ r.2.mem ((c.tc : Thread Cert.Reference13Ideal.nD Cert.Reference13Ideal.τ).loc Cert.Reference13Ideal.main_v26) = Cert.Reference13Ideal.Read.val_main_v26 (m' (c.tc.loc Cert.Reference13Ideal.main_arg1)) (m' (c.tc.loc Cert.Reference13Ideal.main_arg3))
      ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3) :=
  (θ_run Cert.Reference13Ideal.defs _ _).mono (fun r hr c => ⟨
    (hr c).1.trans (Cert.Reference13Ideal.Read.val_main_v24_eq _ _ _ _),
    (hr c).2.1.trans (Cert.Reference13Ideal.Read.val_main_v25_eq _ _),
    (hr c).2.2.1.trans (Cert.Reference13Ideal.Read.val_main_v26_eq _ _),
    (hr c).2.2.2⟩) (Cert.Reference13Ideal.Value.run m' g')

/-- Over the extended reals the call ends with the reference's results. -/
theorem algebraic : Cert.algebraic_Kernel13Ideal_Reference13Ideal (hKernel13Ideal := Cert.Kernel13Ideal.Gen.facts) (hReference13Ideal := Cert.Reference13Ideal.Gen.facts) := by
  intro m g m' g' _ h
  refine ⟨fun c => res4 m c, fun c => res5 m c, fun c => res6 m c, ?_, ?_⟩
  · refine (θ_run Cert.Kernel13Ideal.defs _ _).mono (fun r hr c => ?_) (Cert.Kernel13Ideal.Value.run_blocks m g)
    obtain ⟨h0, h1, h2, hk⟩ := hr c
    exact ⟨h0.trans (fin4 m c), h1.trans (fin5 m c), h2.trans (fin6 m c), hk⟩
  · refine (θ_run Cert.Reference13Ideal.defs _ _).mono (fun r hr c => ?_) (ref_run m' g')
    obtain ⟨h0, h1, h2, hk⟩ := hr c
    obtain ⟨a0, a1, a2, a3⟩ := h c
    rw [a0, a1, a2, a3] at h0
    rw [a1, a2] at h1
    rw [a1, a3] at h2
    exact ⟨h0, h1, h2, hk⟩

/-- The reference's frame: it declares no semaphore. -/
theorem frame_ref : Cert.quiescent_Reference13Ideal (hReference13Ideal := Cert.Reference13Ideal.Gen.facts) := by
  intro m g _
  exact (θ_run Cert.Reference13Ideal.defs _ _).mono (fun r h => ⟨fun c => (h c).2.2.2, sem_eq_zero_of_no_sems (by decide) r.2⟩) (ref_run m g)

end Cert.Proof.AdamTapA

end
-- ==== Proof.AdamTapS.lean ====
/- One step of the optimiser on the scan convolution's taps: the update and the two new moments. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Rms
public import Idealize.ShloMosaic.Lib.Tactic
public import Idealize.ShloMosaic.Adequacy

@[expose] public section

noncomputable section

open Idealize.ShloMosaic Idealize.ShloMosaic.TcCoe Idealize.SL.Sem Cert.Alg

namespace Cert.Kernel14Ideal.Value
open Cert.Kernel14Ideal Cert.Kernel14Ideal.Gen

theorem hz : (![0, 0] : Fin 2 → Nat) = fun _ => 0 := funext fun a => by fin_cases a <;> rfl

variable (m : (ℓ : Loc nD τ sig) → Buf (Elt Ideal) ℓ)

/-- The weights. -/
abbrev A0 (c : Dev nD) : Vec Ideal S4x4x384 .f32 := m ((c : Thread nD τ).loc main_arg0)
/-- The gradient. -/
abbrev A1 (c : Dev nD) : Vec Ideal S4x4x384 .f32 := m ((c : Thread nD τ).loc main_arg1)
/-- The first moment. -/
abbrev A2 (c : Dev nD) : Vec Ideal S4x4x384 .f32 := m ((c : Thread nD τ).loc main_arg2)
/-- The second moment. -/
abbrev A3 (c : Dev nD) : Vec Ideal S4x4x384 .f32 := m ((c : Thread nD τ).loc main_arg3)

/-- Array 0 as the call takes it. -/
theorem V_in0 (c : Dev nD) : (V m c main_v0 : Vec Ideal S16x384 .f32) = shapeCast S16x384 (A0 m c) shapeCasts_S4x4x384_S16x384 := by
  dsimp only [V, hostOps0, List.flatten_cons, List.flatten_nil, List.append_nil, List.cons_append, List.nil_append]
  after_results
  rfl

/-- The one block of array 0. -/
theorem b0 (c : Dev nD) (t : Fin cfg0.N) : (iblk m c 0 t : Vec Ideal S16x384 .f32) = shapeCast S16x384 (A0 m c) shapeCasts_S4x4x384_S16x384 := by
  funext j
  obtain ⟨p, q, rfl⟩ : ∃ (p : Fin 16) (q : Fin 384), j = ix2 p q := ⟨j 0, j 1, eq_ix2 (n0 := 16) (n1 := 384) j⟩
  unfold iblk
  rw [View.read_apply]
  show (V m c main_v0 : Vec Ideal S16x384 .f32) _ = _
  rw [V_in0]
  congr 1
  funext a
  apply Fin.ext
  have hi : win0_0.index t 0 = 0 ∧ win0_0.index t 1 = 0 := (by decide +kernel : ∀ t : Fin grid0.N, win0_0.index t 0 = 0 ∧ win0_0.index t 1 = 0) t
  match a with
  | ⟨0, _⟩ => show win0_0.index t 0 * 16 + 1 * p.val = p.val; rw [hi.1]; omega
  | ⟨1, _⟩ => show win0_0.index t 1 * 384 + 1 * q.val = q.val; rw [hi.2]; omega

/-- Array 1 as the call takes it. -/
theorem V_in1 (c : Dev nD) : (V m c main_v1 : Vec Ideal S16x384 .f32) = shapeCast S16x384 (A1 m c) shapeCasts_S4x4x384_S16x384 := by
  dsimp only [V, hostOps0, List.flatten_cons, List.flatten_nil, List.append_nil, List.cons_append, List.nil_append]
  after_results
  rfl

/-- The one block of array 1. -/
theorem b1 (c : Dev nD) (t : Fin cfg0.N) : (iblk m c 1 t : Vec Ideal S16x384 .f32) = shapeCast S16x384 (A1 m c) shapeCasts_S4x4x384_S16x384 := by
  funext j
  obtain ⟨p, q, rfl⟩ : ∃ (p : Fin 16) (q : Fin 384), j = ix2 p q := ⟨j 0, j 1, eq_ix2 (n0 := 16) (n1 := 384) j⟩
  unfold iblk
  rw [View.read_apply]
  show (V m c main_v1 : Vec Ideal S16x384 .f32) _ = _
  rw [V_in1]
  congr 1
  funext a
  apply Fin.ext
  have hi : win0_1.index t 0 = 0 ∧ win0_1.index t 1 = 0 := (by decide +kernel : ∀ t : Fin grid0.N, win0_1.index t 0 = 0 ∧ win0_1.index t 1 = 0) t
  match a with
  | ⟨0, _⟩ => show win0_1.index t 0 * 16 + 1 * p.val = p.val; rw [hi.1]; omega
  | ⟨1, _⟩ => show win0_1.index t 1 * 384 + 1 * q.val = q.val; rw [hi.2]; omega

/-- Array 2 as the call takes it. -/
theorem V_in2 (c : Dev nD) : (V m c main_v2 : Vec Ideal S16x384 .f32) = shapeCast S16x384 (A2 m c) shapeCasts_S4x4x384_S16x384 := by
  dsimp only [V, hostOps0, List.flatten_cons, List.flatten_nil, List.append_nil, List.cons_append, List.nil_append]
  after_results
  rfl

/-- The one block of array 2. -/
theorem b2 (c : Dev nD) (t : Fin cfg0.N) : (iblk m c 2 t : Vec Ideal S16x384 .f32) = shapeCast S16x384 (A2 m c) shapeCasts_S4x4x384_S16x384 := by
  funext j
  obtain ⟨p, q, rfl⟩ : ∃ (p : Fin 16) (q : Fin 384), j = ix2 p q := ⟨j 0, j 1, eq_ix2 (n0 := 16) (n1 := 384) j⟩
  unfold iblk
  rw [View.read_apply]
  show (V m c main_v2 : Vec Ideal S16x384 .f32) _ = _
  rw [V_in2]
  congr 1
  funext a
  apply Fin.ext
  have hi : win0_2.index t 0 = 0 ∧ win0_2.index t 1 = 0 := (by decide +kernel : ∀ t : Fin grid0.N, win0_2.index t 0 = 0 ∧ win0_2.index t 1 = 0) t
  match a with
  | ⟨0, _⟩ => show win0_2.index t 0 * 16 + 1 * p.val = p.val; rw [hi.1]; omega
  | ⟨1, _⟩ => show win0_2.index t 1 * 384 + 1 * q.val = q.val; rw [hi.2]; omega

/-- Array 3 as the call takes it. -/
theorem V_in3 (c : Dev nD) : (V m c main_v3 : Vec Ideal S16x384 .f32) = shapeCast S16x384 (A3 m c) shapeCasts_S4x4x384_S16x384 := by
  dsimp only [V, hostOps0, List.flatten_cons, List.flatten_nil, List.append_nil, List.cons_append, List.nil_append]
  after_results
  rfl

/-- The one block of array 3. -/
theorem b3 (c : Dev nD) (t : Fin cfg0.N) : (iblk m c 3 t : Vec Ideal S16x384 .f32) = shapeCast S16x384 (A3 m c) shapeCasts_S4x4x384_S16x384 := by
  funext j
  obtain ⟨p, q, rfl⟩ : ∃ (p : Fin 16) (q : Fin 384), j = ix2 p q := ⟨j 0, j 1, eq_ix2 (n0 := 16) (n1 := 384) j⟩
  unfold iblk
  rw [View.read_apply]
  show (V m c main_v3 : Vec Ideal S16x384 .f32) _ = _
  rw [V_in3]
  congr 1
  funext a
  apply Fin.ext
  have hi : win0_3.index t 0 = 0 ∧ win0_3.index t 1 = 0 := (by decide +kernel : ∀ t : Fin grid0.N, win0_3.index t 0 = 0 ∧ win0_3.index t 1 = 0) t
  match a with
  | ⟨0, _⟩ => show win0_3.index t 0 * 16 + 1 * p.val = p.val; rw [hi.1]; omega
  | ⟨1, _⟩ => show win0_3.index t 1 * 384 + 1 * q.val = q.val; rw [hi.2]; omega

/-- The call's array of the update: the reference's. -/
abbrev res4 (c : Dev nD) : Buf (Elt Ideal) ((c : Thread nD τ).loc main_v4_0) := Cert.Reference14Ideal.Read.val_main_v24 (F := Ideal) (A0 m c) (A1 m c) (A2 m c) (A3 m c)

/-- The one point writes back the update. -/
theorem wrote4 (c : Dev nD) (t : Fin cfg0.N) (hf : (cfg0.win 4).flush t = true) :
    (dats m 0 c).flushed 4 t = ((cfg0.win 4).blk t).view.read (Elt Ideal) (res4 m c) := by
  rw [flushed4]
  unfold out0_4
  rw [View.canon_unit_zero hz]
  simp only [View.ld_unit_zero (S := S16x384) hz]
  funext j
  obtain ⟨p, q, rfl⟩ : ∃ (p : Fin 16) (q : Fin 384), j = ix2 p q := ⟨j 0, j 1, eq_ix2 (n0 := 16) (n1 := 384) j⟩
  rw [View.read_apply]
  have e : ((cfg0.win 4).blk t).view.emb (ix2 p q) = ix2 p q := by
    have hi := (by decide +kernel : ∀ t : Fin grid0.N, win0_4.index t 0 = 0 ∧ win0_4.index t 1 = 0) t
    funext a
    apply Fin.ext
    match a with
    | ⟨0, _⟩ => show win0_4.index t 0 * 16 + 1 * p.val = p.val; rw [hi.1]; omega
    | ⟨1, _⟩ => show win0_4.index t 1 * 384 + 1 * q.val = q.val; rw [hi.2]; omega
  rw [e]
  rw [b0, b1, b2, b3]
  show k0_pay4 (shapeCast S16x384 (A1 m c) shapeCasts_S4x4x384_S16x384) (shapeCast S16x384 (A2 m c) shapeCasts_S4x4x384_S16x384) (shapeCast S16x384 (A3 m c) shapeCasts_S4x4x384_S16x384) (shapeCast S16x384 (A0 m c) shapeCasts_S4x4x384_S16x384) (ix2 p q) = res4 m c (ix2 p q)
  unfold res4
  unfold_payloads
  pointwise [Cert.Reference14Ideal.Read.val_main_cst, Cert.Reference14Ideal.Read.val_main_v0, Cert.Reference14Ideal.Read.val_main_v1, Cert.Reference14Ideal.Read.val_main_cst_0, Cert.Reference14Ideal.Read.val_main_v2, Cert.Reference14Ideal.Read.val_main_v3, Cert.Reference14Ideal.Read.val_main_v4, Cert.Reference14Ideal.Read.val_main_cst_1, Cert.Reference14Ideal.Read.val_main_v5, Cert.Reference14Ideal.Read.val_main_v6, Cert.Reference14Ideal.Read.val_main_v7, Cert.Reference14Ideal.Read.val_main_cst_2, Cert.Reference14Ideal.Read.val_main_v8, Cert.Reference14Ideal.Read.val_main_v9, Cert.Reference14Ideal.Read.val_main_v10, Cert.Reference14Ideal.Read.val_main_cst_3, Cert.Reference14Ideal.Read.val_main_v11, Cert.Reference14Ideal.Read.val_main_v12, Cert.Reference14Ideal.Read.val_main_cst_4, Cert.Reference14Ideal.Read.val_main_v13, Cert.Reference14Ideal.Read.val_main_v14, Cert.Reference14Ideal.Read.val_main_v15, Cert.Reference14Ideal.Read.val_main_cst_5, Cert.Reference14Ideal.Read.val_main_v16, Cert.Reference14Ideal.Read.val_main_v17, Cert.Reference14Ideal.Read.val_main_v18, Cert.Reference14Ideal.Read.val_main_cst_6, Cert.Reference14Ideal.Read.val_main_v19, Cert.Reference14Ideal.Read.val_main_v20, Cert.Reference14Ideal.Read.val_main_v21, Cert.Reference14Ideal.Read.val_main_cst_7, Cert.Reference14Ideal.Read.val_main_v22, Cert.Reference14Ideal.Read.val_main_v23, Cert.Reference14Ideal.Read.val_main_v24, Cert.Reference14Ideal.Read.val_main_v25, Cert.Reference14Ideal.Read.val_main_v26]

/-- The array after the run. -/
theorem fin4 (c : Dev nD) : (dats m 0 c).arrAt 4 cfg0.N = res4 m c :=
  (dats m 0 c).arrAt_eq_of_cover 4 (res4 m c) (wrote4 m c) fun i => by
    have h0 : (i 0 : Nat) < 16 := (i 0).isLt
    have h1 : (i 1 : Nat) < 384 := (i 1).isLt
    refine ⟨t0_0, flush0_4 _, ?_⟩
    show i ∈ ((View.whole main_v4_0).slice (win0_4.rect t0_0)).set
    rw [View.set_slice_whole, Rect.mem_set_unit]
    have hi : win0_4.index t0_0 0 = 0 ∧ win0_4.index t0_0 1 = 0 := by decide +kernel
    intro a
    match a with
    | ⟨0, _⟩ => show win0_4.index t0_0 0 * 16 ≤ (i 0 : Nat) ∧ (i 0 : Nat) < win0_4.index t0_0 0 * 16 + 16
                rw [hi.1]; omega
    | ⟨1, _⟩ => show win0_4.index t0_0 1 * 384 ≤ (i 1 : Nat) ∧ (i 1 : Nat) < win0_4.index t0_0 1 * 384 + 384
                rw [hi.2]; omega

/-- The call's array of the new first moment: the reference's. -/
abbrev res5 (c : Dev nD) : Buf (Elt Ideal) ((c : Thread nD τ).loc main_v4_1) := Cert.Reference14Ideal.Read.val_main_v25 (F := Ideal) (A1 m c) (A2 m c)

/-- The one point writes back the new first moment. -/
theorem wrote5 (c : Dev nD) (t : Fin cfg0.N) (hf : (cfg0.win 5).flush t = true) :
    (dats m 0 c).flushed 5 t = ((cfg0.win 5).blk t).view.read (Elt Ideal) (res5 m c) := by
  rw [flushed5]
  unfold out0_5
  rw [View.canon_unit_zero hz]
  simp only [View.ld_unit_zero (S := S16x384) hz]
  funext j
  obtain ⟨p, q, rfl⟩ : ∃ (p : Fin 16) (q : Fin 384), j = ix2 p q := ⟨j 0, j 1, eq_ix2 (n0 := 16) (n1 := 384) j⟩
  rw [View.read_apply]
  have e : ((cfg0.win 5).blk t).view.emb (ix2 p q) = ix2 p q := by
    have hi := (by decide +kernel : ∀ t : Fin grid0.N, win0_5.index t 0 = 0 ∧ win0_5.index t 1 = 0) t
    funext a
    apply Fin.ext
    match a with
    | ⟨0, _⟩ => show win0_5.index t 0 * 16 + 1 * p.val = p.val; rw [hi.1]; omega
    | ⟨1, _⟩ => show win0_5.index t 1 * 384 + 1 * q.val = q.val; rw [hi.2]; omega
  rw [e]
  rw [b1, b2]
  show k0_pay2 (shapeCast S16x384 (A1 m c) shapeCasts_S4x4x384_S16x384) (shapeCast S16x384 (A2 m c) shapeCasts_S4x4x384_S16x384) (ix2 p q) = res5 m c (ix2 p q)
  unfold res5
  unfold_payloads
  pointwise [Cert.Reference14Ideal.Read.val_main_cst, Cert.Reference14Ideal.Read.val_main_v0, Cert.Reference14Ideal.Read.val_main_v1, Cert.Reference14Ideal.Read.val_main_cst_0, Cert.Reference14Ideal.Read.val_main_v2, Cert.Reference14Ideal.Read.val_main_v3, Cert.Reference14Ideal.Read.val_main_v4, Cert.Reference14Ideal.Read.val_main_cst_1, Cert.Reference14Ideal.Read.val_main_v5, Cert.Reference14Ideal.Read.val_main_v6, Cert.Reference14Ideal.Read.val_main_v7, Cert.Reference14Ideal.Read.val_main_cst_2, Cert.Reference14Ideal.Read.val_main_v8, Cert.Reference14Ideal.Read.val_main_v9, Cert.Reference14Ideal.Read.val_main_v10, Cert.Reference14Ideal.Read.val_main_cst_3, Cert.Reference14Ideal.Read.val_main_v11, Cert.Reference14Ideal.Read.val_main_v12, Cert.Reference14Ideal.Read.val_main_cst_4, Cert.Reference14Ideal.Read.val_main_v13, Cert.Reference14Ideal.Read.val_main_v14, Cert.Reference14Ideal.Read.val_main_v15, Cert.Reference14Ideal.Read.val_main_cst_5, Cert.Reference14Ideal.Read.val_main_v16, Cert.Reference14Ideal.Read.val_main_v17, Cert.Reference14Ideal.Read.val_main_v18, Cert.Reference14Ideal.Read.val_main_cst_6, Cert.Reference14Ideal.Read.val_main_v19, Cert.Reference14Ideal.Read.val_main_v20, Cert.Reference14Ideal.Read.val_main_v21, Cert.Reference14Ideal.Read.val_main_cst_7, Cert.Reference14Ideal.Read.val_main_v22, Cert.Reference14Ideal.Read.val_main_v23, Cert.Reference14Ideal.Read.val_main_v24, Cert.Reference14Ideal.Read.val_main_v25, Cert.Reference14Ideal.Read.val_main_v26]

/-- The array after the run. -/
theorem fin5 (c : Dev nD) : (dats m 0 c).arrAt 5 cfg0.N = res5 m c :=
  (dats m 0 c).arrAt_eq_of_cover 5 (res5 m c) (wrote5 m c) fun i => by
    have h0 : (i 0 : Nat) < 16 := (i 0).isLt
    have h1 : (i 1 : Nat) < 384 := (i 1).isLt
    refine ⟨t0_0, flush0_5 _, ?_⟩
    show i ∈ ((View.whole main_v4_1).slice (win0_5.rect t0_0)).set
    rw [View.set_slice_whole, Rect.mem_set_unit]
    have hi : win0_5.index t0_0 0 = 0 ∧ win0_5.index t0_0 1 = 0 := by decide +kernel
    intro a
    match a with
    | ⟨0, _⟩ => show win0_5.index t0_0 0 * 16 ≤ (i 0 : Nat) ∧ (i 0 : Nat) < win0_5.index t0_0 0 * 16 + 16
                rw [hi.1]; omega
    | ⟨1, _⟩ => show win0_5.index t0_0 1 * 384 ≤ (i 1 : Nat) ∧ (i 1 : Nat) < win0_5.index t0_0 1 * 384 + 384
                rw [hi.2]; omega

/-- The call's array of the new second moment: the reference's. -/
abbrev res6 (c : Dev nD) : Buf (Elt Ideal) ((c : Thread nD τ).loc main_v4_2) := Cert.Reference14Ideal.Read.val_main_v26 (F := Ideal) (A1 m c) (A3 m c)

/-- The one point writes back the new second moment. -/
theorem wrote6 (c : Dev nD) (t : Fin cfg0.N) (hf : (cfg0.win 6).flush t = true) :
    (dats m 0 c).flushed 6 t = ((cfg0.win 6).blk t).view.read (Elt Ideal) (res6 m c) := by
  rw [flushed6]
  unfold out0_6
  rw [View.canon_unit_zero hz]
  simp only [View.ld_unit_zero (S := S16x384) hz]
  funext j
  obtain ⟨p, q, rfl⟩ : ∃ (p : Fin 16) (q : Fin 384), j = ix2 p q := ⟨j 0, j 1, eq_ix2 (n0 := 16) (n1 := 384) j⟩
  rw [View.read_apply]
  have e : ((cfg0.win 6).blk t).view.emb (ix2 p q) = ix2 p q := by
    have hi := (by decide +kernel : ∀ t : Fin grid0.N, win0_6.index t 0 = 0 ∧ win0_6.index t 1 = 0) t
    funext a
    apply Fin.ext
    match a with
    | ⟨0, _⟩ => show win0_6.index t 0 * 16 + 1 * p.val = p.val; rw [hi.1]; omega
    | ⟨1, _⟩ => show win0_6.index t 1 * 384 + 1 * q.val = q.val; rw [hi.2]; omega
  rw [e]
  rw [b1, b3]
  show k0_pay3 (shapeCast S16x384 (A1 m c) shapeCasts_S4x4x384_S16x384) (shapeCast S16x384 (A3 m c) shapeCasts_S4x4x384_S16x384) (ix2 p q) = res6 m c (ix2 p q)
  unfold res6
  unfold_payloads
  pointwise [Cert.Reference14Ideal.Read.val_main_cst, Cert.Reference14Ideal.Read.val_main_v0, Cert.Reference14Ideal.Read.val_main_v1, Cert.Reference14Ideal.Read.val_main_cst_0, Cert.Reference14Ideal.Read.val_main_v2, Cert.Reference14Ideal.Read.val_main_v3, Cert.Reference14Ideal.Read.val_main_v4, Cert.Reference14Ideal.Read.val_main_cst_1, Cert.Reference14Ideal.Read.val_main_v5, Cert.Reference14Ideal.Read.val_main_v6, Cert.Reference14Ideal.Read.val_main_v7, Cert.Reference14Ideal.Read.val_main_cst_2, Cert.Reference14Ideal.Read.val_main_v8, Cert.Reference14Ideal.Read.val_main_v9, Cert.Reference14Ideal.Read.val_main_v10, Cert.Reference14Ideal.Read.val_main_cst_3, Cert.Reference14Ideal.Read.val_main_v11, Cert.Reference14Ideal.Read.val_main_v12, Cert.Reference14Ideal.Read.val_main_cst_4, Cert.Reference14Ideal.Read.val_main_v13, Cert.Reference14Ideal.Read.val_main_v14, Cert.Reference14Ideal.Read.val_main_v15, Cert.Reference14Ideal.Read.val_main_cst_5, Cert.Reference14Ideal.Read.val_main_v16, Cert.Reference14Ideal.Read.val_main_v17, Cert.Reference14Ideal.Read.val_main_v18, Cert.Reference14Ideal.Read.val_main_cst_6, Cert.Reference14Ideal.Read.val_main_v19, Cert.Reference14Ideal.Read.val_main_v20, Cert.Reference14Ideal.Read.val_main_v21, Cert.Reference14Ideal.Read.val_main_cst_7, Cert.Reference14Ideal.Read.val_main_v22, Cert.Reference14Ideal.Read.val_main_v23, Cert.Reference14Ideal.Read.val_main_v24, Cert.Reference14Ideal.Read.val_main_v25, Cert.Reference14Ideal.Read.val_main_v26]

/-- The array after the run. -/
theorem fin6 (c : Dev nD) : (dats m 0 c).arrAt 6 cfg0.N = res6 m c :=
  (dats m 0 c).arrAt_eq_of_cover 6 (res6 m c) (wrote6 m c) fun i => by
    have h0 : (i 0 : Nat) < 16 := (i 0).isLt
    have h1 : (i 1 : Nat) < 384 := (i 1).isLt
    refine ⟨t0_0, flush0_6 _, ?_⟩
    show i ∈ ((View.whole main_v4_2).slice (win0_6.rect t0_0)).set
    rw [View.set_slice_whole, Rect.mem_set_unit]
    have hi : win0_6.index t0_0 0 = 0 ∧ win0_6.index t0_0 1 = 0 := by decide +kernel
    intro a
    match a with
    | ⟨0, _⟩ => show win0_6.index t0_0 0 * 16 ≤ (i 0 : Nat) ∧ (i 0 : Nat) < win0_6.index t0_0 0 * 16 + 16
                rw [hi.1]; omega
    | ⟨1, _⟩ => show win0_6.index t0_0 1 * 384 ≤ (i 1 : Nat) ∧ (i 1 : Nat) < win0_6.index t0_0 1 * 384 + 384
                rw [hi.2]; omega

end Cert.Kernel14Ideal.Value

namespace Cert.Proof.AdamTapS
open Cert.Kernel14Ideal.Value

variable (m' : (ℓ : Loc Cert.Reference14Ideal.nD Cert.Reference14Ideal.τ Cert.Reference14Ideal.sig) → Buf (Elt Ideal) ℓ) (g' : Dev Cert.Reference14Ideal.nD → PrngReg)

/-- The reference's run: each result is its last stage over the arguments, and the arguments are kept. -/
theorem ref_run : θ_run (Cert.Reference14Ideal.defs (F := Ideal)) (onTc (τ := Cert.Reference14Ideal.τ) (Cert.Reference14Ideal.main (F := Ideal))) ⟨m', fun _ => 0, g'⟩ fun r =>
    ∀ c : Dev Cert.Reference14Ideal.nD,
      r.2.mem ((c.tc : Thread Cert.Reference14Ideal.nD Cert.Reference14Ideal.τ).loc Cert.Reference14Ideal.main_v24) = Cert.Reference14Ideal.Read.val_main_v24 (m' (c.tc.loc Cert.Reference14Ideal.main_arg0)) (m' (c.tc.loc Cert.Reference14Ideal.main_arg1)) (m' (c.tc.loc Cert.Reference14Ideal.main_arg2)) (m' (c.tc.loc Cert.Reference14Ideal.main_arg3))
      ∧ r.2.mem ((c.tc : Thread Cert.Reference14Ideal.nD Cert.Reference14Ideal.τ).loc Cert.Reference14Ideal.main_v25) = Cert.Reference14Ideal.Read.val_main_v25 (m' (c.tc.loc Cert.Reference14Ideal.main_arg1)) (m' (c.tc.loc Cert.Reference14Ideal.main_arg2))
      ∧ r.2.mem ((c.tc : Thread Cert.Reference14Ideal.nD Cert.Reference14Ideal.τ).loc Cert.Reference14Ideal.main_v26) = Cert.Reference14Ideal.Read.val_main_v26 (m' (c.tc.loc Cert.Reference14Ideal.main_arg1)) (m' (c.tc.loc Cert.Reference14Ideal.main_arg3))
      ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3) :=
  (θ_run Cert.Reference14Ideal.defs _ _).mono (fun r hr c => ⟨
    (hr c).1.trans (Cert.Reference14Ideal.Read.val_main_v24_eq _ _ _ _),
    (hr c).2.1.trans (Cert.Reference14Ideal.Read.val_main_v25_eq _ _),
    (hr c).2.2.1.trans (Cert.Reference14Ideal.Read.val_main_v26_eq _ _),
    (hr c).2.2.2⟩) (Cert.Reference14Ideal.Value.run m' g')

/-- Over the extended reals the call ends with the reference's results. -/
theorem algebraic : Cert.algebraic_Kernel14Ideal_Reference14Ideal (hKernel14Ideal := Cert.Kernel14Ideal.Gen.facts) (hReference14Ideal := Cert.Reference14Ideal.Gen.facts) := by
  intro m g m' g' _ h
  refine ⟨fun c => res4 m c, fun c => res5 m c, fun c => res6 m c, ?_, ?_⟩
  · refine (θ_run Cert.Kernel14Ideal.defs _ _).mono (fun r hr c => ?_) (Cert.Kernel14Ideal.Value.run_blocks m g)
    obtain ⟨h0, h1, h2, hk⟩ := hr c
    exact ⟨h0.trans (fin4 m c), h1.trans (fin5 m c), h2.trans (fin6 m c), hk⟩
  · refine (θ_run Cert.Reference14Ideal.defs _ _).mono (fun r hr c => ?_) (ref_run m' g')
    obtain ⟨h0, h1, h2, hk⟩ := hr c
    obtain ⟨a0, a1, a2, a3⟩ := h c
    rw [a0, a1, a2, a3] at h0
    rw [a1, a2] at h1
    rw [a1, a3] at h2
    exact ⟨h0, h1, h2, hk⟩

/-- The reference's frame: it declares no semaphore. -/
theorem frame_ref : Cert.quiescent_Reference14Ideal (hReference14Ideal := Cert.Reference14Ideal.Gen.facts) := by
  intro m g _
  exact (θ_run Cert.Reference14Ideal.defs _ _).mono (fun r h => ⟨fun c => (h c).2.2.2, sem_eq_zero_of_no_sems (by decide) r.2⟩) (ref_run m g)

end Cert.Proof.AdamTapS

end
-- ==== Proof.AdamHead.lean ====
/- One step of the optimiser on the scan parameters: the update and the two new moments. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Rms
public import Idealize.ShloMosaic.Lib.Tactic
public import Idealize.ShloMosaic.Adequacy

@[expose] public section

noncomputable section

open Idealize.ShloMosaic Idealize.ShloMosaic.TcCoe Idealize.SL.Sem Cert.Alg

namespace Cert.Kernel15Ideal.Value
open Cert.Kernel15Ideal Cert.Kernel15Ideal.Gen

variable (m : (ℓ : Loc nD τ sig) → Buf (Elt Ideal) ℓ)

/-- The weights. -/
abbrev A0 (c : Dev nD) : Vec Ideal S4x16 .f32 := m ((c : Thread nD τ).loc main_arg0)
/-- The gradient. -/
abbrev A1 (c : Dev nD) : Vec Ideal S4x16 .f32 := m ((c : Thread nD τ).loc main_arg1)
/-- The first moment. -/
abbrev A2 (c : Dev nD) : Vec Ideal S4x16 .f32 := m ((c : Thread nD τ).loc main_arg2)
/-- The second moment. -/
abbrev A3 (c : Dev nD) : Vec Ideal S4x16 .f32 := m ((c : Thread nD τ).loc main_arg3)

/-- The call's array of the update: the reference's. -/
abbrev res4 (c : Dev nD) : Buf (Elt Ideal) ((c : Thread nD τ).loc main_v0_0) := Cert.Reference15Ideal.Read.val_main_v23 (F := Ideal) (A0 m c) (A1 m c) (A2 m c) (A3 m c)

/-- The array after the run. -/
theorem fin4 (c : Dev nD) : (dats m 0 c).arrAt 4 cfg0.N = res4 m c := by
  refine (final4 m c).trans (funext fun i => ?_)
  obtain ⟨p, q, rfl⟩ : ∃ (p : Fin 4) (q : Fin 16), i = ix2 p q := ⟨i 0, i 1, eq_ix2 (n0 := 4) (n1 := 16) i⟩
  unfold res4
  pointwise [Cert.Reference15Ideal.Read.val_main_cst, Cert.Reference15Ideal.Read.val_main_v0, Cert.Reference15Ideal.Read.val_main_v1, Cert.Reference15Ideal.Read.val_main_cst_0, Cert.Reference15Ideal.Read.val_main_v2, Cert.Reference15Ideal.Read.val_main_v3, Cert.Reference15Ideal.Read.val_main_v4, Cert.Reference15Ideal.Read.val_main_cst_1, Cert.Reference15Ideal.Read.val_main_v5, Cert.Reference15Ideal.Read.val_main_v6, Cert.Reference15Ideal.Read.val_main_v7, Cert.Reference15Ideal.Read.val_main_cst_2, Cert.Reference15Ideal.Read.val_main_v8, Cert.Reference15Ideal.Read.val_main_v9, Cert.Reference15Ideal.Read.val_main_v10, Cert.Reference15Ideal.Read.val_main_cst_3, Cert.Reference15Ideal.Read.val_main_v11, Cert.Reference15Ideal.Read.val_main_v12, Cert.Reference15Ideal.Read.val_main_cst_4, Cert.Reference15Ideal.Read.val_main_v13, Cert.Reference15Ideal.Read.val_main_v14, Cert.Reference15Ideal.Read.val_main_v15, Cert.Reference15Ideal.Read.val_main_cst_5, Cert.Reference15Ideal.Read.val_main_v16, Cert.Reference15Ideal.Read.val_main_v17, Cert.Reference15Ideal.Read.val_main_v18, Cert.Reference15Ideal.Read.val_main_cst_6, Cert.Reference15Ideal.Read.val_main_v19, Cert.Reference15Ideal.Read.val_main_v20, Cert.Reference15Ideal.Read.val_main_v21, Cert.Reference15Ideal.Read.val_main_cst_7, Cert.Reference15Ideal.Read.val_main_v22, Cert.Reference15Ideal.Read.val_main_v23]

/-- The call's array of the new first moment: the reference's. -/
abbrev res5 (c : Dev nD) : Buf (Elt Ideal) ((c : Thread nD τ).loc main_v0_1) := Cert.Reference15Ideal.Read.val_main_v4 (F := Ideal) (A1 m c) (A2 m c)

/-- The array after the run. -/
theorem fin5 (c : Dev nD) : (dats m 0 c).arrAt 5 cfg0.N = res5 m c := by
  refine (final5 m c).trans (funext fun i => ?_)
  obtain ⟨p, q, rfl⟩ : ∃ (p : Fin 4) (q : Fin 16), i = ix2 p q := ⟨i 0, i 1, eq_ix2 (n0 := 4) (n1 := 16) i⟩
  unfold res5
  pointwise [Cert.Reference15Ideal.Read.val_main_cst, Cert.Reference15Ideal.Read.val_main_v0, Cert.Reference15Ideal.Read.val_main_v1, Cert.Reference15Ideal.Read.val_main_cst_0, Cert.Reference15Ideal.Read.val_main_v2, Cert.Reference15Ideal.Read.val_main_v3, Cert.Reference15Ideal.Read.val_main_v4, Cert.Reference15Ideal.Read.val_main_cst_1, Cert.Reference15Ideal.Read.val_main_v5, Cert.Reference15Ideal.Read.val_main_v6, Cert.Reference15Ideal.Read.val_main_v7, Cert.Reference15Ideal.Read.val_main_cst_2, Cert.Reference15Ideal.Read.val_main_v8, Cert.Reference15Ideal.Read.val_main_v9, Cert.Reference15Ideal.Read.val_main_v10, Cert.Reference15Ideal.Read.val_main_cst_3, Cert.Reference15Ideal.Read.val_main_v11, Cert.Reference15Ideal.Read.val_main_v12, Cert.Reference15Ideal.Read.val_main_cst_4, Cert.Reference15Ideal.Read.val_main_v13, Cert.Reference15Ideal.Read.val_main_v14, Cert.Reference15Ideal.Read.val_main_v15, Cert.Reference15Ideal.Read.val_main_cst_5, Cert.Reference15Ideal.Read.val_main_v16, Cert.Reference15Ideal.Read.val_main_v17, Cert.Reference15Ideal.Read.val_main_v18, Cert.Reference15Ideal.Read.val_main_cst_6, Cert.Reference15Ideal.Read.val_main_v19, Cert.Reference15Ideal.Read.val_main_v20, Cert.Reference15Ideal.Read.val_main_v21, Cert.Reference15Ideal.Read.val_main_cst_7, Cert.Reference15Ideal.Read.val_main_v22, Cert.Reference15Ideal.Read.val_main_v23]

/-- The call's array of the new second moment: the reference's. -/
abbrev res6 (c : Dev nD) : Buf (Elt Ideal) ((c : Thread nD τ).loc main_v0_2) := Cert.Reference15Ideal.Read.val_main_v10 (F := Ideal) (A1 m c) (A3 m c)

/-- The array after the run. -/
theorem fin6 (c : Dev nD) : (dats m 0 c).arrAt 6 cfg0.N = res6 m c := by
  refine (final6 m c).trans (funext fun i => ?_)
  obtain ⟨p, q, rfl⟩ : ∃ (p : Fin 4) (q : Fin 16), i = ix2 p q := ⟨i 0, i 1, eq_ix2 (n0 := 4) (n1 := 16) i⟩
  unfold res6
  pointwise [Cert.Reference15Ideal.Read.val_main_cst, Cert.Reference15Ideal.Read.val_main_v0, Cert.Reference15Ideal.Read.val_main_v1, Cert.Reference15Ideal.Read.val_main_cst_0, Cert.Reference15Ideal.Read.val_main_v2, Cert.Reference15Ideal.Read.val_main_v3, Cert.Reference15Ideal.Read.val_main_v4, Cert.Reference15Ideal.Read.val_main_cst_1, Cert.Reference15Ideal.Read.val_main_v5, Cert.Reference15Ideal.Read.val_main_v6, Cert.Reference15Ideal.Read.val_main_v7, Cert.Reference15Ideal.Read.val_main_cst_2, Cert.Reference15Ideal.Read.val_main_v8, Cert.Reference15Ideal.Read.val_main_v9, Cert.Reference15Ideal.Read.val_main_v10, Cert.Reference15Ideal.Read.val_main_cst_3, Cert.Reference15Ideal.Read.val_main_v11, Cert.Reference15Ideal.Read.val_main_v12, Cert.Reference15Ideal.Read.val_main_cst_4, Cert.Reference15Ideal.Read.val_main_v13, Cert.Reference15Ideal.Read.val_main_v14, Cert.Reference15Ideal.Read.val_main_v15, Cert.Reference15Ideal.Read.val_main_cst_5, Cert.Reference15Ideal.Read.val_main_v16, Cert.Reference15Ideal.Read.val_main_v17, Cert.Reference15Ideal.Read.val_main_v18, Cert.Reference15Ideal.Read.val_main_cst_6, Cert.Reference15Ideal.Read.val_main_v19, Cert.Reference15Ideal.Read.val_main_v20, Cert.Reference15Ideal.Read.val_main_v21, Cert.Reference15Ideal.Read.val_main_cst_7, Cert.Reference15Ideal.Read.val_main_v22, Cert.Reference15Ideal.Read.val_main_v23]

end Cert.Kernel15Ideal.Value

namespace Cert.Proof.AdamHead
open Cert.Kernel15Ideal.Value

variable (m' : (ℓ : Loc Cert.Reference15Ideal.nD Cert.Reference15Ideal.τ Cert.Reference15Ideal.sig) → Buf (Elt Ideal) ℓ) (g' : Dev Cert.Reference15Ideal.nD → PrngReg)

/-- The reference's run: each result is its last stage over the arguments, and the arguments are kept. -/
theorem ref_run : θ_run (Cert.Reference15Ideal.defs (F := Ideal)) (onTc (τ := Cert.Reference15Ideal.τ) (Cert.Reference15Ideal.main (F := Ideal))) ⟨m', fun _ => 0, g'⟩ fun r =>
    ∀ c : Dev Cert.Reference15Ideal.nD,
      r.2.mem ((c.tc : Thread Cert.Reference15Ideal.nD Cert.Reference15Ideal.τ).loc Cert.Reference15Ideal.main_v23) = Cert.Reference15Ideal.Read.val_main_v23 (m' (c.tc.loc Cert.Reference15Ideal.main_arg0)) (m' (c.tc.loc Cert.Reference15Ideal.main_arg1)) (m' (c.tc.loc Cert.Reference15Ideal.main_arg2)) (m' (c.tc.loc Cert.Reference15Ideal.main_arg3))
      ∧ r.2.mem ((c.tc : Thread Cert.Reference15Ideal.nD Cert.Reference15Ideal.τ).loc Cert.Reference15Ideal.main_v4) = Cert.Reference15Ideal.Read.val_main_v4 (m' (c.tc.loc Cert.Reference15Ideal.main_arg1)) (m' (c.tc.loc Cert.Reference15Ideal.main_arg2))
      ∧ r.2.mem ((c.tc : Thread Cert.Reference15Ideal.nD Cert.Reference15Ideal.τ).loc Cert.Reference15Ideal.main_v10) = Cert.Reference15Ideal.Read.val_main_v10 (m' (c.tc.loc Cert.Reference15Ideal.main_arg1)) (m' (c.tc.loc Cert.Reference15Ideal.main_arg3))
      ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3) :=
  (θ_run Cert.Reference15Ideal.defs _ _).mono (fun r hr c => ⟨
    (hr c).1.trans (Cert.Reference15Ideal.Read.val_main_v23_eq _ _ _ _),
    (hr c).2.1.trans (Cert.Reference15Ideal.Read.val_main_v4_eq _ _),
    (hr c).2.2.1.trans (Cert.Reference15Ideal.Read.val_main_v10_eq _ _),
    (hr c).2.2.2⟩) (Cert.Reference15Ideal.Value.run m' g')

/-- Over the extended reals the call ends with the reference's results. -/
theorem algebraic : Cert.algebraic_Kernel15Ideal_Reference15Ideal (hKernel15Ideal := Cert.Kernel15Ideal.Gen.facts) (hReference15Ideal := Cert.Reference15Ideal.Gen.facts) := by
  intro m g m' g' _ h
  refine ⟨fun c => res4 m c, fun c => res5 m c, fun c => res6 m c, ?_, ?_⟩
  · refine (θ_run Cert.Kernel15Ideal.defs _ _).mono (fun r hr c => ?_) (Cert.Kernel15Ideal.Value.run_blocks m g)
    obtain ⟨h0, h1, h2, hk⟩ := hr c
    exact ⟨h0.trans (fin4 m c), h1.trans (fin5 m c), h2.trans (fin6 m c), hk⟩
  · refine (θ_run Cert.Reference15Ideal.defs _ _).mono (fun r hr c => ?_) (ref_run m' g')
    obtain ⟨h0, h1, h2, hk⟩ := hr c
    obtain ⟨a0, a1, a2, a3⟩ := h c
    rw [a0, a1, a2, a3] at h0
    rw [a1, a2] at h1
    rw [a1, a3] at h2
    exact ⟨h0, h1, h2, hk⟩

/-- The reference's frame: it declares no semaphore. -/
theorem frame_ref : Cert.quiescent_Reference15Ideal (hReference15Ideal := Cert.Reference15Ideal.Gen.facts) := by
  intro m g _
  exact (θ_run Cert.Reference15Ideal.defs _ _).mono (fun r h => ⟨fun c => (h c).2.2.2, sem_eq_zero_of_no_sems (by decide) r.2⟩) (ref_run m g)

end Cert.Proof.AdamHead

end
-- ==== Proof.Loss.lean ====
/- The loss: half the sum over the rows of the mean squared error, and its gradient. -/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Rms
public import Idealize.ShloMosaic.Lib.Tactic
public import Idealize.ShloMosaic.Adequacy

@[expose] public section

noncomputable section

open Idealize.ShloMosaic Idealize.ShloMosaic.TcCoe Idealize.SL.Sem Cert.Alg

namespace Cert.Reference16Ideal.Read
open Cert.Reference16Ideal Cert.Reference16Ideal.Gen

variable (x0 : (⟨S4096x1024, .f32⟩ : BufTy).Contents (Elt Ideal)) (x1 : (⟨S4096x1024, .f32⟩ : BufTy).Contents (Elt Ideal))

/-- The word of `1 / 1024`. -/
theorem c_inv : Ideal.ofBits FTy.f32 981467136#32 = ((1 / 1024 : ℝ) : EReal) := by
  simp [Ideal.ofBits, Ideal.ieee, -EReal.coe_mul]; norm_num

/-- The word of `1 / 2048`. -/
theorem c_half_inv : Ideal.ofBits FTy.f32 973078528#32 = ((1 / 2048 : ℝ) : EReal) := by
  simp [Ideal.ofBits, Ideal.ieee, -EReal.coe_mul]; norm_num

/-- The word of `1 / 2`. -/
theorem c_half : Ideal.ofBits FTy.f32 1056964608#32 = ((1 / 2 : ℝ) : EReal) := by
  simp [Ideal.ofBits, Ideal.ieee, -EReal.coe_mul]; norm_num

/-- The squared error of one entry. -/
def sqe (x y : EReal) : EReal := (x - y) * (x - y)

theorem v4_apply (i : S4096.Idx) :
    (val_main_v4 (F := Ideal) x0 x1 i : EReal) = (∑ k : Fin 1024, sqe (x0 (ix2 (i 0) k)) (x1 (ix2 (i 0) k))) * ((1 / 1024 : ℝ) : EReal) := by
  obtain ⟨p, rfl⟩ : ∃ (p : Fin 4096), i = ix1 p := ⟨i 0, eq_ix1 i⟩
  pointwise [val_main_v0, val_main_v1, val_main_cst, val_main_v2, val_main_cst_0, val_main_v3, val_main_v4]
  rw [c1024_eq, Ideal.div_coe (by norm_num)]
  rfl

/-- The loss, at every entry of its block. -/
theorem loss_apply (p : Fin 8) (q : Fin 128) :
    (val_main_v7 (F := Ideal) x0 x1 (ix2 p q) : EReal) = ∑ i : Fin 4096, ((1 / 2048 : ℝ) : EReal) * ∑ k : Fin 1024, sqe (x0 (ix2 i k)) (x1 (ix2 i k)) := by
  rw [val_main_v7_apply, val_main_v6_apply, val_main_v5_apply]
  have e : ∑ j : S4096.Idx, (val_main_v4 (F := Ideal) x0 x1 j : EReal) = ∑ i : Fin 4096, (∑ k : Fin 1024, sqe (x0 (ix2 i k)) (x1 (ix2 i k))) * ((1 / 1024 : ℝ) : EReal) := by
    refine Fintype.sum_equiv ⟨fun j => j 0, fun i => ix1 i, fun j => (eq_ix1 j).symm, fun i => rfl⟩ _ _ fun j => ?_
    exact v4_apply x0 x1 j
  show (Ideal.ofBits FTy.f32 1056964608#32 : EReal) * ((Ideal.ofBits FTy.f32 0#32 : EReal) + ∑ j : S4096.Idx, (val_main_v4 (F := Ideal) x0 x1 j : EReal)) = _
  rw [e, c_half, show (Ideal.ofBits FTy.f32 0#32 : EReal) = 0 from by simp [Ideal.ofBits, Ideal.ieee], zero_add, coe_mul_sum _ _ (by norm_num)]
  refine Finset.sum_congr rfl fun i _ => ?_
  rw [mul_comm (∑ k : Fin 1024, _) _, ← mul_assoc, ← EReal.coe_mul]
  norm_num

/-- The gradient of the loss. -/
theorem dy_apply (i : Fin 4096) (q : Fin 1024) :
    (val_main_v22 (F := Ideal) x0 x1 (ix2 i q) : EReal) = (x0 (ix2 i q) - x1 (ix2 i q)) * ((1 / 1024 : ℝ) : EReal) := by
  pointwise [val_main_v8, val_main_cst_3, val_main_v10, val_main_v11, val_main_cst_8, val_main_cst_9, val_main_v17, val_main_v18, val_main_cst_10, val_main_v19, val_main_v20, val_main_v21, val_main_v22]
  rw [c1024_eq, Ideal.div_coe (by norm_num), c_half, c2_eq]
  rw [← mul_assoc, ← EReal.coe_mul, ← EReal.coe_mul, mul_comm]
  norm_num

end Cert.Reference16Ideal.Read

namespace Cert.Kernel16Ideal.Value
open Cert.Kernel16Ideal Cert.Kernel16Ideal.Gen
open Cert.Reference16Ideal.Read (sqe c_inv c_half_inv)

theorem hz : (![0, 0] : Fin 2 → Nat) = fun _ => 0 := funext fun a => by fin_cases a <;> rfl

section
variable (x y : Vec Ideal S512x1024 .f32)

/-- The block of the gradient. -/
theorem pay2_apply (p : Fin 512) (q : Fin 1024) :
    (k0_pay2 x y (ix2 p q) : EReal) = (x (ix2 p q) - y (ix2 p q)) * ((1 / 1024 : ℝ) : EReal) := by
  unfold k0_pay2 k0_pay1
  pointwise
  rw [c_inv]

/-- The block's share of the loss. -/
theorem pay3_apply (p : Fin 8) (q : Fin 128) :
    (k0_pay3 x y (ix2 p q) : EReal) = ∑ i : Fin 512, ((1 / 2048 : ℝ) : EReal) * ∑ k : Fin 1024, sqe (x (ix2 i k)) (y (ix2 i k)) := by
  unfold k0_pay3 k0_pay1
  pointwise
  rw [c_half_inv, coe_mul_sum _ _ (by norm_num)]
  rfl

/-- The loss so far and the block's share. -/
theorem pay4_apply (w : Vec Ideal S8x128 .f32) (p : Fin 8) (q : Fin 128) :
    (k0_pay4 x y w (ix2 p q) : EReal) = w (ix2 p q) + k0_pay3 x y (ix2 p q) := by
  unfold k0_pay4
  pointwise
end

/-- What the case leaves of the loss. -/
theorem out2_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S8x128 .f32) (harg3 : arg3.IsWhole) (arg4 : Memref sig .tc .vmem S512x1024 .f32) (harg4 : arg4.IsWhole) (hc0 : cond0_0 i) (hc1 : ¬cond0_1 i)
    (x0 : Vec Ideal S512x1024 .f32) (x1 : Vec Ideal S512x1024 .f32) :
    out0_A_2 c i arg1 harg1 arg2 harg2 arg3 harg3 arg4 harg4 hc0 hc1 x0 x1 = k0_pay3 x0 x1 := by
  unfold out0_A_2
  rw [View.read_writes_eq_canon _ _ _ (cover0_A_2 c i arg1 harg1 arg2 harg2 arg3 harg3 arg4 harg4 hc0 hc1 x0 x1)]
  unfold kernelRun0_A
  dsimp only
  sl_unfold_words
  rw [View.canon_unit_zero hz]
  simp only [View.readAt_eq_ld, harg1.read_unread, harg2.read_unread, harg3.read_unread, harg4.read_unread, View.ld_unit_zero (S := S512x1024) hz, View.ld_unit_zero (S := S8x128) hz]

/-- What the case leaves of the gradient. -/
theorem out3_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S8x128 .f32) (harg3 : arg3.IsWhole) (arg4 : Memref sig .tc .vmem S512x1024 .f32) (harg4 : arg4.IsWhole) (hc0 : cond0_0 i) (hc1 : ¬cond0_1 i)
    (x0 : Vec Ideal S512x1024 .f32) (x1 : Vec Ideal S512x1024 .f32) :
    out0_A_3 c i arg1 harg1 arg2 harg2 arg3 harg3 arg4 harg4 hc0 hc1 x0 x1 = k0_pay2 x0 x1 := by
  unfold out0_A_3
  rw [View.read_writes_eq_canon _ _ _ (cover0_A_3 c i arg1 harg1 arg2 harg2 arg3 harg3 arg4 harg4 hc0 hc1 x0 x1)]
  unfold kernelRun0_A
  dsimp only
  sl_unfold_words
  rw [View.canon_unit_zero hz]
  simp only [View.readAt_eq_ld, harg1.read_unread, harg2.read_unread, harg3.read_unread, harg4.read_unread, View.ld_unit_zero (S := S512x1024) hz, View.ld_unit_zero (S := S8x128) hz]

/-- What the case leaves of the loss. -/
theorem out2_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S8x128 .f32) (harg3 : arg3.IsWhole) (arg4 : Memref sig .tc .vmem S512x1024 .f32) (harg4 : arg4.IsWhole) (hc0 : ¬cond0_0 i) (hc1 : cond0_1 i)
    (x0 : Vec Ideal S512x1024 .f32) (x1 : Vec Ideal S512x1024 .f32) (xo2 : Vec Ideal S8x128 .f32) :
    out0_B_2 c i arg1 harg1 arg2 harg2 arg3 harg3 arg4 harg4 hc0 hc1 x0 x1 xo2 = k0_pay4 x0 x1 xo2 := by
  unfold out0_B_2
  rw [View.read_writes_eq_canon _ _ _ (cover0_B_2 c i arg1 harg1 arg2 harg2 arg3 harg3 arg4 harg4 hc0 hc1 x0 x1 xo2)]
  unfold kernelRun0_B
  dsimp only
  sl_unfold_words
  rw [View.canon_unit_zero hz]
  simp only [View.readAt_eq_ld, harg1.read_unread, harg2.read_unread, harg3.read_unread, harg4.read_unread, View.ld_unit_zero (S := S512x1024) hz, View.ld_unit_zero (S := S8x128) hz]

/-- What the case leaves of the gradient. -/
theorem out3_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S8x128 .f32) (harg3 : arg3.IsWhole) (arg4 : Memref sig .tc .vmem S512x1024 .f32) (harg4 : arg4.IsWhole) (hc0 : ¬cond0_0 i) (hc1 : cond0_1 i)
    (x0 : Vec Ideal S512x1024 .f32) (x1 : Vec Ideal S512x1024 .f32) (xo2 : Vec Ideal S8x128 .f32) :
    out0_B_3 c i arg1 harg1 arg2 harg2 arg3 harg3 arg4 harg4 hc0 hc1 x0 x1 xo2 = k0_pay2 x0 x1 := by
  unfold out0_B_3
  rw [View.read_writes_eq_canon _ _ _ (cover0_B_3 c i arg1 harg1 arg2 harg2 arg3 harg3 arg4 harg4 hc0 hc1 x0 x1 xo2)]
  unfold kernelRun0_B
  dsimp only
  sl_unfold_words
  rw [View.canon_unit_zero hz]
  simp only [View.readAt_eq_ld, harg1.read_unread, harg2.read_unread, harg3.read_unread, harg4.read_unread, View.ld_unit_zero (S := S512x1024) hz, View.ld_unit_zero (S := S8x128) hz]

variable (m : (ℓ : Loc nD τ sig) → Buf (Elt Ideal) ℓ)

/-- The result of the last layer. -/
abbrev A0 (c : Dev nD) : Vec Ideal S4096x1024 .f32 := m ((c : Thread nD τ).loc main_arg0)
/-- The target. -/
abbrev A1 (c : Dev nD) : Vec Ideal S4096x1024 .f32 := m ((c : Thread nD τ).loc main_arg1)

/-- Row `p` of tile `t`. -/
abbrev row (t : Fin cfg0.N) (p : Fin 512) : Fin 4096 := ⟨512 * t.val + p.val, by have := t.isLt; have h : cfg0.N = 8 := N_0; omega⟩

/-- The result of the last layer. -/
theorem b0 (c : Dev nD) (t : Fin cfg0.N) (p : Fin 512) (q : Fin 1024) : (iblk m c 0 t (ix2 p q) : EReal) = A0 m c (ix2 (row t p) q) := by
  unfold iblk
  rw [View.read_apply]
  show (V m c main_arg0 _ : EReal) = _
  rw [V_main_arg0]
  congr 1
  funext a
  apply Fin.ext
  have hi : win0_0.index t 0 = t.val ∧ win0_0.index t 1 = 0 := (by decide +kernel : ∀ t : Fin grid0.N, win0_0.index t 0 = t.val ∧ win0_0.index t 1 = 0) t
  match a with
  | ⟨0, _⟩ => show win0_0.index t 0 * 512 + 1 * p.val = 512 * t.val + p.val; rw [hi.1]; omega
  | ⟨1, _⟩ => show win0_0.index t 1 * 1024 + 1 * q.val = q.val; rw [hi.2]; omega

/-- The target. -/
theorem b1 (c : Dev nD) (t : Fin cfg0.N) (p : Fin 512) (q : Fin 1024) : (iblk m c 1 t (ix2 p q) : EReal) = A1 m c (ix2 (row t p) q) := by
  unfold iblk
  rw [View.read_apply]
  show (V m c main_arg1 _ : EReal) = _
  rw [V_main_arg1]
  congr 1
  funext a
  apply Fin.ext
  have hi : win0_1.index t 0 = t.val ∧ win0_1.index t 1 = 0 := (by decide +kernel : ∀ t : Fin grid0.N, win0_1.index t 0 = t.val ∧ win0_1.index t 1 = 0) t
  match a with
  | ⟨0, _⟩ => show win0_1.index t 0 * 512 + 1 * p.val = 512 * t.val + p.val; rw [hi.1]; omega
  | ⟨1, _⟩ => show win0_1.index t 1 * 1024 + 1 * q.val = q.val; rw [hi.2]; omega

theorem caseA (t : Fin cfg0.N) (h : t.val = 0) : t.val % 8 = 0 ∧ ¬1 ≤ t.val := by omega
theorem caseB (t : Fin cfg0.N) (h : t.val ≠ 0) : ¬t.val % 8 = 0 ∧ 1 ≤ t.val := by
  have := t.isLt
  have h8 : cfg0.N = 8 := N_0
  omega

/-- What a point leaves of the gradient. -/
theorem o3 (c : Dev nD) (t : Fin cfg0.N) : (outsAt0 m c t.val t.isLt).2 = k0_pay2 (iblk m c 0 t) (iblk m c 1 t) := by
  by_cases h : t.val = 0
  · have hA := caseA t h
    rw [outsAt0_A m c t hA.1 hA.2]
    dsimp only
    rw [out3_A]
  · have hB := caseB t h
    rw [outsAt0_B m c t hB.1 hB.2]
    dsimp only
    rw [out3_B]

/-- The call's array of the gradient: the reference's. -/
abbrev res3 (c : Dev nD) : Buf (Elt Ideal) ((c : Thread nD τ).loc main_v0_1) := Cert.Reference16Ideal.Read.val_main_v22 (F := Ideal) (A0 m c) (A1 m c)

/-- Each point writes back its rows of the gradient. -/
theorem wrote3 (c : Dev nD) (t : Fin cfg0.N) (hf : (cfg0.win 3).flush t = true) :
    (dats m 0 c).flushed 3 t = ((cfg0.win 3).blk t).view.read (Elt Ideal) (res3 m c) := by
  rw [flushed3, o3]
  funext j
  obtain ⟨p, q, rfl⟩ : ∃ (p : Fin 512) (q : Fin 1024), j = ix2 p q := ⟨j 0, j 1, eq_ix2 (n0 := 512) (n1 := 1024) j⟩
  rw [View.read_apply]
  have e : ((cfg0.win 3).blk t).view.emb (ix2 p q) = ix2 (row t p) q := by
    have hi := (by decide +kernel : ∀ t : Fin grid0.N, win0_3.index t 0 = t.val ∧ win0_3.index t 1 = 0) t
    funext a
    apply Fin.ext
    match a with
    | ⟨0, _⟩ => show win0_3.index t 0 * 512 + 1 * p.val = 512 * t.val + p.val; rw [hi.1]; omega
    | ⟨1, _⟩ => show win0_3.index t 1 * 1024 + 1 * q.val = q.val; rw [hi.2]; omega
  rw [e]
  refine (pay2_apply _ _ p q).trans ?_
  refine Eq.trans ?_ (Cert.Reference16Ideal.Read.dy_apply _ _ (row t p) q).symm
  exact congrArg (fun a : EReal => a * _) (congrArg₂ (fun a b : EReal => a - b) (b0 m c t p q) (b1 m c t p q))

/-- The array after the run. -/
theorem fin3 (c : Dev nD) : (dats m 0 c).arrAt 3 cfg0.N = res3 m c :=
  (dats m 0 c).arrAt_eq_of_cover 3 (res3 m c) (wrote3 m c) fun i => by
    have h0 : (i 0 : Nat) < 4096 := (i 0).isLt
    have h1 : (i 1 : Nat) < 1024 := (i 1).isLt
    refine ⟨⟨(i 0 : Nat) / 512, by rw [show cfg0.N = 8 from N_0]; omega⟩, flush0_3 _, ?_⟩
    generalize ht : (⟨(i 0 : Nat) / 512, _⟩ : Fin cfg0.N) = t
    have hv : t.val = (i 0 : Nat) / 512 := by rw [← ht]
    show i ∈ ((View.whole main_v0_1).slice (win0_3.rect t)).set
    rw [View.set_slice_whole, Rect.mem_set_unit]
    have hi := (by decide +kernel : ∀ t : Fin grid0.N, win0_3.index t 0 = t.val ∧ win0_3.index t 1 = 0) t
    intro a
    match a with
    | ⟨0, _⟩ => show win0_3.index t 0 * 512 ≤ (i 0 : Nat) ∧ (i 0 : Nat) < win0_3.index t 0 * 512 + 512
                rw [hi.1]; omega
    | ⟨1, _⟩ => show win0_3.index t 1 * 1024 ≤ (i 1 : Nat) ∧ (i 1 : Nat) < win0_3.index t 1 * 1024 + 1024
                rw [hi.2]; omega

/-- A tile's share of the loss. -/
def part2 (c : Dev nD) (t : Fin cfg0.N) : Vec Ideal S8x128 .f32 := k0_pay3 (iblk m c 0 t) (iblk m c 1 t)

/-- A tile's share is the sum over its rows. -/
theorem part2_apply (c : Dev nD) (t : Fin cfg0.N) (r : Fin 8) (q : Fin 128) :
    (part2 m c t (ix2 r q) : EReal) = ∑ p : Fin 512, (fun i => ((1 / 2048 : ℝ) : EReal) * ∑ k : Fin 1024, sqe (A0 m c (ix2 i k)) (A1 m c (ix2 i k))) (row t p) := by
  unfold part2
  refine (pay3_apply _ _ r q).trans (Finset.sum_congr rfl fun p _ => ?_)
  exact congrArg (fun a : EReal => _ * a) (Finset.sum_congr rfl fun k _ => congrArg₂ sqe (b0 m c t p k) (b1 m c t p k))

/-- The first point leaves its tile's share. -/
theorem first2 (c : Dev nD) (h : 0 < cfg0.N) : (outsAt0 m c 0 h).1 = part2 m c ⟨0, h⟩ := by
  have hA := caseA ⟨0, h⟩ rfl
  have e := congrArg (fun z => z.1) (outsAt0_A m c ⟨0, h⟩ hA.1 hA.2)
  dsimp only at e
  rw [e, out2_A]
  rfl

/-- Each further point adds its tile's share. -/
theorem next2 (c : Dev nD) (n : ℕ) (h : n + 1 < cfg0.N) (r : Fin 8) (q : Fin 128) :
    ((outsAt0 m c (n + 1) h).1 (ix2 r q) : EReal)
      = (outsAt0 m c n (Nat.lt_of_succ_lt h)).1 (ix2 r q) + part2 m c ⟨n + 1, h⟩ (ix2 r q) := by
  have hB := caseB ⟨n + 1, h⟩ (Nat.succ_ne_zero n)
  have e := congrArg (fun z => z.1) (outsAt0_B m c ⟨n + 1, h⟩ hB.1 hB.2)
  dsimp only at e
  rw [e, out2_B]
  exact pay4_apply _ _ _ r q

/-- The rows are 8 tiles of 512. -/
theorem sum_tiles (g : Fin 4096 → EReal) (T : ℕ → EReal) (hT : ∀ t : Fin cfg0.N, T t.val = ∑ p : Fin 512, g (row t p)) :
    ∑ s ∈ Finset.range 8, T s = ∑ i : Fin 4096, g i := by
  have hN : cfg0.N = 8 := N_0
  rw [Finset.sum_range, sum_split (N := 4096) (a := 8) (b := 512) rfl g]
  exact Finset.sum_congr rfl fun s _ => hT ⟨s.val, by rw [hN]; exact s.isLt⟩

/-- The call's array of the loss: the reference's. -/
abbrev res2 (c : Dev nD) : Buf (Elt Ideal) ((c : Thread nD τ).loc main_v0_0) := Cert.Reference16Ideal.Read.val_main_v7 (F := Ideal) (A0 m c) (A1 m c)

/-- The last point leaves the sum over all the rows. -/
theorem last2 (c : Dev nD) (h : 7 < cfg0.N) (r : Fin 8) (q : Fin 128) :
    ((outsAt0 m c 7 h).1 (ix2 r q) : EReal) = res2 m c (ix2 r q) := by
  let T : ℕ → EReal := fun n => if h : n < cfg0.N then part2 m c ⟨n, h⟩ (ix2 r q) else 0
  have hT : ∀ t : Fin cfg0.N, T t.val = part2 m c t (ix2 r q) := fun t => dif_pos t.isLt
  refine (running (fun n h => (outsAt0 m c n h).1 (ix2 r q)) T
    (fun h => (congrFun (first2 m c h) (ix2 r q)).trans (hT ⟨0, h⟩).symm)
    (fun n h => (next2 m c n h r q).trans (congrArg _ (hT ⟨n + 1, h⟩).symm)) 7 h).trans ?_
  refine (sum_tiles (fun i => ((1 / 2048 : ℝ) : EReal) * ∑ k : Fin 1024, sqe (A0 m c (ix2 i k)) (A1 m c (ix2 i k))) T fun t => (hT t).trans (part2_apply m c t r q)).trans ?_
  exact (Cert.Reference16Ideal.Read.loss_apply _ _ r q).symm

/-- The one write-back, at the last point. -/
theorem wrote2 (c : Dev nD) (t : Fin cfg0.N) (hf : (cfg0.win 2).flush t = true) :
    (dats m 0 c).flushed 2 t = ((cfg0.win 2).blk t).view.read (Elt Ideal) (res2 m c) := by
  have hN : cfg0.N = 8 := N_0
  have hl : t.val = 7 := by have := (flush0_2 t).mp hf; have := t.isLt; omega
  obtain rfl : t = t0_7 := Fin.ext hl
  rw [flushed2]
  funext j
  obtain ⟨r, q, rfl⟩ : ∃ (r : Fin 8) (q : Fin 128), j = ix2 r q := ⟨j 0, j 1, eq_ix2 (n0 := 8) (n1 := 128) j⟩
  rw [View.read_apply]
  have e : ((cfg0.win 2).blk t0_7).view.emb (ix2 r q) = ix2 r q := by
    have hi : win0_2.index t0_7 0 = 0 ∧ win0_2.index t0_7 1 = 0 := by decide +kernel
    funext a
    apply Fin.ext
    match a with
    | ⟨0, _⟩ => show win0_2.index t0_7 0 * 8 + 1 * r.val = r.val; rw [hi.1]; omega
    | ⟨1, _⟩ => show win0_2.index t0_7 1 * 128 + 1 * q.val = q.val; rw [hi.2]; omega
  rw [e]
  exact last2 m c _ r q

/-- The array after the run. -/
theorem fin2 (c : Dev nD) : (dats m 0 c).arrAt 2 cfg0.N = res2 m c :=
  (dats m 0 c).arrAt_eq_of_cover 2 (res2 m c) (wrote2 m c) fun i => by
    have h0 : (i 0 : Nat) < 8 := (i 0).isLt
    have h1 : (i 1 : Nat) < 128 := (i 1).isLt
    refine ⟨t0_7, (flush0_2 t0_7).mpr rfl, ?_⟩
    show i ∈ ((View.whole main_v0_0).slice (win0_2.rect t0_7)).set
    rw [View.set_slice_whole, Rect.mem_set_unit]
    have hi : win0_2.index t0_7 0 = 0 ∧ win0_2.index t0_7 1 = 0 := by decide +kernel
    intro a
    match a with
    | ⟨0, _⟩ => show win0_2.index t0_7 0 * 8 ≤ (i 0 : Nat) ∧ (i 0 : Nat) < win0_2.index t0_7 0 * 8 + 8
                rw [hi.1]; omega
    | ⟨1, _⟩ => show win0_2.index t0_7 1 * 128 ≤ (i 1 : Nat) ∧ (i 1 : Nat) < win0_2.index t0_7 1 * 128 + 128
                rw [hi.2]; omega

end Cert.Kernel16Ideal.Value

namespace Cert.Proof.Loss
open Cert.Kernel16Ideal.Value

variable (m' : (ℓ : Loc Cert.Reference16Ideal.nD Cert.Reference16Ideal.τ Cert.Reference16Ideal.sig) → Buf (Elt Ideal) ℓ) (g' : Dev Cert.Reference16Ideal.nD → PrngReg)

/-- The reference's run: each result is its last stage over the arguments, and the arguments are kept. -/
theorem ref_run : θ_run (Cert.Reference16Ideal.defs (F := Ideal)) (onTc (τ := Cert.Reference16Ideal.τ) (Cert.Reference16Ideal.main (F := Ideal))) ⟨m', fun _ => 0, g'⟩ fun r =>
    ∀ c : Dev Cert.Reference16Ideal.nD,
      r.2.mem ((c.tc : Thread Cert.Reference16Ideal.nD Cert.Reference16Ideal.τ).loc Cert.Reference16Ideal.main_v7) = Cert.Reference16Ideal.Read.val_main_v7 (m' (c.tc.loc Cert.Reference16Ideal.main_arg0)) (m' (c.tc.loc Cert.Reference16Ideal.main_arg1))
      ∧ r.2.mem ((c.tc : Thread Cert.Reference16Ideal.nD Cert.Reference16Ideal.τ).loc Cert.Reference16Ideal.main_v22) = Cert.Reference16Ideal.Read.val_main_v22 (m' (c.tc.loc Cert.Reference16Ideal.main_arg0)) (m' (c.tc.loc Cert.Reference16Ideal.main_arg1))
      ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1) :=
  (θ_run Cert.Reference16Ideal.defs _ _).mono (fun r hr c => ⟨
    (hr c).1.trans (Cert.Reference16Ideal.Read.val_main_v7_eq _ _),
    (hr c).2.1.trans (Cert.Reference16Ideal.Read.val_main_v22_eq _ _),
    (hr c).2.2⟩) (Cert.Reference16Ideal.Value.run m' g')

/-- Over the extended reals the call ends with the reference's results. -/
theorem algebraic : Cert.algebraic_Kernel16Ideal_Reference16Ideal (hKernel16Ideal := Cert.Kernel16Ideal.Gen.facts) (hReference16Ideal := Cert.Reference16Ideal.Gen.facts) := by
  intro m g m' g' _ h
  refine ⟨fun c => res2 m c, fun c => res3 m c, ?_, ?_⟩
  · refine (θ_run Cert.Kernel16Ideal.defs _ _).mono (fun r hr c => ?_) (Cert.Kernel16Ideal.Value.run_blocks m g)
    obtain ⟨h0, h1, hk⟩ := hr c
    exact ⟨h0.trans (fin2 m c), h1.trans (fin3 m c), hk⟩
  · refine (θ_run Cert.Reference16Ideal.defs _ _).mono (fun r hr c => ?_) (ref_run m' g')
    obtain ⟨h0, h1, hk⟩ := hr c
    obtain ⟨a0, a1⟩ := h c
    rw [a0, a1] at h0
    rw [a0, a1] at h1
    exact ⟨h0, h1, hk⟩

/-- The reference's frame: it declares no semaphore. -/
theorem frame_ref : Cert.quiescent_Reference16Ideal (hReference16Ideal := Cert.Reference16Ideal.Gen.facts) := by
  intro m g _
  exact (θ_run Cert.Reference16Ideal.defs _ _).mono (fun r h => ⟨fun c => (h c).2.2, sem_eq_zero_of_no_sems (by decide) r.2⟩) (ref_run m g)

end Cert.Proof.Loss

end
-- ==== Proof.SmallSum.lean ====
/- The sum over the devices of the packed gradients of the small weights. -/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Rms
public import Idealize.ShloMosaic.Lib.Tactic
public import Idealize.ShloMosaic.Adequacy

@[expose] public section

noncomputable section

open Idealize.ShloMosaic Idealize.ShloMosaic.TcCoe Idealize.SL.Sem Cert.Alg

namespace Cert.Reference17Ideal.Read
open Cert.Reference17Ideal Cert.Reference17Ideal.Gen

variable (x0 : (⟨S8x160x1024, .f32⟩ : BufTy).Contents (Elt Ideal))

/-- The sum over the devices. -/
theorem sum_apply (i : Fin 160) (q : Fin 1024) :
    (val_main_v0 (F := Ideal) x0 (ix2 i q) : EReal) = ∑ k : Fin 8, (x0 (ix3 k i q) : EReal) := by
  pointwise [val_main_v0, val_main_cst]

end Cert.Reference17Ideal.Read

namespace Cert.Kernel17Ideal.Value
open Cert.Kernel17Ideal Cert.Kernel17Ideal.Gen

theorem hz : (![0, 0] : Fin 2 → Nat) = fun _ => 0 := funext fun a => by fin_cases a <;> rfl

/-- What a point leaves. -/
theorem out1_apply (x : Vec Ideal S8x8x1024 .f32) (p : Fin 8) (q : Fin 1024) :
    (out0_1 x (ix2 p q) : EReal) = ∑ k : Fin 8, (x (ix3 k p q) : EReal) := by
  unfold out0_1
  rw [View.canon_unit_zero hz]
  unfold k0_pay1
  pointwise
  rw [Fin.sum_univ_eight]

variable (m : (ℓ : Loc nD τ sig) → Buf (Elt Ideal) ℓ)

/-- The packed gradients of the eight devices. -/
abbrev A0 (c : Dev nD) : Vec Ideal S8x160x1024 .f32 := m ((c : Thread nD τ).loc main_arg0)

/-- Row `p` of tile `t`. -/
abbrev row (t : Fin cfg0.N) (p : Fin 8) : Fin 160 := ⟨8 * t.val + p.val, by have := t.isLt; have h : cfg0.N = 20 := N_0; omega⟩

/-- The tile of every device's rows. -/
theorem b0 (c : Dev nD) (t : Fin cfg0.N) (k : Fin 8) (p : Fin 8) (q : Fin 1024) :
    (iblk m c 0 t (ix3 k p q) : EReal) = A0 m c (ix3 k (row t p) q) := by
  unfold iblk
  rw [View.read_apply]
  show (V m c main_arg0 _ : EReal) = _
  rw [V_main_arg0]
  congr 1
  funext a
  apply Fin.ext
  have hi : win0_0.index t 0 = 0 ∧ win0_0.index t 1 = t.val ∧ win0_0.index t 2 = 0 := (by decide +kernel : ∀ t : Fin grid0.N, win0_0.index t 0 = 0 ∧ win0_0.index t 1 = t.val ∧ win0_0.index t 2 = 0) t
  match a with
  | ⟨0, _⟩ => show win0_0.index t 0 * 8 + 1 * k.val = k.val; rw [hi.1]; omega
  | ⟨1, _⟩ => show win0_0.index t 1 * 8 + 1 * p.val = 8 * t.val + p.val; rw [hi.2.1]; omega
  | ⟨2, _⟩ => show win0_0.index t 2 * 1024 + 1 * q.val = q.val; rw [hi.2.2]; omega

/-- The call's array of the sums: the reference's. -/
abbrev res1 (c : Dev nD) : Buf (Elt Ideal) ((c : Thread nD τ).loc main_v0) := Cert.Reference17Ideal.Read.val_main_v0 (F := Ideal) (A0 m c)

/-- Each point writes back its rows of the sums. -/
theorem wrote1 (c : Dev nD) (t : Fin cfg0.N) (hf : (cfg0.win 1).flush t = true) :
    (dats m 0 c).flushed 1 t = ((cfg0.win 1).blk t).view.read (Elt Ideal) (res1 m c) := by
  rw [flushed1]
  funext j
  obtain ⟨p, q, rfl⟩ : ∃ (p : Fin 8) (q : Fin 1024), j = ix2 p q := ⟨j 0, j 1, eq_ix2 (n0 := 8) (n1 := 1024) j⟩
  rw [View.read_apply]
  have e : ((cfg0.win 1).blk t).view.emb (ix2 p q) = ix2 (row t p) q := by
    have hi := (by decide +kernel : ∀ t : Fin grid0.N, win0_1.index t 0 = t.val ∧ win0_1.index t 1 = 0) t
    funext a
    apply Fin.ext
    match a with
    | ⟨0, _⟩ => show win0_1.index t 0 * 8 + 1 * p.val = 8 * t.val + p.val; rw [hi.1]; omega
    | ⟨1, _⟩ => show win0_1.index t 1 * 1024 + 1 * q.val = q.val; rw [hi.2]; omega
  rw [e]
  exact ((out1_apply _ p q).trans (Finset.sum_congr rfl fun k _ => b0 m c t k p q)).trans (Cert.Reference17Ideal.Read.sum_apply _ (row t p) q).symm

/-- The array after the run. -/
theorem fin1 (c : Dev nD) : (dats m 0 c).arrAt 1 cfg0.N = res1 m c :=
  (dats m 0 c).arrAt_eq_of_cover 1 (res1 m c) (wrote1 m c) fun i => by
    have h0 : (i 0 : Nat) < 160 := (i 0).isLt
    have h1 : (i 1 : Nat) < 1024 := (i 1).isLt
    refine ⟨⟨(i 0 : Nat) / 8, by rw [show cfg0.N = 20 from N_0]; omega⟩, flush0_1 _, ?_⟩
    generalize ht : (⟨(i 0 : Nat) / 8, _⟩ : Fin cfg0.N) = t
    have hv : t.val = (i 0 : Nat) / 8 := by rw [← ht]
    show i ∈ ((View.whole main_v0).slice (win0_1.rect t)).set
    rw [View.set_slice_whole, Rect.mem_set_unit]
    have hi := (by decide +kernel : ∀ t : Fin grid0.N, win0_1.index t 0 = t.val ∧ win0_1.index t 1 = 0) t
    intro a
    match a with
    | ⟨0, _⟩ => show win0_1.index t 0 * 8 ≤ (i 0 : Nat) ∧ (i 0 : Nat) < win0_1.index t 0 * 8 + 8
                rw [hi.1]; omega
    | ⟨1, _⟩ => show win0_1.index t 1 * 1024 ≤ (i 1 : Nat) ∧ (i 1 : Nat) < win0_1.index t 1 * 1024 + 1024
                rw [hi.2]; omega

end Cert.Kernel17Ideal.Value

namespace Cert.Proof.SmallSum
open Cert.Kernel17Ideal.Value

variable (m' : (ℓ : Loc Cert.Reference17Ideal.nD Cert.Reference17Ideal.τ Cert.Reference17Ideal.sig) → Buf (Elt Ideal) ℓ) (g' : Dev Cert.Reference17Ideal.nD → PrngReg)

/-- The reference's run: each result is its last stage over the arguments, and the arguments are kept. -/
theorem ref_run : θ_run (Cert.Reference17Ideal.defs (F := Ideal)) (onTc (τ := Cert.Reference17Ideal.τ) (Cert.Reference17Ideal.main (F := Ideal))) ⟨m', fun _ => 0, g'⟩ fun r =>
    ∀ c : Dev Cert.Reference17Ideal.nD,
      r.2.mem ((c.tc : Thread Cert.Reference17Ideal.nD Cert.Reference17Ideal.τ).loc Cert.Reference17Ideal.main_v0) = Cert.Reference17Ideal.Read.val_main_v0 (m' (c.tc.loc Cert.Reference17Ideal.main_arg0))
      ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0) :=
  (θ_run Cert.Reference17Ideal.defs _ _).mono (fun r hr c => ⟨
    (hr c).1.trans (Cert.Reference17Ideal.Read.val_main_v0_eq _),
    (hr c).2⟩) (Cert.Reference17Ideal.Value.run m' g')

/-- Over the extended reals the call ends with the reference's results. -/
theorem algebraic : Cert.algebraic_Kernel17Ideal_Reference17Ideal (hKernel17Ideal := Cert.Kernel17Ideal.Gen.facts) (hReference17Ideal := Cert.Reference17Ideal.Gen.facts) := by
  intro m g m' g' _ h
  refine ⟨fun c => res1 m c, ?_, ?_⟩
  · refine (θ_run Cert.Kernel17Ideal.defs _ _).mono (fun r hr c => ?_) (Cert.Kernel17Ideal.Value.run_blocks m g)
    obtain ⟨h0, hk⟩ := hr c
    exact ⟨h0.trans (fin1 m c), hk⟩
  · refine (θ_run Cert.Reference17Ideal.defs _ _).mono (fun r hr c => ?_) (ref_run m' g')
    obtain ⟨h0, hk⟩ := hr c
    have a0 := h c
    rw [a0] at h0
    exact ⟨h0, hk⟩

/-- The reference's frame: it declares no semaphore. -/
theorem frame_ref : Cert.quiescent_Reference17Ideal (hReference17Ideal := Cert.Reference17Ideal.Gen.facts) := by
  intro m g _
  exact (θ_run Cert.Reference17Ideal.defs _ _).mono (fun r h => ⟨fun c => (h c).2, sem_eq_zero_of_no_sems (by decide) r.2⟩) (ref_run m g)

end Cert.Proof.SmallSum

end
-- ==== Proof.InBwd.lean ====
/- The backward pass of the in projection and its norm: the gradient at the normed rows, the gradient at the residual
   stream and the gradient at the norm weights. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Rms
public import Idealize.ShloMosaic.Lib.Tactic
public import Idealize.ShloMosaic.Adequacy

@[expose] public section

noncomputable section

open Idealize.ShloMosaic Idealize.ShloMosaic.TcCoe Idealize.SL.Sem Cert.Alg

namespace Cert.Reference2Ideal.Read
open Cert.Reference2Ideal Cert.Reference2Ideal.Gen

variable (x0 : (⟨S4096x1024, .f32⟩ : BufTy).Contents (Elt Ideal)) (x1 : (⟨S1024, .f32⟩ : BufTy).Contents (Elt Ideal)) (x2 : (⟨S1024x5760, .f32⟩ : BufTy).Contents (Elt Ideal)) (x3 : (⟨S4096x5760, .f32⟩ : BufTy).Contents (Elt Ideal)) (x4 : (⟨S4096x1024, .f32⟩ : BufTy).Contents (Elt Ideal))

/-- The gradient at the normed rows. -/
theorem dh_apply (i : Fin 4096) (q : Fin 1024) : val_main_v17 (F := Ideal) x2 x3 (ix2 i q) = ∑ j : Fin 5760, x3 (ix2 i j) * x2 (ix2 q j) := by
  pointwise [val_main_v17]

/-- The gradient at the residual stream: the cotangent that came past and the norm's gradient. -/
theorem dx_apply (i : Fin 4096) (q : Fin 1024) :
    val_main_v38 (F := Ideal) x0 x1 x2 x3 x4 (ix2 i q)
      = x4 (ix2 i q) + rmsK cN cE (fun k => x0 (ix2 i k)) (fun k => val_main_v17 (F := Ideal) x2 x3 (ix2 i k) * x1 (ix1 k)) q := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v18, val_main_cst_3, val_main_v19, val_main_v20, val_main_v21, val_main_v22, val_main_cst_4, val_main_v23, val_main_v24, val_main_cst_5, val_main_v25, val_main_v26, val_main_v27, val_main_v28, val_main_v29, val_main_cst_6, val_main_v30, val_main_v31, val_main_cst_7, val_main_v32, val_main_v33, val_main_v34, val_main_v35, val_main_v36, val_main_v37, val_main_v38, val_main_v39]
  rw [← rms_ref]
  unfold rmsF rinv
  simp [cN, cE, add_assoc]

/-- The gradient at the norm weights: a sum over the rows. -/
theorem dg_apply (q : Fin 1024) :
    val_main_v39 (F := Ideal) x0 x2 x3 (ix2 0 q)
      = ∑ i, val_main_v17 (F := Ideal) x2 x3 (ix2 i q) * (x0 (ix2 i q) * rinv cN cE (fun k => x0 (ix2 i k))) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v18, val_main_cst_3, val_main_v19, val_main_v20, val_main_v21, val_main_v22, val_main_cst_4, val_main_v23, val_main_v24, val_main_cst_5, val_main_v25, val_main_v26, val_main_v27, val_main_v28, val_main_v29, val_main_cst_6, val_main_v30, val_main_v31, val_main_cst_7, val_main_v32, val_main_v33, val_main_v34, val_main_v35, val_main_v36, val_main_v37, val_main_v38, val_main_v39]
  unfold rinv
  simp [cN, cE, mul_comm]

end Cert.Reference2Ideal.Read

namespace Cert.Kernel2Ideal.Value
open Cert.Kernel2Ideal Cert.Kernel2Ideal.Gen

theorem hz : (![0, 0] : Fin 2 → Nat) = fun _ => 0 := funext fun a => by fin_cases a <;> rfl

section
variable (v0 : Vec Ideal S512x5760 .bf16) (v2 : Vec Ideal S1024x5760 .bf16) (v5 : Vec Ideal S512x1024 .f32) (v6 : Vec Ideal S1x1024 .f32) (v31 : Vec Ideal S512x1024 .f32)

/-- The block of the gradient at the normed rows. -/
theorem pay2_apply (p : Fin 512) (q : Fin 1024) : (k0_pay2 v0 v2 (ix2 p q) : EReal) = ∑ j : Fin 5760, (v0 (ix2 p j) : EReal) * (v2 (ix2 q j) : EReal) := by
  unfold k0_pay2
  pointwise

/-- The block of the gradient at the residual stream. -/
theorem pay5_apply (p : Fin 512) (q : Fin 1024) :
    (k0_pay5 v0 v2 v5 v6 v31 (ix2 p q) : EReal)
      = v31 (ix2 p q) + rmsK cN cE (fun k => v5 (ix2 p k)) (fun k => k0_pay2 v0 v2 (ix2 p k) * v6 (ix2 0 k)) q := by
  unfold k0_pay5 k0_pay4 k0_pay3
  pointwise
  rfl

/-- The block's share of the gradient at the norm weights. -/
theorem pay6_apply (q : Fin 1024) :
    (k0_pay6 v0 v2 v5 (ix2 0 q) : EReal)
      = ∑ p : Fin 512, (k0_pay2 v0 v2 (ix2 p q) : EReal) * (v5 (ix2 p q) * rinv cN cE (fun k => v5 (ix2 p k))) := by
  unfold k0_pay6 k0_pay4 k0_pay3
  pointwise
  try rfl

theorem pay1_apply (u w : Vec Ideal S1x1024 .f32) (q : Fin 1024) : (k0_pay1 u w (ix2 0 q) : EReal) = w (ix2 0 q) + u (ix2 0 q) := by
  unfold k0_pay1
  pointwise
end

/-- What the case leaves of the gradient at the residual stream. -/
theorem out5_A (c : Dev nD) (i : grid0.Coords) (arg1 : Memref sig .tc .vmem S512x5760 .bf16) (harg1 : arg1.IsWhole) (arg2 : Memref sig .tc .vmem S1024x5760 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (hc0 : cond0_0 i) (hc1 : ¬cond0_1 i)
    (x0 : Vec Ideal S512x5760 .bf16) (x1 : Vec Ideal S1024x5760 .bf16) (x2 : Vec Ideal S512x1024 .f32) (x3 : Vec Ideal S1x1024 .f32) (x4 : Vec Ideal S512x1024 .f32) :
    out0_A_5 c i arg1 harg1 arg2 harg2 arg3 harg3 arg4 harg4 arg5 harg5 arg6 harg6 arg7 harg7 hc0 hc1 x0 x1 x2 x3 x4 = k0_pay5 x0 x1 x2 x3 x4 := by
  unfold out0_A_5
  rw [View.read_writes_eq_canon _ _ _ (cover0_A_5 c i arg1 harg1 arg2 harg2 arg3 harg3 arg4 harg4 arg5 harg5 arg6 harg6 arg7 harg7 hc0 hc1 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S512x5760) hz, View.ld_unit_zero (S := S1024x5760) hz, View.ld_unit_zero (S := S512x1024) hz, View.ld_unit_zero (S := S1x1024) hz]

/-- What the case leaves of the gradient at the norm weights. -/
theorem out6_A (c : Dev nD) (i : grid0.Coords) (arg1 : Memref sig .tc .vmem S512x5760 .bf16) (harg1 : arg1.IsWhole) (arg2 : Memref sig .tc .vmem S1024x5760 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (hc0 : cond0_0 i) (hc1 : ¬cond0_1 i)
    (x0 : Vec Ideal S512x5760 .bf16) (x1 : Vec Ideal S1024x5760 .bf16) (x2 : Vec Ideal S512x1024 .f32) (x3 : Vec Ideal S1x1024 .f32) (x4 : Vec Ideal S512x1024 .f32) :
    out0_A_6 c i arg1 harg1 arg2 harg2 arg3 harg3 arg4 harg4 arg5 harg5 arg6 harg6 arg7 harg7 hc0 hc1 x0 x1 x2 x3 x4 = k0_pay6 x0 x1 x2 := by
  unfold out0_A_6
  rw [View.read_writes_eq_canon _ _ _ (cover0_A_6 c i arg1 harg1 arg2 harg2 arg3 harg3 arg4 harg4 arg5 harg5 arg6 harg6 arg7 harg7 hc0 hc1 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S512x5760) hz, View.ld_unit_zero (S := S1024x5760) hz, View.ld_unit_zero (S := S512x1024) hz, View.ld_unit_zero (S := S1x1024) hz]

/-- What the case leaves of the gradient at the residual stream. -/
theorem out5_B (c : Dev nD) (i : grid0.Coords) (arg1 : Memref sig .tc .vmem S512x5760 .bf16) (harg1 : arg1.IsWhole) (arg2 : Memref sig .tc .vmem S1024x5760 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (hc0 : ¬cond0_0 i) (hc1 : cond0_1 i)
    (x0 : Vec Ideal S512x5760 .bf16) (x1 : Vec Ideal S1024x5760 .bf16) (x2 : Vec Ideal S512x1024 .f32) (x3 : Vec Ideal S1x1024 .f32) (x4 : Vec Ideal S512x1024 .f32) (xo6 : Vec Ideal S1x1024 .f32) :
    out0_B_5 c i arg1 harg1 arg2 harg2 arg3 harg3 arg4 harg4 arg5 harg5 arg6 harg6 arg7 harg7 hc0 hc1 x0 x1 x2 x3 x4 xo6 = k0_pay5 x0 x1 x2 x3 x4 := by
  unfold out0_B_5
  rw [View.read_writes_eq_canon _ _ _ (cover0_B_5 c i arg1 harg1 arg2 harg2 arg3 harg3 arg4 harg4 arg5 harg5 arg6 harg6 arg7 harg7 hc0 hc1 x0 x1 x2 x3 x4 xo6)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S512x5760) hz, View.ld_unit_zero (S := S1024x5760) hz, View.ld_unit_zero (S := S512x1024) hz, View.ld_unit_zero (S := S1x1024) hz]

/-- What the case leaves of the gradient at the norm weights. -/
theorem out6_B (c : Dev nD) (i : grid0.Coords) (arg1 : Memref sig .tc .vmem S512x5760 .bf16) (harg1 : arg1.IsWhole) (arg2 : Memref sig .tc .vmem S1024x5760 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (hc0 : ¬cond0_0 i) (hc1 : cond0_1 i)
    (x0 : Vec Ideal S512x5760 .bf16) (x1 : Vec Ideal S1024x5760 .bf16) (x2 : Vec Ideal S512x1024 .f32) (x3 : Vec Ideal S1x1024 .f32) (x4 : Vec Ideal S512x1024 .f32) (xo6 : Vec Ideal S1x1024 .f32) :
    out0_B_6 c i arg1 harg1 arg2 harg2 arg3 harg3 arg4 harg4 arg5 harg5 arg6 harg6 arg7 harg7 hc0 hc1 x0 x1 x2 x3 x4 xo6 = k0_pay1 (k0_pay6 x0 x1 x2) xo6 := by
  unfold out0_B_6
  rw [View.read_writes_eq_canon _ _ _ (cover0_B_6 c i arg1 harg1 arg2 harg2 arg3 harg3 arg4 harg4 arg5 harg5 arg6 harg6 arg7 harg7 hc0 hc1 x0 x1 x2 x3 x4 xo6)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S512x5760) hz, View.ld_unit_zero (S := S1024x5760) hz, View.ld_unit_zero (S := S512x1024) hz, View.ld_unit_zero (S := S1x1024) hz]

variable (m : (ℓ : Loc nD τ sig) → Buf (Elt Ideal) ℓ)

/-- The residual stream. -/
abbrev A0 (c : Dev nD) : Vec Ideal S4096x1024 .f32 := m ((c : Thread nD τ).loc main_arg0)
/-- The norm weights. -/
abbrev A1 (c : Dev nD) : Vec Ideal S1024 .f32 := m ((c : Thread nD τ).loc main_arg1)
/-- The weights. -/
abbrev A2 (c : Dev nD) : Vec Ideal S1024x5760 .f32 := m ((c : Thread nD τ).loc main_arg2)
/-- The gradient at the product. -/
abbrev A3 (c : Dev nD) : Vec Ideal S4096x5760 .f32 := m ((c : Thread nD τ).loc main_arg3)
/-- The gradient that reaches the residual stream past the product. -/
abbrev A4 (c : Dev nD) : Vec Ideal S4096x1024 .f32 := m ((c : Thread nD τ).loc main_arg4)

/-- Row `p` of tile `t`. -/
abbrev row (t : Fin cfg0.N) (p : Fin 512) : Fin 4096 := ⟨512 * t.val + p.val, by have := t.isLt; have h : cfg0.N = 8 := N_0; omega⟩

/-- The gradient at the product as the call takes it. -/
theorem V_ct (c : Dev nD) : (V m c main_v0 : S4096x5760.Idx → EReal) = A3 m c := by
  dsimp only [V, hostOps0, List.flatten_cons, List.flatten_nil, List.append_nil, List.cons_append, List.nil_append]
  after_results
  rfl

/-- The weights as the call takes them. -/
theorem V_w (c : Dev nD) : (V m c main_v1 : S1024x5760.Idx → EReal) = A2 m c := by
  dsimp only [V, hostOps0, List.flatten_cons, List.flatten_nil, List.append_nil, List.cons_append, List.nil_append]
  after_results
  rfl

/-- The norm weights as the call takes them. -/
theorem V_g (c : Dev nD) (q : Fin 1024) : (V m c main_v2 (ix2 0 q) : EReal) = A1 m c (ix1 q) := by
  dsimp only [V, hostOps0, List.flatten_cons, List.flatten_nil, List.append_nil, List.cons_append, List.nil_append]
  after_results
  pointwise

/-- The product gradient's tile. -/
theorem b0 (c : Dev nD) (t : Fin cfg0.N) (p : Fin 512) (q : Fin 5760) : (iblk m c 0 t (ix2 p q) : EReal) = A3 m c (ix2 (row t p) q) := by
  unfold iblk
  rw [View.read_apply]
  show (V m c main_v0 _ : EReal) = _
  rw [V_ct]
  congr 1
  funext a
  apply Fin.ext
  have hi : win0_0.index t 0 = t.val ∧ win0_0.index t 1 = 0 := (by decide +kernel : ∀ t : Fin grid0.N, win0_0.index t 0 = t.val ∧ win0_0.index t 1 = 0) t
  match a with
  | ⟨0, _⟩ => show win0_0.index t 0 * 512 + 1 * p.val = 512 * t.val + p.val; rw [hi.1]; omega
  | ⟨1, _⟩ => show win0_0.index t 1 * 5760 + 1 * q.val = q.val; rw [hi.2]; omega

/-- The weights. -/
theorem b1 (c : Dev nD) (t : Fin cfg0.N) (p : Fin 1024) (q : Fin 5760) : (iblk m c 1 t (ix2 p q) : EReal) = A2 m c (ix2 p q) := by
  unfold iblk
  rw [View.read_apply]
  show (V m c main_v1 _ : EReal) = _
  rw [V_w]
  congr 1
  funext a
  apply Fin.ext
  have hi : win0_1.index t 0 = 0 ∧ win0_1.index t 1 = 0 := (by decide +kernel : ∀ t : Fin grid0.N, win0_1.index t 0 = 0 ∧ win0_1.index t 1 = 0) t
  match a with
  | ⟨0, _⟩ => show win0_1.index t 0 * 1024 + 1 * p.val = p.val; rw [hi.1]; omega
  | ⟨1, _⟩ => show win0_1.index t 1 * 5760 + 1 * q.val = q.val; rw [hi.2]; omega

/-- The residual stream's tile. -/
theorem b2 (c : Dev nD) (t : Fin cfg0.N) (p : Fin 512) (q : Fin 1024) : (iblk m c 2 t (ix2 p q) : EReal) = A0 m c (ix2 (row t p) q) := by
  unfold iblk
  rw [View.read_apply]
  show (V m c main_arg0 _ : EReal) = _
  rw [V_main_arg0]
  congr 1
  funext a
  apply Fin.ext
  have hi : win0_2.index t 0 = t.val ∧ win0_2.index t 1 = 0 := (by decide +kernel : ∀ t : Fin grid0.N, win0_2.index t 0 = t.val ∧ win0_2.index t 1 = 0) t
  match a with
  | ⟨0, _⟩ => show win0_2.index t 0 * 512 + 1 * p.val = 512 * t.val + p.val; rw [hi.1]; omega
  | ⟨1, _⟩ => show win0_2.index t 1 * 1024 + 1 * q.val = q.val; rw [hi.2]; omega

/-- The norm weights. -/
theorem b3 (c : Dev nD) (t : Fin cfg0.N) (q : Fin 1024) : (iblk m c 3 t (ix2 0 q) : EReal) = A1 m c (ix1 q) := by
  unfold iblk
  rw [View.read_apply]
  refine Eq.trans ?_ (V_g m c q)
  show (V m c main_v2 _ : EReal) = _
  congr 1
  funext a
  apply Fin.ext
  have hi : win0_3.index t 0 = 0 ∧ win0_3.index t 1 = 0 := (by decide +kernel : ∀ t : Fin grid0.N, win0_3.index t 0 = 0 ∧ win0_3.index t 1 = 0) t
  match a with
  | ⟨0, _⟩ => show win0_3.index t 0 * 1 + 1 * 0 = 0; rw [hi.1]
  | ⟨1, _⟩ => show win0_3.index t 1 * 1024 + 1 * q.val = q.val; rw [hi.2]; omega

/-- The tile of the gradient that came past. -/
theorem b4 (c : Dev nD) (t : Fin cfg0.N) (p : Fin 512) (q : Fin 1024) : (iblk m c 4 t (ix2 p q) : EReal) = A4 m c (ix2 (row t p) q) := by
  unfold iblk
  rw [View.read_apply]
  show (V m c main_arg4 _ : EReal) = _
  rw [V_main_arg4]
  congr 1
  funext a
  apply Fin.ext
  have hi : win0_4.index t 0 = t.val ∧ win0_4.index t 1 = 0 := (by decide +kernel : ∀ t : Fin grid0.N, win0_4.index t 0 = t.val ∧ win0_4.index t 1 = 0) t
  match a with
  | ⟨0, _⟩ => show win0_4.index t 0 * 512 + 1 * p.val = 512 * t.val + p.val; rw [hi.1]; omega
  | ⟨1, _⟩ => show win0_4.index t 1 * 1024 + 1 * q.val = q.val; rw [hi.2]; omega

theorem caseA (t : Fin cfg0.N) (h : t.val = 0) : t.val % 8 = 0 ∧ ¬1 ≤ t.val := by omega
theorem caseB (t : Fin cfg0.N) (h : t.val ≠ 0) : ¬t.val % 8 = 0 ∧ 1 ≤ t.val := by
  have := t.isLt
  have h8 : cfg0.N = 8 := N_0
  omega

/-- What a point leaves of the gradient at the residual stream. -/
theorem o5 (c : Dev nD) (t : Fin cfg0.N) : (outsAt0 m c t.val t.isLt).1 = k0_pay5 (iblk m c 0 t) (iblk m c 1 t) (iblk m c 2 t) (iblk m c 3 t) (iblk m c 4 t) := by
  by_cases h : t.val = 0
  · have hA := caseA t h
    rw [outsAt0_A m c t hA.1 hA.2]
    dsimp only
    rw [out5_A]
  · have hB := caseB t h
    rw [outsAt0_B m c t hB.1 hB.2]
    dsimp only
    rw [out5_B]

/-- The point's product is the reference's gradient at the normed rows, on its rows. -/
theorem dh_block (c : Dev nD) (t : Fin cfg0.N) (p : Fin 512) (q : Fin 1024) :
    (k0_pay2 (iblk m c 0 t) (iblk m c 1 t) (ix2 p q) : EReal) = Cert.Reference2Ideal.Read.val_main_v17 (F := Ideal) (A2 m c) (A3 m c) (ix2 (row t p) q) := by
  rw [Cert.Reference2Ideal.Read.dh_apply]
  refine (pay2_apply _ _ p q).trans (Finset.sum_congr rfl fun j _ => ?_)
  exact congrArg₂ (fun a b : EReal => a * b) (b0 m c t p j) (b1 m c t q j)

/-- The call's array of the gradient at the residual stream: the reference's. -/
abbrev res5 (c : Dev nD) : Buf (Elt Ideal) ((c : Thread nD τ).loc main_v3_0) := Cert.Reference2Ideal.Read.val_main_v38 (F := Ideal) (A0 m c) (A1 m c) (A2 m c) (A3 m c) (A4 m c)

/-- Each point writes back its rows of the gradient at the residual stream. -/
theorem wrote5 (c : Dev nD) (t : Fin cfg0.N) (hf : (cfg0.win 5).flush t = true) :
    (dats m 0 c).flushed 5 t = ((cfg0.win 5).blk t).view.read (Elt Ideal) (res5 m c) := by
  rw [flushed5, o5]
  funext j
  obtain ⟨p, q, rfl⟩ : ∃ (p : Fin 512) (q : Fin 1024), j = ix2 p q := ⟨j 0, j 1, eq_ix2 (n0 := 512) (n1 := 1024) j⟩
  rw [View.read_apply]
  have e : ((cfg0.win 5).blk t).view.emb (ix2 p q) = ix2 (row t p) q := by
    have hi := (by decide +kernel : ∀ t : Fin grid0.N, win0_5.index t 0 = t.val ∧ win0_5.index t 1 = 0) t
    funext a
    apply Fin.ext
    match a with
    | ⟨0, _⟩ => show win0_5.index t 0 * 512 + 1 * p.val = 512 * t.val + p.val; rw [hi.1]; omega
    | ⟨1, _⟩ => show win0_5.index t 1 * 1024 + 1 * q.val = q.val; rw [hi.2]; omega
  rw [e]
  refine (pay5_apply _ _ _ _ _ p q).trans ?_
  refine Eq.trans ?_ (Cert.Reference2Ideal.Read.dx_apply _ _ _ _ _ (row t p) q).symm
  exact congrArg₂ (fun a b : EReal => a + b) (b4 m c t p q) (congrFun (congrArg₂ (rmsK cN cE) (funext fun k => b2 m c t p k)
    (funext fun k => congrArg₂ (fun a b : EReal => a * b) (dh_block m c t p k) (b3 m c t k))) q)

/-- The array after the run. -/
theorem fin5 (c : Dev nD) : (dats m 0 c).arrAt 5 cfg0.N = res5 m c :=
  (dats m 0 c).arrAt_eq_of_cover 5 (res5 m c) (wrote5 m c) fun i => by
    have h0 : (i 0 : Nat) < 4096 := (i 0).isLt
    have h1 : (i 1 : Nat) < 1024 := (i 1).isLt
    refine ⟨⟨(i 0 : Nat) / 512, by rw [show cfg0.N = 8 from N_0]; omega⟩, flush0_5 _, ?_⟩
    generalize ht : (⟨(i 0 : Nat) / 512, _⟩ : Fin cfg0.N) = t
    have hv : t.val = (i 0 : Nat) / 512 := by rw [← ht]
    show i ∈ ((View.whole main_v3_0).slice (win0_5.rect t)).set
    rw [View.set_slice_whole, Rect.mem_set_unit]
    have hi := (by decide +kernel : ∀ t : Fin grid0.N, win0_5.index t 0 = t.val ∧ win0_5.index t 1 = 0) t
    intro a
    match a with
    | ⟨0, _⟩ => show win0_5.index t 0 * 512 ≤ (i 0 : Nat) ∧ (i 0 : Nat) < win0_5.index t 0 * 512 + 512
                rw [hi.1]; omega
    | ⟨1, _⟩ => show win0_5.index t 1 * 1024 ≤ (i 1 : Nat) ∧ (i 1 : Nat) < win0_5.index t 1 * 1024 + 1024
                rw [hi.2]; omega

/-- A tile's share of the gradient at the norm weights. -/
def part6 (c : Dev nD) (t : Fin cfg0.N) : Vec Ideal S1x1024 .f32 := k0_pay6 (iblk m c 0 t) (iblk m c 1 t) (iblk m c 2 t)

/-- A tile's share is the sum over its rows. -/
theorem part6_apply (c : Dev nD) (t : Fin cfg0.N) (q : Fin 1024) :
    (part6 m c t (ix2 0 q) : EReal) = ∑ p : Fin 512, (fun i => (Cert.Reference2Ideal.Read.val_main_v17 (F := Ideal) (A2 m c) (A3 m c) (ix2 i q) : EReal) * ((A0 m c (ix2 i q) : EReal) * rinv cN cE (fun k => A0 m c (ix2 i k)))) (row t p) := by
  unfold part6
  refine (pay6_apply _ _ _ q).trans (Finset.sum_congr rfl fun p _ => ?_)
  exact congrArg₂ (fun a b : EReal => a * b) (dh_block m c t p q) (congrArg₂ (fun a b : EReal => a * b) (b2 m c t p q) (congrArg (rinv cN cE) (funext fun k => b2 m c t p k)))

/-- The first point leaves its tile's share. -/
theorem first6 (c : Dev nD) (h : 0 < cfg0.N) : (outsAt0 m c 0 h).2 = part6 m c ⟨0, h⟩ := by
  have hA := caseA ⟨0, h⟩ rfl
  have e := congrArg (fun z => z.2) (outsAt0_A m c ⟨0, h⟩ hA.1 hA.2)
  dsimp only at e
  rw [e, out6_A]
  rfl

/-- Each further point adds its tile's share. -/
theorem next6 (c : Dev nD) (n : ℕ) (h : n + 1 < cfg0.N) (q : Fin 1024) :
    ((outsAt0 m c (n + 1) h).2 (ix2 0 q) : EReal)
      = (outsAt0 m c n (Nat.lt_of_succ_lt h)).2 (ix2 0 q) + part6 m c ⟨n + 1, h⟩ (ix2 0 q) := by
  have hB := caseB ⟨n + 1, h⟩ (Nat.succ_ne_zero n)
  have e := congrArg (fun z => z.2) (outsAt0_B m c ⟨n + 1, h⟩ hB.1 hB.2)
  dsimp only at e
  rw [e, out6_B]
  exact pay1_apply _ _ q

/-- The rows are 8 tiles of 512. -/
theorem sum_tiles (g : Fin 4096 → EReal) (T : ℕ → EReal) (hT : ∀ t : Fin cfg0.N, T t.val = ∑ p : Fin 512, g (row t p)) :
    ∑ s ∈ Finset.range 8, T s = ∑ i : Fin 4096, g i := by
  have hN : cfg0.N = 8 := N_0
  rw [Finset.sum_range, sum_split (N := 4096) (a := 8) (b := 512) rfl g]
  exact Finset.sum_congr rfl fun s _ => hT ⟨s.val, by rw [hN]; exact s.isLt⟩

/-- The call's array of the gradient at the norm weights: the reference's. -/
abbrev res6 (c : Dev nD) : Buf (Elt Ideal) ((c : Thread nD τ).loc main_v3_1) := Cert.Reference2Ideal.Read.val_main_v39 (F := Ideal) (A0 m c) (A2 m c) (A3 m c)

/-- The last point leaves the sum over all the rows. -/
theorem last6 (c : Dev nD) (h : 7 < cfg0.N) (q : Fin 1024) :
    ((outsAt0 m c 7 h).2 (ix2 0 q) : EReal) = res6 m c (ix2 0 q) := by
  let T : ℕ → EReal := fun n => if h : n < cfg0.N then part6 m c ⟨n, h⟩ (ix2 0 q) else 0
  have hT : ∀ t : Fin cfg0.N, T t.val = part6 m c t (ix2 0 q) := fun t => dif_pos t.isLt
  refine (running (fun n h => (outsAt0 m c n h).2 (ix2 0 q)) T
    (fun h => (congrFun (first6 m c h) (ix2 0 q)).trans (hT ⟨0, h⟩).symm)
    (fun n h => (next6 m c n h q).trans (congrArg _ (hT ⟨n + 1, h⟩).symm)) 7 h).trans ?_
  refine (sum_tiles (fun i => (Cert.Reference2Ideal.Read.val_main_v17 (F := Ideal) (A2 m c) (A3 m c) (ix2 i q) : EReal) * ((A0 m c (ix2 i q) : EReal) * rinv cN cE (fun k => A0 m c (ix2 i k)))) T fun t => (hT t).trans (part6_apply m c t q)).trans ?_
  exact (Cert.Reference2Ideal.Read.dg_apply _ _ _ q).symm

/-- The one write-back, at the last point. -/
theorem wrote6 (c : Dev nD) (t : Fin cfg0.N) (hf : (cfg0.win 6).flush t = true) :
    (dats m 0 c).flushed 6 t = ((cfg0.win 6).blk t).view.read (Elt Ideal) (res6 m c) := by
  have hN : cfg0.N = 8 := N_0
  have hl : t.val = 7 := by have := (flush0_6 t).mp hf; have := t.isLt; omega
  obtain rfl : t = t0_7 := Fin.ext hl
  rw [flushed6]
  funext j
  obtain ⟨p, q, rfl⟩ : ∃ (p : Fin 1) (q : Fin 1024), j = ix2 p q := ⟨j 0, j 1, eq_ix2 (n0 := 1) (n1 := 1024) j⟩
  obtain rfl : p = 0 := Subsingleton.elim _ _
  rw [View.read_apply]
  have e : ((cfg0.win 6).blk t0_7).view.emb (ix2 0 q) = ix2 0 q := by
    have hi : win0_6.index t0_7 0 = 0 ∧ win0_6.index t0_7 1 = 0 := by decide +kernel
    funext a
    apply Fin.ext
    match a with
    | ⟨0, _⟩ => show win0_6.index t0_7 0 * 1 + 1 * 0 = 0; rw [hi.1]
    | ⟨1, _⟩ => show win0_6.index t0_7 1 * 1024 + 1 * q.val = q.val; rw [hi.2]; omega
  rw [e]
  exact last6 m c _ q

/-- The array after the run. -/
theorem fin6 (c : Dev nD) : (dats m 0 c).arrAt 6 cfg0.N = res6 m c :=
  (dats m 0 c).arrAt_eq_of_cover 6 (res6 m c) (wrote6 m c) fun i => by
    have h0 : (i 0 : Nat) < 1 := (i 0).isLt
    have h1 : (i 1 : Nat) < 1024 := (i 1).isLt
    refine ⟨t0_7, (flush0_6 t0_7).mpr rfl, ?_⟩
    show i ∈ ((View.whole main_v3_1).slice (win0_6.rect t0_7)).set
    rw [View.set_slice_whole, Rect.mem_set_unit]
    have hi : win0_6.index t0_7 0 = 0 ∧ win0_6.index t0_7 1 = 0 := by decide +kernel
    intro a
    match a with
    | ⟨0, _⟩ => show win0_6.index t0_7 0 * 1 ≤ (i 0 : Nat) ∧ (i 0 : Nat) < win0_6.index t0_7 0 * 1 + 1
                rw [hi.1]; omega
    | ⟨1, _⟩ => show win0_6.index t0_7 1 * 1024 ≤ (i 1 : Nat) ∧ (i 1 : Nat) < win0_6.index t0_7 1 * 1024 + 1024
                rw [hi.2]; omega

end Cert.Kernel2Ideal.Value

namespace Cert.Proof.InBwd
open Cert.Kernel2Ideal.Value

variable (m' : (ℓ : Loc Cert.Reference2Ideal.nD Cert.Reference2Ideal.τ Cert.Reference2Ideal.sig) → Buf (Elt Ideal) ℓ) (g' : Dev Cert.Reference2Ideal.nD → PrngReg)

/-- The reference's run: each result is its last stage over the arguments, and the arguments are kept. -/
theorem ref_run : θ_run (Cert.Reference2Ideal.defs (F := Ideal)) (onTc (τ := Cert.Reference2Ideal.τ) (Cert.Reference2Ideal.main (F := Ideal))) ⟨m', fun _ => 0, g'⟩ fun r =>
    ∀ c : Dev Cert.Reference2Ideal.nD,
      r.2.mem ((c.tc : Thread Cert.Reference2Ideal.nD Cert.Reference2Ideal.τ).loc Cert.Reference2Ideal.main_v38) = Cert.Reference2Ideal.Read.val_main_v38 (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4))
      ∧ r.2.mem ((c.tc : Thread Cert.Reference2Ideal.nD Cert.Reference2Ideal.τ).loc Cert.Reference2Ideal.main_v39) = Cert.Reference2Ideal.Read.val_main_v39 (m' (c.tc.loc Cert.Reference2Ideal.main_arg0)) (m' (c.tc.loc Cert.Reference2Ideal.main_arg2)) (m' (c.tc.loc Cert.Reference2Ideal.main_arg3))
      ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4) :=
  (θ_run Cert.Reference2Ideal.defs _ _).mono (fun r hr c => ⟨
    (hr c).1.trans (Cert.Reference2Ideal.Read.val_main_v38_eq _ _),
    (hr c).2.1.trans (Cert.Reference2Ideal.Read.val_main_v39_eq _ _ _),
    (hr c).2.2⟩) (Cert.Reference2Ideal.Value.run m' g')

/-- Over the extended reals the call ends with the reference's results. -/
theorem algebraic : Cert.algebraic_Kernel2Ideal_Reference2Ideal (hKernel2Ideal := Cert.Kernel2Ideal.Gen.facts) (hReference2Ideal := Cert.Reference2Ideal.Gen.facts) := by
  intro m g m' g' _ h
  refine ⟨fun c => res5 m c, fun c => res6 m c, ?_, ?_⟩
  · refine (θ_run Cert.Kernel2Ideal.defs _ _).mono (fun r hr c => ?_) (Cert.Kernel2Ideal.Value.run_blocks m g)
    obtain ⟨h0, h1, hk⟩ := hr c
    exact ⟨h0.trans (fin5 m c), h1.trans (fin6 m c), hk⟩
  · refine (θ_run Cert.Reference2Ideal.defs _ _).mono (fun r hr c => ?_) (ref_run m' g')
    obtain ⟨h0, h1, hk⟩ := hr c
    obtain ⟨a0, a1, a2, a3, a4⟩ := h c
    rw [a0, a1, a2, a3, a4] at h0
    rw [a0, a2, a3] at h1
    exact ⟨h0, h1, hk⟩

/-- The reference's frame: it declares no semaphore. -/
theorem frame_ref : Cert.quiescent_Reference2Ideal (hReference2Ideal := Cert.Reference2Ideal.Gen.facts) := by
  intro m g _
  exact (θ_run Cert.Reference2Ideal.defs _ _).mono (fun r h => ⟨fun c => (h c).2.2, sem_eq_zero_of_no_sems (by decide) r.2⟩) (ref_run m g)

end Cert.Proof.InBwd

end
-- ==== Proof.OutBwd.lean ====
/- The backward pass of the out projection and the norm after it: the gradient at the product, at the norm weights and at
   the concatenated heads. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Rms
public import Idealize.ShloMosaic.Lib.Tactic
public import Idealize.ShloMosaic.Adequacy

@[expose] public section

noncomputable section

open Idealize.ShloMosaic Idealize.ShloMosaic.TcCoe Idealize.SL.Sem Cert.Alg

namespace Cert.Reference3Ideal.Read
open Cert.Reference3Ideal Cert.Reference3Ideal.Gen

variable (x0 : (⟨S4096x2048, .f32⟩ : BufTy).Contents (Elt Ideal)) (x1 : (⟨S2048x1024, .f32⟩ : BufTy).Contents (Elt Ideal)) (x2 : (⟨S1024, .f32⟩ : BufTy).Contents (Elt Ideal)) (x3 : (⟨S4096x1024, .f32⟩ : BufTy).Contents (Elt Ideal))

/-- The gradient at the product: the norm's gradient of `ct * g`, row by row. -/
theorem dmix_apply (i : Fin 4096) (q : Fin 1024) :
    (val_main_v38 (F := Ideal) x0 x1 x2 x3 (ix2 i q) : EReal) = rmsK cN cE (fun k => val_main_v0 (F := Ideal) x0 x1 (ix2 i k)) (fun k => x3 (ix2 i k) * x2 (ix1 k)) q := by
  pointwise [val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_cst_6, val_main_v29, val_main_v30, val_main_cst_7, val_main_v31, val_main_v32, val_main_v33, val_main_v34, val_main_v35, val_main_v36, val_main_v37, val_main_v38, val_main_v39, val_main_v40]
  rw [← rms_ref]
  unfold rmsF rinv
  simp [cN, cE, add_assoc]

/-- The gradient at the norm weights: a sum over the rows. -/
theorem dg_apply (q : Fin 1024) :
    val_main_v39 (F := Ideal) x0 x1 x3 (ix2 0 q)
      = ∑ i, x3 (ix2 i q) * (val_main_v0 (F := Ideal) x0 x1 (ix2 i q) * rinv cN cE (fun k => val_main_v0 (F := Ideal) x0 x1 (ix2 i k))) := by
  pointwise [val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_cst_6, val_main_v29, val_main_v30, val_main_cst_7, val_main_v31, val_main_v32, val_main_v33, val_main_v34, val_main_v35, val_main_v36, val_main_v37, val_main_v38, val_main_v39, val_main_v40]
  unfold rinv
  simp [cN, cE, mul_comm]

/-- The gradient at the heads: the product with the weights. -/
theorem dcat_apply (i : Fin 4096) (q : Fin 2048) :
    (val_main_v40 (F := Ideal) x0 x1 x2 x3 (ix2 i q) : EReal) = ∑ j : Fin 1024, (val_main_v38 (F := Ideal) x0 x1 x2 x3 (ix2 i j) : EReal) * x1 (ix2 q j) := by
  pointwise [val_main_v40, val_main_v38, val_main_v37]

end Cert.Reference3Ideal.Read

namespace Cert.Kernel3Ideal.Value
open Cert.Kernel3Ideal Cert.Kernel3Ideal.Gen

theorem hz : (![0, 0] : Fin 2 → Nat) = fun _ => 0 := funext fun a => by fin_cases a <;> rfl

section
variable (v10 : Vec Ideal S1024x1024 .bf16) (v13 : Vec Ideal S1x1024 .f32) (v15 : Vec Ideal S1024x1024 .f32)

/-- The block of the gradient at the product. -/
theorem pay5_apply (p : Fin 1024) (q : Fin 1024) :
    (k0_pay5 v10 v13 v15 (ix2 p q) : EReal) = rmsK cN cE (fun k => v10 (ix2 p k)) (fun k => v15 (ix2 p k) * v13 (ix2 0 k)) q := by
  unfold_payloads
  pointwise
  rfl

/-- The block's share of the gradient at the norm weights. -/
theorem pay6_apply (q : Fin 1024) :
    (k0_pay6 v10 v15 (ix2 0 q) : EReal) = ∑ p : Fin 1024, (v15 (ix2 p q) : EReal) * (v10 (ix2 p q) * rinv cN cE (fun k => v10 (ix2 p k))) := by
  unfold_payloads
  pointwise
  try rfl

theorem pay7_apply (w : Vec Ideal S1x1024 .f32) (q : Fin 1024) : (k0_pay7 v10 v15 w (ix2 0 q) : EReal) = w (ix2 0 q) + k0_pay6 v10 v15 (ix2 0 q) := by
  unfold k0_pay7
  pointwise

/-- The block of the gradient at the heads. -/
theorem pay1_apply (d : Vec Ideal S1024x1024 .bf16) (w : Vec Ideal S2048x1024 .bf16) (p : Fin 1024) (q : Fin 2048) :
    (k0_pay1 d w (ix2 p q) : EReal) = ∑ j : Fin 1024, (d (ix2 p j) : EReal) * (w (ix2 q j) : EReal) := by
  unfold k0_pay1
  pointwise
end

/-- What the case leaves of the gradient at the product. -/
theorem out4_A (c : Dev nD) (i : grid0.Coords) (arg2 : Memref sig .tc .vmem S1024x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2048 .bf16) (harg8 : arg8.IsWhole) (hc0 : cond0_0 i) (hc1 : cond0_1 i) (hc2 : ¬cond0_2 i)
    (x0 : Vec Ideal S1024x1024 .bf16) (x1 : Vec Ideal S1x1024 .f32) (x2 : Vec Ideal S1024x1024 .f32) (x3 : Vec Ideal S2048x1024 .bf16) :
    out0_A_4 c i arg2 harg2 arg3 harg3 arg4 harg4 arg5 harg5 arg6 harg6 arg7 harg7 arg8 harg8 hc0 hc1 hc2 x0 x1 x2 x3 = k0_pay5 x0 x1 x2 := by
  unfold out0_A_4
  rw [View.read_writes_eq_canon _ _ _ (cover0_A_4 c i arg2 harg2 arg3 harg3 arg4 harg4 arg5 harg5 arg6 harg6 arg7 harg7 arg8 harg8 hc0 hc1 hc2 x0 x1 x2 x3)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1024) hz, View.ld_unit_zero (S := S2048x1024) hz, View.ld_unit_zero (S := S1x1024) hz]

/-- What the case leaves of the gradient at the norm weights. -/
theorem out5_A (c : Dev nD) (i : grid0.Coords) (arg2 : Memref sig .tc .vmem S1024x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2048 .bf16) (harg8 : arg8.IsWhole) (hc0 : cond0_0 i) (hc1 : cond0_1 i) (hc2 : ¬cond0_2 i)
    (x0 : Vec Ideal S1024x1024 .bf16) (x1 : Vec Ideal S1x1024 .f32) (x2 : Vec Ideal S1024x1024 .f32) (x3 : Vec Ideal S2048x1024 .bf16) :
    out0_A_5 c i arg2 harg2 arg3 harg3 arg4 harg4 arg5 harg5 arg6 harg6 arg7 harg7 arg8 harg8 hc0 hc1 hc2 x0 x1 x2 x3 = k0_pay6 x0 x2 := by
  unfold out0_A_5
  rw [View.read_writes_eq_canon _ _ _ (cover0_A_5 c i arg2 harg2 arg3 harg3 arg4 harg4 arg5 harg5 arg6 harg6 arg7 harg7 arg8 harg8 hc0 hc1 hc2 x0 x1 x2 x3)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1024) hz, View.ld_unit_zero (S := S2048x1024) hz, View.ld_unit_zero (S := S1x1024) hz]

/-- What the case leaves of the gradient at the heads. -/
theorem out6_A (c : Dev nD) (i : grid0.Coords) (arg2 : Memref sig .tc .vmem S1024x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2048 .bf16) (harg8 : arg8.IsWhole) (hc0 : cond0_0 i) (hc1 : cond0_1 i) (hc2 : ¬cond0_2 i)
    (x0 : Vec Ideal S1024x1024 .bf16) (x1 : Vec Ideal S1x1024 .f32) (x2 : Vec Ideal S1024x1024 .f32) (x3 : Vec Ideal S2048x1024 .bf16) :
    out0_A_6 c i arg2 harg2 arg3 harg3 arg4 harg4 arg5 harg5 arg6 harg6 arg7 harg7 arg8 harg8 hc0 hc1 hc2 x0 x1 x2 x3 = k0_pay1 (k0_pay5 x0 x1 x2) x3 := by
  unfold out0_A_6
  rw [View.read_writes_eq_canon _ _ _ (cover0_A_6 c i arg2 harg2 arg3 harg3 arg4 harg4 arg5 harg5 arg6 harg6 arg7 harg7 arg8 harg8 hc0 hc1 hc2 x0 x1 x2 x3)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1024) hz, View.ld_unit_zero (S := S2048x1024) hz, View.ld_unit_zero (S := S1x1024) hz]
  rw [View.readCov_unit_zero (S := S1024x1024) _ hz]

/-- What the case leaves of the gradient at the product. -/
theorem out4_B (c : Dev nD) (i : grid0.Coords) (arg2 : Memref sig .tc .vmem S1024x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2048 .bf16) (harg8 : arg8.IsWhole) (hc0 : cond0_0 i) (hc1 : ¬cond0_1 i) (hc2 : cond0_2 i)
    (x0 : Vec Ideal S1024x1024 .bf16) (x1 : Vec Ideal S1x1024 .f32) (x2 : Vec Ideal S1024x1024 .f32) (x3 : Vec Ideal S2048x1024 .bf16) (xo5 : Vec Ideal S1x1024 .f32) :
    out0_B_4 c i arg2 harg2 arg3 harg3 arg4 harg4 arg5 harg5 arg6 harg6 arg7 harg7 arg8 harg8 hc0 hc1 hc2 x0 x1 x2 x3 xo5 = k0_pay5 x0 x1 x2 := by
  unfold out0_B_4
  rw [View.read_writes_eq_canon _ _ _ (cover0_B_4 c i arg2 harg2 arg3 harg3 arg4 harg4 arg5 harg5 arg6 harg6 arg7 harg7 arg8 harg8 hc0 hc1 hc2 x0 x1 x2 x3 xo5)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1024) hz, View.ld_unit_zero (S := S2048x1024) hz, View.ld_unit_zero (S := S1x1024) hz]

/-- What the case leaves of the gradient at the norm weights. -/
theorem out5_B (c : Dev nD) (i : grid0.Coords) (arg2 : Memref sig .tc .vmem S1024x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2048 .bf16) (harg8 : arg8.IsWhole) (hc0 : cond0_0 i) (hc1 : ¬cond0_1 i) (hc2 : cond0_2 i)
    (x0 : Vec Ideal S1024x1024 .bf16) (x1 : Vec Ideal S1x1024 .f32) (x2 : Vec Ideal S1024x1024 .f32) (x3 : Vec Ideal S2048x1024 .bf16) (xo5 : Vec Ideal S1x1024 .f32) :
    out0_B_5 c i arg2 harg2 arg3 harg3 arg4 harg4 arg5 harg5 arg6 harg6 arg7 harg7 arg8 harg8 hc0 hc1 hc2 x0 x1 x2 x3 xo5 = k0_pay7 x0 x2 xo5 := by
  unfold out0_B_5
  rw [View.read_writes_eq_canon _ _ _ (cover0_B_5 c i arg2 harg2 arg3 harg3 arg4 harg4 arg5 harg5 arg6 harg6 arg7 harg7 arg8 harg8 hc0 hc1 hc2 x0 x1 x2 x3 xo5)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1024) hz, View.ld_unit_zero (S := S2048x1024) hz, View.ld_unit_zero (S := S1x1024) hz]

/-- What the case leaves of the gradient at the heads. -/
theorem out6_B (c : Dev nD) (i : grid0.Coords) (arg2 : Memref sig .tc .vmem S1024x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2048 .bf16) (harg8 : arg8.IsWhole) (hc0 : cond0_0 i) (hc1 : ¬cond0_1 i) (hc2 : cond0_2 i)
    (x0 : Vec Ideal S1024x1024 .bf16) (x1 : Vec Ideal S1x1024 .f32) (x2 : Vec Ideal S1024x1024 .f32) (x3 : Vec Ideal S2048x1024 .bf16) (xo5 : Vec Ideal S1x1024 .f32) :
    out0_B_6 c i arg2 harg2 arg3 harg3 arg4 harg4 arg5 harg5 arg6 harg6 arg7 harg7 arg8 harg8 hc0 hc1 hc2 x0 x1 x2 x3 xo5 = k0_pay1 (k0_pay5 x0 x1 x2) x3 := by
  unfold out0_B_6
  rw [View.read_writes_eq_canon _ _ _ (cover0_B_6 c i arg2 harg2 arg3 harg3 arg4 harg4 arg5 harg5 arg6 harg6 arg7 harg7 arg8 harg8 hc0 hc1 hc2 x0 x1 x2 x3 xo5)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1024) hz, View.ld_unit_zero (S := S2048x1024) hz, View.ld_unit_zero (S := S1x1024) hz]
  rw [View.readCov_unit_zero (S := S1024x1024) _ hz]

variable (m : (ℓ : Loc nD τ sig) → Buf (Elt Ideal) ℓ)

/-- The concatenated heads. -/
abbrev A0 (c : Dev nD) : Vec Ideal S4096x2048 .f32 := m ((c : Thread nD τ).loc main_arg0)
/-- The weights. -/
abbrev A1 (c : Dev nD) : Vec Ideal S2048x1024 .f32 := m ((c : Thread nD τ).loc main_arg1)
/-- The norm weights. -/
abbrev A2 (c : Dev nD) : Vec Ideal S1024 .f32 := m ((c : Thread nD τ).loc main_arg2)
/-- The gradient of the result. -/
abbrev A3 (c : Dev nD) : Vec Ideal S4096x1024 .f32 := m ((c : Thread nD τ).loc main_arg3)

/-- Row `p` of tile `t`. -/
abbrev row (t : Fin cfg0.N) (p : Fin 1024) : Fin 4096 := ⟨1024 * t.val + p.val, by have := t.isLt; have h : cfg0.N = 4 := N_0; omega⟩

/-- The product as the call takes it. -/
theorem V_mix (c : Dev nD) : (V m c main_v1 : S4096x1024.Idx → EReal) = Cert.Reference3Ideal.Read.val_main_v0 (F := Ideal) (A0 m c) (A1 m c) := by
  dsimp only [V, hostOps0, List.flatten_cons, List.flatten_nil, List.append_nil, List.cons_append, List.nil_append]
  after_results
  rfl

/-- The weights as the call takes them. -/
theorem V_w (c : Dev nD) : (V m c main_v3 : S2048x1024.Idx → EReal) = A1 m c := by
  dsimp only [V, hostOps0, List.flatten_cons, List.flatten_nil, List.append_nil, List.cons_append, List.nil_append]
  after_results
  rfl

/-- The norm weights as the call takes them. -/
theorem V_g (c : Dev nD) (q : Fin 1024) : (V m c main_v2 (ix2 0 q) : EReal) = A2 m c (ix1 q) := by
  dsimp only [V, hostOps0, List.flatten_cons, List.flatten_nil, List.append_nil, List.cons_append, List.nil_append]
  after_results
  pointwise

/-- The product's tile. -/
theorem b0 (c : Dev nD) (t : Fin cfg0.N) (p : Fin 1024) (q : Fin 1024) : (iblk m c 0 t (ix2 p q) : EReal) = Cert.Reference3Ideal.Read.val_main_v0 (F := Ideal) (A0 m c) (A1 m c) (ix2 (row t p) q) := by
  unfold iblk
  rw [View.read_apply]
  show (V m c main_v1 _ : EReal) = _
  rw [V_mix]
  congr 1
  funext a
  apply Fin.ext
  have hi : win0_0.index t 0 = t.val ∧ win0_0.index t 1 = 0 := (by decide +kernel : ∀ t : Fin grid0.N, win0_0.index t 0 = t.val ∧ win0_0.index t 1 = 0) t
  match a with
  | ⟨0, _⟩ => show win0_0.index t 0 * 1024 + 1 * p.val = 1024 * t.val + p.val; rw [hi.1]; omega
  | ⟨1, _⟩ => show win0_0.index t 1 * 1024 + 1 * q.val = q.val; rw [hi.2]; omega

/-- The norm weights. -/
theorem b1 (c : Dev nD) (t : Fin cfg0.N) (q : Fin 1024) : (iblk m c 1 t (ix2 0 q) : EReal) = A2 m c (ix1 q) := by
  unfold iblk
  rw [View.read_apply]
  refine Eq.trans ?_ (V_g m c q)
  show (V m c main_v2 _ : EReal) = _
  congr 1
  funext a
  apply Fin.ext
  have hi : win0_1.index t 0 = 0 ∧ win0_1.index t 1 = 0 := (by decide +kernel : ∀ t : Fin grid0.N, win0_1.index t 0 = 0 ∧ win0_1.index t 1 = 0) t
  match a with
  | ⟨0, _⟩ => show win0_1.index t 0 * 1 + 1 * 0 = 0; rw [hi.1]
  | ⟨1, _⟩ => show win0_1.index t 1 * 1024 + 1 * q.val = q.val; rw [hi.2]; omega

/-- The result gradient's tile. -/
theorem b2 (c : Dev nD) (t : Fin cfg0.N) (p : Fin 1024) (q : Fin 1024) : (iblk m c 2 t (ix2 p q) : EReal) = A3 m c (ix2 (row t p) q) := by
  unfold iblk
  rw [View.read_apply]
  show (V m c main_arg3 _ : EReal) = _
  rw [V_main_arg3]
  congr 1
  funext a
  apply Fin.ext
  have hi : win0_2.index t 0 = t.val ∧ win0_2.index t 1 = 0 := (by decide +kernel : ∀ t : Fin grid0.N, win0_2.index t 0 = t.val ∧ win0_2.index t 1 = 0) t
  match a with
  | ⟨0, _⟩ => show win0_2.index t 0 * 1024 + 1 * p.val = 1024 * t.val + p.val; rw [hi.1]; omega
  | ⟨1, _⟩ => show win0_2.index t 1 * 1024 + 1 * q.val = q.val; rw [hi.2]; omega

/-- The weights. -/
theorem b3 (c : Dev nD) (t : Fin cfg0.N) (p : Fin 2048) (q : Fin 1024) : (iblk m c 3 t (ix2 p q) : EReal) = A1 m c (ix2 p q) := by
  unfold iblk
  rw [View.read_apply]
  show (V m c main_v3 _ : EReal) = _
  rw [V_w]
  congr 1
  funext a
  apply Fin.ext
  have hi : win0_3.index t 0 = 0 ∧ win0_3.index t 1 = 0 := (by decide +kernel : ∀ t : Fin grid0.N, win0_3.index t 0 = 0 ∧ win0_3.index t 1 = 0) t
  match a with
  | ⟨0, _⟩ => show win0_3.index t 0 * 2048 + 1 * p.val = p.val; rw [hi.1]; omega
  | ⟨1, _⟩ => show win0_3.index t 1 * 1024 + 1 * q.val = q.val; rw [hi.2]; omega

theorem caseA (t : Fin cfg0.N) (h : t.val = 0) : t.val % 4 = 0 ∧ ¬1 ≤ t.val := by omega
theorem caseB (t : Fin cfg0.N) (h : t.val ≠ 0) : ¬t.val % 4 = 0 ∧ 1 ≤ t.val := by
  have := t.isLt
  have h8 : cfg0.N = 4 := N_0
  omega

theorem o4 (c : Dev nD) (t : Fin cfg0.N) : (outsAt0 m c t.val t.isLt).1 = k0_pay5 (iblk m c 0 t) (iblk m c 1 t) (iblk m c 2 t) := by
  by_cases h : t.val = 0
  · have hA := caseA t h
    rw [outsAt0_A m c t hA.1 hA.2]
    dsimp only
    rw [out4_A]
  · have hB := caseB t h
    rw [outsAt0_B m c t hB.1 hB.2]
    dsimp only
    rw [out4_B]

theorem o6 (c : Dev nD) (t : Fin cfg0.N) : (outsAt0 m c t.val t.isLt).2.2 = k0_pay1 (k0_pay5 (iblk m c 0 t) (iblk m c 1 t) (iblk m c 2 t)) (iblk m c 3 t) := by
  by_cases h : t.val = 0
  · have hA := caseA t h
    rw [outsAt0_A m c t hA.1 hA.2]
    dsimp only
    rw [out6_A]
  · have hB := caseB t h
    rw [outsAt0_B m c t hB.1 hB.2]
    dsimp only
    rw [out6_B]

/-- The point's block is the reference's gradient at the product, on its rows. -/
theorem dm_block (c : Dev nD) (t : Fin cfg0.N) (p : Fin 1024) (q : Fin 1024) :
    (k0_pay5 (iblk m c 0 t) (iblk m c 1 t) (iblk m c 2 t) (ix2 p q) : EReal) = Cert.Reference3Ideal.Read.val_main_v38 (F := Ideal) (A0 m c) (A1 m c) (A2 m c) (A3 m c) (ix2 (row t p) q) := by
  refine (pay5_apply _ _ _ p q).trans ?_
  refine Eq.trans ?_ (Cert.Reference3Ideal.Read.dmix_apply _ _ _ _ (row t p) q).symm
  exact congrFun (congrArg₂ (rmsK cN cE) (funext fun k => b0 m c t p k)
    (funext fun k => congrArg₂ (fun a b : EReal => a * b) (b2 m c t p k) (b1 m c t k))) q

/-- The call's array of the gradient at the product: the reference's. -/
abbrev res4 (c : Dev nD) : Buf (Elt Ideal) ((c : Thread nD τ).loc main_v4_0) := Cert.Reference3Ideal.Read.val_main_v38 (F := Ideal) (A0 m c) (A1 m c) (A2 m c) (A3 m c)

/-- Each point writes back its rows of the gradient at the product. -/
theorem wrote4 (c : Dev nD) (t : Fin cfg0.N) (hf : (cfg0.win 4).flush t = true) :
    (dats m 0 c).flushed 4 t = ((cfg0.win 4).blk t).view.read (Elt Ideal) (res4 m c) := by
  rw [flushed4, o4]
  funext j
  obtain ⟨p, q, rfl⟩ : ∃ (p : Fin 1024) (q : Fin 1024), j = ix2 p q := ⟨j 0, j 1, eq_ix2 (n0 := 1024) (n1 := 1024) j⟩
  rw [View.read_apply]
  have e : ((cfg0.win 4).blk t).view.emb (ix2 p q) = ix2 (row t p) q := by
    have hi := (by decide +kernel : ∀ t : Fin grid0.N, win0_4.index t 0 = t.val ∧ win0_4.index t 1 = 0) t
    funext a
    apply Fin.ext
    match a with
    | ⟨0, _⟩ => show win0_4.index t 0 * 1024 + 1 * p.val = 1024 * t.val + p.val; rw [hi.1]; omega
    | ⟨1, _⟩ => show win0_4.index t 1 * 1024 + 1 * q.val = q.val; rw [hi.2]; omega
  rw [e]
  exact dm_block m c t p q

/-- The array after the run. -/
theorem fin4 (c : Dev nD) : (dats m 0 c).arrAt 4 cfg0.N = res4 m c :=
  (dats m 0 c).arrAt_eq_of_cover 4 (res4 m c) (wrote4 m c) fun i => by
    have h0 : (i 0 : Nat) < 4096 := (i 0).isLt
    have h1 : (i 1 : Nat) < 1024 := (i 1).isLt
    refine ⟨⟨(i 0 : Nat) / 1024, by rw [show cfg0.N = 4 from N_0]; omega⟩, flush0_4 _, ?_⟩
    generalize ht : (⟨(i 0 : Nat) / 1024, _⟩ : Fin cfg0.N) = t
    have hv : t.val = (i 0 : Nat) / 1024 := by rw [← ht]
    show i ∈ ((View.whole main_v4_0).slice (win0_4.rect t)).set
    rw [View.set_slice_whole, Rect.mem_set_unit]
    have hi := (by decide +kernel : ∀ t : Fin grid0.N, win0_4.index t 0 = t.val ∧ win0_4.index t 1 = 0) t
    intro a
    match a with
    | ⟨0, _⟩ => show win0_4.index t 0 * 1024 ≤ (i 0 : Nat) ∧ (i 0 : Nat) < win0_4.index t 0 * 1024 + 1024
                rw [hi.1]; omega
    | ⟨1, _⟩ => show win0_4.index t 1 * 1024 ≤ (i 1 : Nat) ∧ (i 1 : Nat) < win0_4.index t 1 * 1024 + 1024
                rw [hi.2]; omega

/-- The call's array of the gradient at the heads: the reference's. -/
abbrev res6 (c : Dev nD) : Buf (Elt Ideal) ((c : Thread nD τ).loc main_v4_2) := Cert.Reference3Ideal.Read.val_main_v40 (F := Ideal) (A0 m c) (A1 m c) (A2 m c) (A3 m c)

/-- Each point writes back its rows of the gradient at the heads. -/
theorem wrote6 (c : Dev nD) (t : Fin cfg0.N) (hf : (cfg0.win 6).flush t = true) :
    (dats m 0 c).flushed 6 t = ((cfg0.win 6).blk t).view.read (Elt Ideal) (res6 m c) := by
  rw [flushed6, o6]
  funext j
  obtain ⟨p, q, rfl⟩ : ∃ (p : Fin 1024) (q : Fin 2048), j = ix2 p q := ⟨j 0, j 1, eq_ix2 (n0 := 1024) (n1 := 2048) j⟩
  rw [View.read_apply]
  have e : ((cfg0.win 6).blk t).view.emb (ix2 p q) = ix2 (row t p) q := by
    have hi := (by decide +kernel : ∀ t : Fin grid0.N, win0_6.index t 0 = t.val ∧ win0_6.index t 1 = 0) t
    funext a
    apply Fin.ext
    match a with
    | ⟨0, _⟩ => show win0_6.index t 0 * 1024 + 1 * p.val = 1024 * t.val + p.val; rw [hi.1]; omega
    | ⟨1, _⟩ => show win0_6.index t 1 * 2048 + 1 * q.val = q.val; rw [hi.2]; omega
  rw [e]
  refine (pay1_apply _ _ p q).trans ?_
  refine Eq.trans ?_ (Cert.Reference3Ideal.Read.dcat_apply _ _ _ _ (row t p) q).symm
  exact Finset.sum_congr rfl fun j _ => congrArg₂ (fun a b : EReal => a * b) (dm_block m c t p j) (b3 m c t q j)

/-- The array after the run. -/
theorem fin6 (c : Dev nD) : (dats m 0 c).arrAt 6 cfg0.N = res6 m c :=
  (dats m 0 c).arrAt_eq_of_cover 6 (res6 m c) (wrote6 m c) fun i => by
    have h0 : (i 0 : Nat) < 4096 := (i 0).isLt
    have h1 : (i 1 : Nat) < 2048 := (i 1).isLt
    refine ⟨⟨(i 0 : Nat) / 1024, by rw [show cfg0.N = 4 from N_0]; omega⟩, flush0_6 _, ?_⟩
    generalize ht : (⟨(i 0 : Nat) / 1024, _⟩ : Fin cfg0.N) = t
    have hv : t.val = (i 0 : Nat) / 1024 := by rw [← ht]
    show i ∈ ((View.whole main_v4_2).slice (win0_6.rect t)).set
    rw [View.set_slice_whole, Rect.mem_set_unit]
    have hi := (by decide +kernel : ∀ t : Fin grid0.N, win0_6.index t 0 = t.val ∧ win0_6.index t 1 = 0) t
    intro a
    match a with
    | ⟨0, _⟩ => show win0_6.index t 0 * 1024 ≤ (i 0 : Nat) ∧ (i 0 : Nat) < win0_6.index t 0 * 1024 + 1024
                rw [hi.1]; omega
    | ⟨1, _⟩ => show win0_6.index t 1 * 2048 ≤ (i 1 : Nat) ∧ (i 1 : Nat) < win0_6.index t 1 * 2048 + 2048
                rw [hi.2]; omega

/-- A tile's share of the gradient at the norm weights. -/
def part5 (c : Dev nD) (t : Fin cfg0.N) : Vec Ideal S1x1024 .f32 := k0_pay6 (iblk m c 0 t) (iblk m c 2 t)

/-- A tile's share is the sum over its rows. -/
theorem part5_apply (c : Dev nD) (t : Fin cfg0.N) (q : Fin 1024) :
    (part5 m c t (ix2 0 q) : EReal) = ∑ p : Fin 1024, (fun i => (A3 m c (ix2 i q) : EReal) * ((Cert.Reference3Ideal.Read.val_main_v0 (F := Ideal) (A0 m c) (A1 m c) (ix2 i q) : EReal) * rinv cN cE (fun k => Cert.Reference3Ideal.Read.val_main_v0 (F := Ideal) (A0 m c) (A1 m c) (ix2 i k)))) (row t p) := by
  unfold part5
  refine (pay6_apply _ _ q).trans (Finset.sum_congr rfl fun p _ => ?_)
  exact congrArg₂ (fun a b : EReal => a * b) (b2 m c t p q) (congrArg₂ (fun a b : EReal => a * b) (b0 m c t p q) (congrArg (rinv cN cE) (funext fun k => b0 m c t p k)))

/-- The first point leaves its tile's share. -/
theorem first5 (c : Dev nD) (h : 0 < cfg0.N) : (outsAt0 m c 0 h).2.1 = part5 m c ⟨0, h⟩ := by
  have hA := caseA ⟨0, h⟩ rfl
  have e := congrArg (fun z => z.2.1) (outsAt0_A m c ⟨0, h⟩ hA.1 hA.2)
  dsimp only at e
  rw [e, out5_A]
  rfl

/-- Each further point adds its tile's share. -/
theorem next5 (c : Dev nD) (n : ℕ) (h : n + 1 < cfg0.N) (q : Fin 1024) :
    ((outsAt0 m c (n + 1) h).2.1 (ix2 0 q) : EReal)
      = (outsAt0 m c n (Nat.lt_of_succ_lt h)).2.1 (ix2 0 q) + part5 m c ⟨n + 1, h⟩ (ix2 0 q) := by
  have hB := caseB ⟨n + 1, h⟩ (Nat.succ_ne_zero n)
  have e := congrArg (fun z => z.2.1) (outsAt0_B m c ⟨n + 1, h⟩ hB.1 hB.2)
  dsimp only at e
  rw [e, out5_B]
  exact pay7_apply _ _ _ q

/-- The rows are 4 tiles of 1024. -/
theorem sum_tiles (g : Fin 4096 → EReal) (T : ℕ → EReal) (hT : ∀ t : Fin cfg0.N, T t.val = ∑ p : Fin 1024, g (row t p)) :
    ∑ s ∈ Finset.range 4, T s = ∑ i : Fin 4096, g i := by
  have hN : cfg0.N = 4 := N_0
  rw [Finset.sum_range, sum_split (N := 4096) (a := 4) (b := 1024) rfl g]
  exact Finset.sum_congr rfl fun s _ => hT ⟨s.val, by rw [hN]; exact s.isLt⟩

/-- The call's array of the gradient at the norm weights: the reference's. -/
abbrev res5 (c : Dev nD) : Buf (Elt Ideal) ((c : Thread nD τ).loc main_v4_1) := Cert.Reference3Ideal.Read.val_main_v39 (F := Ideal) (A0 m c) (A1 m c) (A3 m c)

/-- The last point leaves the sum over all the rows. -/
theorem last5 (c : Dev nD) (h : 3 < cfg0.N) (q : Fin 1024) :
    ((outsAt0 m c 3 h).2.1 (ix2 0 q) : EReal) = res5 m c (ix2 0 q) := by
  let T : ℕ → EReal := fun n => if h : n < cfg0.N then part5 m c ⟨n, h⟩ (ix2 0 q) else 0
  have hT : ∀ t : Fin cfg0.N, T t.val = part5 m c t (ix2 0 q) := fun t => dif_pos t.isLt
  refine (running (fun n h => (outsAt0 m c n h).2.1 (ix2 0 q)) T
    (fun h => (congrFun (first5 m c h) (ix2 0 q)).trans (hT ⟨0, h⟩).symm)
    (fun n h => (next5 m c n h q).trans (congrArg _ (hT ⟨n + 1, h⟩).symm)) 3 h).trans ?_
  refine (sum_tiles (fun i => (A3 m c (ix2 i q) : EReal) * ((Cert.Reference3Ideal.Read.val_main_v0 (F := Ideal) (A0 m c) (A1 m c) (ix2 i q) : EReal) * rinv cN cE (fun k => Cert.Reference3Ideal.Read.val_main_v0 (F := Ideal) (A0 m c) (A1 m c) (ix2 i k)))) T fun t => (hT t).trans (part5_apply m c t q)).trans ?_
  exact (Cert.Reference3Ideal.Read.dg_apply _ _ _ q).symm

/-- The one write-back, at the last point. -/
theorem wrote5 (c : Dev nD) (t : Fin cfg0.N) (hf : (cfg0.win 5).flush t = true) :
    (dats m 0 c).flushed 5 t = ((cfg0.win 5).blk t).view.read (Elt Ideal) (res5 m c) := by
  have hN : cfg0.N = 4 := N_0
  have hl : t.val = 3 := by have := (flush0_5 t).mp hf; have := t.isLt; omega
  obtain rfl : t = t0_3 := Fin.ext hl
  rw [flushed5]
  funext j
  obtain ⟨p, q, rfl⟩ : ∃ (p : Fin 1) (q : Fin 1024), j = ix2 p q := ⟨j 0, j 1, eq_ix2 (n0 := 1) (n1 := 1024) j⟩
  obtain rfl : p = 0 := Subsingleton.elim _ _
  rw [View.read_apply]
  have e : ((cfg0.win 5).blk t0_3).view.emb (ix2 0 q) = ix2 0 q := by
    have hi : win0_5.index t0_3 0 = 0 ∧ win0_5.index t0_3 1 = 0 := by decide +kernel
    funext a
    apply Fin.ext
    match a with
    | ⟨0, _⟩ => show win0_5.index t0_3 0 * 1 + 1 * 0 = 0; rw [hi.1]
    | ⟨1, _⟩ => show win0_5.index t0_3 1 * 1024 + 1 * q.val = q.val; rw [hi.2]; omega
  rw [e]
  exact last5 m c _ q

/-- The array after the run. -/
theorem fin5 (c : Dev nD) : (dats m 0 c).arrAt 5 cfg0.N = res5 m c :=
  (dats m 0 c).arrAt_eq_of_cover 5 (res5 m c) (wrote5 m c) fun i => by
    have h0 : (i 0 : Nat) < 1 := (i 0).isLt
    have h1 : (i 1 : Nat) < 1024 := (i 1).isLt
    refine ⟨t0_3, (flush0_5 t0_3).mpr rfl, ?_⟩
    show i ∈ ((View.whole main_v4_1).slice (win0_5.rect t0_3)).set
    rw [View.set_slice_whole, Rect.mem_set_unit]
    have hi : win0_5.index t0_3 0 = 0 ∧ win0_5.index t0_3 1 = 0 := by decide +kernel
    intro a
    match a with
    | ⟨0, _⟩ => show win0_5.index t0_3 0 * 1 ≤ (i 0 : Nat) ∧ (i 0 : Nat) < win0_5.index t0_3 0 * 1 + 1
                rw [hi.1]; omega
    | ⟨1, _⟩ => show win0_5.index t0_3 1 * 1024 ≤ (i 1 : Nat) ∧ (i 1 : Nat) < win0_5.index t0_3 1 * 1024 + 1024
                rw [hi.2]; omega

end Cert.Kernel3Ideal.Value

namespace Cert.Proof.OutBwd
open Cert.Kernel3Ideal.Value

variable (m' : (ℓ : Loc Cert.Reference3Ideal.nD Cert.Reference3Ideal.τ Cert.Reference3Ideal.sig) → Buf (Elt Ideal) ℓ) (g' : Dev Cert.Reference3Ideal.nD → PrngReg)

/-- The reference's run: each result is its last stage over the arguments, and the arguments are kept. -/
theorem ref_run : θ_run (Cert.Reference3Ideal.defs (F := Ideal)) (onTc (τ := Cert.Reference3Ideal.τ) (Cert.Reference3Ideal.main (F := Ideal))) ⟨m', fun _ => 0, g'⟩ fun r =>
    ∀ c : Dev Cert.Reference3Ideal.nD,
      r.2.mem ((c.tc : Thread Cert.Reference3Ideal.nD Cert.Reference3Ideal.τ).loc Cert.Reference3Ideal.main_v38) = Cert.Reference3Ideal.Read.val_main_v38 (m' (c.tc.loc Cert.Reference3Ideal.main_arg0)) (m' (c.tc.loc Cert.Reference3Ideal.main_arg1)) (m' (c.tc.loc Cert.Reference3Ideal.main_arg2)) (m' (c.tc.loc Cert.Reference3Ideal.main_arg3))
      ∧ r.2.mem ((c.tc : Thread Cert.Reference3Ideal.nD Cert.Reference3Ideal.τ).loc Cert.Reference3Ideal.main_v39) = Cert.Reference3Ideal.Read.val_main_v39 (m' (c.tc.loc Cert.Reference3Ideal.main_arg0)) (m' (c.tc.loc Cert.Reference3Ideal.main_arg1)) (m' (c.tc.loc Cert.Reference3Ideal.main_arg3))
      ∧ r.2.mem ((c.tc : Thread Cert.Reference3Ideal.nD Cert.Reference3Ideal.τ).loc Cert.Reference3Ideal.main_v40) = Cert.Reference3Ideal.Read.val_main_v40 (m' (c.tc.loc Cert.Reference3Ideal.main_arg0)) (m' (c.tc.loc Cert.Reference3Ideal.main_arg1)) (m' (c.tc.loc Cert.Reference3Ideal.main_arg2)) (m' (c.tc.loc Cert.Reference3Ideal.main_arg3))
      ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3) :=
  (θ_run Cert.Reference3Ideal.defs _ _).mono (fun r hr c => ⟨
    (hr c).1.trans (Cert.Reference3Ideal.Read.val_main_v38_eq _ _),
    (hr c).2.1.trans (Cert.Reference3Ideal.Read.val_main_v39_eq _ _ _),
    (hr c).2.2.1.trans (Cert.Reference3Ideal.Read.val_main_v40_eq _ _),
    (hr c).2.2.2⟩) (Cert.Reference3Ideal.Value.run m' g')

/-- Over the extended reals the call ends with the reference's results. -/
theorem algebraic : Cert.algebraic_Kernel3Ideal_Reference3Ideal (hKernel3Ideal := Cert.Kernel3Ideal.Gen.facts) (hReference3Ideal := Cert.Reference3Ideal.Gen.facts) := by
  intro m g m' g' _ h
  refine ⟨fun c => res4 m c, fun c => res5 m c, fun c => res6 m c, ?_, ?_⟩
  · refine (θ_run Cert.Kernel3Ideal.defs _ _).mono (fun r hr c => ?_) (Cert.Kernel3Ideal.Value.run_blocks m g)
    obtain ⟨h0, h1, h2, hk⟩ := hr c
    exact ⟨h0.trans (fin4 m c), h1.trans (fin5 m c), h2.trans (fin6 m c), hk⟩
  · refine (θ_run Cert.Reference3Ideal.defs _ _).mono (fun r hr c => ?_) (ref_run m' g')
    obtain ⟨h0, h1, h2, hk⟩ := hr c
    obtain ⟨a0, a1, a2, a3⟩ := h c
    rw [a0, a1, a2, a3] at h0
    rw [a0, a1, a3] at h1
    rw [a0, a1, a2, a3] at h2
    exact ⟨h0, h1, h2, hk⟩

/-- The reference's frame: it declares no semaphore. -/
theorem frame_ref : Cert.quiescent_Reference3Ideal (hReference3Ideal := Cert.Reference3Ideal.Gen.facts) := by
  intro m g _
  exact (θ_run Cert.Reference3Ideal.defs _ _).mono (fun r h => ⟨fun c => (h c).2.2.2, sem_eq_zero_of_no_sems (by decide) r.2⟩) (ref_run m g)

end Cert.Proof.OutBwd

end
-- ==== Proof.DownDw.lean ====
/- The gradient of the down projection: the squared rectifier of the hidden activation, transposed, against the gradient of the product. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Rms
public import Idealize.ShloMosaic.Lib.Tactic
public import Idealize.ShloMosaic.Adequacy

@[expose] public section

noncomputable section

open Idealize.ShloMosaic Idealize.ShloMosaic.TcCoe Idealize.SL.Sem Cert.Alg

namespace Cert.Kernel4Ideal.Value
open Cert.Kernel4Ideal Cert.Kernel4Ideal.Gen

theorem hz : (![0, 0] : Fin 2 → Nat) = fun _ => 0 := funext fun a => by fin_cases a <;> rfl

/-- The stored product at an index: a column of the first block against a column of the second. -/
theorem pay_apply (u : Vec Ideal S4096x512 .bf16) (v : Vec Ideal S4096x1024 .bf16) (p : Fin 512) (q : Fin 1024) :
    (k0_pay2 (k0_pay1 u) v (ix2 p q) : EReal) = ∑ k : Fin 4096, (max (u (ix2 k p) : EReal) 0 * max (u (ix2 k p) : EReal) 0) * (v (ix2 k q) : EReal) := by
  unfold_payloads
  pointwise

/-- The first case transposes its first block and leaves the product of the two. -/
theorem out_A (c : Dev nD) (i : grid0.Coords) (arg2 : Memref sig .tc .vmem S4096x512 .bf16) (harg2 : arg2.IsWhole) (arg3 : Memref sig .tc .vmem S4096x1024 .bf16) (harg3 : arg3.IsWhole) (arg4 : Memref sig .tc .vmem S512x1024 .bf16) (harg4 : arg4.IsWhole) (arg5 : Memref sig .tc .vmem S512x4096 .bf16) (harg5 : arg5.IsWhole) (hc0 : cond0_0 i)
    (x0 : Vec Ideal S4096x512 .bf16) (x1 : Vec Ideal S4096x1024 .bf16) :
    out0_A_2 c i arg2 harg2 arg3 harg3 arg4 harg4 arg5 harg5 hc0 x0 x1 = k0_pay2 (k0_pay1 x0) x1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero hz]
  simp only [View.readAt_eq_ld, harg2.read_unread, harg3.read_unread, harg4.read_unread, harg5.read_unread, View.ld_unit_zero (S := S4096x512) hz, View.ld_unit_zero (S := S4096x1024) hz, View.ld_unit_zero (S := S512x4096) hz]
  rw [View.readCov_unit_zero (S := S512x4096) _ hz]

variable (m : (ℓ : Loc nD τ sig) → Buf (Elt Ideal) ℓ)

/-- The hidden activation. -/
abbrev A0 (c : Dev nD) : Vec Ideal S4096x4096 .f32 := m ((c : Thread nD τ).loc main_arg0)
/-- The weights. -/
abbrev A1 (c : Dev nD) : Vec Ideal S4096x1024 .f32 := m ((c : Thread nD τ).loc main_arg1)
/-- The gradient at the product. -/
abbrev A2 (c : Dev nD) : Vec Ideal S4096x1024 .f32 := m ((c : Thread nD τ).loc main_arg2)

/-- The first operand as the call takes it. -/
theorem V_a (c : Dev nD) : (V m c main_v0 : S4096x4096.Idx → EReal) = A0 m c := by
  dsimp only [V, hostOps0, List.flatten_cons, List.flatten_nil, List.append_nil, List.cons_append, List.nil_append]
  after_results
  rfl

/-- The second operand as the call takes it. -/
theorem V_b (c : Dev nD) : (V m c main_v1 : S4096x1024.Idx → EReal) = A2 m c := by
  dsimp only [V, hostOps0, List.flatten_cons, List.flatten_nil, List.append_nil, List.cons_append, List.nil_append]
  after_results
  rfl

/-- The first block. -/
theorem b0 (c : Dev nD) (t : Fin cfg0.N) (k : Fin 4096) (p : Fin 512) : (iblk m c 0 t (ix2 k p) : EReal) = A0 m c (ix2 k ⟨512 * t.val + p.val, by have := t.isLt; have h : cfg0.N = 8 := N_0; omega⟩) := by
  unfold iblk
  rw [View.read_apply]
  show (V m c main_v0 _ : EReal) = _
  rw [V_a]
  congr 1
  funext a
  apply Fin.ext
  have hi : win0_0.index t 0 = 0 ∧ win0_0.index t 1 = t.val := (by decide +kernel : ∀ t : Fin grid0.N, win0_0.index t 0 = 0 ∧ win0_0.index t 1 = t.val) t
  match a with
  | ⟨0, _⟩ => show win0_0.index t 0 * 4096 + 1 * k.val = k.val; rw [hi.1]; omega
  | ⟨1, _⟩ => show win0_0.index t 1 * 512 + 1 * p.val = 512 * t.val + p.val; rw [hi.2]; omega

/-- The second block. -/
theorem b1 (c : Dev nD) (t : Fin cfg0.N) (k : Fin 4096) (q : Fin 1024) : (iblk m c 1 t (ix2 k q) : EReal) = A2 m c (ix2 k q) := by
  unfold iblk
  rw [View.read_apply]
  show (V m c main_v1 _ : EReal) = _
  rw [V_b]
  congr 1
  funext a
  apply Fin.ext
  have hi : win0_1.index t 0 = 0 ∧ win0_1.index t 1 = 0 := (by decide +kernel : ∀ t : Fin grid0.N, win0_1.index t 0 = 0 ∧ win0_1.index t 1 = 0) t
  match a with
  | ⟨0, _⟩ => show win0_1.index t 0 * 4096 + 1 * k.val = k.val; rw [hi.1]; omega
  | ⟨1, _⟩ => show win0_1.index t 1 * 1024 + 1 * q.val = q.val; rw [hi.2]; omega

/-- What a point leaves. -/
theorem o2 (c : Dev nD) (t : Fin cfg0.N) : outsAt0 m c t = k0_pay2 (k0_pay1 (iblk m c 0 t)) (iblk m c 1 t) := by
  unfold outsAt0
  rw [out_A]

/-- The call's array: the reference's result. -/
abbrev res2 (c : Dev nD) : Buf (Elt Ideal) ((c : Thread nD τ).loc main_v2) := Cert.Reference4Ideal.Read.val_main_v5 (F := Ideal) (A0 m c) (A2 m c)

/-- The reference's result at a point's block. -/
theorem res2_apply (c : Dev nD) (t : Fin cfg0.N) (p : Fin 512) (q : Fin 1024) :
    (res2 m c (ix2 ⟨512 * t.val + p.val, by have := t.isLt; have h : cfg0.N = 8 := N_0; omega⟩ q) : EReal) = ∑ k : Fin 4096, (max (A0 m c (ix2 k ⟨512 * t.val + p.val, by have := t.isLt; have h : cfg0.N = 8 := N_0; omega⟩) : EReal) 0 * max (A0 m c (ix2 k ⟨512 * t.val + p.val, by have := t.isLt; have h : cfg0.N = 8 := N_0; omega⟩) : EReal) 0) * (A2 m c (ix2 k q) : EReal) := by
  unfold res2
  pointwise [Cert.Reference4Ideal.Read.val_main_call0_cst, Cert.Reference4Ideal.Read.val_main_call0_v0, Cert.Reference4Ideal.Read.val_main_v0, Cert.Reference4Ideal.Read.val_main_v1, Cert.Reference4Ideal.Read.val_main_v2, Cert.Reference4Ideal.Read.val_main_v3, Cert.Reference4Ideal.Read.val_main_v4, Cert.Reference4Ideal.Read.val_main_v5]
  exact sum_swap fun k => rfl

/-- The point's block is the reference's. -/
theorem blk2 (c : Dev nD) (t : Fin cfg0.N) (p : Fin 512) (q : Fin 1024) :
    (k0_pay2 (k0_pay1 (iblk m c 0 t)) (iblk m c 1 t) (ix2 p q) : EReal) = res2 m c (ix2 ⟨512 * t.val + p.val, by have := t.isLt; have h : cfg0.N = 8 := N_0; omega⟩ q) := by
  refine (pay_apply _ _ p q).trans ?_
  rw [res2_apply]
  refine Finset.sum_congr rfl fun k _ => congrArg₂ (fun a b : EReal => (max a 0 * max a 0) * b) (b0 m c t k p) (b1 m c t k q)

/-- Each point writes back its block. -/
theorem wrote2 (c : Dev nD) (t : Fin cfg0.N) (hf : (cfg0.win 2).flush t = true) :
    (dats m 0 c).flushed 2 t = ((cfg0.win 2).blk t).view.read (Elt Ideal) (res2 m c) := by
  rw [flushed2]
  funext j
  obtain ⟨p, q, rfl⟩ : ∃ (p : Fin 512) (q : Fin 1024), j = ix2 p q := ⟨j 0, j 1, eq_ix2 (n0 := 512) (n1 := 1024) j⟩
  rw [View.read_apply]
  have e : ((cfg0.win 2).blk t).view.emb (ix2 p q) = ix2 ⟨512 * t.val + p.val, by have := t.isLt; have h : cfg0.N = 8 := N_0; omega⟩ q := by
    have hi := (by decide +kernel : ∀ t : Fin grid0.N, win0_2.index t 0 = t.val ∧ win0_2.index t 1 = 0) t
    funext a
    apply Fin.ext
    match a with
    | ⟨0, _⟩ => show win0_2.index t 0 * 512 + 1 * p.val = 512 * t.val + p.val; rw [hi.1]; omega
    | ⟨1, _⟩ => show win0_2.index t 1 * 1024 + 1 * q.val = q.val; rw [hi.2]; omega
  rw [e]
  rw [o2]
  exact blk2 m c t p q

/-- The array after the run. -/
theorem fin2 (c : Dev nD) : (dats m 0 c).arrAt 2 cfg0.N = res2 m c :=
  (dats m 0 c).arrAt_eq_of_cover 2 (res2 m c) (wrote2 m c) fun i => by
    have h0 : (i 0 : Nat) < 4096 := (i 0).isLt
    have h1 : (i 1 : Nat) < 1024 := (i 1).isLt
    refine ⟨⟨(i 0 : Nat) / 512, by rw [show cfg0.N = 8 from N_0]; omega⟩, flush0_2 _, ?_⟩
    generalize ht : (⟨(i 0 : Nat) / 512, _⟩ : Fin cfg0.N) = t
    have hv : t.val = (i 0 : Nat) / 512 := by rw [← ht]
    show i ∈ ((View.whole main_v2).slice (win0_2.rect t)).set
    rw [View.set_slice_whole, Rect.mem_set_unit]
    have hi := (by decide +kernel : ∀ t : Fin grid0.N, win0_2.index t 0 = t.val ∧ win0_2.index t 1 = 0) t
    intro a
    match a with
    | ⟨0, _⟩ => show win0_2.index t 0 * 512 ≤ (i 0 : Nat) ∧ (i 0 : Nat) < win0_2.index t 0 * 512 + 512
                rw [hi.1]; omega
    | ⟨1, _⟩ => show win0_2.index t 1 * 1024 ≤ (i 1 : Nat) ∧ (i 1 : Nat) < win0_2.index t 1 * 1024 + 1024
                rw [hi.2]; omega

end Cert.Kernel4Ideal.Value

namespace Cert.Proof.DownDw
open Cert.Kernel4Ideal.Value

variable (m' : (ℓ : Loc Cert.Reference4Ideal.nD Cert.Reference4Ideal.τ Cert.Reference4Ideal.sig) → Buf (Elt Ideal) ℓ) (g' : Dev Cert.Reference4Ideal.nD → PrngReg)

/-- The reference's run: each result is its last stage over the arguments, and the arguments are kept. -/
theorem ref_run : θ_run (Cert.Reference4Ideal.defs (F := Ideal)) (onTc (τ := Cert.Reference4Ideal.τ) (Cert.Reference4Ideal.main (F := Ideal))) ⟨m', fun _ => 0, g'⟩ fun r =>
    ∀ c : Dev Cert.Reference4Ideal.nD,
      r.2.mem ((c.tc : Thread Cert.Reference4Ideal.nD Cert.Reference4Ideal.τ).loc Cert.Reference4Ideal.main_v5) = Cert.Reference4Ideal.Read.val_main_v5 (m' (c.tc.loc Cert.Reference4Ideal.main_arg0)) (m' (c.tc.loc Cert.Reference4Ideal.main_arg2))
      ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2) :=
  (θ_run Cert.Reference4Ideal.defs _ _).mono (fun r hr c => ⟨
    (hr c).1.trans (Cert.Reference4Ideal.Read.val_main_v5_eq _ _),
    (hr c).2⟩) (Cert.Reference4Ideal.Value.run m' g')

/-- Over the extended reals the call ends with the reference's results. -/
theorem algebraic : Cert.algebraic_Kernel4Ideal_Reference4Ideal (hKernel4Ideal := Cert.Kernel4Ideal.Gen.facts) (hReference4Ideal := Cert.Reference4Ideal.Gen.facts) := by
  intro m g m' g' _ h
  refine ⟨fun c => res2 m c, ?_, ?_⟩
  · refine (θ_run Cert.Kernel4Ideal.defs _ _).mono (fun r hr c => ?_) (Cert.Kernel4Ideal.Value.run_blocks m g)
    obtain ⟨h0, hk⟩ := hr c
    exact ⟨h0.trans (fin2 m c), hk⟩
  · refine (θ_run Cert.Reference4Ideal.defs _ _).mono (fun r hr c => ?_) (ref_run m' g')
    obtain ⟨h0, hk⟩ := hr c
    obtain ⟨a0, a1, a2⟩ := h c
    rw [a0, a2] at h0
    exact ⟨h0, hk⟩

/-- The reference's frame: it declares no semaphore. -/
theorem frame_ref : Cert.quiescent_Reference4Ideal (hReference4Ideal := Cert.Reference4Ideal.Gen.facts) := by
  intro m g _
  exact (θ_run Cert.Reference4Ideal.defs _ _).mono (fun r h => ⟨fun c => (h c).2, sem_eq_zero_of_no_sems (by decide) r.2⟩) (ref_run m g)

end Cert.Proof.DownDw

end
-- ==== Proof.UpDw.lean ====
/- The gradient of the up projection, in four blocks of columns: the normed rows, transposed, against the gradient of the product. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Rms
public import Idealize.ShloMosaic.Lib.Tactic
public import Idealize.ShloMosaic.Adequacy

@[expose] public section

noncomputable section

open Idealize.ShloMosaic Idealize.ShloMosaic.TcCoe Idealize.SL.Sem Cert.Alg

namespace Cert.Kernel5Ideal.Value
open Cert.Kernel5Ideal Cert.Kernel5Ideal.Gen

theorem hz : (![0, 0] : Fin 2 → Nat) = fun _ => 0 := funext fun a => by fin_cases a <;> rfl

theorem hz3 : (![0, 0, 0] : Fin 3 → Nat) = fun _ => 0 := funext fun a => by fin_cases a <;> rfl

/-- The stored product at an index: a column of the first block against a column of the second. -/
theorem pay_apply (u : Vec Ideal S4096x1024 .bf16) (v : Vec Ideal S4096x1024 .bf16) (p : Fin 1024) (q : Fin 1024) :
    (k0_pay2 (k0_pay1 u) v (ix3 0 p q) : EReal) = ∑ k : Fin 4096, (u (ix2 k p) : EReal) * (v (ix2 k q) : EReal) := by
  unfold_payloads
  pointwise

/-- The first case transposes its first block and leaves the product of the two. -/
theorem out_A (c : Dev nD) (i : grid0.Coords) (arg2 : Memref sig .tc .vmem S4096x1024 .bf16) (harg2 : arg2.IsWhole) (arg3 : Memref sig .tc .vmem S4096x1024 .bf16) (harg3 : arg3.IsWhole) (arg4 : Memref sig .tc .vmem S1x1024x1024 .bf16) (harg4 : arg4.IsWhole) (arg5 : Memref sig .tc .vmem S1024x4096 .bf16) (harg5 : arg5.IsWhole) (hc0 : cond0_0 i)
    (x0 : Vec Ideal S4096x1024 .bf16) (x1 : Vec Ideal S4096x1024 .bf16) :
    out0_A_2 c i arg2 harg2 arg3 harg3 arg4 harg4 arg5 harg5 hc0 x0 x1 = k0_pay2 (k0_pay1 x0) x1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero hz3]
  simp only [View.readAt_eq_ld, harg2.read_unread, harg3.read_unread, harg4.read_unread, harg5.read_unread, View.ld_unit_zero (S := S4096x1024) hz, View.ld_unit_zero (S := S1024x4096) hz]
  rw [View.readCov_unit_zero (S := S1024x4096) _ hz]

/-- … and keeps the transposed block. -/
theorem scr_A (c : Dev nD) (i : grid0.Coords) (arg2 : Memref sig .tc .vmem S4096x1024 .bf16) (harg2 : arg2.IsWhole) (arg3 : Memref sig .tc .vmem S4096x1024 .bf16) (harg3 : arg3.IsWhole) (arg4 : Memref sig .tc .vmem S1x1024x1024 .bf16) (harg4 : arg4.IsWhole) (arg5 : Memref sig .tc .vmem S1024x4096 .bf16) (harg5 : arg5.IsWhole) (hc0 : cond0_0 i)
    (x0 : Vec Ideal S4096x1024 .bf16) (x1 : Vec Ideal S4096x1024 .bf16) :
    sout0_A_0 c i arg2 harg2 arg3 harg3 arg4 harg4 arg5 harg5 hc0 x0 x1 = k0_pay1 x0 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero hz]
  simp only [View.readAt_eq_ld, harg2.read_unread, harg3.read_unread, harg4.read_unread, harg5.read_unread, View.ld_unit_zero (S := S4096x1024) hz, View.ld_unit_zero (S := S1024x4096) hz]

/-- The other case multiplies by the block kept. -/
theorem out_B (c : Dev nD) (i : grid0.Coords) (arg2 : Memref sig .tc .vmem S4096x1024 .bf16) (harg2 : arg2.IsWhole) (arg3 : Memref sig .tc .vmem S4096x1024 .bf16) (harg3 : arg3.IsWhole) (arg4 : Memref sig .tc .vmem S1x1024x1024 .bf16) (harg4 : arg4.IsWhole) (arg5 : Memref sig .tc .vmem S1024x4096 .bf16) (harg5 : arg5.IsWhole) (hc0 : ¬cond0_0 i)
    (x0 : Vec Ideal S4096x1024 .bf16) (x1 : Vec Ideal S4096x1024 .bf16) (xs0 : Vec Ideal S1024x4096 .bf16) :
    out0_B_2 c i arg2 harg2 arg3 harg3 arg4 harg4 arg5 harg5 hc0 x0 x1 xs0 = k0_pay2 xs0 x1 := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  rw [View.canon_unit_zero hz3]
  simp only [View.readAt_eq_ld, harg2.read_unread, harg3.read_unread, harg4.read_unread, harg5.read_unread, View.ld_unit_zero (S := S4096x1024) hz, View.ld_unit_zero (S := S1024x4096) hz]

variable (m : (ℓ : Loc nD τ sig) → Buf (Elt Ideal) ℓ)

/-- The residual stream. -/
abbrev A0 (c : Dev nD) : Vec Ideal S4096x1024 .f32 := m ((c : Thread nD τ).loc main_arg0)
/-- The norm weights. -/
abbrev A1 (c : Dev nD) : Vec Ideal S1024 .f32 := m ((c : Thread nD τ).loc main_arg1)
/-- The weights. -/
abbrev A2 (c : Dev nD) : Vec Ideal S1024x4096 .f32 := m ((c : Thread nD τ).loc main_arg2)
/-- The gradient at the product. -/
abbrev A3 (c : Dev nD) : Vec Ideal S4096x4096 .f32 := m ((c : Thread nD τ).loc main_arg3)

/-- The normed rows as the call takes them. -/
theorem V_a (c : Dev nD) : (V m c main_v13 : S4096x1024.Idx → EReal) = (Cert.Reference5Ideal.Read.val_main_v12 (F := Ideal) (A0 m c) (A1 m c)) := by
  dsimp only [V, hostOps0, List.flatten_cons, List.flatten_nil, List.append_nil, List.cons_append, List.nil_append]
  after_results
  rfl

/-- The second operand as the call takes it. -/
theorem V_b (c : Dev nD) : (V m c main_v14 : S4096x4096.Idx → EReal) = A3 m c := by
  dsimp only [V, hostOps0, List.flatten_cons, List.flatten_nil, List.append_nil, List.cons_append, List.nil_append]
  after_results
  rfl

/-- The first block. -/
theorem b0 (c : Dev nD) (t : Fin cfg0.N) (k : Fin 4096) (p : Fin 1024) : (iblk m c 0 t (ix2 k p) : EReal) = (Cert.Reference5Ideal.Read.val_main_v12 (F := Ideal) (A0 m c) (A1 m c)) (ix2 k p) := by
  unfold iblk
  rw [View.read_apply]
  show (V m c main_v13 _ : EReal) = _
  rw [V_a]
  congr 1
  funext a
  apply Fin.ext
  have hi : win0_0.index t 0 = 0 ∧ win0_0.index t 1 = 0 := (by decide +kernel : ∀ t : Fin grid0.N, win0_0.index t 0 = 0 ∧ win0_0.index t 1 = 0) t
  match a with
  | ⟨0, _⟩ => show win0_0.index t 0 * 4096 + 1 * k.val = k.val; rw [hi.1]; omega
  | ⟨1, _⟩ => show win0_0.index t 1 * 1024 + 1 * p.val = p.val; rw [hi.2]; omega

/-- The second block. -/
theorem b1 (c : Dev nD) (t : Fin cfg0.N) (k : Fin 4096) (q : Fin 1024) : (iblk m c 1 t (ix2 k q) : EReal) = A3 m c (ix2 k ⟨1024 * t.val + q.val, by have := t.isLt; have h : cfg0.N = 4 := N_0; omega⟩) := by
  unfold iblk
  rw [View.read_apply]
  show (V m c main_v14 _ : EReal) = _
  rw [V_b]
  congr 1
  funext a
  apply Fin.ext
  have hi : win0_1.index t 0 = 0 ∧ win0_1.index t 1 = t.val := (by decide +kernel : ∀ t : Fin grid0.N, win0_1.index t 0 = 0 ∧ win0_1.index t 1 = t.val) t
  match a with
  | ⟨0, _⟩ => show win0_1.index t 0 * 4096 + 1 * k.val = k.val; rw [hi.1]; omega
  | ⟨1, _⟩ => show win0_1.index t 1 * 1024 + 1 * q.val = 1024 * t.val + q.val; rw [hi.2]; omega

/-- The transposed block kept is the first operand's, whole, at every point. -/
theorem kept (c : Dev nD) (t : Fin cfg0.N) (p : Fin 1024) (k : Fin 4096) :
    ((outsAt0 m c t.val t.isLt).2 (ix2 p k) : EReal) = (k0_pay1 (iblk m c 0 t) (ix2 p k) : EReal) := by
  obtain ⟨n, hn⟩ := t
  induction n with
  | zero =>
    rw [outsAt0_A m c ⟨0, hn⟩ rfl]
    dsimp only
    rw [scr_A]
  | succ n ih =>
    have hN : cfg0.N = 4 := N_0
    have e := congrArg (fun z => z.2) (outsAt0_B m c ⟨n + 1, hn⟩ (show ¬(n + 1) % 4 = 0 by omega))
    dsimp only [sout0_B_0] at e
    rw [e]
    refine (ih (Nat.lt_of_succ_lt hn)).trans ?_
    have h1 := b0 m c ⟨n, Nat.lt_of_succ_lt hn⟩ k p
    have h2 := b0 m c ⟨n + 1, hn⟩ k p
    unfold k0_pay1
    pointwise
    exact h1.trans h2.symm

/-- What a point leaves, at an index. -/
theorem o2 (c : Dev nD) (t : Fin cfg0.N) (p : Fin 1024) (q : Fin 1024) :
    ((outsAt0 m c t.val t.isLt).1 (ix3 0 p q) : EReal) = (k0_pay2 (k0_pay1 (iblk m c 0 t)) (iblk m c 1 t) (ix3 0 p q) : EReal) := by
  have hN : cfg0.N = 4 := N_0
  by_cases h : t.val = 0
  · rw [outsAt0_A m c t (by rw [h])]
    dsimp only
    rw [out_A]
  · have hB : ¬t.val % 4 = 0 := by have := t.isLt; omega
    rw [outsAt0_B m c t hB]
    dsimp only
    rw [out_B]
    have hp : t.val - 1 < cfg0.N := Nat.lt_of_le_of_lt (Nat.sub_le _ _) t.isLt
    have hk : ∀ k : Fin 4096, ((outsAt0 m c (t.val - 1) hp).2 (ix2 p k) : EReal) = (k0_pay1 (iblk m c 0 t) (ix2 p k) : EReal) := fun k => by
      refine (kept m c ⟨t.val - 1, hp⟩ p k).trans ?_
      have h1 := b0 m c ⟨t.val - 1, hp⟩ k p
      have h2 := b0 m c t k p
      unfold k0_pay1
      pointwise
      exact h1.trans h2.symm
    unfold k0_pay2
    pointwise
    exact Finset.sum_congr rfl fun k _ => congrArg (· * _) (hk k)

/-- The call's array: the reference's result. -/
abbrev res2 (c : Dev nD) : Buf (Elt Ideal) ((c : Thread nD τ).loc main_v15) := Cert.Reference5Ideal.Read.val_main_v18 (F := Ideal) (A0 m c) (A1 m c) (A3 m c)

/-- The reference's result at a point's block. -/
theorem res2_apply (c : Dev nD) (t : Fin cfg0.N) (p : Fin 1024) (q : Fin 1024) :
    (res2 m c (ix3 ⟨t.val, by have := t.isLt; have h : cfg0.N = 4 := N_0; omega⟩ p q) : EReal) = ∑ k : Fin 4096, ((Cert.Reference5Ideal.Read.val_main_v12 (F := Ideal) (A0 m c) (A1 m c)) (ix2 k p) : EReal) * (A3 m c (ix2 k ⟨1024 * t.val + q.val, by have := t.isLt; have h : cfg0.N = 4 := N_0; omega⟩) : EReal) := by
  unfold res2
  pointwise [Cert.Reference5Ideal.Read.val_main_v13, Cert.Reference5Ideal.Read.val_main_v14, Cert.Reference5Ideal.Read.val_main_v15, Cert.Reference5Ideal.Read.val_main_v16, Cert.Reference5Ideal.Read.val_main_v17, Cert.Reference5Ideal.Read.val_main_v18]
  exact sum_swap fun k => congrArg (fun z : Fin 4096 => (A3 m c (ix2 k z) : EReal)) (Fin.ext (show t.val * 1024 + q.val = 1024 * t.val + q.val by omega))

/-- The point's block is the reference's. -/
theorem blk2 (c : Dev nD) (t : Fin cfg0.N) (p : Fin 1024) (q : Fin 1024) :
    (k0_pay2 (k0_pay1 (iblk m c 0 t)) (iblk m c 1 t) (ix3 0 p q) : EReal) = res2 m c (ix3 ⟨t.val, by have := t.isLt; have h : cfg0.N = 4 := N_0; omega⟩ p q) := by
  refine (pay_apply _ _ p q).trans ?_
  rw [res2_apply]
  refine Finset.sum_congr rfl fun k _ => congrArg₂ (fun a b : EReal => a * b) (b0 m c t k p) (b1 m c t k q)

/-- Each point writes back its block. -/
theorem wrote2 (c : Dev nD) (t : Fin cfg0.N) (hf : (cfg0.win 2).flush t = true) :
    (dats m 0 c).flushed 2 t = ((cfg0.win 2).blk t).view.read (Elt Ideal) (res2 m c) := by
  rw [flushed2]
  funext j
  obtain ⟨z, p, q, rfl⟩ : ∃ (z : Fin 1) (p : Fin 1024) (q : Fin 1024), j = ix3 z p q := ⟨j 0, j 1, j 2, eq_ix3 (n0 := 1) (n1 := 1024) (n2 := 1024) j⟩
  obtain rfl : z = 0 := Subsingleton.elim _ _
  rw [View.read_apply]
  have e : ((cfg0.win 2).blk t).view.emb (ix3 0 p q) = ix3 ⟨t.val, by have := t.isLt; have h : cfg0.N = 4 := N_0; omega⟩ p q := by
    have hi := (by decide +kernel : ∀ t : Fin grid0.N, win0_2.index t 0 = t.val ∧ win0_2.index t 1 = 0 ∧ win0_2.index t 2 = 0) t
    funext a
    apply Fin.ext
    match a with
    | ⟨0, _⟩ => show win0_2.index t 0 * 1 + 1 * 0 = t.val; rw [hi.1]; omega
    | ⟨1, _⟩ => show win0_2.index t 1 * 1024 + 1 * p.val = p.val; rw [hi.2.1]; omega
    | ⟨2, _⟩ => show win0_2.index t 2 * 1024 + 1 * q.val = q.val; rw [hi.2.2]; omega
  rw [e]
  exact (o2 m c t p q).trans (blk2 m c t p q)

/-- The array after the run. -/
theorem fin2 (c : Dev nD) : (dats m 0 c).arrAt 2 cfg0.N = res2 m c :=
  (dats m 0 c).arrAt_eq_of_cover 2 (res2 m c) (wrote2 m c) fun i => by
    have h0 : (i 0 : Nat) < 4 := (i 0).isLt
    have h1 : (i 1 : Nat) < 1024 := (i 1).isLt
    have h2 : (i 2 : Nat) < 1024 := (i 2).isLt
    refine ⟨⟨(i 0 : Nat), by rw [show cfg0.N = 4 from N_0]; omega⟩, flush0_2 _, ?_⟩
    generalize ht : (⟨(i 0 : Nat), _⟩ : Fin cfg0.N) = t
    have hv : t.val = (i 0 : Nat) := by rw [← ht]
    show i ∈ ((View.whole main_v15).slice (win0_2.rect t)).set
    rw [View.set_slice_whole, Rect.mem_set_unit]
    have hi := (by decide +kernel : ∀ t : Fin grid0.N, win0_2.index t 0 = t.val ∧ win0_2.index t 1 = 0 ∧ win0_2.index t 2 = 0) t
    intro a
    match a with
    | ⟨0, _⟩ => show win0_2.index t 0 * 1 ≤ (i 0 : Nat) ∧ (i 0 : Nat) < win0_2.index t 0 * 1 + 1
                rw [hi.1]; omega
    | ⟨1, _⟩ => show win0_2.index t 1 * 1024 ≤ (i 1 : Nat) ∧ (i 1 : Nat) < win0_2.index t 1 * 1024 + 1024
                rw [hi.2.1]; omega
    | ⟨2, _⟩ => show win0_2.index t 2 * 1024 ≤ (i 2 : Nat) ∧ (i 2 : Nat) < win0_2.index t 2 * 1024 + 1024
                rw [hi.2.2]; omega

end Cert.Kernel5Ideal.Value

namespace Cert.Proof.UpDw
open Cert.Kernel5Ideal.Value

variable (m' : (ℓ : Loc Cert.Reference5Ideal.nD Cert.Reference5Ideal.τ Cert.Reference5Ideal.sig) → Buf (Elt Ideal) ℓ) (g' : Dev Cert.Reference5Ideal.nD → PrngReg)

/-- The reference's run: each result is its last stage over the arguments, and the arguments are kept. -/
theorem ref_run : θ_run (Cert.Reference5Ideal.defs (F := Ideal)) (onTc (τ := Cert.Reference5Ideal.τ) (Cert.Reference5Ideal.main (F := Ideal))) ⟨m', fun _ => 0, g'⟩ fun r =>
    ∀ c : Dev Cert.Reference5Ideal.nD,
      r.2.mem ((c.tc : Thread Cert.Reference5Ideal.nD Cert.Reference5Ideal.τ).loc Cert.Reference5Ideal.main_v18) = Cert.Reference5Ideal.Read.val_main_v18 (m' (c.tc.loc Cert.Reference5Ideal.main_arg0)) (m' (c.tc.loc Cert.Reference5Ideal.main_arg1)) (m' (c.tc.loc Cert.Reference5Ideal.main_arg3))
      ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3) :=
  (θ_run Cert.Reference5Ideal.defs _ _).mono (fun r hr c => ⟨
    (hr c).1.trans (Cert.Reference5Ideal.Read.val_main_v18_eq _ _ _),
    (hr c).2⟩) (Cert.Reference5Ideal.Value.run m' g')

/-- Over the extended reals the call ends with the reference's results. -/
theorem algebraic : Cert.algebraic_Kernel5Ideal_Reference5Ideal (hKernel5Ideal := Cert.Kernel5Ideal.Gen.facts) (hReference5Ideal := Cert.Reference5Ideal.Gen.facts) := by
  intro m g m' g' _ h
  refine ⟨fun c => res2 m c, ?_, ?_⟩
  · refine (θ_run Cert.Kernel5Ideal.defs _ _).mono (fun r hr c => ?_) (Cert.Kernel5Ideal.Value.run_blocks m g)
    obtain ⟨h0, hk⟩ := hr c
    exact ⟨h0.trans (fin2 m c), hk⟩
  · refine (θ_run Cert.Reference5Ideal.defs _ _).mono (fun r hr c => ?_) (ref_run m' g')
    obtain ⟨h0, hk⟩ := hr c
    obtain ⟨a0, a1, a2, a3⟩ := h c
    rw [a0, a1, a3] at h0
    exact ⟨h0, hk⟩

/-- The reference's frame: it declares no semaphore. -/
theorem frame_ref : Cert.quiescent_Reference5Ideal (hReference5Ideal := Cert.Reference5Ideal.Gen.facts) := by
  intro m g _
  exact (θ_run Cert.Reference5Ideal.defs _ _).mono (fun r h => ⟨fun c => (h c).2, sem_eq_zero_of_no_sems (by decide) r.2⟩) (ref_run m g)

end Cert.Proof.UpDw

end
-- ==== Proof.OutDw.lean ====
/- The gradient of the out projection: the concatenated heads, transposed, against the gradient of the product. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Rms
public import Idealize.ShloMosaic.Lib.Tactic
public import Idealize.ShloMosaic.Adequacy

@[expose] public section

noncomputable section

open Idealize.ShloMosaic Idealize.ShloMosaic.TcCoe Idealize.SL.Sem Cert.Alg

namespace Cert.Kernel6Ideal.Value
open Cert.Kernel6Ideal Cert.Kernel6Ideal.Gen

theorem hz : (![0, 0] : Fin 2 → Nat) = fun _ => 0 := funext fun a => by fin_cases a <;> rfl

/-- The stored product at an index: a column of the first block against a column of the second. -/
theorem pay_apply (u : Vec Ideal S4096x512 .bf16) (v : Vec Ideal S4096x1024 .bf16) (p : Fin 512) (q : Fin 1024) :
    (k0_pay2 (k0_pay1 u) v (ix2 p q) : EReal) = ∑ k : Fin 4096, (u (ix2 k p) : EReal) * (v (ix2 k q) : EReal) := by
  unfold_payloads
  pointwise

/-- The first case transposes its first block and leaves the product of the two. -/
theorem out_A (c : Dev nD) (i : grid0.Coords) (arg2 : Memref sig .tc .vmem S4096x512 .bf16) (harg2 : arg2.IsWhole) (arg3 : Memref sig .tc .vmem S4096x1024 .bf16) (harg3 : arg3.IsWhole) (arg4 : Memref sig .tc .vmem S512x1024 .bf16) (harg4 : arg4.IsWhole) (arg5 : Memref sig .tc .vmem S512x4096 .bf16) (harg5 : arg5.IsWhole) (hc0 : cond0_0 i)
    (x0 : Vec Ideal S4096x512 .bf16) (x1 : Vec Ideal S4096x1024 .bf16) :
    out0_A_2 c i arg2 harg2 arg3 harg3 arg4 harg4 arg5 harg5 hc0 x0 x1 = k0_pay2 (k0_pay1 x0) x1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero hz]
  simp only [View.readAt_eq_ld, harg2.read_unread, harg3.read_unread, harg4.read_unread, harg5.read_unread, View.ld_unit_zero (S := S4096x512) hz, View.ld_unit_zero (S := S4096x1024) hz, View.ld_unit_zero (S := S512x4096) hz]
  rw [View.readCov_unit_zero (S := S512x4096) _ hz]

variable (m : (ℓ : Loc nD τ sig) → Buf (Elt Ideal) ℓ)

/-- The concatenated heads. -/
abbrev A0 (c : Dev nD) : Vec Ideal S4096x2048 .f32 := m ((c : Thread nD τ).loc main_arg0)
/-- The weights. -/
abbrev A1 (c : Dev nD) : Vec Ideal S2048x1024 .f32 := m ((c : Thread nD τ).loc main_arg1)
/-- The gradient at the product. -/
abbrev A2 (c : Dev nD) : Vec Ideal S4096x1024 .f32 := m ((c : Thread nD τ).loc main_arg2)

/-- The first operand as the call takes it. -/
theorem V_a (c : Dev nD) : (V m c main_v0 : S4096x2048.Idx → EReal) = A0 m c := by
  dsimp only [V, hostOps0, List.flatten_cons, List.flatten_nil, List.append_nil, List.cons_append, List.nil_append]
  after_results
  rfl

/-- The second operand as the call takes it. -/
theorem V_b (c : Dev nD) : (V m c main_v1 : S4096x1024.Idx → EReal) = A2 m c := by
  dsimp only [V, hostOps0, List.flatten_cons, List.flatten_nil, List.append_nil, List.cons_append, List.nil_append]
  after_results
  rfl

/-- The first block. -/
theorem b0 (c : Dev nD) (t : Fin cfg0.N) (k : Fin 4096) (p : Fin 512) : (iblk m c 0 t (ix2 k p) : EReal) = A0 m c (ix2 k ⟨512 * t.val + p.val, by have := t.isLt; have h : cfg0.N = 4 := N_0; omega⟩) := by
  unfold iblk
  rw [View.read_apply]
  show (V m c main_v0 _ : EReal) = _
  rw [V_a]
  congr 1
  funext a
  apply Fin.ext
  have hi : win0_0.index t 0 = 0 ∧ win0_0.index t 1 = t.val := (by decide +kernel : ∀ t : Fin grid0.N, win0_0.index t 0 = 0 ∧ win0_0.index t 1 = t.val) t
  match a with
  | ⟨0, _⟩ => show win0_0.index t 0 * 4096 + 1 * k.val = k.val; rw [hi.1]; omega
  | ⟨1, _⟩ => show win0_0.index t 1 * 512 + 1 * p.val = 512 * t.val + p.val; rw [hi.2]; omega

/-- The second block. -/
theorem b1 (c : Dev nD) (t : Fin cfg0.N) (k : Fin 4096) (q : Fin 1024) : (iblk m c 1 t (ix2 k q) : EReal) = A2 m c (ix2 k q) := by
  unfold iblk
  rw [View.read_apply]
  show (V m c main_v1 _ : EReal) = _
  rw [V_b]
  congr 1
  funext a
  apply Fin.ext
  have hi : win0_1.index t 0 = 0 ∧ win0_1.index t 1 = 0 := (by decide +kernel : ∀ t : Fin grid0.N, win0_1.index t 0 = 0 ∧ win0_1.index t 1 = 0) t
  match a with
  | ⟨0, _⟩ => show win0_1.index t 0 * 4096 + 1 * k.val = k.val; rw [hi.1]; omega
  | ⟨1, _⟩ => show win0_1.index t 1 * 1024 + 1 * q.val = q.val; rw [hi.2]; omega

/-- What a point leaves. -/
theorem o2 (c : Dev nD) (t : Fin cfg0.N) : outsAt0 m c t = k0_pay2 (k0_pay1 (iblk m c 0 t)) (iblk m c 1 t) := by
  unfold outsAt0
  rw [out_A]

/-- The call's array: the reference's result. -/
abbrev res2 (c : Dev nD) : Buf (Elt Ideal) ((c : Thread nD τ).loc main_v2) := Cert.Reference6Ideal.Read.val_main_v3 (F := Ideal) (A0 m c) (A2 m c)

/-- The reference's result at a point's block. -/
theorem res2_apply (c : Dev nD) (t : Fin cfg0.N) (p : Fin 512) (q : Fin 1024) :
    (res2 m c (ix2 ⟨512 * t.val + p.val, by have := t.isLt; have h : cfg0.N = 4 := N_0; omega⟩ q) : EReal) = ∑ k : Fin 4096, (A0 m c (ix2 k ⟨512 * t.val + p.val, by have := t.isLt; have h : cfg0.N = 4 := N_0; omega⟩) : EReal) * (A2 m c (ix2 k q) : EReal) := by
  unfold res2
  pointwise [Cert.Reference6Ideal.Read.val_main_v0, Cert.Reference6Ideal.Read.val_main_v1, Cert.Reference6Ideal.Read.val_main_v2, Cert.Reference6Ideal.Read.val_main_v3]
  exact sum_swap fun k => rfl

/-- The point's block is the reference's. -/
theorem blk2 (c : Dev nD) (t : Fin cfg0.N) (p : Fin 512) (q : Fin 1024) :
    (k0_pay2 (k0_pay1 (iblk m c 0 t)) (iblk m c 1 t) (ix2 p q) : EReal) = res2 m c (ix2 ⟨512 * t.val + p.val, by have := t.isLt; have h : cfg0.N = 4 := N_0; omega⟩ q) := by
  refine (pay_apply _ _ p q).trans ?_
  rw [res2_apply]
  refine Finset.sum_congr rfl fun k _ => congrArg₂ (fun a b : EReal => a * b) (b0 m c t k p) (b1 m c t k q)

/-- Each point writes back its block. -/
theorem wrote2 (c : Dev nD) (t : Fin cfg0.N) (hf : (cfg0.win 2).flush t = true) :
    (dats m 0 c).flushed 2 t = ((cfg0.win 2).blk t).view.read (Elt Ideal) (res2 m c) := by
  rw [flushed2]
  funext j
  obtain ⟨p, q, rfl⟩ : ∃ (p : Fin 512) (q : Fin 1024), j = ix2 p q := ⟨j 0, j 1, eq_ix2 (n0 := 512) (n1 := 1024) j⟩
  rw [View.read_apply]
  have e : ((cfg0.win 2).blk t).view.emb (ix2 p q) = ix2 ⟨512 * t.val + p.val, by have := t.isLt; have h : cfg0.N = 4 := N_0; omega⟩ q := by
    have hi := (by decide +kernel : ∀ t : Fin grid0.N, win0_2.index t 0 = t.val ∧ win0_2.index t 1 = 0) t
    funext a
    apply Fin.ext
    match a with
    | ⟨0, _⟩ => show win0_2.index t 0 * 512 + 1 * p.val = 512 * t.val + p.val; rw [hi.1]; omega
    | ⟨1, _⟩ => show win0_2.index t 1 * 1024 + 1 * q.val = q.val; rw [hi.2]; omega
  rw [e]
  rw [o2]
  exact blk2 m c t p q

/-- The array after the run. -/
theorem fin2 (c : Dev nD) : (dats m 0 c).arrAt 2 cfg0.N = res2 m c :=
  (dats m 0 c).arrAt_eq_of_cover 2 (res2 m c) (wrote2 m c) fun i => by
    have h0 : (i 0 : Nat) < 2048 := (i 0).isLt
    have h1 : (i 1 : Nat) < 1024 := (i 1).isLt
    refine ⟨⟨(i 0 : Nat) / 512, by rw [show cfg0.N = 4 from N_0]; omega⟩, flush0_2 _, ?_⟩
    generalize ht : (⟨(i 0 : Nat) / 512, _⟩ : Fin cfg0.N) = t
    have hv : t.val = (i 0 : Nat) / 512 := by rw [← ht]
    show i ∈ ((View.whole main_v2).slice (win0_2.rect t)).set
    rw [View.set_slice_whole, Rect.mem_set_unit]
    have hi := (by decide +kernel : ∀ t : Fin grid0.N, win0_2.index t 0 = t.val ∧ win0_2.index t 1 = 0) t
    intro a
    match a with
    | ⟨0, _⟩ => show win0_2.index t 0 * 512 ≤ (i 0 : Nat) ∧ (i 0 : Nat) < win0_2.index t 0 * 512 + 512
                rw [hi.1]; omega
    | ⟨1, _⟩ => show win0_2.index t 1 * 1024 ≤ (i 1 : Nat) ∧ (i 1 : Nat) < win0_2.index t 1 * 1024 + 1024
                rw [hi.2]; omega

end Cert.Kernel6Ideal.Value

namespace Cert.Proof.OutDw
open Cert.Kernel6Ideal.Value

variable (m' : (ℓ : Loc Cert.Reference6Ideal.nD Cert.Reference6Ideal.τ Cert.Reference6Ideal.sig) → Buf (Elt Ideal) ℓ) (g' : Dev Cert.Reference6Ideal.nD → PrngReg)

/-- The reference's run: each result is its last stage over the arguments, and the arguments are kept. -/
theorem ref_run : θ_run (Cert.Reference6Ideal.defs (F := Ideal)) (onTc (τ := Cert.Reference6Ideal.τ) (Cert.Reference6Ideal.main (F := Ideal))) ⟨m', fun _ => 0, g'⟩ fun r =>
    ∀ c : Dev Cert.Reference6Ideal.nD,
      r.2.mem ((c.tc : Thread Cert.Reference6Ideal.nD Cert.Reference6Ideal.τ).loc Cert.Reference6Ideal.main_v3) = Cert.Reference6Ideal.Read.val_main_v3 (m' (c.tc.loc Cert.Reference6Ideal.main_arg0)) (m' (c.tc.loc Cert.Reference6Ideal.main_arg2))
      ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2) :=
  (θ_run Cert.Reference6Ideal.defs _ _).mono (fun r hr c => ⟨
    (hr c).1.trans (Cert.Reference6Ideal.Read.val_main_v3_eq _ _),
    (hr c).2⟩) (Cert.Reference6Ideal.Value.run m' g')

/-- Over the extended reals the call ends with the reference's results. -/
theorem algebraic : Cert.algebraic_Kernel6Ideal_Reference6Ideal (hKernel6Ideal := Cert.Kernel6Ideal.Gen.facts) (hReference6Ideal := Cert.Reference6Ideal.Gen.facts) := by
  intro m g m' g' _ h
  refine ⟨fun c => res2 m c, ?_, ?_⟩
  · refine (θ_run Cert.Kernel6Ideal.defs _ _).mono (fun r hr c => ?_) (Cert.Kernel6Ideal.Value.run_blocks m g)
    obtain ⟨h0, hk⟩ := hr c
    exact ⟨h0.trans (fin2 m c), hk⟩
  · refine (θ_run Cert.Reference6Ideal.defs _ _).mono (fun r hr c => ?_) (ref_run m' g')
    obtain ⟨h0, hk⟩ := hr c
    obtain ⟨a0, a1, a2⟩ := h c
    rw [a0, a2] at h0
    exact ⟨h0, hk⟩

/-- The reference's frame: it declares no semaphore. -/
theorem frame_ref : Cert.quiescent_Reference6Ideal (hReference6Ideal := Cert.Reference6Ideal.Gen.facts) := by
  intro m g _
  exact (θ_run Cert.Reference6Ideal.defs _ _).mono (fun r h => ⟨fun c => (h c).2, sem_eq_zero_of_no_sems (by decide) r.2⟩) (ref_run m g)

end Cert.Proof.OutDw

end
-- ==== Proof.InDw.lean ====
/- The gradient of the in projection: the normed rows, transposed, against the gradient of the product. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Rms
public import Idealize.ShloMosaic.Lib.Tactic
public import Idealize.ShloMosaic.Adequacy

@[expose] public section

noncomputable section

open Idealize.ShloMosaic Idealize.ShloMosaic.TcCoe Idealize.SL.Sem Cert.Alg

namespace Cert.Kernel7Ideal.Value
open Cert.Kernel7Ideal Cert.Kernel7Ideal.Gen

theorem hz : (![0, 0] : Fin 2 → Nat) = fun _ => 0 := funext fun a => by fin_cases a <;> rfl

/-- The stored product at an index: a column of the first block against a column of the second. -/
theorem pay_apply (u : Vec Ideal S4096x1024 .bf16) (v : Vec Ideal S4096x1152 .bf16) (p : Fin 1024) (q : Fin 1152) :
    (k0_pay2 (k0_pay1 u) v (ix2 p q) : EReal) = ∑ k : Fin 4096, (u (ix2 k p) : EReal) * (v (ix2 k q) : EReal) := by
  unfold_payloads
  pointwise

/-- The first case transposes its first block and leaves the product of the two. -/
theorem out_A (c : Dev nD) (i : grid0.Coords) (arg2 : Memref sig .tc .vmem S4096x1024 .bf16) (harg2 : arg2.IsWhole) (arg3 : Memref sig .tc .vmem S4096x1152 .bf16) (harg3 : arg3.IsWhole) (arg4 : Memref sig .tc .vmem S1024x1152 .bf16) (harg4 : arg4.IsWhole) (arg5 : Memref sig .tc .vmem S1024x4096 .bf16) (harg5 : arg5.IsWhole) (hc0 : cond0_0 i)
    (x0 : Vec Ideal S4096x1024 .bf16) (x1 : Vec Ideal S4096x1152 .bf16) :
    out0_A_2 c i arg2 harg2 arg3 harg3 arg4 harg4 arg5 harg5 hc0 x0 x1 = k0_pay2 (k0_pay1 x0) x1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero hz]
  simp only [View.readAt_eq_ld, harg2.read_unread, harg3.read_unread, harg4.read_unread, harg5.read_unread, View.ld_unit_zero (S := S4096x1024) hz, View.ld_unit_zero (S := S4096x1152) hz, View.ld_unit_zero (S := S1024x4096) hz]
  rw [View.readCov_unit_zero (S := S1024x4096) _ hz]

/-- … and keeps the transposed block. -/
theorem scr_A (c : Dev nD) (i : grid0.Coords) (arg2 : Memref sig .tc .vmem S4096x1024 .bf16) (harg2 : arg2.IsWhole) (arg3 : Memref sig .tc .vmem S4096x1152 .bf16) (harg3 : arg3.IsWhole) (arg4 : Memref sig .tc .vmem S1024x1152 .bf16) (harg4 : arg4.IsWhole) (arg5 : Memref sig .tc .vmem S1024x4096 .bf16) (harg5 : arg5.IsWhole) (hc0 : cond0_0 i)
    (x0 : Vec Ideal S4096x1024 .bf16) (x1 : Vec Ideal S4096x1152 .bf16) :
    sout0_A_0 c i arg2 harg2 arg3 harg3 arg4 harg4 arg5 harg5 hc0 x0 x1 = k0_pay1 x0 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero hz]
  simp only [View.readAt_eq_ld, harg2.read_unread, harg3.read_unread, harg4.read_unread, harg5.read_unread, View.ld_unit_zero (S := S4096x1024) hz, View.ld_unit_zero (S := S4096x1152) hz, View.ld_unit_zero (S := S1024x4096) hz]

/-- The other case multiplies by the block kept. -/
theorem out_B (c : Dev nD) (i : grid0.Coords) (arg2 : Memref sig .tc .vmem S4096x1024 .bf16) (harg2 : arg2.IsWhole) (arg3 : Memref sig .tc .vmem S4096x1152 .bf16) (harg3 : arg3.IsWhole) (arg4 : Memref sig .tc .vmem S1024x1152 .bf16) (harg4 : arg4.IsWhole) (arg5 : Memref sig .tc .vmem S1024x4096 .bf16) (harg5 : arg5.IsWhole) (hc0 : ¬cond0_0 i)
    (x0 : Vec Ideal S4096x1024 .bf16) (x1 : Vec Ideal S4096x1152 .bf16) (xs0 : Vec Ideal S1024x4096 .bf16) :
    out0_B_2 c i arg2 harg2 arg3 harg3 arg4 harg4 arg5 harg5 hc0 x0 x1 xs0 = k0_pay2 xs0 x1 := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  rw [View.canon_unit_zero hz]
  simp only [View.readAt_eq_ld, harg2.read_unread, harg3.read_unread, harg4.read_unread, harg5.read_unread, View.ld_unit_zero (S := S4096x1024) hz, View.ld_unit_zero (S := S4096x1152) hz, View.ld_unit_zero (S := S1024x4096) hz]

variable (m : (ℓ : Loc nD τ sig) → Buf (Elt Ideal) ℓ)

/-- The residual stream. -/
abbrev A0 (c : Dev nD) : Vec Ideal S4096x1024 .f32 := m ((c : Thread nD τ).loc main_arg0)
/-- The norm weights. -/
abbrev A1 (c : Dev nD) : Vec Ideal S1024 .f32 := m ((c : Thread nD τ).loc main_arg1)
/-- The weights. -/
abbrev A2 (c : Dev nD) : Vec Ideal S1024x5760 .f32 := m ((c : Thread nD τ).loc main_arg2)
/-- The gradient at the product. -/
abbrev A3 (c : Dev nD) : Vec Ideal S4096x5760 .f32 := m ((c : Thread nD τ).loc main_arg3)

/-- The normed rows as the call takes them. -/
theorem V_a (c : Dev nD) : (V m c main_v13 : S4096x1024.Idx → EReal) = (Cert.Reference7Ideal.Read.val_main_v12 (F := Ideal) (A0 m c) (A1 m c)) := by
  dsimp only [V, hostOps0, List.flatten_cons, List.flatten_nil, List.append_nil, List.cons_append, List.nil_append]
  after_results
  rfl

/-- The second operand as the call takes it. -/
theorem V_b (c : Dev nD) : (V m c main_v14 : S4096x5760.Idx → EReal) = A3 m c := by
  dsimp only [V, hostOps0, List.flatten_cons, List.flatten_nil, List.append_nil, List.cons_append, List.nil_append]
  after_results
  rfl

/-- The first block. -/
theorem b0 (c : Dev nD) (t : Fin cfg0.N) (k : Fin 4096) (p : Fin 1024) : (iblk m c 0 t (ix2 k p) : EReal) = (Cert.Reference7Ideal.Read.val_main_v12 (F := Ideal) (A0 m c) (A1 m c)) (ix2 k p) := by
  unfold iblk
  rw [View.read_apply]
  show (V m c main_v13 _ : EReal) = _
  rw [V_a]
  congr 1
  funext a
  apply Fin.ext
  have hi : win0_0.index t 0 = 0 ∧ win0_0.index t 1 = 0 := (by decide +kernel : ∀ t : Fin grid0.N, win0_0.index t 0 = 0 ∧ win0_0.index t 1 = 0) t
  match a with
  | ⟨0, _⟩ => show win0_0.index t 0 * 4096 + 1 * k.val = k.val; rw [hi.1]; omega
  | ⟨1, _⟩ => show win0_0.index t 1 * 1024 + 1 * p.val = p.val; rw [hi.2]; omega

/-- The second block. -/
theorem b1 (c : Dev nD) (t : Fin cfg0.N) (k : Fin 4096) (q : Fin 1152) : (iblk m c 1 t (ix2 k q) : EReal) = A3 m c (ix2 k ⟨1152 * t.val + q.val, by have := t.isLt; have h : cfg0.N = 5 := N_0; omega⟩) := by
  unfold iblk
  rw [View.read_apply]
  show (V m c main_v14 _ : EReal) = _
  rw [V_b]
  congr 1
  funext a
  apply Fin.ext
  have hi : win0_1.index t 0 = 0 ∧ win0_1.index t 1 = t.val := (by decide +kernel : ∀ t : Fin grid0.N, win0_1.index t 0 = 0 ∧ win0_1.index t 1 = t.val) t
  match a with
  | ⟨0, _⟩ => show win0_1.index t 0 * 4096 + 1 * k.val = k.val; rw [hi.1]; omega
  | ⟨1, _⟩ => show win0_1.index t 1 * 1152 + 1 * q.val = 1152 * t.val + q.val; rw [hi.2]; omega

/-- The transposed block kept is the first operand's, whole, at every point. -/
theorem kept (c : Dev nD) (t : Fin cfg0.N) (p : Fin 1024) (k : Fin 4096) :
    ((outsAt0 m c t.val t.isLt).2 (ix2 p k) : EReal) = (k0_pay1 (iblk m c 0 t) (ix2 p k) : EReal) := by
  obtain ⟨n, hn⟩ := t
  induction n with
  | zero =>
    rw [outsAt0_A m c ⟨0, hn⟩ rfl]
    dsimp only
    rw [scr_A]
  | succ n ih =>
    have hN : cfg0.N = 5 := N_0
    have e := congrArg (fun z => z.2) (outsAt0_B m c ⟨n + 1, hn⟩ (show ¬(n + 1) % 5 = 0 by omega))
    dsimp only [sout0_B_0] at e
    rw [e]
    refine (ih (Nat.lt_of_succ_lt hn)).trans ?_
    have h1 := b0 m c ⟨n, Nat.lt_of_succ_lt hn⟩ k p
    have h2 := b0 m c ⟨n + 1, hn⟩ k p
    unfold k0_pay1
    pointwise
    exact h1.trans h2.symm

/-- What a point leaves, at an index. -/
theorem o2 (c : Dev nD) (t : Fin cfg0.N) (p : Fin 1024) (q : Fin 1152) :
    ((outsAt0 m c t.val t.isLt).1 (ix2 p q) : EReal) = (k0_pay2 (k0_pay1 (iblk m c 0 t)) (iblk m c 1 t) (ix2 p q) : EReal) := by
  have hN : cfg0.N = 5 := N_0
  by_cases h : t.val = 0
  · rw [outsAt0_A m c t (by rw [h])]
    dsimp only
    rw [out_A]
  · have hB : ¬t.val % 5 = 0 := by have := t.isLt; omega
    rw [outsAt0_B m c t hB]
    dsimp only
    rw [out_B]
    have hp : t.val - 1 < cfg0.N := Nat.lt_of_le_of_lt (Nat.sub_le _ _) t.isLt
    have hk : ∀ k : Fin 4096, ((outsAt0 m c (t.val - 1) hp).2 (ix2 p k) : EReal) = (k0_pay1 (iblk m c 0 t) (ix2 p k) : EReal) := fun k => by
      refine (kept m c ⟨t.val - 1, hp⟩ p k).trans ?_
      have h1 := b0 m c ⟨t.val - 1, hp⟩ k p
      have h2 := b0 m c t k p
      unfold k0_pay1
      pointwise
      exact h1.trans h2.symm
    unfold k0_pay2
    pointwise
    exact Finset.sum_congr rfl fun k _ => congrArg (· * _) (hk k)

/-- The call's array: the reference's result. -/
abbrev res2 (c : Dev nD) : Buf (Elt Ideal) ((c : Thread nD τ).loc main_v15) := Cert.Reference7Ideal.Read.val_main_v16 (F := Ideal) (A0 m c) (A1 m c) (A3 m c)

/-- The reference's result at a point's block. -/
theorem res2_apply (c : Dev nD) (t : Fin cfg0.N) (p : Fin 1024) (q : Fin 1152) :
    (res2 m c (ix2 p ⟨1152 * t.val + q.val, by have := t.isLt; have h : cfg0.N = 5 := N_0; omega⟩) : EReal) = ∑ k : Fin 4096, ((Cert.Reference7Ideal.Read.val_main_v12 (F := Ideal) (A0 m c) (A1 m c)) (ix2 k p) : EReal) * (A3 m c (ix2 k ⟨1152 * t.val + q.val, by have := t.isLt; have h : cfg0.N = 5 := N_0; omega⟩) : EReal) := by
  unfold res2
  pointwise [Cert.Reference7Ideal.Read.val_main_v13, Cert.Reference7Ideal.Read.val_main_v14, Cert.Reference7Ideal.Read.val_main_v15, Cert.Reference7Ideal.Read.val_main_v16]
  exact sum_swap fun k => rfl

/-- The point's block is the reference's. -/
theorem blk2 (c : Dev nD) (t : Fin cfg0.N) (p : Fin 1024) (q : Fin 1152) :
    (k0_pay2 (k0_pay1 (iblk m c 0 t)) (iblk m c 1 t) (ix2 p q) : EReal) = res2 m c (ix2 p ⟨1152 * t.val + q.val, by have := t.isLt; have h : cfg0.N = 5 := N_0; omega⟩) := by
  refine (pay_apply _ _ p q).trans ?_
  rw [res2_apply]
  refine Finset.sum_congr rfl fun k _ => congrArg₂ (fun a b : EReal => a * b) (b0 m c t k p) (b1 m c t k q)

/-- Each point writes back its block. -/
theorem wrote2 (c : Dev nD) (t : Fin cfg0.N) (hf : (cfg0.win 2).flush t = true) :
    (dats m 0 c).flushed 2 t = ((cfg0.win 2).blk t).view.read (Elt Ideal) (res2 m c) := by
  rw [flushed2]
  funext j
  obtain ⟨p, q, rfl⟩ : ∃ (p : Fin 1024) (q : Fin 1152), j = ix2 p q := ⟨j 0, j 1, eq_ix2 (n0 := 1024) (n1 := 1152) j⟩
  rw [View.read_apply]
  have e : ((cfg0.win 2).blk t).view.emb (ix2 p q) = ix2 p ⟨1152 * t.val + q.val, by have := t.isLt; have h : cfg0.N = 5 := N_0; omega⟩ := by
    have hi := (by decide +kernel : ∀ t : Fin grid0.N, win0_2.index t 0 = 0 ∧ win0_2.index t 1 = t.val) t
    funext a
    apply Fin.ext
    match a with
    | ⟨0, _⟩ => show win0_2.index t 0 * 1024 + 1 * p.val = p.val; rw [hi.1]; omega
    | ⟨1, _⟩ => show win0_2.index t 1 * 1152 + 1 * q.val = 1152 * t.val + q.val; rw [hi.2]; omega
  rw [e]
  exact (o2 m c t p q).trans (blk2 m c t p q)

/-- The array after the run. -/
theorem fin2 (c : Dev nD) : (dats m 0 c).arrAt 2 cfg0.N = res2 m c :=
  (dats m 0 c).arrAt_eq_of_cover 2 (res2 m c) (wrote2 m c) fun i => by
    have h0 : (i 0 : Nat) < 1024 := (i 0).isLt
    have h1 : (i 1 : Nat) < 5760 := (i 1).isLt
    refine ⟨⟨(i 1 : Nat) / 1152, by rw [show cfg0.N = 5 from N_0]; omega⟩, flush0_2 _, ?_⟩
    generalize ht : (⟨(i 1 : Nat) / 1152, _⟩ : Fin cfg0.N) = t
    have hv : t.val = (i 1 : Nat) / 1152 := by rw [← ht]
    show i ∈ ((View.whole main_v15).slice (win0_2.rect t)).set
    rw [View.set_slice_whole, Rect.mem_set_unit]
    have hi := (by decide +kernel : ∀ t : Fin grid0.N, win0_2.index t 0 = 0 ∧ win0_2.index t 1 = t.val) t
    intro a
    match a with
    | ⟨0, _⟩ => show win0_2.index t 0 * 1024 ≤ (i 0 : Nat) ∧ (i 0 : Nat) < win0_2.index t 0 * 1024 + 1024
                rw [hi.1]; omega
    | ⟨1, _⟩ => show win0_2.index t 1 * 1152 ≤ (i 1 : Nat) ∧ (i 1 : Nat) < win0_2.index t 1 * 1152 + 1152
                rw [hi.2]; omega

end Cert.Kernel7Ideal.Value

namespace Cert.Proof.InDw
open Cert.Kernel7Ideal.Value

variable (m' : (ℓ : Loc Cert.Reference7Ideal.nD Cert.Reference7Ideal.τ Cert.Reference7Ideal.sig) → Buf (Elt Ideal) ℓ) (g' : Dev Cert.Reference7Ideal.nD → PrngReg)

/-- The reference's run: each result is its last stage over the arguments, and the arguments are kept. -/
theorem ref_run : θ_run (Cert.Reference7Ideal.defs (F := Ideal)) (onTc (τ := Cert.Reference7Ideal.τ) (Cert.Reference7Ideal.main (F := Ideal))) ⟨m', fun _ => 0, g'⟩ fun r =>
    ∀ c : Dev Cert.Reference7Ideal.nD,
      r.2.mem ((c.tc : Thread Cert.Reference7Ideal.nD Cert.Reference7Ideal.τ).loc Cert.Reference7Ideal.main_v16) = Cert.Reference7Ideal.Read.val_main_v16 (m' (c.tc.loc Cert.Reference7Ideal.main_arg0)) (m' (c.tc.loc Cert.Reference7Ideal.main_arg1)) (m' (c.tc.loc Cert.Reference7Ideal.main_arg3))
      ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3) :=
  (θ_run Cert.Reference7Ideal.defs _ _).mono (fun r hr c => ⟨
    (hr c).1.trans (Cert.Reference7Ideal.Read.val_main_v16_eq _ _ _),
    (hr c).2⟩) (Cert.Reference7Ideal.Value.run m' g')

/-- Over the extended reals the call ends with the reference's results. -/
theorem algebraic : Cert.algebraic_Kernel7Ideal_Reference7Ideal (hKernel7Ideal := Cert.Kernel7Ideal.Gen.facts) (hReference7Ideal := Cert.Reference7Ideal.Gen.facts) := by
  intro m g m' g' _ h
  refine ⟨fun c => res2 m c, ?_, ?_⟩
  · refine (θ_run Cert.Kernel7Ideal.defs _ _).mono (fun r hr c => ?_) (Cert.Kernel7Ideal.Value.run_blocks m g)
    obtain ⟨h0, hk⟩ := hr c
    exact ⟨h0.trans (fin2 m c), hk⟩
  · refine (θ_run Cert.Reference7Ideal.defs _ _).mono (fun r hr c => ?_) (ref_run m' g')
    obtain ⟨h0, hk⟩ := hr c
    obtain ⟨a0, a1, a2, a3⟩ := h c
    rw [a0, a1, a3] at h0
    exact ⟨h0, hk⟩

/-- The reference's frame: it declares no semaphore. -/
theorem frame_ref : Cert.quiescent_Reference7Ideal (hReference7Ideal := Cert.Reference7Ideal.Gen.facts) := by
  intro m g _
  exact (θ_run Cert.Reference7Ideal.defs _ _).mono (fun r h => ⟨fun c => (h c).2, sem_eq_zero_of_no_sems (by decide) r.2⟩) (ref_run m g)

end Cert.Proof.InDw

end
-- ==== Proof.lean ====
module

public import proofs.«01_k».proof.Proof.Gen.Kernel2
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Alg
public import proofs.«01_k».proof.Proof.Scan
public import proofs.«01_k».proof.Proof.Ssd
public import proofs.«01_k».proof.Proof.OutFwd
public import proofs.«01_k».proof.Proof.MlpFwd
public import proofs.«01_k».proof.Proof.AdamGain
public import proofs.«01_k».proof.Proof.AdamBias
public import proofs.«01_k».proof.Proof.AdamTapA
public import proofs.«01_k».proof.Proof.AdamTapS
public import proofs.«01_k».proof.Proof.AdamHead
public import proofs.«01_k».proof.Proof.Loss
public import proofs.«01_k».proof.Proof.SmallSum
public import proofs.«01_k».proof.Proof.InBwd
public import proofs.«01_k».proof.Proof.OutBwd
public import proofs.«01_k».proof.Proof.DownDw
public import proofs.«01_k».proof.Proof.UpDw
public import proofs.«01_k».proof.Proof.OutDw
public import proofs.«01_k».proof.Proof.InDw
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Proof.Ssd.pre_facts,
    fun m ρ _ => Cert.Kernel.Gen.frame m ρ, fun m ρ _ => Cert.KernelIdeal.Gen.frame m ρ, Cert.Proof.Mlp.frame_ref, fun m ρ _ => Cert.Kernel2.Gen.frame m ρ, fun m ρ _ => Cert.Kernel2Ideal.Gen.frame m ρ, Cert.Proof.InBwd.frame_ref, fun m ρ _ => Cert.Kernel3.Gen.frame m ρ, fun m ρ _ => Cert.Kernel3Ideal.Gen.frame m ρ, Cert.Proof.OutBwd.frame_ref, fun m ρ _ => Cert.Kernel4.Gen.frame m ρ, fun m ρ _ => Cert.Kernel4Ideal.Gen.frame m ρ, Cert.Proof.DownDw.frame_ref, fun m ρ _ => Cert.Kernel5.Gen.frame m ρ, fun m ρ _ => Cert.Kernel5Ideal.Gen.frame m ρ, Cert.Proof.UpDw.frame_ref, fun m ρ _ => Cert.Kernel6.Gen.frame m ρ, fun m ρ _ => Cert.Kernel6Ideal.Gen.frame m ρ, Cert.Proof.OutDw.frame_ref, fun m ρ _ => Cert.Kernel7.Gen.frame m ρ, fun m ρ _ => Cert.Kernel7Ideal.Gen.frame m ρ, Cert.Proof.InDw.frame_ref, fun m ρ _ => Cert.Kernel8.Gen.frame m ρ, fun m ρ _ => Cert.Kernel8Ideal.Gen.frame m ρ, fun m ρ _ => Cert.Kernel8Ideal.Gen.frame m ρ, Cert.Proof.Ssd.frame_ref, fun m g _ => Cert.Proof.Ssd.frame_ref m g trivial, fun m ρ _ => Cert.Kernel9.Gen.frame m ρ, fun m ρ _ => Cert.Kernel9Ideal.Gen.frame m ρ, Cert.Proof.OutFwd.frame_ref, fun m ρ _ => Cert.Kernel10.Gen.frame m ρ, fun m ρ _ => Cert.Kernel10Ideal.Gen.frame m ρ, Cert.Proof.MlpFwd.frame_ref, fun m ρ _ => Cert.Kernel11.Gen.frame m ρ, fun m ρ _ => Cert.Kernel11Ideal.Gen.frame m ρ, Cert.Proof.AdamGain.frame_ref, fun m ρ _ => Cert.Kernel12.Gen.frame m ρ, fun m ρ _ => Cert.Kernel12Ideal.Gen.frame m ρ, Cert.Proof.AdamBias.frame_ref, fun m ρ _ => Cert.Kernel13.Gen.frame m ρ, fun m ρ _ => Cert.Kernel13Ideal.Gen.frame m ρ, Cert.Proof.AdamTapA.frame_ref, fun m ρ _ => Cert.Kernel14.Gen.frame m ρ, fun m ρ _ => Cert.Kernel14Ideal.Gen.frame m ρ, Cert.Proof.AdamTapS.frame_ref, fun m ρ _ => Cert.Kernel15.Gen.frame m ρ, fun m ρ _ => Cert.Kernel15Ideal.Gen.frame m ρ, Cert.Proof.AdamHead.frame_ref, fun m ρ _ => Cert.Kernel16.Gen.frame m ρ, fun m ρ _ => Cert.Kernel16Ideal.Gen.frame m ρ, Cert.Proof.Loss.frame_ref, fun m ρ _ => Cert.Kernel17.Gen.frame m ρ, fun m ρ _ => Cert.Kernel17Ideal.Gen.frame m ρ, Cert.Proof.SmallSum.frame_ref, fun m ρ _ => Cert.Kernel18.Gen.frame m ρ, fun m ρ _ => Cert.Kernel18Ideal.Gen.frame m ρ, Cert.Proof.Scan.frame_ref,
    trivial, Cert.Proof.Mlp.algebraic, trivial, Cert.Proof.InBwd.algebraic, trivial, Cert.Proof.OutBwd.algebraic, trivial, Cert.Proof.DownDw.algebraic, trivial, Cert.Proof.UpDw.algebraic, trivial, Cert.Proof.OutDw.algebraic, trivial, Cert.Proof.InDw.algebraic, trivial, Cert.Proof.Ssd.algebraic, trivial, Cert.Proof.OutFwd.algebraic, trivial, Cert.Proof.MlpFwd.algebraic, trivial, Cert.Proof.AdamGain.algebraic, trivial, Cert.Proof.AdamBias.algebraic, trivial, Cert.Proof.AdamTapA.algebraic, trivial, Cert.Proof.AdamTapS.algebraic, trivial, Cert.Proof.AdamHead.algebraic, trivial, Cert.Proof.Loss.algebraic, trivial, Cert.Proof.SmallSum.algebraic, trivial, Cert.Proof.Scan.algebraic⟩

end Cert.Proof

end
